-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_scores [hPre_finite_scores : Cert.Pre_finite_scores.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_scores.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_scores [hPre_finite_scores : Cert.Pre_finite_scores.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_scores.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_qk [hPre_finite_qk : Cert.Pre_finite_qk.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_qk.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_qk [hPre_finite_qk : Cert.Pre_finite_qk.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_qk.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_qk [hPre_finite_qk : Cert.Pre_finite_qk.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_qk.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_qk [hPre_finite_qk : Cert.Pre_finite_qk.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_qk.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite_scores [hKernel9Ideal : Cert.Kernel9Ideal.Facts] [hPre_finite_scores : Cert.Pre_finite_scores.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_scores m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite_scores [hReference9Ideal : Cert.Reference9Ideal.Facts] [hPre_finite_scores : Cert.Pre_finite_scores.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_scores m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Kernel13Ideal_pre_finite_qk [hKernel13Ideal : Cert.Kernel13Ideal.Facts] [hPre_finite_qk : Cert.Pre_finite_qk.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_qk m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Reference13Ideal_pre_finite_qk [hReference13Ideal : Cert.Reference13Ideal.Facts] [hPre_finite_qk : Cert.Pre_finite_qk.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_qk m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Kernel14Ideal_pre_finite_qk [hKernel14Ideal : Cert.Kernel14Ideal.Facts] [hPre_finite_qk : Cert.Pre_finite_qk.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_qk m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Reference14Ideal_pre_finite_qk [hReference14Ideal : Cert.Reference14Ideal.Facts] [hPre_finite_qk : Cert.Pre_finite_qk.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_qk m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite_scores [hKernel9Ideal : Cert.Kernel9Ideal.Facts] [hReference9Ideal : Cert.Reference9Ideal.Facts] [hPre_finite_scores : Cert.Pre_finite_scores.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_scores m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v14) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal_pre_finite_qk [hKernel13Ideal : Cert.Kernel13Ideal.Facts] [hReference13Ideal : Cert.Reference13Ideal.Facts] [hPre_finite_qk : Cert.Pre_finite_qk.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_qk m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v15)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v15) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v19) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal_pre_finite_qk [hKernel14Ideal : Cert.Kernel14Ideal.Facts] [hReference14Ideal : Cert.Reference14Ideal.Facts] [hPre_finite_qk : Cert.Pre_finite_qk.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_qk m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v13)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v13) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v16) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  IdealRules.named_const.Statement Cert.Kernel15Ideal.κ "gelu3" .bf16 0x3D37#16 ((12003091 / 268435456 : ℝ) : EReal)
  ∧ IdealRules.named_const.Statement Cert.Kernel15Ideal.κ "sqrt2pi" .bf16 0x3F4C#16 ((6693141 / 8388608 : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v29) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite_scores : Cert.Pre_finite_scores.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_scores (hKernel9Ideal := hKernel9Ideal) (hPre_finite_scores := hPre_finite_scores)
    ∧ quiescent_Reference9Ideal (hReference9Ideal := hReference9Ideal)
    ∧ quiescent_Reference9Ideal_pre_finite_scores (hReference9Ideal := hReference9Ideal) (hPre_finite_scores := hPre_finite_scores)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite_qk (hKernel13Ideal := hKernel13Ideal) (hPre_finite_qk := hPre_finite_qk)
    ∧ quiescent_Reference13Ideal (hReference13Ideal := hReference13Ideal)
    ∧ quiescent_Reference13Ideal_pre_finite_qk (hReference13Ideal := hReference13Ideal) (hPre_finite_qk := hPre_finite_qk)
    ∧ quiescent_Kernel14 (hKernel14 := hKernel14)
    ∧ quiescent_Kernel14Ideal (hKernel14Ideal := hKernel14Ideal)
    ∧ quiescent_Kernel14Ideal_pre_finite_qk (hKernel14Ideal := hKernel14Ideal) (hPre_finite_qk := hPre_finite_qk)
    ∧ quiescent_Reference14Ideal (hReference14Ideal := hReference14Ideal)
    ∧ quiescent_Reference14Ideal_pre_finite_qk (hReference14Ideal := hReference14Ideal) (hPre_finite_qk := hPre_finite_qk)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_scores (hKernel9Ideal := hKernel9Ideal) (hReference9Ideal := hReference9Ideal) (hPre_finite_scores := hPre_finite_scores)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite_qk (hKernel13Ideal := hKernel13Ideal) (hReference13Ideal := hReference13Ideal) (hPre_finite_qk := hPre_finite_qk)
    ∧ preserves_Kernel14_Kernel14Ideal
    ∧ algebraic_Kernel14Ideal_Reference14Ideal_pre_finite_qk (hKernel14Ideal := hKernel14Ideal) (hReference14Ideal := hReference14Ideal) (hPre_finite_qk := hPre_finite_qk)
    ∧ preserves_Kernel15_Kernel15Ideal
    ∧ algebraic_Kernel15Ideal_Reference15Ideal (hKernel15Ideal := hKernel15Ideal) (hReference15Ideal := hReference15Ideal)
-- ==== Pre_finite.lean ====
abbrev S8192x4096 : Shape := ⟨2, ![8192, 4096]⟩
abbrev S32x16 : Shape := ⟨2, ![32, 16]⟩
abbrev S128 : Shape := ⟨1, ![128]⟩
abbrev S256 : Shape := ⟨1, ![256]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32x16 : S_.BroadcastsInDim S32x16 (![] : Fin 0 → Fin S32x16.rank)
  reducesTo_S32x16_S_d0_1 : S32x16.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S128 .f32) (main_arg7 : FVec F S128 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S8192x4096 .f32) (main_arg1 : FVec F S8192x4096 .f32) (main_arg2 : FVec F S8192x4096 .f32) (main_arg3 : FVec F S32x16 .f32) (main_arg4 : FVec F S128 .f32) (main_arg5 : FVec F S128 .f32) (main_arg6 : FVec F S128 .f32) (main_arg7 : FVec F S128 .f32) (main_arg8 : FVec F S256 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_arg5 main_arg6 main_arg7 main_v13 main_v16
-- ==== Pre_finite_qk.lean ====
abbrev S8192x8192 : Shape := ⟨2, ![8192, 8192]⟩
abbrev S128 : Shape := ⟨1, ![128]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : FVec F S128 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Pre_finite_scores.lean ====
abbrev S8192x4096 : Shape := ⟨2, ![8192, 4096]⟩
abbrev S4096x2048 : Shape := ⟨2, ![4096, 2048]⟩
abbrev S8x2x128x128 : Shape := ⟨4, ![8, 2, 128, 128]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S8x2x128x128 : S_.BroadcastsInDim S8x2x128x128 (![] : Fin 0 → Fin S8x2x128x128.rank)
  reducesTo_S8x2x128x128_S_d0_1_2_3 : S8x2x128x128.ReducesTo [0, 1, 2, 3] S_

variable [Facts]

def fn {F : FTy → Type} [FloatOps F] (main_arg0 : FVec F S8192x4096 .f32) (main_arg1 : FVec F S4096x2048 .f32) (main_arg2 : FVec F S8x2x128x128 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S8x2x128x128 .f32 := Host.absf main_arg2
  let main_cst_2 : FVec F S_ .f32 := constant S_ .f32 0x7F800000#32
  let main_v10 : FVec F S8x2x128x128 .f32 := broadcastInDim S8x2x128x128 ![] bcast_S_S8x2x128x128 main_cst_2
  let main_v11 : IVec S8x2x128x128 1 := cmpf .olt main_v9 main_v10
  let main_c_3 : IVec S_ 1 := constantI S_ 1 1#1
  let main_v12 : IVec S_ 1 := (fun x v => Host.reduce IntOp.andi x v reducesTo_S8x2x128x128_S_d0_1_2_3 h_S_) main_v11 main_c_3
  let main_v13 : IVec S_ 1 := andi main_v8 main_v12
  main_v13
-- ==== Kernel.lean ====
abbrev S8192x4096 : Shape := ⟨2, ![8192, 4096]⟩
abbrev S32x16 : Shape := ⟨2, ![32, 16]⟩
abbrev S128 : Shape := ⟨1, ![128]⟩
abbrev S256 : Shape := ⟨1, ![256]⟩
abbrev S_ : Shape := ⟨0, ![]⟩
abbrev S4096x8192 : Shape := ⟨2, ![4096, 8192]⟩
abbrev S1x16 : Shape := ⟨2, ![1, 16]⟩
abbrev S16 : Shape := ⟨1, ![16]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S1x512x512 : Shape := ⟨3, ![1, 512, 512]⟩
abbrev S512x512x1 : Shape := ⟨3, ![512, 512, 1]⟩
abbrev S512x512x16 : Shape := ⟨3, ![512, 512, 16]⟩
abbrev S1x1x16 : Shape := ⟨3, ![1, 1, 16]⟩
abbrev S16x512x512 : Shape := ⟨3, ![16, 512, 512]⟩
abbrev S1x1 : Shape := ⟨2, ![1, 1]⟩
abbrev S1x256 : Shape := ⟨2, ![1, 256]⟩
abbrev S8192x512 : Shape := ⟨2, ![8192, 512]⟩
abbrev S512x8192 : Shape := ⟨2, ![512, 8192]⟩
abbrev S2x512x512 : Shape := ⟨3, ![2, 512, 512]⟩
abbrev S4x1x512 : Shape := ⟨3, ![4, 1, 512]⟩
abbrev S4x272x512 : Shape := ⟨3, ![4, 272, 512]⟩
abbrev S2x16x272x512 : Shape := ⟨4, ![2, 16, 272, 512]⟩
abbrev S256x512 : Shape := ⟨2, ![256, 512]⟩
abbrev S1x1x256x512 : Shape := ⟨4, ![1, 1, 256, 512]⟩
abbrev S16x512 : Shape := ⟨2, ![16, 512]⟩
abbrev S1x1x16x512 : Shape := ⟨4, ![1, 1, 16, 512]⟩
abbrev S2048x128 : Shape := ⟨2, ![2048, 128]⟩
abbrev S128x512 : Shape := ⟨2, ![128, 512]⟩
abbrev S2048x512 : Shape := ⟨2, ![2048, 512]⟩
abbrev S1x1x512 : Shape := ⟨3, ![1, 1, 512]⟩
abbrev S1x1x272x512 : Shape := ⟨4, ![1, 1, 272, 512]⟩
abbrev S272x512 : Shape := ⟨2, ![272, 512]⟩
abbrev S1x272x512 : Shape := ⟨3, ![1, 272, 512]⟩
abbrev S1024x128 : Shape := ⟨2, ![1024, 128]⟩
abbrev S1024x512 : Shape := ⟨2, ![1024, 512]⟩
abbrev S512x128 : Shape := ⟨2, ![512, 128]⟩
abbrev S512x256 : Shape := ⟨2, ![512, 256]⟩

abbrev nBuf : Space → Nat
  | .hbm => 130
  | .vmem => 13
  | .smem => 0
  | _ => 0

abbrev hbmTy0_0 (i : Nat) : BufTy := match i % 128 with
  | 0 => ⟨S8192x4096, .f32⟩
  | 1 => ⟨S8192x4096, .f32⟩
  | 2 => ⟨S8192x4096, .f32⟩
  | 3 => ⟨S32x16, .f32⟩
  | 4 => ⟨S128, .f32⟩
  | 5 => ⟨S128, .f32⟩
  | 6 => ⟨S128, .f32⟩
  | 7 => ⟨S128, .f32⟩
  | 8 => ⟨S256, .f32⟩
  | 9 => ⟨S128, .f32⟩
  | 10 => ⟨S_, .f32⟩
  | 11 => ⟨S_, .f32⟩
  | 12 => ⟨S_, .f32⟩
  | 13 => ⟨S128, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S4096x8192, .f32⟩
  | 21 => ⟨S4096x8192, .bf16⟩
  | 22 => ⟨S8192x4096, .bf16⟩
  | 23 => ⟨S4096x8192, .f32⟩
  | 24 => ⟨S4096x8192, .bf16⟩
  | 25 => ⟨S1x16, .f32⟩
  | 26 => ⟨S16, .f32⟩
  | 27 => ⟨S512, .i32⟩
  | 28 => ⟨S1x512, .i32⟩
  | 29 => ⟨S512x1, .i32⟩
  | 30 => ⟨S512x512, .i32⟩
  | 31 => ⟨S512x512, .i32⟩
  | 32 => ⟨S512x512, .i32⟩
  | 33 => ⟨S_, .i32⟩
  | 34 => ⟨S512x512, .i32⟩
  | 35 => ⟨S512x512, .i1⟩
  | 36 => ⟨S1x512x512, .i1⟩
  | 37 => ⟨S_, .i32⟩
  | 38 => ⟨S512x512, .i32⟩
  | 39 => ⟨S512x512, .i32⟩
  | 40 => ⟨S_, .i32⟩
  | 41 => ⟨S512x512, .i32⟩
  | 42 => ⟨S512x512, .i32⟩
  | 43 => ⟨S512x512, .f32⟩
  | 44 => ⟨S_, .f32⟩
  | 45 => ⟨S512x512, .f32⟩
  | 46 => ⟨S512x512, .f32⟩
  | 47 => ⟨S512x512, .f32⟩
  | 48 => ⟨S_, .f32⟩
  | 49 => ⟨S512x512, .f32⟩
  | 50 => ⟨S512x512, .f32⟩
  | 51 => ⟨S_, .f32⟩
  | 52 => ⟨S512x512, .f32⟩
  | 53 => ⟨S512x512, .f32⟩
  | 54 => ⟨S512x512, .i32⟩
  | 55 => ⟨S_, .i32⟩
  | 56 => ⟨S512x512, .i32⟩
  | 57 => ⟨S512x512, .i32⟩
  | 58 => ⟨S_, .i32⟩
  | 59 => ⟨S512x512, .i32⟩
  | 60 => ⟨S512x512, .i32⟩
  | 61 => ⟨S_, .i32⟩
  | 62 => ⟨S512x512, .i32⟩
  | 63 => ⟨S512x512, .i1⟩
  | 64 => ⟨S512x512, .i32⟩
  | 65 => ⟨S_, .i32⟩
  | 66 => ⟨S512x512, .i32⟩
  | 67 => ⟨S512x512, .i1⟩
  | 68 => ⟨S_, .i32⟩
  | 69 => ⟨S512x512, .i32⟩
  | 70 => ⟨S512x512, .i32⟩
  | 71 => ⟨S512x512, .i32⟩
  | 72 => ⟨S512x512x1, .i32⟩
  | 73 => ⟨S512x512x16, .f32⟩
  | 74 => ⟨S1x1x16, .f32⟩
  | 75 => ⟨S512x512x16, .f32⟩
  | 76 => ⟨S512x512x16, .f32⟩
  | 77 => ⟨S16x512x512, .f32⟩
  | 78 => ⟨S_, .f32⟩
  | 79 => ⟨S_, .f32⟩
  | 80 => ⟨S16x512x512, .i1⟩
  | 81 => ⟨S16x512x512, .f32⟩
  | 82 => ⟨S16x512x512, .f32⟩
  | 83 => ⟨S_, .i32⟩
  | 84 => ⟨S512x512, .i32⟩
  | 85 => ⟨S512x512, .i32⟩
  | 86 => ⟨S_, .i32⟩
  | 87 => ⟨S512x512, .i32⟩
  | 88 => ⟨S512x512, .i32⟩
  | 89 => ⟨S_, .i32⟩
  | 90 => ⟨S512x512, .i32⟩
  | 91 => ⟨S512x512, .i32⟩
  | 92 => ⟨S512x512, .f32⟩
  | 93 => ⟨S_, .f32⟩
  | 94 => ⟨S512x512, .f32⟩
  | 95 => ⟨S512x512, .f32⟩
  | 96 => ⟨S512x512, .f32⟩
  | 97 => ⟨S_, .f32⟩
  | 98 => ⟨S512x512, .f32⟩
  | 99 => ⟨S512x512, .f32⟩
  | 100 => ⟨S_, .f32⟩
  | 101 => ⟨S512x512, .f32⟩
  | 102 => ⟨S512x512, .f32⟩
  | 103 => ⟨S512x512, .i32⟩
  | 104 => ⟨S_, .i32⟩
  | 105 => ⟨S512x512, .i32⟩
  | 106 => ⟨S512x512, .i32⟩
  | 107 => ⟨S_, .i32⟩
  | 108 => ⟨S512x512, .i32⟩
  | 109 => ⟨S512x512, .i32⟩
  | 110 => ⟨S_, .i32⟩
  | 111 => ⟨S512x512, .i32⟩
  | 112 => ⟨S512x512, .i1⟩
  | 113 => ⟨S512x512, .i32⟩
  | 114 => ⟨S_, .i32⟩
  | 115 => ⟨S512x512, .i32⟩
  | 116 => ⟨S512x512, .i1⟩
  | 117 => ⟨S_, .i32⟩
  | 118 => ⟨S512x512, .i32⟩
  | 119 => ⟨S512x512, .i32⟩
  | 120 => ⟨S512x512, .i32⟩
  | 121 => ⟨S512x512x1, .i32⟩
  | 122 => ⟨S512x512x16, .f32⟩
  | 123 => ⟨S1x1x16, .f32⟩
  | 124 => ⟨S512x512x16, .f32⟩
  | 125 => ⟨S512x512x16, .f32⟩
  | 126 => ⟨S16x512x512, .f32⟩
  | 127 => ⟨S1x1, .f32⟩
  | _ => ⟨S8192x4096, .f32⟩

abbrev hbmTy0_1 (i : Nat) : BufTy := match i % 128 with
  | 0 => ⟨S1x256, .f32⟩
  | 1 => ⟨S8192x4096, .bf16⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S512x8192, .bf16⟩
  | .local _ .vmem, ⟨4, _⟩ => ⟨S2x512x512, .f32⟩
  | .local _ .vmem, ⟨5, _⟩ => ⟨S2x512x512, .f32⟩
  | .local _ .vmem, ⟨6, _⟩ => ⟨S1x1, .f32⟩
  | .local _ .vmem, ⟨7, _⟩ => ⟨S1x256, .f32⟩
  | .local _ .vmem, ⟨8, _⟩ => ⟨S512x512, .bf16⟩
  | .local _ .vmem, ⟨9, _⟩ => ⟨S512x512, .bf16⟩
  | .local _ .vmem, ⟨10, _⟩ => ⟨S4x1x512, .f32⟩
  | .local _ .vmem, ⟨11, _⟩ => ⟨S4x272x512, .f32⟩
  | .local _ .vmem, ⟨12, _⟩ => ⟨S2x16x272x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_v45 : Ref sig .tc := ⟨.hbm, 67, rfl⟩
abbrev main_c_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_c_15 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_17 : Ref sig .tc := ⟨.hbm, 97, rfl⟩
abbrev main_v66 : Ref sig .tc := ⟨.hbm, 98, rfl⟩
abbrev main_v67 : Ref sig .tc := ⟨.hbm, 99, rfl⟩
abbrev main_cst_18 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_19 : Ref sig .tc := ⟨.hbm, 104, rfl⟩
abbrev main_v71 : Ref sig .tc := ⟨.hbm, 105, rfl⟩
abbrev main_v72 : Ref sig .tc := ⟨.hbm, 106, rfl⟩
abbrev main_c_20 : Ref sig .tc := ⟨.hbm, 107, rfl⟩
abbrev main_v73 : Ref sig .tc := ⟨.hbm, 108, rfl⟩
abbrev main_v74 : Ref sig .tc := ⟨.hbm, 109, rfl⟩
abbrev main_c_21 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_22 : Ref sig .tc := ⟨.hbm, 114, rfl⟩
abbrev main_v78 : Ref sig .tc := ⟨.hbm, 115, rfl⟩
abbrev main_v79 : Ref sig .tc := ⟨.hbm, 116, rfl⟩
abbrev main_c_23 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_16 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_18 : BitVec 32 := 1#32
  ⟨c0_i32_16, v35, c1_i32_18⟩
def k0_mult1 (i : grid0.Coords) (k0_t1 : Fin (k0_t1_loop i).trips) : BitVec 32 :=
  let c0_i32_79 : BitVec 32 := 0#32
  let c4_i32_78 : BitVec 32 := 4#32
  let c0_i32_16 : BitVec 32 := 0#32
  let c1_i32_18 : BitVec 32 := 1#32
  let arg13 : BitVec 32 := Scf.iv c0_i32_16 c1_i32_18 k0_t1
  let v164 : BitVec 32 := Scalar.muli c4_i32_78 arg13
  let v165 : BitVec 32 := Scalar.addi c0_i32_79 v164
  let c512_i32 : BitVec 32 := 512#32
  let v166 : BitVec 32 := Scalar.muli v165 c512_i32
  v166
def k0_off1 (i : grid0.Coords) (k0_t1 : Fin (k0_t1_loop i).trips) : Fin 2 → Nat :=
  let c0_i32_79 : BitVec 32 := 0#32
  let c4_i32_78 : BitVec 32 := 4#32
  let c0_i32_16 : BitVec 32 := 0#32
  let c1_i32_18 : BitVec 32 := 1#32
  let arg13 : BitVec 32 := Scf.iv c0_i32_16 c1_i32_18 k0_t1
  let v164 : BitVec 32 := Scalar.muli c4_i32_78 arg13
  let v165 : BitVec 32 := Scalar.addi c0_i32_79 v164
  let c512_i32 : BitVec 32 := 512#32
  let v166 : BitVec 32 := Scalar.muli v165 c512_i32
  let v167 : BitVec 32 := v166
  let v168 : Index := Scalar.indexCast v167
  let c0_80 : Index := 0#32
  ![v168.toNat, 0]
def k0_off2 (i : grid0.Coords) (k0_t1 : Fin (k0_t1_loop i).trips) : Fin 4 → Nat :=
  let c0_89 : Index := 0#32
  let c0_i32_79 : BitVec 32 := 0#32
  let c4_i32_78 : BitVec 32 := 4#32
  let c0_i32_16 : BitVec 32 := 0#32
  let c1_i32_18 : BitVec 32 := 1#32
  let arg13 : BitVec 32 := Scf.iv c0_i32_16 c1_i32_18 k0_t1
  let v164 : BitVec 32 := Scalar.muli c4_i32_78 arg13
  let v165 : BitVec 32 := Scalar.addi c0_i32_79 v164
  let v187 : Index := Scalar.indexCast v165
  let c0_90 : Index := 0#32
  let c0_91 : Index := 0#32
  ![0, v187.toNat, 0, 0]
def k0_off3 (i : grid0.Coords) (k0_t1 : Fin (k0_t1_loop i).trips) (c1_i32_93 : BitVec 32) : Fin 4 → Nat :=
  let c0_94 : Index := 0#32
  let c0_i32_79 : BitVec 32 := 0#32
  let c4_i32_78 : BitVec 32 := 4#32
  let c0_i32_16 : BitVec 32 := 0#32
  let c1_i32_18 : BitVec 32 := 1#32
  let arg13 : BitVec 32 := Scf.iv c0_i32_16 c1_i32_18 k0_t1
  let v164 : BitVec 32 := Scalar.muli c4_i32_78 arg13
  let v165 : BitVec 32 := Scalar.addi c0_i32_79 v164
  let v192 : BitVec 32 := Scalar.addi v165 c1_i32_93
  let v193 : Index := Scalar.indexCast v192
  let c0_95 : Index := 0#32
  let c0_96 : Index := 0#32
  ![0, v193.toNat, 0, 0]
def k0_off4 (i : grid0.Coords) (k0_t1 : Fin (k0_t1_loop i).trips) : Fin 2 → Nat :=
  let c0_i32_79 : BitVec 32 := 0#32
  let c4_i32_78 : BitVec 32 := 4#32
  let c0_i32_16 : BitVec 32 := 0#32
  let c1_i32_18 : BitVec 32 := 1#32
  let arg13 : BitVec 32 := Scf.iv c0_i32_16 c1_i32_18 k0_t1
  let v164 : BitVec 32 := Scalar.muli c4_i32_78 arg13
  let v165 : BitVec 32 := Scalar.addi c0_i32_79 v164
  let c512_i32 : BitVec 32 := 512#32
  let v166 : BitVec 32 := Scalar.muli v165 c512_i32
  let v167 : BitVec 32 := v166
  let v224 : Index := Scalar.indexCast v167
  let c128 : Index := 128#32
  ![v224.toNat, 128]
def k0_off5 (i : grid0.Coords) (k0_t1 : Fin (k0_t1_loop i).trips) : Fin 2 → Nat :=
  let c0_i32_79 : BitVec 32 := 0#32
  let c4_i32_78 : BitVec 32 := 4#32
  let c0_i32_16 : BitVec 32 := 0#32
  let c1_i32_18 : BitVec 32 := 1#32
  let arg13 : BitVec 32 := Scf.iv c0_i32_16 c1_i32_18 k0_t1
  let v164 : BitVec 32 := Scalar.muli c4_i32_78 arg13
  let v165 : BitVec 32 := Scalar.addi c0_i32_79 v164
  let c512_i32 : BitVec 32 := 512#32
  let v166 : BitVec 32 := Scalar.muli v165 c512_i32
  let v167 : BitVec 32 := v166
  let v280 : Index := Scalar.indexCast v167
  let c256_152 : Index := 256#32
  ![v280.toNat, 256]
def k0_off6 (i : grid0.Coords) (k0_t1 : Fin (k0_t1_loop i).trips) : Fin 4 → Nat :=
  let c1_161 : Index := 1#32
  let c0_i32_79 : BitVec 32 := 0#32
  let c4_i32_78 : BitVec 32 := 4#32
  let c0_i32_16 : BitVec 32 := 0#32
  let c1_i32_18 : BitVec 32 := 1#32
  let arg13 : BitVec 32 := Scf.iv c0_i32_16 c1_i32_18 k0_t1
  let v164 : BitVec 32 := Scalar.muli c4_i32_78 arg13
  let v165 : BitVec 32 := Scalar.addi c0_i32_79 v164
  let v299 : Index := Scalar.indexCast v165
  let c0_162 : Index := 0#32
  let c0_163 : Index := 0#32
  ![1, v299.toNat, 0, 0]
def k0_off7 (i : grid0.Coords) (k0_t1 : Fin (k0_t1_loop i).trips) (c1_i32_165 : BitVec 32) : Fin 4 → Nat :=
  let c1_166 : Index := 1#32
  let c0_i32_79 : BitVec 32 := 0#32
  let c4_i32_78 : BitVec 32 := 4#32
  let c0_i32_16 : BitVec 32 := 0#32
  let c1_i32_18 : BitVec 32 := 1#32
  let arg13 : BitVec 32 := Scf.iv c0_i32_16 c1_i32_18 k0_t1
  let v164 : BitVec 32 := Scalar.muli c4_i32_78 arg13
  let v165 : BitVec 32 := Scalar.addi c0_i32_79 v164
  let v304 : BitVec 32 := Scalar.addi v165 c1_i32_165
  let v305 : Index := Scalar.indexCast v304
  let c0_167 : Index := 0#32
  let c0_168 : Index := 0#32
  ![1, v305.toNat, 0, 0]
def k0_off8 (i : grid0.Coords) (k0_t1 : Fin (k0_t1_loop i).trips) : Fin 2 → Nat :=
  let c0_i32_79 : BitVec 32 := 0#32
  let c4_i32_78 : BitVec 32 := 4#32
  let c0_i32_16 : BitVec 32 := 0#32
  let c1_i32_18 : BitVec 32 := 1#32
  let arg13 : BitVec 32 := Scf.iv c0_i32_16 c1_i32_18 k0_t1
  let v164 : BitVec 32 := Scalar.muli c4_i32_78 arg13
  let v165 : BitVec 32 := Scalar.addi c0_i32_79 v164
  let c512_i32 : BitVec 32 := 512#32
  let v166 : BitVec 32 := Scalar.muli v165 c512_i32
  let v167 : BitVec 32 := v166
  let v336 : Index := Scalar.indexCast v167
  let c384 : Index := 384#32
  ![v336.toNat, 384]
@[reducible] def k0_t2_loop (i : grid0.Coords) : Scf.Loop 32 :=
  let c0_i32_16 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let v32 : BitVec 32 := Scalar.addi c0_i32_16 v31
  let c1_i32_19 : BitVec 32 := 1#32
  ⟨v35, v32, c1_i32_19⟩
def k0_mult2 (i : grid0.Coords) (k0_t2 : Fin (k0_t2_loop i).trips) : BitVec 32 :=
  let c0_i32_79 : BitVec 32 := 0#32
  let c4_i32_78 : BitVec 32 := 4#32
  let c0_i32_16 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg13 : BitVec 32 := Scf.iv v35 c1_i32_19 k0_t2
  let v164 : BitVec 32 := Scalar.muli c4_i32_78 arg13
  let v165 : BitVec 32 := Scalar.addi c0_i32_79 v164
  let c512_i32 : BitVec 32 := 512#32
  let v166 : BitVec 32 := Scalar.muli v165 c512_i32
  v166
def k0_off9 (i : grid0.Coords) (k0_t2 : Fin (k0_t2_loop i).trips) : Fin 2 → Nat :=
  let c0_i32_79 : BitVec 32 := 0#32
  let c4_i32_78 : BitVec 32 := 4#32
  let c0_i32_16 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg13 : BitVec 32 := Scf.iv v35 c1_i32_19 k0_t2
  let v164 : BitVec 32 := Scalar.muli c4_i32_78 arg13
  let v165 : BitVec 32 := Scalar.addi c0_i32_79 v164
  let c512_i32 : BitVec 32 := 512#32
  let v166 : BitVec 32 := Scalar.muli v165 c512_i32
  let v167 : BitVec 32 := v166
  let v168 : Index := Scalar.indexCast v167
  let c0_80 : Index := 0#32
  ![v168.toNat, 0]
def k0_off10 (i : grid0.Coords) (k0_t2 : Fin (k0_t2_loop i).trips) : Fin 4 → Nat :=
  let c0_89 : Index := 0#32
  let c0_i32_79 : BitVec 32 := 0#32
  let c4_i32_78 : BitVec 32 := 4#32
  let c0_i32_16 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg13 : BitVec 32 := Scf.iv v35 c1_i32_19 k0_t2
  let v164 : BitVec 32 := Scalar.muli c4_i32_78 arg13
  let v165 : BitVec 32 := Scalar.addi c0_i32_79 v164
  let v187 : Index := Scalar.indexCast v165
  let c0_90 : Index := 0#32
  let c0_91 : Index := 0#32
  ![0, v187.toNat, 0, 0]
def k0_off11 (i : grid0.Coords) (k0_t2 : Fin (k0_t2_loop i).trips) (c1_i32_93 : BitVec 32) : Fin 4 → Nat :=
  let c0_94 : Index := 0#32
  let c0_i32_79 : BitVec 32 := 0#32
  let c4_i32_78 : BitVec 32 := 4#32
  let c0_i32_16 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg13 : BitVec 32 := Scf.iv v35 c1_i32_19 k0_t2
  let v164 : BitVec 32 := Scalar.muli c4_i32_78 arg13
  let v165 : BitVec 32 := Scalar.addi c0_i32_79 v164
  let v192 : BitVec 32 := Scalar.addi v165 c1_i32_93
  let v193 : Index := Scalar.indexCast v192
  let c0_95 : Index := 0#32
  let c0_96 : Index := 0#32
  ![0, v193.toNat, 0, 0]
def k0_off12 (i : grid0.Coords) (k0_t2 : Fin (k0_t2_loop i).trips) : Fin 2 → Nat :=
  let c0_i32_79 : BitVec 32 := 0#32
  let c4_i32_78 : BitVec 32 := 4#32
  let c0_i32_16 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg13 : BitVec 32 := Scf.iv v35 c1_i32_19 k0_t2
  let v164 : BitVec 32 := Scalar.muli c4_i32_78 arg13
  let v165 : BitVec 32 := Scalar.addi c0_i32_79 v164
  let c512_i32 : BitVec 32 := 512#32
  let v166 : BitVec 32 := Scalar.muli v165 c512_i32
  let v167 : BitVec 32 := v166
  let v224 : Index := Scalar.indexCast v167
  let c128 : Index := 128#32
  ![v224.toNat, 128]
def k0_off13 (i : grid0.Coords) (k0_t2 : Fin (k0_t2_loop i).trips) : Fin 2 → Nat :=
  let c0_i32_79 : BitVec 32 := 0#32
  let c4_i32_78 : BitVec 32 := 4#32
  let c0_i32_16 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg13 : BitVec 32 := Scf.iv v35 c1_i32_19 k0_t2
  let v164 : BitVec 32 := Scalar.muli c4_i32_78 arg13
  let v165 : BitVec 32 := Scalar.addi c0_i32_79 v164
  let c512_i32 : BitVec 32 := 512#32
  let v166 : BitVec 32 := Scalar.muli v165 c512_i32
  let v167 : BitVec 32 := v166
  let v280 : Index := Scalar.indexCast v167
  let c256_152 : Index := 256#32
  ![v280.toNat, 256]
def k0_off14 (i : grid0.Coords) (k0_t2 : Fin (k0_t2_loop i).trips) : Fin 4 → Nat :=
  let c1_161 : Index := 1#32
  let c0_i32_79 : BitVec 32 := 0#32
  let c4_i32_78 : BitVec 32 := 4#32
  let c0_i32_16 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg13 : BitVec 32 := Scf.iv v35 c1_i32_19 k0_t2
  let v164 : BitVec 32 := Scalar.muli c4_i32_78 arg13
  let v165 : BitVec 32 := Scalar.addi c0_i32_79 v164
  let v299 : Index := Scalar.indexCast v165
  let c0_162 : Index := 0#32
  let c0_163 : Index := 0#32
  ![1, v299.toNat, 0, 0]
def k0_off15 (i : grid0.Coords) (k0_t2 : Fin (k0_t2_loop i).trips) (c1_i32_165 : BitVec 32) : Fin 4 → Nat :=
  let c1_166 : Index := 1#32
  let c0_i32_79 : BitVec 32 := 0#32
  let c4_i32_78 : BitVec 32 := 4#32
  let c0_i32_16 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg13 : BitVec 32 := Scf.iv v35 c1_i32_19 k0_t2
  let v164 : BitVec 32 := Scalar.muli c4_i32_78 arg13
  let v165 : BitVec 32 := Scalar.addi c0_i32_79 v164
  let v304 : BitVec 32 := Scalar.addi v165 c1_i32_165
  let v305 : Index := Scalar.indexCast v304
  let c0_167 : Index := 0#32
  let c0_168 : Index := 0#32
  ![1, v305.toNat, 0, 0]
def k0_off16 (i : grid0.Coords) (k0_t2 : Fin (k0_t2_loop i).trips) : Fin 2 → Nat :=
  let c0_i32_79 : BitVec 32 := 0#32
  let c4_i32_78 : BitVec 32 := 4#32
  let c0_i32_16 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg13 : BitVec 32 := Scf.iv v35 c1_i32_19 k0_t2
  let v164 : BitVec 32 := Scalar.muli c4_i32_78 arg13
  let v165 : BitVec 32 := Scalar.addi c0_i32_79 v164
  let c512_i32 : BitVec 32 := 512#32
  let v166 : BitVec 32 := Scalar.muli v165 c512_i32
  let v167 : BitVec 32 := v166
  let v336 : Index := Scalar.indexCast v167
  let c384 : Index := 384#32
  ![v336.toNat, 384]
@[reducible] def k0_t3_loop (i : grid0.Coords) : Scf.Loop 32 :=
  let c0_i32_29 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_21 : BitVec 32 := 0#32
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let v56 : BitVec 32 := Scalar.subi v55 c0_i32_29
  let c1_i32_30 : BitVec 32 := 1#32
  let v58 : BitVec 32 := Scalar.divsi v56 c1_i32_30
  let v59 : BitVec 32 := Scalar.muli v58 c1_i32_30
  let v60 : BitVec 32 := Scalar.addi c0_i32_29 v59
  let c1_i32_31 : BitVec 32 := 1#32
  ⟨c0_i32_29, v60, c1_i32_31⟩
def k0_mult3 (i : grid0.Coords) (k0_t3 : Fin (k0_t3_loop i).trips) : BitVec 32 :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let c2_i32_78 : BitVec 32 := 2#32
  let c0_i32_29 : BitVec 32 := 0#32
  let c1_i32_31 : BitVec 32 := 1#32
  let arg13 : BitVec 32 := Scf.iv c0_i32_29 c1_i32_31 k0_t3
  let v164 : BitVec 32 := Scalar.muli c2_i32_78 arg13
  let v165 : BitVec 32 := Scalar.addi v37 v164
  let c512_i32 : BitVec 32 := 512#32
  let v166 : BitVec 32 := Scalar.muli v165 c512_i32
  v166
def k0_off17 (i : grid0.Coords) (k0_t3 : Fin (k0_t3_loop i).trips) : Fin 2 → Nat :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let c2_i32_78 : BitVec 32 := 2#32
  let c0_i32_29 : BitVec 32 := 0#32
  let c1_i32_31 : BitVec 32 := 1#32
  let arg13 : BitVec 32 := Scf.iv c0_i32_29 c1_i32_31 k0_t3
  let v164 : BitVec 32 := Scalar.muli c2_i32_78 arg13
  let v165 : BitVec 32 := Scalar.addi v37 v164
  let c512_i32 : BitVec 32 := 512#32
  let v166 : BitVec 32 := Scalar.muli v165 c512_i32
  let v167 : BitVec 32 := v166
  let v168 : Index := Scalar.indexCast v167
  let c0_79 : Index := 0#32
  ![v168.toNat, 0]
def k0_off18 (i : grid0.Coords) (k0_t3 : Fin (k0_t3_loop i).trips) : Fin 4 → Nat :=
  let c0_88 : Index := 0#32
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let c2_i32_78 : BitVec 32 := 2#32
  let c0_i32_29 : BitVec 32 := 0#32
  let c1_i32_31 : BitVec 32 := 1#32
  let arg13 : BitVec 32 := Scf.iv c0_i32_29 c1_i32_31 k0_t3
  let v164 : BitVec 32 := Scalar.muli c2_i32_78 arg13
  let v165 : BitVec 32 := Scalar.addi v37 v164
  let v187 : Index := Scalar.indexCast v165
  let c0_89 : Index := 0#32
  let c0_90 : Index := 0#32
  ![0, v187.toNat, 0, 0]
def k0_off19 (i : grid0.Coords) (k0_t3 : Fin (k0_t3_loop i).trips) : Fin 4 → Nat :=
  let c0_93 : Index := 0#32
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let c2_i32_78 : BitVec 32 := 2#32
  let c0_i32_29 : BitVec 32 := 0#32
  let c1_i32_31 : BitVec 32 := 1#32
  let arg13 : BitVec 32 := Scf.iv c0_i32_29 c1_i32_31 k0_t3
  let v164 : BitVec 32 := Scalar.muli c2_i32_78 arg13
  let v165 : BitVec 32 := Scalar.addi v37 v164
  let c1_i32_92 : BitVec 32 := 1#32
  let v192 : BitVec 32 := Scalar.addi v165 c1_i32_92
  let v193 : Index := Scalar.indexCast v192
  let c0_94 : Index := 0#32
  let c0_95 : Index := 0#32
  ![0, v193.toNat, 0, 0]
def k0_off20 (i : grid0.Coords) (k0_t3 : Fin (k0_t3_loop i).trips) : Fin 2 → Nat :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let c2_i32_78 : BitVec 32 := 2#32
  let c0_i32_29 : BitVec 32 := 0#32
  let c1_i32_31 : BitVec 32 := 1#32
  let arg13 : BitVec 32 := Scf.iv c0_i32_29 c1_i32_31 k0_t3
  let v164 : BitVec 32 := Scalar.muli c2_i32_78 arg13
  let v165 : BitVec 32 := Scalar.addi v37 v164
  let c512_i32 : BitVec 32 := 512#32
  let v166 : BitVec 32 := Scalar.muli v165 c512_i32
  let v167 : BitVec 32 := v166
  let v210 : Index := Scalar.indexCast v167
  let c128 : Index := 128#32
  ![v210.toNat, 128]
def k0_off21 (i : grid0.Coords) (k0_t3 : Fin (k0_t3_loop i).trips) : Fin 2 → Nat :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let c2_i32_78 : BitVec 32 := 2#32
  let c0_i32_29 : BitVec 32 := 0#32
  let c1_i32_31 : BitVec 32 := 1#32
  let arg13 : BitVec 32 := Scf.iv c0_i32_29 c1_i32_31 k0_t3
  let v164 : BitVec 32 := Scalar.muli c2_i32_78 arg13
  let v165 : BitVec 32 := Scalar.addi v37 v164
  let c512_i32 : BitVec 32 := 512#32
  let v166 : BitVec 32 := Scalar.muli v165 c512_i32
  let v167 : BitVec 32 := v166
  let v252 : Index := Scalar.indexCast v167
  let c256_132 : Index := 256#32
  ![v252.toNat, 256]
def k0_off22 (i : grid0.Coords) (k0_t3 : Fin (k0_t3_loop i).trips) : Fin 4 → Nat :=
  let c1_141 : Index := 1#32
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let c2_i32_78 : BitVec 32 := 2#32
  let c0_i32_29 : BitVec 32 := 0#32
  let c1_i32_31 : BitVec 32 := 1#32
  let arg13 : BitVec 32 := Scf.iv c0_i32_29 c1_i32_31 k0_t3
  let v164 : BitVec 32 := Scalar.muli c2_i32_78 arg13
  let v165 : BitVec 32 := Scalar.addi v37 v164
  let v271 : Index := Scalar.indexCast v165
  let c0_142 : Index := 0#32
  let c0_143 : Index := 0#32
  ![1, v271.toNat, 0, 0]
def k0_off23 (i : grid0.Coords) (k0_t3 : Fin (k0_t3_loop i).trips) : Fin 4 → Nat :=
  let c1_146 : Index := 1#32
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let c2_i32_78 : BitVec 32 := 2#32
  let c0_i32_29 : BitVec 32 := 0#32
  let c1_i32_31 : BitVec 32 := 1#32
  let arg13 : BitVec 32 := Scf.iv c0_i32_29 c1_i32_31 k0_t3
  let v164 : BitVec 32 := Scalar.muli c2_i32_78 arg13
  let v165 : BitVec 32 := Scalar.addi v37 v164
  let c1_i32_145 : BitVec 32 := 1#32
  let v276 : BitVec 32 := Scalar.addi v165 c1_i32_145
  let v277 : Index := Scalar.indexCast v276
  let c0_147 : Index := 0#32
  let c0_148 : Index := 0#32
  ![1, v277.toNat, 0, 0]
def k0_off24 (i : grid0.Coords) (k0_t3 : Fin (k0_t3_loop i).trips) : Fin 2 → Nat :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let c2_i32_78 : BitVec 32 := 2#32
  let c0_i32_29 : BitVec 32 := 0#32
  let c1_i32_31 : BitVec 32 := 1#32
  let arg13 : BitVec 32 := Scf.iv c0_i32_29 c1_i32_31 k0_t3
  let v164 : BitVec 32 := Scalar.muli c2_i32_78 arg13
  let v165 : BitVec 32 := Scalar.addi v37 v164
  let c512_i32 : BitVec 32 := 512#32
  let v166 : BitVec 32 := Scalar.muli v165 c512_i32
  let v167 : BitVec 32 := v166
  let v294 : Index := Scalar.indexCast v167
  let c384 : Index := 384#32
  ![v294.toNat, 384]
@[reducible] def k0_t4_loop (i : grid0.Coords) : Scf.Loop 32 :=
  let c0_i32_29 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_21 : BitVec 32 := 0#32
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let v56 : BitVec 32 := Scalar.subi v55 c0_i32_29
  let c1_i32_30 : BitVec 32 := 1#32
  let v58 : BitVec 32 := Scalar.divsi v56 c1_i32_30
  let v59 : BitVec 32 := Scalar.muli v58 c1_i32_30
  let v60 : BitVec 32 := Scalar.addi c0_i32_29 v59
  let v57 : BitVec 32 := Scalar.addi c0_i32_29 v56
  let c1_i32_32 : BitVec 32 := 1#32
  ⟨v60, v57, c1_i32_32⟩
def k0_mult4 (i : grid0.Coords) (k0_t4 : Fin (k0_t4_loop i).trips) : BitVec 32 :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let c2_i32_78 : BitVec 32 := 2#32
  let c0_i32_29 : BitVec 32 := 0#32
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let v56 : BitVec 32 := Scalar.subi v55 c0_i32_29
  let c1_i32_30 : BitVec 32 := 1#32
  let v58 : BitVec 32 := Scalar.divsi v56 c1_i32_30
  let v59 : BitVec 32 := Scalar.muli v58 c1_i32_30
  let v60 : BitVec 32 := Scalar.addi c0_i32_29 v59
  let c1_i32_32 : BitVec 32 := 1#32
  let arg13 : BitVec 32 := Scf.iv v60 c1_i32_32 k0_t4
  let v164 : BitVec 32 := Scalar.muli c2_i32_78 arg13
  let v165 : BitVec 32 := Scalar.addi v37 v164
  let c512_i32 : BitVec 32 := 512#32
  let v166 : BitVec 32 := Scalar.muli v165 c512_i32
  v166
def k0_off25 (i : grid0.Coords) (k0_t4 : Fin (k0_t4_loop i).trips) : Fin 2 → Nat :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let c2_i32_78 : BitVec 32 := 2#32
  let c0_i32_29 : BitVec 32 := 0#32
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let v56 : BitVec 32 := Scalar.subi v55 c0_i32_29
  let c1_i32_30 : BitVec 32 := 1#32
  let v58 : BitVec 32 := Scalar.divsi v56 c1_i32_30
  let v59 : BitVec 32 := Scalar.muli v58 c1_i32_30
  let v60 : BitVec 32 := Scalar.addi c0_i32_29 v59
  let c1_i32_32 : BitVec 32 := 1#32
  let arg13 : BitVec 32 := Scf.iv v60 c1_i32_32 k0_t4
  let v164 : BitVec 32 := Scalar.muli c2_i32_78 arg13
  let v165 : BitVec 32 := Scalar.addi v37 v164
  let c512_i32 : BitVec 32 := 512#32
  let v166 : BitVec 32 := Scalar.muli v165 c512_i32
  let v167 : BitVec 32 := v166
  let v168 : Index := Scalar.indexCast v167
  let c0_79 : Index := 0#32
  ![v168.toNat, 0]
def k0_off26 (i : grid0.Coords) (k0_t4 : Fin (k0_t4_loop i).trips) : Fin 4 → Nat :=
  let c0_88 : Index := 0#32
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let c2_i32_78 : BitVec 32 := 2#32
  let c0_i32_29 : BitVec 32 := 0#32
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let v56 : BitVec 32 := Scalar.subi v55 c0_i32_29
  let c1_i32_30 : BitVec 32 := 1#32
  let v58 : BitVec 32 := Scalar.divsi v56 c1_i32_30
  let v59 : BitVec 32 := Scalar.muli v58 c1_i32_30
  let v60 : BitVec 32 := Scalar.addi c0_i32_29 v59
  let c1_i32_32 : BitVec 32 := 1#32
  let arg13 : BitVec 32 := Scf.iv v60 c1_i32_32 k0_t4
  let v164 : BitVec 32 := Scalar.muli c2_i32_78 arg13
  let v165 : BitVec 32 := Scalar.addi v37 v164
  let v187 : Index := Scalar.indexCast v165
  let c0_89 : Index := 0#32
  let c0_90 : Index := 0#32
  ![0, v187.toNat, 0, 0]
def k0_off27 (i : grid0.Coords) (k0_t4 : Fin (k0_t4_loop i).trips) : Fin 4 → Nat :=
  let c0_93 : Index := 0#32
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let c2_i32_78 : BitVec 32 := 2#32
  let c0_i32_29 : BitVec 32 := 0#32
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let v56 : BitVec 32 := Scalar.subi v55 c0_i32_29
  let c1_i32_30 : BitVec 32 := 1#32
  let v58 : BitVec 32 := Scalar.divsi v56 c1_i32_30
  let v59 : BitVec 32 := Scalar.muli v58 c1_i32_30
  let v60 : BitVec 32 := Scalar.addi c0_i32_29 v59
  let c1_i32_32 : BitVec 32 := 1#32
  let arg13 : BitVec 32 := Scf.iv v60 c1_i32_32 k0_t4
  let v164 : BitVec 32 := Scalar.muli c2_i32_78 arg13
  let v165 : BitVec 32 := Scalar.addi v37 v164
  let c1_i32_92 : BitVec 32 := 1#32
  let v192 : BitVec 32 := Scalar.addi v165 c1_i32_92
  let v193 : Index := Scalar.indexCast v192
  let c0_94 : Index := 0#32
  let c0_95 : Index := 0#32
  ![0, v193.toNat, 0, 0]
def k0_off28 (i : grid0.Coords) (k0_t4 : Fin (k0_t4_loop i).trips) : Fin 2 → Nat :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let c2_i32_78 : BitVec 32 := 2#32
  let c0_i32_29 : BitVec 32 := 0#32
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let v56 : BitVec 32 := Scalar.subi v55 c0_i32_29
  let c1_i32_30 : BitVec 32 := 1#32
  let v58 : BitVec 32 := Scalar.divsi v56 c1_i32_30
  let v59 : BitVec 32 := Scalar.muli v58 c1_i32_30
  let v60 : BitVec 32 := Scalar.addi c0_i32_29 v59
  let c1_i32_32 : BitVec 32 := 1#32
  let arg13 : BitVec 32 := Scf.iv v60 c1_i32_32 k0_t4
  let v164 : BitVec 32 := Scalar.muli c2_i32_78 arg13
  let v165 : BitVec 32 := Scalar.addi v37 v164
  let c512_i32 : BitVec 32 := 512#32
  let v166 : BitVec 32 := Scalar.muli v165 c512_i32
  let v167 : BitVec 32 := v166
  let v210 : Index := Scalar.indexCast v167
  let c128 : Index := 128#32
  ![v210.toNat, 128]
def k0_off29 (i : grid0.Coords) (k0_t4 : Fin (k0_t4_loop i).trips) : Fin 2 → Nat :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let c2_i32_78 : BitVec 32 := 2#32
  let c0_i32_29 : BitVec 32 := 0#32
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let v56 : BitVec 32 := Scalar.subi v55 c0_i32_29
  let c1_i32_30 : BitVec 32 := 1#32
  let v58 : BitVec 32 := Scalar.divsi v56 c1_i32_30
  let v59 : BitVec 32 := Scalar.muli v58 c1_i32_30
  let v60 : BitVec 32 := Scalar.addi c0_i32_29 v59
  let c1_i32_32 : BitVec 32 := 1#32
  let arg13 : BitVec 32 := Scf.iv v60 c1_i32_32 k0_t4
  let v164 : BitVec 32 := Scalar.muli c2_i32_78 arg13
  let v165 : BitVec 32 := Scalar.addi v37 v164
  let c512_i32 : BitVec 32 := 512#32
  let v166 : BitVec 32 := Scalar.muli v165 c512_i32
  let v167 : BitVec 32 := v166
  let v252 : Index := Scalar.indexCast v167
  let c256_132 : Index := 256#32
  ![v252.toNat, 256]
def k0_off30 (i : grid0.Coords) (k0_t4 : Fin (k0_t4_loop i).trips) : Fin 4 → Nat :=
  let c1_141 : Index := 1#32
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let c2_i32_78 : BitVec 32 := 2#32
  let c0_i32_29 : BitVec 32 := 0#32
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let v56 : BitVec 32 := Scalar.subi v55 c0_i32_29
  let c1_i32_30 : BitVec 32 := 1#32
  let v58 : BitVec 32 := Scalar.divsi v56 c1_i32_30
  let v59 : BitVec 32 := Scalar.muli v58 c1_i32_30
  let v60 : BitVec 32 := Scalar.addi c0_i32_29 v59
  let c1_i32_32 : BitVec 32 := 1#32
  let arg13 : BitVec 32 := Scf.iv v60 c1_i32_32 k0_t4
  let v164 : BitVec 32 := Scalar.muli c2_i32_78 arg13
  let v165 : BitVec 32 := Scalar.addi v37 v164
  let v271 : Index := Scalar.indexCast v165
  let c0_142 : Index := 0#32
  let c0_143 : Index := 0#32
  ![1, v271.toNat, 0, 0]
def k0_off31 (i : grid0.Coords) (k0_t4 : Fin (k0_t4_loop i).trips) : Fin 4 → Nat :=
  let c1_146 : Index := 1#32
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let c2_i32_78 : BitVec 32 := 2#32
  let c0_i32_29 : BitVec 32 := 0#32
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let v56 : BitVec 32 := Scalar.subi v55 c0_i32_29
  let c1_i32_30 : BitVec 32 := 1#32
  let v58 : BitVec 32 := Scalar.divsi v56 c1_i32_30
  let v59 : BitVec 32 := Scalar.muli v58 c1_i32_30
  let v60 : BitVec 32 := Scalar.addi c0_i32_29 v59
  let c1_i32_32 : BitVec 32 := 1#32
  let arg13 : BitVec 32 := Scf.iv v60 c1_i32_32 k0_t4
  let v164 : BitVec 32 := Scalar.muli c2_i32_78 arg13
  let v165 : BitVec 32 := Scalar.addi v37 v164
  let c1_i32_145 : BitVec 32 := 1#32
  let v276 : BitVec 32 := Scalar.addi v165 c1_i32_145
  let v277 : Index := Scalar.indexCast v276
  let c0_147 : Index := 0#32
  let c0_148 : Index := 0#32
  ![1, v277.toNat, 0, 0]
def k0_off32 (i : grid0.Coords) (k0_t4 : Fin (k0_t4_loop i).trips) : Fin 2 → Nat :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let c2_i32_78 : BitVec 32 := 2#32
  let c0_i32_29 : BitVec 32 := 0#32
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let v56 : BitVec 32 := Scalar.subi v55 c0_i32_29
  let c1_i32_30 : BitVec 32 := 1#32
  let v58 : BitVec 32 := Scalar.divsi v56 c1_i32_30
  let v59 : BitVec 32 := Scalar.muli v58 c1_i32_30
  let v60 : BitVec 32 := Scalar.addi c0_i32_29 v59
  let c1_i32_32 : BitVec 32 := 1#32
  let arg13 : BitVec 32 := Scf.iv v60 c1_i32_32 k0_t4
  let v164 : BitVec 32 := Scalar.muli c2_i32_78 arg13
  let v165 : BitVec 32 := Scalar.addi v37 v164
  let c512_i32 : BitVec 32 := 512#32
  let v166 : BitVec 32 := Scalar.muli v165 c512_i32
  let v167 : BitVec 32 := v166
  let v294 : Index := Scalar.indexCast v167
  let c384 : Index := 384#32
  ![v294.toNat, 384]
@[reducible] def k0_t5_loop (i : grid0.Coords) : Scf.Loop 32 :=
  let c0_i32_42 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_21 : BitVec 32 := 0#32
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let c2_i32_33 : BitVec 32 := 2#32
  let v61 : BitVec 32 := Scalar.muli v55 c2_i32_33
  let v62 : BitVec 32 := Scalar.addi v37 v61
  let v63 : BitVec 32 := Scalar.subi v12 v62
  let c0_i32_35 : BitVec 32 := 0#32
  let v65 : BitVec 1 := Scalar.cmpi .sgt v63 c0_i32_35
  let v66 : BitVec 32 := Scalar.extui v65
  let c0_i32_36 : BitVec 32 := 0#32
  let v67 : BitVec 1 := Scalar.cmpi .slt v63 c0_i32_36
  let v68 : BitVec 32 := Scalar.extui v67
  let v69 : BitVec 32 := Scalar.subi v66 v68
  let c1_i32_34 : BitVec 32 := 1#32
  let c0_i32_37 : BitVec 32 := 0#32
  let v70 : BitVec 1 := Scalar.cmpi .sgt c1_i32_34 c0_i32_37
  let v71 : BitVec 32 := Scalar.extui v70
  let c0_i32_38 : BitVec 32 := 0#32
  let v72 : BitVec 1 := Scalar.cmpi .slt c1_i32_34 c0_i32_38
  let v73 : BitVec 32 := Scalar.extui v72
  let v74 : BitVec 32 := Scalar.subi v71 v73
  let v75 : BitVec 1 := Scalar.cmpi .ne v69 v74
  let v76 : BitVec 32 := Scalar.remsi v63 c1_i32_34
  let c0_i32_39 : BitVec 32 := 0#32
  let v77 : BitVec 1 := Scalar.cmpi .ne v76 c0_i32_39
  let v78 : BitVec 1 := Scalar.andi v75 v77
  let v64 : BitVec 32 := Scalar.divsi v63 c1_i32_34
  let c1_i32_40 : BitVec 32 := 1#32
  let v79 : BitVec 32 := Scalar.subi v64 c1_i32_40
  let v80 : BitVec 32 := Scalar.select v78 v79 v64
  let v81 : BitVec 32 := Scalar.subi v80 c0_i32_42
  let c1_i32_43 : BitVec 32 := 1#32
  let v83 : BitVec 32 := Scalar.divsi v81 c1_i32_43
  let v84 : BitVec 32 := Scalar.muli v83 c1_i32_43
  let v85 : BitVec 32 := Scalar.addi c0_i32_42 v84
  let c1_i32_44 : BitVec 32 := 1#32
  ⟨c0_i32_42, v85, c1_i32_44⟩
def k0_mult5 (i : grid0.Coords) (k0_t5 : Fin (k0_t5_loop i).trips) : BitVec 32 :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let c2_i32_33 : BitVec 32 := 2#32
  let v61 : BitVec 32 := Scalar.muli v55 c2_i32_33
  let v62 : BitVec 32 := Scalar.addi v37 v61
  let c1_i32_78 : BitVec 32 := 1#32
  let c0_i32_42 : BitVec 32 := 0#32
  let c1_i32_44 : BitVec 32 := 1#32
  let arg13 : BitVec 32 := Scf.iv c0_i32_42 c1_i32_44 k0_t5
  let v164 : BitVec 32 := Scalar.muli c1_i32_78 arg13
  let v165 : BitVec 32 := Scalar.addi v62 v164
  let c512_i32 : BitVec 32 := 512#32
  let v166 : BitVec 32 := Scalar.muli v165 c512_i32
  v166
def k0_off33 (i : grid0.Coords) (k0_t5 : Fin (k0_t5_loop i).trips) : Fin 2 → Nat :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let c2_i32_33 : BitVec 32 := 2#32
  let v61 : BitVec 32 := Scalar.muli v55 c2_i32_33
  let v62 : BitVec 32 := Scalar.addi v37 v61
  let c1_i32_78 : BitVec 32 := 1#32
  let c0_i32_42 : BitVec 32 := 0#32
  let c1_i32_44 : BitVec 32 := 1#32
  let arg13 : BitVec 32 := Scf.iv c0_i32_42 c1_i32_44 k0_t5
  let v164 : BitVec 32 := Scalar.muli c1_i32_78 arg13
  let v165 : BitVec 32 := Scalar.addi v62 v164
  let c512_i32 : BitVec 32 := 512#32
  let v166 : BitVec 32 := Scalar.muli v165 c512_i32
  let v167 : BitVec 32 := v166
  let v168 : Index := Scalar.indexCast v167
  let c0_79 : Index := 0#32
  ![v168.toNat, 0]
def k0_off34 (i : grid0.Coords) (k0_t5 : Fin (k0_t5_loop i).trips) : Fin 4 → Nat :=
  let c0_88 : Index := 0#32
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let c2_i32_33 : BitVec 32 := 2#32
  let v61 : BitVec 32 := Scalar.muli v55 c2_i32_33
  let v62 : BitVec 32 := Scalar.addi v37 v61
  let c1_i32_78 : BitVec 32 := 1#32
  let c0_i32_42 : BitVec 32 := 0#32
  let c1_i32_44 : BitVec 32 := 1#32
  let arg13 : BitVec 32 := Scf.iv c0_i32_42 c1_i32_44 k0_t5
  let v164 : BitVec 32 := Scalar.muli c1_i32_78 arg13
  let v165 : BitVec 32 := Scalar.addi v62 v164
  let v187 : Index := Scalar.indexCast v165
  let c0_89 : Index := 0#32
  let c0_90 : Index := 0#32
  ![0, v187.toNat, 0, 0]
def k0_off35 (i : grid0.Coords) (k0_t5 : Fin (k0_t5_loop i).trips) : Fin 2 → Nat :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let c2_i32_33 : BitVec 32 := 2#32
  let v61 : BitVec 32 := Scalar.muli v55 c2_i32_33
  let v62 : BitVec 32 := Scalar.addi v37 v61
  let c1_i32_78 : BitVec 32 := 1#32
  let c0_i32_42 : BitVec 32 := 0#32
  let c1_i32_44 : BitVec 32 := 1#32
  let arg13 : BitVec 32 := Scf.iv c0_i32_42 c1_i32_44 k0_t5
  let v164 : BitVec 32 := Scalar.muli c1_i32_78 arg13
  let v165 : BitVec 32 := Scalar.addi v62 v164
  let c512_i32 : BitVec 32 := 512#32
  let v166 : BitVec 32 := Scalar.muli v165 c512_i32
  let v167 : BitVec 32 := v166
  let v202 : Index := Scalar.indexCast v167
  let c128 : Index := 128#32
  ![v202.toNat, 128]
def k0_off36 (i : grid0.Coords) (k0_t5 : Fin (k0_t5_loop i).trips) : Fin 2 → Nat :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let c2_i32_33 : BitVec 32 := 2#32
  let v61 : BitVec 32 := Scalar.muli v55 c2_i32_33
  let v62 : BitVec 32 := Scalar.addi v37 v61
  let c1_i32_78 : BitVec 32 := 1#32
  let c0_i32_42 : BitVec 32 := 0#32
  let c1_i32_44 : BitVec 32 := 1#32
  let arg13 : BitVec 32 := Scf.iv c0_i32_42 c1_i32_44 k0_t5
  let v164 : BitVec 32 := Scalar.muli c1_i32_78 arg13
  let v165 : BitVec 32 := Scalar.addi v62 v164
  let c512_i32 : BitVec 32 := 512#32
  let v166 : BitVec 32 := Scalar.muli v165 c512_i32
  let v167 : BitVec 32 := v166
  let v236 : Index := Scalar.indexCast v167
  let c256_122 : Index := 256#32
  ![v236.toNat, 256]
def k0_off37 (i : grid0.Coords) (k0_t5 : Fin (k0_t5_loop i).trips) : Fin 4 → Nat :=
  let c1_131 : Index := 1#32
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let c2_i32_33 : BitVec 32 := 2#32
  let v61 : BitVec 32 := Scalar.muli v55 c2_i32_33
  let v62 : BitVec 32 := Scalar.addi v37 v61
  let c1_i32_78 : BitVec 32 := 1#32
  let c0_i32_42 : BitVec 32 := 0#32
  let c1_i32_44 : BitVec 32 := 1#32
  let arg13 : BitVec 32 := Scf.iv c0_i32_42 c1_i32_44 k0_t5
  let v164 : BitVec 32 := Scalar.muli c1_i32_78 arg13
  let v165 : BitVec 32 := Scalar.addi v62 v164
  let v255 : Index := Scalar.indexCast v165
  let c0_132 : Index := 0#32
  let c0_133 : Index := 0#32
  ![1, v255.toNat, 0, 0]
def k0_off38 (i : grid0.Coords) (k0_t5 : Fin (k0_t5_loop i).trips) : Fin 2 → Nat :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let c2_i32_33 : BitVec 32 := 2#32
  let v61 : BitVec 32 := Scalar.muli v55 c2_i32_33
  let v62 : BitVec 32 := Scalar.addi v37 v61
  let c1_i32_78 : BitVec 32 := 1#32
  let c0_i32_42 : BitVec 32 := 0#32
  let c1_i32_44 : BitVec 32 := 1#32
  let arg13 : BitVec 32 := Scf.iv c0_i32_42 c1_i32_44 k0_t5
  let v164 : BitVec 32 := Scalar.muli c1_i32_78 arg13
  let v165 : BitVec 32 := Scalar.addi v62 v164
  let c512_i32 : BitVec 32 := 512#32
  let v166 : BitVec 32 := Scalar.muli v165 c512_i32
  let v167 : BitVec 32 := v166
  let v270 : Index := Scalar.indexCast v167
  let c384 : Index := 384#32
  ![v270.toNat, 384]
@[reducible] def k0_t6_loop (i : grid0.Coords) : Scf.Loop 32 :=
  let c0_i32_42 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_21 : BitVec 32 := 0#32
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let c2_i32_33 : BitVec 32 := 2#32
  let v61 : BitVec 32 := Scalar.muli v55 c2_i32_33
  let v62 : BitVec 32 := Scalar.addi v37 v61
  let v63 : BitVec 32 := Scalar.subi v12 v62
  let c0_i32_35 : BitVec 32 := 0#32
  let v65 : BitVec 1 := Scalar.cmpi .sgt v63 c0_i32_35
  let v66 : BitVec 32 := Scalar.extui v65
  let c0_i32_36 : BitVec 32 := 0#32
  let v67 : BitVec 1 := Scalar.cmpi .slt v63 c0_i32_36
  let v68 : BitVec 32 := Scalar.extui v67
  let v69 : BitVec 32 := Scalar.subi v66 v68
  let c1_i32_34 : BitVec 32 := 1#32
  let c0_i32_37 : BitVec 32 := 0#32
  let v70 : BitVec 1 := Scalar.cmpi .sgt c1_i32_34 c0_i32_37
  let v71 : BitVec 32 := Scalar.extui v70
  let c0_i32_38 : BitVec 32 := 0#32
  let v72 : BitVec 1 := Scalar.cmpi .slt c1_i32_34 c0_i32_38
  let v73 : BitVec 32 := Scalar.extui v72
  let v74 : BitVec 32 := Scalar.subi v71 v73
  let v75 : BitVec 1 := Scalar.cmpi .ne v69 v74
  let v76 : BitVec 32 := Scalar.remsi v63 c1_i32_34
  let c0_i32_39 : BitVec 32 := 0#32
  let v77 : BitVec 1 := Scalar.cmpi .ne v76 c0_i32_39
  let v78 : BitVec 1 := Scalar.andi v75 v77
  let v64 : BitVec 32 := Scalar.divsi v63 c1_i32_34
  let c1_i32_40 : BitVec 32 := 1#32
  let v79 : BitVec 32 := Scalar.subi v64 c1_i32_40
  let v80 : BitVec 32 := Scalar.select v78 v79 v64
  let v81 : BitVec 32 := Scalar.subi v80 c0_i32_42
  let c1_i32_43 : BitVec 32 := 1#32
  let v83 : BitVec 32 := Scalar.divsi v81 c1_i32_43
  let v84 : BitVec 32 := Scalar.muli v83 c1_i32_43
  let v85 : BitVec 32 := Scalar.addi c0_i32_42 v84
  let v82 : BitVec 32 := Scalar.addi c0_i32_42 v81
  let c1_i32_45 : BitVec 32 := 1#32
  ⟨v85, v82, c1_i32_45⟩
def k0_mult6 (i : grid0.Coords) (k0_t6 : Fin (k0_t6_loop i).trips) : BitVec 32 :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let c2_i32_33 : BitVec 32 := 2#32
  let v61 : BitVec 32 := Scalar.muli v55 c2_i32_33
  let v62 : BitVec 32 := Scalar.addi v37 v61
  let c1_i32_78 : BitVec 32 := 1#32
  let c0_i32_42 : BitVec 32 := 0#32
  let v63 : BitVec 32 := Scalar.subi v12 v62
  let c0_i32_35 : BitVec 32 := 0#32
  let v65 : BitVec 1 := Scalar.cmpi .sgt v63 c0_i32_35
  let v66 : BitVec 32 := Scalar.extui v65
  let c0_i32_36 : BitVec 32 := 0#32
  let v67 : BitVec 1 := Scalar.cmpi .slt v63 c0_i32_36
  let v68 : BitVec 32 := Scalar.extui v67
  let v69 : BitVec 32 := Scalar.subi v66 v68
  let c1_i32_34 : BitVec 32 := 1#32
  let c0_i32_37 : BitVec 32 := 0#32
  let v70 : BitVec 1 := Scalar.cmpi .sgt c1_i32_34 c0_i32_37
  let v71 : BitVec 32 := Scalar.extui v70
  let c0_i32_38 : BitVec 32 := 0#32
  let v72 : BitVec 1 := Scalar.cmpi .slt c1_i32_34 c0_i32_38
  let v73 : BitVec 32 := Scalar.extui v72
  let v74 : BitVec 32 := Scalar.subi v71 v73
  let v75 : BitVec 1 := Scalar.cmpi .ne v69 v74
  let v76 : BitVec 32 := Scalar.remsi v63 c1_i32_34
  let c0_i32_39 : BitVec 32 := 0#32
  let v77 : BitVec 1 := Scalar.cmpi .ne v76 c0_i32_39
  let v78 : BitVec 1 := Scalar.andi v75 v77
  let v64 : BitVec 32 := Scalar.divsi v63 c1_i32_34
  let c1_i32_40 : BitVec 32 := 1#32
  let v79 : BitVec 32 := Scalar.subi v64 c1_i32_40
  let v80 : BitVec 32 := Scalar.select v78 v79 v64
  let v81 : BitVec 32 := Scalar.subi v80 c0_i32_42
  let c1_i32_43 : BitVec 32 := 1#32
  let v83 : BitVec 32 := Scalar.divsi v81 c1_i32_43
  let v84 : BitVec 32 := Scalar.muli v83 c1_i32_43
  let v85 : BitVec 32 := Scalar.addi c0_i32_42 v84
  let c1_i32_45 : BitVec 32 := 1#32
  let arg13 : BitVec 32 := Scf.iv v85 c1_i32_45 k0_t6
  let v164 : BitVec 32 := Scalar.muli c1_i32_78 arg13
  let v165 : BitVec 32 := Scalar.addi v62 v164
  let c512_i32 : BitVec 32 := 512#32
  let v166 : BitVec 32 := Scalar.muli v165 c512_i32
  v166
def k0_off39 (i : grid0.Coords) (k0_t6 : Fin (k0_t6_loop i).trips) : Fin 2 → Nat :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let c2_i32_33 : BitVec 32 := 2#32
  let v61 : BitVec 32 := Scalar.muli v55 c2_i32_33
  let v62 : BitVec 32 := Scalar.addi v37 v61
  let c1_i32_78 : BitVec 32 := 1#32
  let c0_i32_42 : BitVec 32 := 0#32
  let v63 : BitVec 32 := Scalar.subi v12 v62
  let c0_i32_35 : BitVec 32 := 0#32
  let v65 : BitVec 1 := Scalar.cmpi .sgt v63 c0_i32_35
  let v66 : BitVec 32 := Scalar.extui v65
  let c0_i32_36 : BitVec 32 := 0#32
  let v67 : BitVec 1 := Scalar.cmpi .slt v63 c0_i32_36
  let v68 : BitVec 32 := Scalar.extui v67
  let v69 : BitVec 32 := Scalar.subi v66 v68
  let c1_i32_34 : BitVec 32 := 1#32
  let c0_i32_37 : BitVec 32 := 0#32
  let v70 : BitVec 1 := Scalar.cmpi .sgt c1_i32_34 c0_i32_37
  let v71 : BitVec 32 := Scalar.extui v70
  let c0_i32_38 : BitVec 32 := 0#32
  let v72 : BitVec 1 := Scalar.cmpi .slt c1_i32_34 c0_i32_38
  let v73 : BitVec 32 := Scalar.extui v72
  let v74 : BitVec 32 := Scalar.subi v71 v73
  let v75 : BitVec 1 := Scalar.cmpi .ne v69 v74
  let v76 : BitVec 32 := Scalar.remsi v63 c1_i32_34
  let c0_i32_39 : BitVec 32 := 0#32
  let v77 : BitVec 1 := Scalar.cmpi .ne v76 c0_i32_39
  let v78 : BitVec 1 := Scalar.andi v75 v77
  let v64 : BitVec 32 := Scalar.divsi v63 c1_i32_34
  let c1_i32_40 : BitVec 32 := 1#32
  let v79 : BitVec 32 := Scalar.subi v64 c1_i32_40
  let v80 : BitVec 32 := Scalar.select v78 v79 v64
  let v81 : BitVec 32 := Scalar.subi v80 c0_i32_42
  let c1_i32_43 : BitVec 32 := 1#32
  let v83 : BitVec 32 := Scalar.divsi v81 c1_i32_43
  let v84 : BitVec 32 := Scalar.muli v83 c1_i32_43
  let v85 : BitVec 32 := Scalar.addi c0_i32_42 v84
  let c1_i32_45 : BitVec 32 := 1#32
  let arg13 : BitVec 32 := Scf.iv v85 c1_i32_45 k0_t6
  let v164 : BitVec 32 := Scalar.muli c1_i32_78 arg13
  let v165 : BitVec 32 := Scalar.addi v62 v164
  let c512_i32 : BitVec 32 := 512#32
  let v166 : BitVec 32 := Scalar.muli v165 c512_i32
  let v167 : BitVec 32 := v166
  let v168 : Index := Scalar.indexCast v167
  let c0_79 : Index := 0#32
  ![v168.toNat, 0]
def k0_off40 (i : grid0.Coords) (k0_t6 : Fin (k0_t6_loop i).trips) : Fin 4 → Nat :=
  let c0_88 : Index := 0#32
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let c2_i32_33 : BitVec 32 := 2#32
  let v61 : BitVec 32 := Scalar.muli v55 c2_i32_33
  let v62 : BitVec 32 := Scalar.addi v37 v61
  let c1_i32_78 : BitVec 32 := 1#32
  let c0_i32_42 : BitVec 32 := 0#32
  let v63 : BitVec 32 := Scalar.subi v12 v62
  let c0_i32_35 : BitVec 32 := 0#32
  let v65 : BitVec 1 := Scalar.cmpi .sgt v63 c0_i32_35
  let v66 : BitVec 32 := Scalar.extui v65
  let c0_i32_36 : BitVec 32 := 0#32
  let v67 : BitVec 1 := Scalar.cmpi .slt v63 c0_i32_36
  let v68 : BitVec 32 := Scalar.extui v67
  let v69 : BitVec 32 := Scalar.subi v66 v68
  let c1_i32_34 : BitVec 32 := 1#32
  let c0_i32_37 : BitVec 32 := 0#32
  let v70 : BitVec 1 := Scalar.cmpi .sgt c1_i32_34 c0_i32_37
  let v71 : BitVec 32 := Scalar.extui v70
  let c0_i32_38 : BitVec 32 := 0#32
  let v72 : BitVec 1 := Scalar.cmpi .slt c1_i32_34 c0_i32_38
  let v73 : BitVec 32 := Scalar.extui v72
  let v74 : BitVec 32 := Scalar.subi v71 v73
  let v75 : BitVec 1 := Scalar.cmpi .ne v69 v74
  let v76 : BitVec 32 := Scalar.remsi v63 c1_i32_34
  let c0_i32_39 : BitVec 32 := 0#32
  let v77 : BitVec 1 := Scalar.cmpi .ne v76 c0_i32_39
  let v78 : BitVec 1 := Scalar.andi v75 v77
  let v64 : BitVec 32 := Scalar.divsi v63 c1_i32_34
  let c1_i32_40 : BitVec 32 := 1#32
  let v79 : BitVec 32 := Scalar.subi v64 c1_i32_40
  let v80 : BitVec 32 := Scalar.select v78 v79 v64
  let v81 : BitVec 32 := Scalar.subi v80 c0_i32_42
  let c1_i32_43 : BitVec 32 := 1#32
  let v83 : BitVec 32 := Scalar.divsi v81 c1_i32_43
  let v84 : BitVec 32 := Scalar.muli v83 c1_i32_43
  let v85 : BitVec 32 := Scalar.addi c0_i32_42 v84
  let c1_i32_45 : BitVec 32 := 1#32
  let arg13 : BitVec 32 := Scf.iv v85 c1_i32_45 k0_t6
  let v164 : BitVec 32 := Scalar.muli c1_i32_78 arg13
  let v165 : BitVec 32 := Scalar.addi v62 v164
  let v187 : Index := Scalar.indexCast v165
  let c0_89 : Index := 0#32
  let c0_90 : Index := 0#32
  ![0, v187.toNat, 0, 0]
def k0_off41 (i : grid0.Coords) (k0_t6 : Fin (k0_t6_loop i).trips) : Fin 2 → Nat :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let c2_i32_33 : BitVec 32 := 2#32
  let v61 : BitVec 32 := Scalar.muli v55 c2_i32_33
  let v62 : BitVec 32 := Scalar.addi v37 v61
  let c1_i32_78 : BitVec 32 := 1#32
  let c0_i32_42 : BitVec 32 := 0#32
  let v63 : BitVec 32 := Scalar.subi v12 v62
  let c0_i32_35 : BitVec 32 := 0#32
  let v65 : BitVec 1 := Scalar.cmpi .sgt v63 c0_i32_35
  let v66 : BitVec 32 := Scalar.extui v65
  let c0_i32_36 : BitVec 32 := 0#32
  let v67 : BitVec 1 := Scalar.cmpi .slt v63 c0_i32_36
  let v68 : BitVec 32 := Scalar.extui v67
  let v69 : BitVec 32 := Scalar.subi v66 v68
  let c1_i32_34 : BitVec 32 := 1#32
  let c0_i32_37 : BitVec 32 := 0#32
  let v70 : BitVec 1 := Scalar.cmpi .sgt c1_i32_34 c0_i32_37
  let v71 : BitVec 32 := Scalar.extui v70
  let c0_i32_38 : BitVec 32 := 0#32
  let v72 : BitVec 1 := Scalar.cmpi .slt c1_i32_34 c0_i32_38
  let v73 : BitVec 32 := Scalar.extui v72
  let v74 : BitVec 32 := Scalar.subi v71 v73
  let v75 : BitVec 1 := Scalar.cmpi .ne v69 v74
  let v76 : BitVec 32 := Scalar.remsi v63 c1_i32_34
  let c0_i32_39 : BitVec 32 := 0#32
  let v77 : BitVec 1 := Scalar.cmpi .ne v76 c0_i32_39
  let v78 : BitVec 1 := Scalar.andi v75 v77
  let v64 : BitVec 32 := Scalar.divsi v63 c1_i32_34
  let c1_i32_40 : BitVec 32 := 1#32
  let v79 : BitVec 32 := Scalar.subi v64 c1_i32_40
  let v80 : BitVec 32 := Scalar.select v78 v79 v64
  let v81 : BitVec 32 := Scalar.subi v80 c0_i32_42
  let c1_i32_43 : BitVec 32 := 1#32
  let v83 : BitVec 32 := Scalar.divsi v81 c1_i32_43
  let v84 : BitVec 32 := Scalar.muli v83 c1_i32_43
  let v85 : BitVec 32 := Scalar.addi c0_i32_42 v84
  let c1_i32_45 : BitVec 32 := 1#32
  let arg13 : BitVec 32 := Scf.iv v85 c1_i32_45 k0_t6
  let v164 : BitVec 32 := Scalar.muli c1_i32_78 arg13
  let v165 : BitVec 32 := Scalar.addi v62 v164
  let c512_i32 : BitVec 32 := 512#32
  let v166 : BitVec 32 := Scalar.muli v165 c512_i32
  let v167 : BitVec 32 := v166
  let v202 : Index := Scalar.indexCast v167
  let c128 : Index := 128#32
  ![v202.toNat, 128]
def k0_off42 (i : grid0.Coords) (k0_t6 : Fin (k0_t6_loop i).trips) : Fin 2 → Nat :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let c2_i32_33 : BitVec 32 := 2#32
  let v61 : BitVec 32 := Scalar.muli v55 c2_i32_33
  let v62 : BitVec 32 := Scalar.addi v37 v61
  let c1_i32_78 : BitVec 32 := 1#32
  let c0_i32_42 : BitVec 32 := 0#32
  let v63 : BitVec 32 := Scalar.subi v12 v62
  let c0_i32_35 : BitVec 32 := 0#32
  let v65 : BitVec 1 := Scalar.cmpi .sgt v63 c0_i32_35
  let v66 : BitVec 32 := Scalar.extui v65
  let c0_i32_36 : BitVec 32 := 0#32
  let v67 : BitVec 1 := Scalar.cmpi .slt v63 c0_i32_36
  let v68 : BitVec 32 := Scalar.extui v67
  let v69 : BitVec 32 := Scalar.subi v66 v68
  let c1_i32_34 : BitVec 32 := 1#32
  let c0_i32_37 : BitVec 32 := 0#32
  let v70 : BitVec 1 := Scalar.cmpi .sgt c1_i32_34 c0_i32_37
  let v71 : BitVec 32 := Scalar.extui v70
  let c0_i32_38 : BitVec 32 := 0#32
  let v72 : BitVec 1 := Scalar.cmpi .slt c1_i32_34 c0_i32_38
  let v73 : BitVec 32 := Scalar.extui v72
  let v74 : BitVec 32 := Scalar.subi v71 v73
  let v75 : BitVec 1 := Scalar.cmpi .ne v69 v74
  let v76 : BitVec 32 := Scalar.remsi v63 c1_i32_34
  let c0_i32_39 : BitVec 32 := 0#32
  let v77 : BitVec 1 := Scalar.cmpi .ne v76 c0_i32_39
  let v78 : BitVec 1 := Scalar.andi v75 v77
  let v64 : BitVec 32 := Scalar.divsi v63 c1_i32_34
  let c1_i32_40 : BitVec 32 := 1#32
  let v79 : BitVec 32 := Scalar.subi v64 c1_i32_40
  let v80 : BitVec 32 := Scalar.select v78 v79 v64
  let v81 : BitVec 32 := Scalar.subi v80 c0_i32_42
  let c1_i32_43 : BitVec 32 := 1#32
  let v83 : BitVec 32 := Scalar.divsi v81 c1_i32_43
  let v84 : BitVec 32 := Scalar.muli v83 c1_i32_43
  let v85 : BitVec 32 := Scalar.addi c0_i32_42 v84
  let c1_i32_45 : BitVec 32 := 1#32
  let arg13 : BitVec 32 := Scf.iv v85 c1_i32_45 k0_t6
  let v164 : BitVec 32 := Scalar.muli c1_i32_78 arg13
  let v165 : BitVec 32 := Scalar.addi v62 v164
  let c512_i32 : BitVec 32 := 512#32
  let v166 : BitVec 32 := Scalar.muli v165 c512_i32
  let v167 : BitVec 32 := v166
  let v236 : Index := Scalar.indexCast v167
  let c256_122 : Index := 256#32
  ![v236.toNat, 256]
def k0_off43 (i : grid0.Coords) (k0_t6 : Fin (k0_t6_loop i).trips) : Fin 4 → Nat :=
  let c1_131 : Index := 1#32
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let c2_i32_33 : BitVec 32 := 2#32
  let v61 : BitVec 32 := Scalar.muli v55 c2_i32_33
  let v62 : BitVec 32 := Scalar.addi v37 v61
  let c1_i32_78 : BitVec 32 := 1#32
  let c0_i32_42 : BitVec 32 := 0#32
  let v63 : BitVec 32 := Scalar.subi v12 v62
  let c0_i32_35 : BitVec 32 := 0#32
  let v65 : BitVec 1 := Scalar.cmpi .sgt v63 c0_i32_35
  let v66 : BitVec 32 := Scalar.extui v65
  let c0_i32_36 : BitVec 32 := 0#32
  let v67 : BitVec 1 := Scalar.cmpi .slt v63 c0_i32_36
  let v68 : BitVec 32 := Scalar.extui v67
  let v69 : BitVec 32 := Scalar.subi v66 v68
  let c1_i32_34 : BitVec 32 := 1#32
  let c0_i32_37 : BitVec 32 := 0#32
  let v70 : BitVec 1 := Scalar.cmpi .sgt c1_i32_34 c0_i32_37
  let v71 : BitVec 32 := Scalar.extui v70
  let c0_i32_38 : BitVec 32 := 0#32
  let v72 : BitVec 1 := Scalar.cmpi .slt c1_i32_34 c0_i32_38
  let v73 : BitVec 32 := Scalar.extui v72
  let v74 : BitVec 32 := Scalar.subi v71 v73
  let v75 : BitVec 1 := Scalar.cmpi .ne v69 v74
  let v76 : BitVec 32 := Scalar.remsi v63 c1_i32_34
  let c0_i32_39 : BitVec 32 := 0#32
  let v77 : BitVec 1 := Scalar.cmpi .ne v76 c0_i32_39
  let v78 : BitVec 1 := Scalar.andi v75 v77
  let v64 : BitVec 32 := Scalar.divsi v63 c1_i32_34
  let c1_i32_40 : BitVec 32 := 1#32
  let v79 : BitVec 32 := Scalar.subi v64 c1_i32_40
  let v80 : BitVec 32 := Scalar.select v78 v79 v64
  let v81 : BitVec 32 := Scalar.subi v80 c0_i32_42
  let c1_i32_43 : BitVec 32 := 1#32
  let v83 : BitVec 32 := Scalar.divsi v81 c1_i32_43
  let v84 : BitVec 32 := Scalar.muli v83 c1_i32_43
  let v85 : BitVec 32 := Scalar.addi c0_i32_42 v84
  let c1_i32_45 : BitVec 32 := 1#32
  let arg13 : BitVec 32 := Scf.iv v85 c1_i32_45 k0_t6
  let v164 : BitVec 32 := Scalar.muli c1_i32_78 arg13
  let v165 : BitVec 32 := Scalar.addi v62 v164
  let v255 : Index := Scalar.indexCast v165
  let c0_132 : Index := 0#32
  let c0_133 : Index := 0#32
  ![1, v255.toNat, 0, 0]
def k0_off44 (i : grid0.Coords) (k0_t6 : Fin (k0_t6_loop i).trips) : Fin 2 → Nat :=
  let c0_i32_21 : BitVec 32 := 0#32
  let arg1 : BitVec 32 := BitVec.ofNat 32 (i 1).val
  let c1_i32 : BitVec 32 := 1#32
  let v11 : BitVec 32 := Scalar.subi arg1 c1_i32
  let c0_i32_7 : BitVec 32 := 0#32
  let v12 : BitVec 32 := Scalar.maxsi v11 c0_i32_7
  let c0_i32_8 : BitVec 32 := 0#32
  let v13 : BitVec 32 := Scalar.subi v12 c0_i32_8
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v13 c4_i32
  let c0_i32_13 : BitVec 32 := 0#32
  let v27 : BitVec 1 := Scalar.cmpi .ne v26 c0_i32_13
  let v28 : BitVec 1 := Scalar.andi v25 v27
  let v14 : BitVec 32 := Scalar.divsi v13 c4_i32
  let c1_i32_14 : BitVec 32 := 1#32
  let v29 : BitVec 32 := Scalar.subi v14 c1_i32_14
  let v30 : BitVec 32 := Scalar.select v28 v29 v14
  let c4_i32_20 : BitVec 32 := 4#32
  let v36 : BitVec 32 := Scalar.muli v30 c4_i32_20
  let v37 : BitVec 32 := Scalar.addi c0_i32_21 v36
  let v38 : BitVec 32 := Scalar.subi v12 v37
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c2_i32 : BitVec 32 := 2#32
  let c0_i32_24 : BitVec 32 := 0#32
  let v45 : BitVec 1 := Scalar.cmpi .sgt c2_i32 c0_i32_24
  let v46 : BitVec 32 := Scalar.extui v45
  let c0_i32_25 : BitVec 32 := 0#32
  let v47 : BitVec 1 := Scalar.cmpi .slt c2_i32 c0_i32_25
  let v48 : BitVec 32 := Scalar.extui v47
  let v49 : BitVec 32 := Scalar.subi v46 v48
  let v50 : BitVec 1 := Scalar.cmpi .ne v44 v49
  let v51 : BitVec 32 := Scalar.remsi v38 c2_i32
  let c0_i32_26 : BitVec 32 := 0#32
  let v52 : BitVec 1 := Scalar.cmpi .ne v51 c0_i32_26
  let v53 : BitVec 1 := Scalar.andi v50 v52
  let v39 : BitVec 32 := Scalar.divsi v38 c2_i32
  let c1_i32_27 : BitVec 32 := 1#32
  let v54 : BitVec 32 := Scalar.subi v39 c1_i32_27
  let v55 : BitVec 32 := Scalar.select v53 v54 v39
  let c2_i32_33 : BitVec 32 := 2#32
  let v61 : BitVec 32 := Scalar.muli v55 c2_i32_33
  let v62 : BitVec 32 := Scalar.addi v37 v61
  let c1_i32_78 : BitVec 32 := 1#32
  let c0_i32_42 : BitVec 32 := 0#32
  let v63 : BitVec 32 := Scalar.subi v12 v62
  let c0_i32_35 : BitVec 32 := 0#32
  let v65 : BitVec 1 := Scalar.cmpi .sgt v63 c0_i32_35
  let v66 : BitVec 32 := Scalar.extui v65
  let c0_i32_36 : BitVec 32 := 0#32
  let v67 : BitVec 1 := Scalar.cmpi .slt v63 c0_i32_36
  let v68 : BitVec 32 := Scalar.extui v67
  let v69 : BitVec 32 := Scalar.subi v66 v68
  let c1_i32_34 : BitVec 32 := 1#32
  let c0_i32_37 : BitVec 32 := 0#32
  let v70 : BitVec 1 := Scalar.cmpi .sgt c1_i32_34 c0_i32_37
  let v71 : BitVec 32 := Scalar.extui v70
  let c0_i32_38 : BitVec 32 := 0#32
  let v72 : BitVec 1 := Scalar.cmpi .slt c1_i32_34 c0_i32_38
  let v73 : BitVec 32 := Scalar.extui v72
  let v74 : BitVec 32 := Scalar.subi v71 v73
  let v75 : BitVec 1 := Scalar.cmpi .ne v69 v74
  let v76 : BitVec 32 := Scalar.remsi v63 c1_i32_34
  let c0_i32_39 : BitVec 32 := 0#32
  let v77 : BitVec 1 := Scalar.cmpi .ne v76 c0_i32_39
  let v78 : BitVec 1 := Scalar.andi v75 v77
  let v64 : BitVec 32 := Scalar.divsi v63 c1_i32_34
  let c1_i32_40 : BitVec 32 := 1#32
  let v79 : BitVec 32 := Scalar.subi v64 c1_i32_40
  let v80 : BitVec 32 := Scalar.select v78 v79 v64
  let v81 : BitVec 32 := Scalar.subi v80 c0_i32_42
  let c1_i32_43 : BitVec 32 := 1#32
  let v83 : BitVec 32 := Scalar.divsi v81 c1_i32_43
  let v84 : BitVec 32 := Scalar.muli v83 c1_i32_43
  let v85 : BitVec 32 := Scalar.addi c0_i32_42 v84
  let c1_i32_45 : BitVec 32 := 1#32
  let arg13 : BitVec 32 := Scf.iv v85 c1_i32_45 k0_t6
  let v164 : BitVec 32 := Scalar.muli c1_i32_78 arg13
  let v165 : BitVec 32 := Scalar.addi v62 v164
  let c512_i32 : BitVec 32 := 512#32
  let v166 : BitVec 32 := Scalar.muli v165 c512_i32
  let v167 : BitVec 32 := v166
  let v270 : Index := Scalar.indexCast v167
  let c384 : Index := 384#32
  ![v270.toNat, 384]
def k0_cond2 (i : grid0.Coords) : BitVec 1 :=
  let arg1 : BitVec 32 := BitVec.ofNat 32 (i 1).val
  let c1_i32_46 : BitVec 32 := 1#32
  let v86 : BitVec 1 := Scalar.cmpi .sge arg1 c1_i32_46
  let v87 : BitVec 32 := Scalar.extui v86
  let c0_i32_47 : BitVec 32 := 0#32
  let v88 : BitVec 1 := Scalar.cmpi .ne v87 c0_i32_47
  v88

def k0_mult7 (i : grid0.Coords) : BitVec 32 :=
  let arg1 : BitVec 32 := BitVec.ofNat 32 (i 1).val
  let c1_i32_78 : BitVec 32 := 1#32
  let v164 : BitVec 32 := Scalar.subi arg1 c1_i32_78
  let c512_i32 : BitVec 32 := 512#32
  let v165 : BitVec 32 := Scalar.muli v164 c512_i32
  v165
def k0_off45 (i : grid0.Coords) : Fin 2 → Nat :=
  let arg1 : BitVec 32 := BitVec.ofNat 32 (i 1).val
  let c1_i32_78 : BitVec 32 := 1#32
  let v164 : BitVec 32 := Scalar.subi arg1 c1_i32_78
  let c512_i32 : BitVec 32 := 512#32
  let v165 : BitVec 32 := Scalar.muli v164 c512_i32
  let v166 : BitVec 32 := v165
  let v167 : Index := Scalar.indexCast v166
  let c0_79 : Index := 0#32
  ![v167.toNat, 0]
def k0_off46 (i : grid0.Coords) : Fin 4 → Nat :=
  let c0_94 : Index := 0#32
  let arg1 : BitVec 32 := BitVec.ofNat 32 (i 1).val
  let c1_i32_78 : BitVec 32 := 1#32
  let v164 : BitVec 32 := Scalar.subi arg1 c1_i32_78
  let v192 : Index := Scalar.indexCast v164
  let c0_95 : Index := 0#32
  let c0_96 : Index := 0#32
  ![0, v192.toNat, 0, 0]
def k0_off47 (i : grid0.Coords) : Fin 4 → Nat :=
  let c0_99 : Index := 0#32
  let arg1 : BitVec 32 := BitVec.ofNat 32 (i 1).val
  let c1_i32_78 : BitVec 32 := 1#32
  let v164 : BitVec 32 := Scalar.subi arg1 c1_i32_78
  let c1_i32_98 : BitVec 32 := 1#32
  let v197 : BitVec 32 := Scalar.addi v164 c1_i32_98
  let v198 : Index := Scalar.indexCast v197
  let c0_100 : Index := 0#32
  let c0_101 : Index := 0#32
  ![0, v198.toNat, 0, 0]
def k0_off48 (i : grid0.Coords) : Fin 2 → Nat :=
  let arg1 : BitVec 32 := BitVec.ofNat 32 (i 1).val
  let c1_i32_78 : BitVec 32 := 1#32
  let v164 : BitVec 32 := Scalar.subi arg1 c1_i32_78
  let c512_i32 : BitVec 32 := 512#32
  let v165 : BitVec 32 := Scalar.muli v164 c512_i32
  let v166 : BitVec 32 := v165
  let v215 : Index := Scalar.indexCast v166
  let c128 : Index := 128#32
  ![v215.toNat, 128]
def k0_off49 (i : grid0.Coords) : Fin 2 → Nat :=
  let arg1 : BitVec 32 := BitVec.ofNat 32 (i 1).val
  let c1_i32_78 : BitVec 32 := 1#32
  let v164 : BitVec 32 := Scalar.subi arg1 c1_i32_78
  let c512_i32 : BitVec 32 := 512#32
  let v165 : BitVec 32 := Scalar.muli v164 c512_i32
  let v166 : BitVec 32 := v165
  let v263 : Index := Scalar.indexCast v166
  let c256_144 : Index := 256#32
  ![v263.toNat, 256]
def k0_off50 (i : grid0.Coords) : Fin 4 → Nat :=
  let c1_159 : Index := 1#32
  let arg1 : BitVec 32 := BitVec.ofNat 32 (i 1).val
  let c1_i32_78 : BitVec 32 := 1#32
  let v164 : BitVec 32 := Scalar.subi arg1 c1_i32_78
  let v288 : Index := Scalar.indexCast v164
  let c0_160 : Index := 0#32
  let c0_161 : Index := 0#32
  ![1, v288.toNat, 0, 0]
def k0_off51 (i : grid0.Coords) : Fin 4 → Nat :=
  let c1_164 : Index := 1#32
  let arg1 : BitVec 32 := BitVec.ofNat 32 (i 1).val
  let c1_i32_78 : BitVec 32 := 1#32
  let v164 : BitVec 32 := Scalar.subi arg1 c1_i32_78
  let c1_i32_163 : BitVec 32 := 1#32
  let v293 : BitVec 32 := Scalar.addi v164 c1_i32_163
  let v294 : Index := Scalar.indexCast v293
  let c0_165 : Index := 0#32
  let c0_166 : Index := 0#32
  ![1, v294.toNat, 0, 0]
def k0_off52 (i : grid0.Coords) : Fin 2 → Nat :=
  let arg1 : BitVec 32 := BitVec.ofNat 32 (i 1).val
  let c1_i32_78 : BitVec 32 := 1#32
  let v164 : BitVec 32 := Scalar.subi arg1 c1_i32_78
  let c512_i32 : BitVec 32 := 512#32
  let v165 : BitVec 32 := Scalar.muli v164 c512_i32
  let v166 : BitVec 32 := v165
  let v311 : Index := Scalar.indexCast v166
  let c384 : Index := 384#32
  ![v311.toNat, 384]
def k0_cond3 (i : grid0.Coords) : BitVec 1 :=
  let arg1 : BitVec 32 := BitVec.ofNat 32 (i 1).val
  let c0_i32_48 : BitVec 32 := 0#32
  let v89 : BitVec 1 := Scalar.cmpi .eq arg1 c0_i32_48
  let v90 : BitVec 32 := Scalar.extui v89
  let c0_i32_49 : BitVec 32 := 0#32
  let v91 : BitVec 1 := Scalar.cmpi .ne v90 c0_i32_49
  v91

def k0_mult8 : BitVec 32 :=
  let c0_i32_78 : BitVec 32 := 0#32
  c0_i32_78
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S2x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8192x4096 : Shape := ⟨2, ![8192, 4096]⟩
abbrev S32x16 : Shape := ⟨2, ![32, 16]⟩
abbrev S128 : Shape := ⟨1, ![128]⟩
abbrev S256 : Shape := ⟨1, ![256]⟩
abbrev S_ : Shape := ⟨0, ![]⟩
abbrev S8192x16x2x128 : Shape := ⟨4, ![8192, 16, 2, 128]⟩
abbrev S8192x16x256 : Shape := ⟨3, ![8192, 16, 256]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S8192x8192x16 : Shape := ⟨3, ![8192, 8192, 16]⟩
abbrev S16x8192x8192 : Shape := ⟨3, ![16, 8192, 8192]⟩
abbrev S16x2x8192x8192 : Shape := ⟨4, ![16, 2, 8192, 8192]⟩
abbrev S16x1x8192x8192 : Shape := ⟨4, ![16, 1, 8192, 8192]⟩
abbrev S16x2x8192 : Shape := ⟨3, ![16, 2, 8192]⟩
abbrev S16x2x8192x1 : Shape := ⟨4, ![16, 2, 8192, 1]⟩
abbrev S16x256x8192 : Shape := ⟨3, ![16, 256, 8192]⟩
abbrev S8192x16 : Shape := ⟨2, ![8192, 16]⟩
abbrev S8192x16x1 : Shape := ⟨3, ![8192, 16, 1]⟩
abbrev S1x1x256 : Shape := ⟨3, ![1, 1, 256]⟩

abbrev nBuf : Space → Nat
  | .hbm => 123
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S32x16, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S256, .f32⟩
  | .hbm, ⟨9, _⟩ => ⟨S128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x16x2x128, .f32⟩
  | .hbm, ⟨21, _⟩ => ⟨S8192x16x2x128, .f32⟩
  | .hbm, ⟨22, _⟩ => ⟨S8192x16x256, .f32⟩
  | .hbm, ⟨23, _⟩ => ⟨S8192, .i32⟩
  | .hbm, ⟨24, _⟩ => ⟨S8192x1, .i32⟩
  | .hbm, ⟨25, _⟩ => ⟨S1x8192, .i32⟩
  | .hbm, ⟨26, _⟩ => ⟨S8192x8192, .i32⟩
  | .hbm, ⟨27, _⟩ => ⟨S8192x8192, .i32⟩
  | .hbm, ⟨28, _⟩ => ⟨S8192x8192, .i32⟩
  | .hbm, ⟨29, _⟩ => ⟨S_, .i32⟩
  | .hbm, ⟨30, _⟩ => ⟨S8192x8192, .i32⟩
  | .hbm, ⟨31, _⟩ => ⟨S8192x8192, .i32⟩
  | .hbm, ⟨32, _⟩ => ⟨S_, .i32⟩
  | .hbm, ⟨33, _⟩ => ⟨S8192x8192, .i32⟩
  | .hbm, ⟨34, _⟩ => ⟨S8192x8192, .i32⟩
  | .hbm, ⟨35, _⟩ => ⟨S8192x8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .i32⟩
  | .hbm, ⟨47, _⟩ => ⟨S_, .i32⟩
  | .hbm, ⟨48, _⟩ => ⟨S8192x8192, .i32⟩
  | .hbm, ⟨49, _⟩ => ⟨S8192x8192, .i32⟩
  | .hbm, ⟨50, _⟩ => ⟨S_, .i32⟩
  | .hbm, ⟨51, _⟩ => ⟨S8192x8192, .i32⟩
  | .hbm, ⟨52, _⟩ => ⟨S8192x8192, .i32⟩
  | .hbm, ⟨53, _⟩ => ⟨S_, .i32⟩
  | .hbm, ⟨54, _⟩ => ⟨S8192x8192, .i32⟩
  | .hbm, ⟨55, _⟩ => ⟨S8192x8192, .i1⟩
  | .hbm, ⟨56, _⟩ => ⟨S8192x8192, .i32⟩
  | .hbm, ⟨57, _⟩ => ⟨S_, .i32⟩
  | .hbm, ⟨58, _⟩ => ⟨S8192x8192, .i32⟩
  | .hbm, ⟨59, _⟩ => ⟨S8192x8192, .i1⟩
  | .hbm, ⟨60, _⟩ => ⟨S_, .i32⟩
  | .hbm, ⟨61, _⟩ => ⟨S8192x8192, .i32⟩
  | .hbm, ⟨62, _⟩ => ⟨S8192x8192, .i32⟩
  | .hbm, ⟨63, _⟩ => ⟨S8192x8192, .i32⟩
  | .hbm, ⟨64, _⟩ => ⟨S8192x8192x1, .i32⟩
  | .hbm, ⟨65, _⟩ => ⟨S8192x8192x16, .f32⟩
  | .hbm, ⟨66, _⟩ => ⟨S16x8192x8192, .f32⟩
  | .hbm, ⟨67, _⟩ => ⟨S16x2x8192x8192, .f32⟩
  | .hbm, ⟨68, _⟩ => ⟨S16x1x8192x8192, .f32⟩
  | .hbm, ⟨69, _⟩ => ⟨S16x2x8192x8192, .f32⟩
  | .hbm, ⟨70, _⟩ => ⟨S16x2x8192x8192, .f32⟩
  | .hbm, ⟨71, _⟩ => ⟨S_, .i32⟩
  | .hbm, ⟨72, _⟩ => ⟨S8192x8192, .i32⟩
  | .hbm, ⟨73, _⟩ => ⟨S8192x8192, .i1⟩
  | .hbm, ⟨74, _⟩ => ⟨S_, .f32⟩
  | .hbm, ⟨75, _⟩ => ⟨S_, .f32⟩
  | .hbm, ⟨76, _⟩ => ⟨S16x2x8192x8192, .i1⟩
  | .hbm, ⟨77, _⟩ => ⟨S16x2x8192x8192, .f32⟩
  | .hbm, ⟨78, _⟩ => ⟨S16x2x8192x8192, .f32⟩
  | .hbm, ⟨79, _⟩ => ⟨S_, .f32⟩
  | .hbm, ⟨80, _⟩ => ⟨S16x2x8192, .f32⟩
  | .hbm, ⟨81, _⟩ => ⟨S_, .f32⟩
  | .hbm, ⟨82, _⟩ => ⟨S16x2x8192, .f32⟩
  | .hbm, ⟨83, _⟩ => ⟨S16x2x8192, .f32⟩
  | .hbm, ⟨84, _⟩ => ⟨S16x2x8192x1, .f32⟩
  | .hbm, ⟨85, _⟩ => ⟨S16x2x8192x8192, .f32⟩
  | .hbm, ⟨86, _⟩ => ⟨S16x2x8192x8192, .f32⟩
  | .hbm, ⟨87, _⟩ => ⟨S16x2x8192x8192, .f32⟩
  | .hbm, ⟨88, _⟩ => ⟨S_, .f32⟩
  | .hbm, ⟨89, _⟩ => ⟨S16x2x8192, .f32⟩
  | .hbm, ⟨90, _⟩ => ⟨S16x2x8192x1, .f32⟩
  | .hbm, ⟨91, _⟩ => ⟨S16x2x8192x8192, .f32⟩
  | .hbm, ⟨92, _⟩ => ⟨S16x2x8192x8192, .f32⟩
  | .hbm, ⟨93, _⟩ => ⟨S16x1x8192x8192, .f32⟩
  | .hbm, ⟨94, _⟩ => ⟨S16x8192x8192, .f32⟩
  | .hbm, ⟨95, _⟩ => ⟨S16x1x8192x8192, .f32⟩
  | .hbm, ⟨96, _⟩ => ⟨S16x8192x8192, .f32⟩
  | .hbm, ⟨97, _⟩ => ⟨S16x8192x8192, .f32⟩
  | .hbm, ⟨98, _⟩ => ⟨S16x8192x8192, .f32⟩
  | .hbm, ⟨99, _⟩ => ⟨S16x8192x8192, .f32⟩
  | .hbm, ⟨100, _⟩ => ⟨S16x256x8192, .f32⟩
  | .hbm, ⟨101, _⟩ => ⟨S8192x16x256, .f32⟩
  | .hbm, ⟨102, _⟩ => ⟨S8192x16x256, .f32⟩
  | .hbm, ⟨103, _⟩ => ⟨S_, .f32⟩
  | .hbm, ⟨104, _⟩ => ⟨S8192x16, .f32⟩
  | .hbm, ⟨105, _⟩ => ⟨S8192x16x1, .f32⟩
  | .hbm, ⟨106, _⟩ => ⟨S_, .f32⟩
  | .hbm, ⟨107, _⟩ => ⟨S8192x16x1, .f32⟩
  | .hbm, ⟨108, _⟩ => ⟨S8192x16x1, .f32⟩
  | .hbm, ⟨109, _⟩ => ⟨S_, .f32⟩
  | .hbm, ⟨110, _⟩ => ⟨S8192x16x1, .f32⟩
  | .hbm, ⟨111, _⟩ => ⟨S8192x16x1, .f32⟩
  | .hbm, ⟨112, _⟩ => ⟨S8192x16x1, .f32⟩
  | .hbm, ⟨113, _⟩ => ⟨S8192x16x256, .f32⟩
  | .hbm, ⟨114, _⟩ => ⟨S8192x16x256, .f32⟩
  | .hbm, ⟨115, _⟩ => ⟨S1x1x256, .f32⟩
  | .hbm, ⟨116, _⟩ => ⟨S8192x16x256, .f32⟩
  | .hbm, ⟨117, _⟩ => ⟨S8192x16x256, .f32⟩
  | .hbm, ⟨118, _⟩ => ⟨S_, .f32⟩
  | .hbm, ⟨119, _⟩ => ⟨S8192x16x256, .f32⟩
  | .hbm, ⟨120, _⟩ => ⟨S8192x16x256, .f32⟩
  | .hbm, ⟨121, _⟩ => ⟨S8192x4096, .f32⟩
  | .hbm, ⟨122, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_c_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_11 : Ref sig .tc := ⟨.hbm, 71, rfl⟩
abbrev main_v49 : Ref sig .tc := ⟨.hbm, 72, rfl⟩
abbrev main_v50 : Ref sig .tc := ⟨.hbm, 73, rfl⟩
abbrev main_cst_12 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v51 : Ref sig .tc := ⟨.hbm, 78, rfl⟩
abbrev main_cst_13 : Ref sig .tc := ⟨.hbm, 79, rfl⟩
abbrev main_v52 : Ref sig .tc := ⟨.hbm, 80, rfl⟩
abbrev main_cst_14 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_15 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_16 : Ref sig .tc := ⟨.hbm, 103, rfl⟩
abbrev main_v73 : Ref sig .tc := ⟨.hbm, 104, rfl⟩
abbrev main_v74 : Ref sig .tc := ⟨.hbm, 105, rfl⟩
abbrev main_cst_17 : Ref sig .tc := ⟨.hbm, 106, rfl⟩
abbrev main_v75 : Ref sig .tc := ⟨.hbm, 107, rfl⟩
abbrev main_v76 : Ref sig .tc := ⟨.hbm, 108, rfl⟩
abbrev main_cst_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩

abbrev nD : Nat := 1
abbrev τ : Topo := Topo.v7x

variable {F : FTy → Type} [FloatOps F]
-- ==== Kernel2.lean ====
abbrev S8192x4096 : Shape := ⟨2, ![8192, 4096]⟩
abbrev S4096x12288 : Shape := ⟨2, ![4096, 12288]⟩
abbrev S4096x8192 : Shape := ⟨2, ![4096, 8192]⟩
abbrev S8192x8192 : Shape := ⟨2, ![8192, 8192]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x12288, .f32⟩
  | .hbm, ⟨2, _⟩ => ⟨S8192x4096, .bf16⟩
  | .hbm, ⟨3, _⟩ => ⟨S4096x8192, .f32⟩
  | .hbm, ⟨4, _⟩ => ⟨S4096x8192, .bf16⟩
  | .hbm, ⟨5, _⟩ => ⟨S8192x8192, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x4096 : Shape := ⟨2, ![8192, 4096]⟩
abbrev S4096x12288 : Shape := ⟨2, ![4096, 12288]⟩
abbrev S8192x12288 : Shape := ⟨2, ![8192, 12288]⟩
abbrev S8192x8192 : Shape := ⟨2, ![8192, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x12288, .f32⟩
  | .hbm, ⟨2, _⟩ => ⟨S8192x12288, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x8192, .f32⟩
  | .hbm, ⟨7, _⟩ => ⟨S8192x8192, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel3.lean ====
abbrev S8192x4096 : Shape := ⟨2, ![8192, 4096]⟩
abbrev S4096x10240 : Shape := ⟨2, ![4096, 10240]⟩
abbrev S4096x8192 : Shape := ⟨2, ![4096, 8192]⟩
abbrev S8192x8192 : Shape := ⟨2, ![8192, 8192]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x10240, .f32⟩
  | .hbm, ⟨2, _⟩ => ⟨S8192x4096, .bf16⟩
  | .hbm, ⟨3, _⟩ => ⟨S4096x8192, .f32⟩
  | .hbm, ⟨4, _⟩ => ⟨S4096x8192, .bf16⟩
  | .hbm, ⟨5, _⟩ => ⟨S8192x8192, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x4096 : Shape := ⟨2, ![8192, 4096]⟩
abbrev S4096x10240 : Shape := ⟨2, ![4096, 10240]⟩
abbrev S8192x10240 : Shape := ⟨2, ![8192, 10240]⟩
abbrev S8192x2048 : Shape := ⟨2, ![8192, 2048]⟩
abbrev S8192x8192 : Shape := ⟨2, ![8192, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x10240, .f32⟩
  | .hbm, ⟨2, _⟩ => ⟨S8192x10240, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x8192, .f32⟩
  | .hbm, ⟨9, _⟩ => ⟨S8192x8192, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel4.lean ====
abbrev S8192x4096 : Shape := ⟨2, ![8192, 4096]⟩
abbrev S4096x12288 : Shape := ⟨2, ![4096, 12288]⟩
abbrev S4096x4096 : Shape := ⟨2, ![4096, 4096]⟩
abbrev S4096x8192 : Shape := ⟨2, ![4096, 8192]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x12288, .f32⟩
  | .hbm, ⟨2, _⟩ => ⟨S4096x4096, .f32⟩
  | .hbm, ⟨3, _⟩ => ⟨S4096x4096, .f32⟩
  | .hbm, ⟨4, _⟩ => ⟨S4096x4096, .bf16⟩
  | .hbm, ⟨5, _⟩ => ⟨S8192x4096, .bf16⟩
  | .hbm, ⟨6, _⟩ => ⟨S4096x8192, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .bf16⟩
  | .local _ .vmem, ⟨5, _⟩ => ⟨S1024x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x4096 : Shape := ⟨2, ![8192, 4096]⟩
abbrev S4096x12288 : Shape := ⟨2, ![4096, 12288]⟩
abbrev S8192x12288 : Shape := ⟨2, ![8192, 12288]⟩
abbrev S4096x8192 : Shape := ⟨2, ![4096, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x12288, .f32⟩
  | .hbm, ⟨2, _⟩ => ⟨S8192x12288, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S4096x8192, .f32⟩
  | .hbm, ⟨7, _⟩ => ⟨S4096x8192, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S8192x4096 : Shape := ⟨2, ![8192, 4096]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x4096, .f32⟩
  | .hbm, ⟨3, _⟩ => ⟨S8192x4096, .bf16⟩
  | .hbm, ⟨4, _⟩ => ⟨S4096x4096, .bf16⟩
  | .hbm, ⟨5, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x4096, .f32⟩
  | .hbm, ⟨3, _⟩ => ⟨S8192x4096, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel6.lean ====
abbrev S8192x4096 : Shape := ⟨2, ![8192, 4096]⟩
abbrev S8192x2048 : Shape := ⟨2, ![8192, 2048]⟩
abbrev S4096x4096 : Shape := ⟨2, ![4096, 4096]⟩
abbrev S2048x4096 : Shape := ⟨2, ![2048, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S4096x4096, .f32⟩
  | .hbm, ⟨4, _⟩ => ⟨S4096x4096, .bf16⟩
  | .hbm, ⟨5, _⟩ => ⟨S8192x2048, .bf16⟩
  | .hbm, ⟨6, _⟩ => ⟨S8192x2048, .bf16⟩
  | .hbm, ⟨7, _⟩ => ⟨S2048x4096, .bf16⟩
  | .hbm, ⟨8, _⟩ => ⟨S2048x4096, .bf16⟩
  | .hbm, ⟨9, _⟩ => ⟨S8192x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x4096 : Shape := ⟨2, ![8192, 4096]⟩
abbrev S8192x2048 : Shape := ⟨2, ![8192, 2048]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S4096x4096, .f32⟩
  | .hbm, ⟨4, _⟩ => ⟨S8192x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel7.lean ====
abbrev S8192x4096 : Shape := ⟨2, ![8192, 4096]⟩
abbrev S4096x10240 : Shape := ⟨2, ![4096, 10240]⟩
abbrev S4096x2048 : Shape := ⟨2, ![4096, 2048]⟩
abbrev S16x8192x128 : Shape := ⟨3, ![16, 8192, 128]⟩
abbrev S512x4096 : Shape := ⟨2, ![512, 4096]⟩
abbrev S4096x1024 : Shape := ⟨2, ![4096, 1024]⟩
abbrev S8x512x128 : Shape := ⟨3, ![8, 512, 128]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x10240, .f32⟩
  | .hbm, ⟨2, _⟩ => ⟨S8192x4096, .bf16⟩
  | .hbm, ⟨3, _⟩ => ⟨S4096x2048, .f32⟩
  | .hbm, ⟨4, _⟩ => ⟨S4096x2048, .bf16⟩
  | .hbm, ⟨5, _⟩ => ⟨S16x8192x128, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S8x512x128, .bf16⟩
  | .local _ .vmem, ⟨5, _⟩ => ⟨S8x512x128, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x4096 : Shape := ⟨2, ![8192, 4096]⟩
abbrev S4096x10240 : Shape := ⟨2, ![4096, 10240]⟩
abbrev S8192x10240 : Shape := ⟨2, ![8192, 10240]⟩
abbrev S8192x2048 : Shape := ⟨2, ![8192, 2048]⟩
abbrev S8192x16x128 : Shape := ⟨3, ![8192, 16, 128]⟩
abbrev S16x8192x128 : Shape := ⟨3, ![16, 8192, 128]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x10240, .f32⟩
  | .hbm, ⟨2, _⟩ => ⟨S8192x10240, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x16x128, .f32⟩
  | .hbm, ⟨9, _⟩ => ⟨S16x8192x128, .f32⟩
  | .hbm, ⟨10, _⟩ => ⟨S16x8192x128, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S2048 : Shape := ⟨1, ![2048]⟩
abbrev S8192x16x128 : Shape := ⟨3, ![8192, 16, 128]⟩
abbrev S16x8192x128 : Shape := ⟨3, ![16, 8192, 128]⟩
abbrev S1x2048 : Shape := ⟨2, ![1, 2048]⟩
abbrev S16x512x128 : Shape := ⟨3, ![16, 512, 128]⟩
abbrev S512x2048 : Shape := ⟨2, ![512, 2048]⟩
abbrev S1x512x128 : Shape := ⟨3, ![1, 512, 128]⟩
abbrev S512x128 : Shape := ⟨2, ![512, 128]⟩

abbrev nBuf : Space → Nat
  | .hbm => 9
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S8192x16x128, .f32⟩
  | .hbm, ⟨4, _⟩ => ⟨S16x8192x128, .f32⟩
  | .hbm, ⟨5, _⟩ => ⟨S16x8192x128, .bf16⟩
  | .hbm, ⟨6, _⟩ => ⟨S2048x2048, .bf16⟩
  | .hbm, ⟨7, _⟩ => ⟨S1x2048, .f32⟩
  | .hbm, ⟨8, _⟩ => ⟨S8192x2048, .bf16⟩
  | .local _ .vmem, ⟨0, _⟩ => ⟨S16x512x128, .bf16⟩
  | .local _ .vmem, ⟨1, _⟩ => ⟨S16x512x128, .bf16⟩
  | .local _ .vmem, ⟨2, _⟩ => ⟨S2048x2048, .bf16⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel9.lean ====
abbrev S8192x4096 : Shape := ⟨2, ![8192, 4096]⟩
abbrev S4096x2048 : Shape := ⟨2, ![4096, 2048]⟩
abbrev S8x2x128x128 : Shape := ⟨4, ![8, 2, 128, 128]⟩
abbrev S1x4096x2048 : Shape := ⟨3, ![1, 4096, 2048]⟩
abbrev S16x128x128 : Shape := ⟨3, ![16, 128, 128]⟩
abbrev S2048x4096 : Shape := ⟨2, ![2048, 4096]⟩
abbrev S4x128x128 : Shape := ⟨3, ![4, 128, 128]⟩
abbrev S1x1024x512 : Shape := ⟨3, ![1, 1024, 512]⟩
abbrev S512x1024 : Shape := ⟨2, ![512, 1024]⟩
abbrev S1024x512 : Shape := ⟨2, ![1024, 512]⟩
abbrev S1x128x128 : Shape := ⟨3, ![1, 128, 128]⟩
abbrev S128x128 : Shape := ⟨2, ![128, 128]⟩
abbrev S1024x128 : Shape := ⟨2, ![1024, 128]⟩
abbrev S128x1024 : Shape := ⟨2, ![128, 1024]⟩
abbrev S2048x8192 : Shape := ⟨2, ![2048, 8192]⟩
abbrev S1024x4096 : Shape := ⟨2, ![1024, 4096]⟩
abbrev S512x4096 : Shape := ⟨2, ![512, 4096]⟩

abbrev nBuf : Space → Nat
  | .hbm => 8
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8x2x128x128, .f32⟩
  | .hbm, ⟨3, _⟩ => ⟨S1x4096x2048, .f32⟩
  | .hbm, ⟨4, _⟩ => ⟨S16x128x128, .f32⟩
  | .hbm, ⟨5, _⟩ => ⟨S2048x4096, .bf16⟩
  | .hbm, ⟨6, _⟩ => ⟨S8192x4096, .bf16⟩
  | .hbm, ⟨7, _⟩ => ⟨S2048x8192, .f32⟩
  | .local _ .vmem, ⟨0, _⟩ => ⟨S4x128x128, .f32⟩
  | .local _ .vmem, ⟨1, _⟩ => ⟨S4x128x128, .f32⟩
  | .local _ .vmem, ⟨2, _⟩ => ⟨S1x1024x512, .f32⟩
  | .local _ .vmem, ⟨3, _⟩ => ⟨S1x1024x512, .f32⟩
  | .local _ .vmem, ⟨4, _⟩ => ⟨S512x1024, .bf16⟩
  | .local _ .vmem, ⟨5, _⟩ => ⟨S512x1024, .bf16⟩
  | .local _ .vmem, ⟨6, _⟩ => ⟨S1024x4096, .bf16⟩
  | .local _ .vmem, ⟨7, _⟩ => ⟨S1024x4096, .bf16⟩
  | .local _ .vmem, ⟨8, _⟩ => ⟨S512x4096, .bf16⟩
  | .local _ .vmem, ⟨9, _⟩ => ⟨S512x4096, .bf16⟩
  | .local _ .vmem, ⟨10, _⟩ => ⟨S1024x512, .f32⟩
  | .local _ .vmem, ⟨11, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference9Ideal.lean ====
abbrev S8192x4096 : Shape := ⟨2, ![8192, 4096]⟩
abbrev S4096x2048 : Shape := ⟨2, ![4096, 2048]⟩
abbrev S8x2x128x128 : Shape := ⟨4, ![8, 2, 128, 128]⟩
abbrev S8192x2048 : Shape := ⟨2, ![8192, 2048]⟩
abbrev S8192x8x2x128 : Shape := ⟨4, ![8192, 8, 2, 128]⟩
abbrev S8x2x128x8192 : Shape := ⟨4, ![8, 2, 128, 8192]⟩
abbrev S2048x8192 : Shape := ⟨2, ![2048, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8x2x128x128, .f32⟩
  | .hbm, ⟨3, _⟩ => ⟨S8192x2048, .f32⟩
  | .hbm, ⟨4, _⟩ => ⟨S8192x8x2x128, .f32⟩
  | .hbm, ⟨5, _⟩ => ⟨S8x2x128x8192, .f32⟩
  | .hbm, ⟨6, _⟩ => ⟨S8192x8x2x128, .f32⟩
  | .hbm, ⟨7, _⟩ => ⟨S8192x2048, .f32⟩
  | .hbm, ⟨8, _⟩ => ⟨S2048x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel11.lean ====
abbrev S8192x4096 : Shape := ⟨2, ![8192, 4096]⟩
abbrev S4096 : Shape := ⟨1, ![4096]⟩
abbrev S4096x8192 : Shape := ⟨2, ![4096, 8192]⟩
abbrev S1x4096 : Shape := ⟨2, ![1, 4096]⟩
abbrev S256x4096 : Shape := ⟨2, ![256, 4096]⟩
abbrev S4096x256 : Shape := ⟨2, ![4096, 256]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096x8192, .f32⟩
  | .hbm, ⟨4, _⟩ => ⟨S1x4096, .f32⟩
  | .hbm, ⟨5, _⟩ => ⟨S8192x4096, .f32⟩
  | .hbm, ⟨6, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S4096x256, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .bf16⟩
  | .local _ .vmem, ⟨8, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel12.lean ====
abbrev S8192x4096 : Shape := ⟨2, ![8192, 4096]⟩
abbrev S4096x8192 : Shape := ⟨2, ![4096, 8192]⟩
abbrev S_ : Shape := ⟨0, ![]⟩
abbrev S4096 : Shape := ⟨1, ![4096]⟩
abbrev S1x4096 : Shape := ⟨2, ![1, 4096]⟩
abbrev S256x4096 : Shape := ⟨2, ![256, 4096]⟩
abbrev S4096x256 : Shape := ⟨2, ![4096, 256]⟩

abbrev nBuf : Space → Nat
  | .hbm => 7
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x8192, .f32⟩
  | .hbm, ⟨3, _⟩ => ⟨S_, .f32⟩
  | .hbm, ⟨4, _⟩ => ⟨S4096, .f32⟩
  | .hbm, ⟨5, _⟩ => ⟨S1x4096, .f32⟩
  | .hbm, ⟨6, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S4096x256, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S8192x8192 : Shape := ⟨2, ![8192, 8192]⟩
abbrev S128 : Shape := ⟨1, ![128]⟩
abbrev S1x128 : Shape := ⟨2, ![1, 128]⟩
abbrev S32x128 : Shape := ⟨2, ![32, 128]⟩
abbrev S4096 : Shape := ⟨1, ![4096]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x4096 : Shape := ⟨2, ![1, 4096]⟩
abbrev S4096x8192 : Shape := ⟨2, ![4096, 8192]⟩
abbrev S1024x256 : Shape := ⟨2, ![1024, 256]⟩
abbrev S256x1024 : Shape := ⟨2, ![256, 1024]⟩

abbrev nBuf : Space → Nat
  | .hbm => 36
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S128, .f32⟩
  | .hbm, ⟨2, _⟩ => ⟨S8192x8192, .bf16⟩
  | .hbm, ⟨3, _⟩ => ⟨S1x128, .f32⟩
  | .hbm, ⟨4, _⟩ => ⟨S32x128, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S256, .i32⟩
  | .hbm, ⟨10, _⟩ => ⟨S_, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256, .i32⟩
  | .hbm, ⟨15, _⟩ => ⟨S_, .i32⟩
  | .hbm, ⟨16, _⟩ => ⟨S256, .i32⟩
  | .hbm, ⟨17, _⟩ => ⟨S256, .i1⟩
  | .hbm, ⟨18, _⟩ => ⟨S256, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S256, .i1⟩
  | .hbm, ⟨24, _⟩ => ⟨S_, .i32⟩
  | .hbm, ⟨25, _⟩ => ⟨S256, .i32⟩
  | .hbm, ⟨26, _⟩ => ⟨S256, .i32⟩
  | .hbm, ⟨27, _⟩ => ⟨S256, .i32⟩
  | .hbm, ⟨28, _⟩ => ⟨S256x1, .i32⟩
  | .hbm, ⟨29, _⟩ => ⟨S1x256, .i32⟩
  | .hbm, ⟨30, _⟩ => ⟨S256x256, .i32⟩
  | .hbm, ⟨31, _⟩ => ⟨S256x256, .i32⟩
  | .hbm, ⟨32, _⟩ => ⟨S256x256, .i1⟩
  | .hbm, ⟨33, _⟩ => ⟨S256x256, .bf16⟩
  | .hbm, ⟨34, _⟩ => ⟨S1x4096, .f32⟩
  | .hbm, ⟨35, _⟩ => ⟨S4096x8192, .bf16⟩
  | .local _ .vmem, ⟨0, _⟩ => ⟨S1024x256, .bf16⟩
  | .local _ .vmem, ⟨1, _⟩ => ⟨S1024x256, .bf16⟩
  | .local _ .vmem, ⟨2, _⟩ => ⟨S1x256, .f32⟩
  | .local _ .vmem, ⟨3, _⟩ => ⟨S1x256, .f32⟩
  | .local _ .vmem, ⟨4, _⟩ => ⟨S256x256, .bf16⟩
  | .local _ .vmem, ⟨5, _⟩ => ⟨S256x1024, .bf16⟩
  | .local _ .vmem, ⟨6, _⟩ => ⟨S256x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S8192x8192 : Shape := ⟨2, ![8192, 8192]⟩
abbrev S128 : Shape := ⟨1, ![128]⟩
abbrev S8192x4096 : Shape := ⟨2, ![8192, 4096]⟩
abbrev S8192x16x2x128 : Shape := ⟨4, ![8192, 16, 2, 128]⟩
abbrev S_ : Shape := ⟨0, ![]⟩
abbrev S8192x16x2 : Shape := ⟨3, ![8192, 16, 2]⟩
abbrev S8192x16x2x1 : Shape := ⟨4, ![8192, 16, 2, 1]⟩
abbrev S1x1x1x128 : Shape := ⟨4, ![1, 1, 1, 128]⟩
abbrev S4096x8192 : Shape := ⟨2, ![4096, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S128, .f32⟩
  | .hbm, ⟨2, _⟩ => ⟨S8192x4096, .f32⟩
  | .hbm, ⟨3, _⟩ => ⟨S8192x16x2x128, .f32⟩
  | .hbm, ⟨4, _⟩ => ⟨S8192x16x2x128, .f32⟩
  | .hbm, ⟨5, _⟩ => ⟨S_, .f32⟩
  | .hbm, ⟨6, _⟩ => ⟨S8192x16x2, .f32⟩
  | .hbm, ⟨7, _⟩ => ⟨S8192x16x2x1, .f32⟩
  | .hbm, ⟨8, _⟩ => ⟨S_, .f32⟩
  | .hbm, ⟨9, _⟩ => ⟨S8192x16x2x1, .f32⟩
  | .hbm, ⟨10, _⟩ => ⟨S8192x16x2x1, .f32⟩
  | .hbm, ⟨11, _⟩ => ⟨S_, .f32⟩
  | .hbm, ⟨12, _⟩ => ⟨S8192x16x2x1, .f32⟩
  | .hbm, ⟨13, _⟩ => ⟨S8192x16x2x1, .f32⟩
  | .hbm, ⟨14, _⟩ => ⟨S8192x16x2x1, .f32⟩
  | .hbm, ⟨15, _⟩ => ⟨S8192x16x2x128, .f32⟩
  | .hbm, ⟨16, _⟩ => ⟨S8192x16x2x128, .f32⟩
  | .hbm, ⟨17, _⟩ => ⟨S1x1x1x128, .f32⟩
  | .hbm, ⟨18, _⟩ => ⟨S8192x16x2x128, .f32⟩
  | .hbm, ⟨19, _⟩ => ⟨S8192x16x2x128, .f32⟩
  | .hbm, ⟨20, _⟩ => ⟨S_, .f32⟩
  | .hbm, ⟨21, _⟩ => ⟨S8192x16x2x128, .f32⟩
  | .hbm, ⟨22, _⟩ => ⟨S8192x16x2x128, .f32⟩
  | .hbm, ⟨23, _⟩ => ⟨S8192x4096, .f32⟩
  | .hbm, ⟨24, _⟩ => ⟨S4096x8192, .f32⟩
  | .hbm, ⟨25, _⟩ => ⟨S4096x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel14.lean ====
abbrev S8192x8192 : Shape := ⟨2, ![8192, 8192]⟩
abbrev S128 : Shape := ⟨1, ![128]⟩
abbrev S1x128 : Shape := ⟨2, ![1, 128]⟩
abbrev S32x128 : Shape := ⟨2, ![32, 128]⟩
abbrev S4096 : Shape := ⟨1, ![4096]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x4096 : Shape := ⟨2, ![1, 4096]⟩
abbrev S8192x4096 : Shape := ⟨2, ![8192, 4096]⟩
abbrev S1024x256 : Shape := ⟨2, ![1024, 256]⟩

abbrev nBuf : Space → Nat
  | .hbm => 33
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S128, .f32⟩
  | .hbm, ⟨2, _⟩ => ⟨S8192x8192, .bf16⟩
  | .hbm, ⟨3, _⟩ => ⟨S1x128, .f32⟩
  | .hbm, ⟨4, _⟩ => ⟨S32x128, .f32⟩
  | .hbm, ⟨5, _⟩ => ⟨S4096, .f32⟩
  | .hbm, ⟨6, _⟩ => ⟨S256, .i32⟩
  | .hbm, ⟨7, _⟩ => ⟨S_, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S_, .i32⟩
  | .hbm, ⟨13, _⟩ => ⟨S256, .i32⟩
  | .hbm, ⟨14, _⟩ => ⟨S256, .i1⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S256, .i1⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S256x1, .i32⟩
  | .hbm, ⟨26, _⟩ => ⟨S1x256, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S256x256, .bf16⟩
  | .hbm, ⟨31, _⟩ => ⟨S1x4096, .f32⟩
  | .hbm, ⟨32, _⟩ => ⟨S8192x4096, .bf16⟩
  | .local _ .vmem, ⟨0, _⟩ => ⟨S1024x256, .bf16⟩
  | .local _ .vmem, ⟨1, _⟩ => ⟨S1024x256, .bf16⟩
  | .local _ .vmem, ⟨2, _⟩ => ⟨S1x256, .f32⟩
  | .local _ .vmem, ⟨3, _⟩ => ⟨S1x256, .f32⟩
  | .local _ .vmem, ⟨4, _⟩ => ⟨S256x256, .bf16⟩
  | .local _ .vmem, ⟨5, _⟩ => ⟨S1024x256, .bf16⟩
  | .local _ .vmem, ⟨6, _⟩ => ⟨S1024x256, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S8192x8192 : Shape := ⟨2, ![8192, 8192]⟩
abbrev S128 : Shape := ⟨1, ![128]⟩
abbrev S8192x4096 : Shape := ⟨2, ![8192, 4096]⟩
abbrev S8192x16x2x128 : Shape := ⟨4, ![8192, 16, 2, 128]⟩
abbrev S_ : Shape := ⟨0, ![]⟩
abbrev S8192x16x2 : Shape := ⟨3, ![8192, 16, 2]⟩
abbrev S8192x16x2x1 : Shape := ⟨4, ![8192, 16, 2, 1]⟩
abbrev S1x1x1x128 : Shape := ⟨4, ![1, 1, 1, 128]⟩

abbrev nBuf : Space → Nat
  | .hbm => 22
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S128, .f32⟩
  | .hbm, ⟨2, _⟩ => ⟨S8192x4096, .f32⟩
  | .hbm, ⟨3, _⟩ => ⟨S8192x16x2x128, .f32⟩
  | .hbm, ⟨4, _⟩ => ⟨S8192x16x2x128, .f32⟩
  | .hbm, ⟨5, _⟩ => ⟨S_, .f32⟩
  | .hbm, ⟨6, _⟩ => ⟨S8192x16x2, .f32⟩
  | .hbm, ⟨7, _⟩ => ⟨S8192x16x2x1, .f32⟩
  | .hbm, ⟨8, _⟩ => ⟨S_, .f32⟩
  | .hbm, ⟨9, _⟩ => ⟨S8192x16x2x1, .f32⟩
  | .hbm, ⟨10, _⟩ => ⟨S8192x16x2x1, .f32⟩
  | .hbm, ⟨11, _⟩ => ⟨S_, .f32⟩
  | .hbm, ⟨12, _⟩ => ⟨S8192x16x2x1, .f32⟩
  | .hbm, ⟨13, _⟩ => ⟨S8192x16x2x1, .f32⟩
  | .hbm, ⟨14, _⟩ => ⟨S8192x16x2x1, .f32⟩
  | .hbm, ⟨15, _⟩ => ⟨S8192x16x2x128, .f32⟩
  | .hbm, ⟨16, _⟩ => ⟨S8192x16x2x128, .f32⟩
  | .hbm, ⟨17, _⟩ => ⟨S1x1x1x128, .f32⟩
  | .hbm, ⟨18, _⟩ => ⟨S8192x16x2x128, .f32⟩
  | .hbm, ⟨19, _⟩ => ⟨S8192x16x2x128, .f32⟩
  | .hbm, ⟨20, _⟩ => ⟨S8192x4096, .f32⟩
  | .hbm, ⟨21, _⟩ => ⟨S8192x4096, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel15.lean ====
abbrev S8192x4096 : Shape := ⟨2, ![8192, 4096]⟩
abbrev S16384x4096 : Shape := ⟨2, ![16384, 4096]⟩
abbrev S8x128x8192 : Shape := ⟨3, ![8, 128, 8192]⟩
abbrev S8x8192 : Shape := ⟨2, ![8, 8192]⟩
abbrev S4096x16384 : Shape := ⟨2, ![4096, 16384]⟩
abbrev S4096x8192 : Shape := ⟨2, ![4096, 8192]⟩
abbrev S512x4096 : Shape := ⟨2, ![512, 4096]⟩
abbrev S4096x512 : Shape := ⟨2, ![4096, 512]⟩
abbrev S8x128x512 : Shape := ⟨3, ![8, 128, 512]⟩
abbrev S8x512 : Shape := ⟨2, ![8, 512]⟩
abbrev S512x512 : Shape := ⟨2, ![512, 512]⟩
abbrev S128x512 : Shape := ⟨2, ![128, 512]⟩
abbrev S1x128x512 : Shape := ⟨3, ![1, 128, 512]⟩
abbrev S1x1x512 : Shape := ⟨3, ![1, 1, 512]⟩
abbrev S1x512 : Shape := ⟨2, ![1, 512]⟩

abbrev nBuf : Space → Nat
  | .hbm => 12
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384x4096, .f32⟩
  | .hbm, ⟨3, _⟩ => ⟨S8x128x8192, .f32⟩
  | .hbm, ⟨4, _⟩ => ⟨S8x128x8192, .f32⟩
  | .hbm, ⟨5, _⟩ => ⟨S8x8192, .f32⟩
  | .hbm, ⟨6, _⟩ => ⟨S8192x4096, .bf16⟩
  | .hbm, ⟨7, _⟩ => ⟨S16384x4096, .bf16⟩
  | .hbm, ⟨8, _⟩ => ⟨S16384x4096, .bf16⟩
  | .hbm, ⟨9, _⟩ => ⟨S4096x16384, .bf16⟩
  | .hbm, ⟨10, _⟩ => ⟨S8x128x8192, .bf16⟩
  | .hbm, ⟨11, _⟩ => ⟨S4096x8192, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S4096x512, .bf16⟩
  | .local _ .vmem, ⟨4, _⟩ => ⟨S4096x512, .bf16⟩
  | .local _ .vmem, ⟨5, _⟩ => ⟨S8x128x512, .f32⟩
  | .local _ .vmem, ⟨6, _⟩ => ⟨S8x128x512, .bf16⟩
  | .local _ .vmem, ⟨7, _⟩ => ⟨S8x512, .f32⟩
  | .local _ .vmem, ⟨8, _⟩ => ⟨S8x512, .f32⟩
  | .local _ .vmem, ⟨9, _⟩ => ⟨S4096x512, .f32⟩
  | .local _ .vmem, ⟨10, _⟩ => ⟨S4096x512, .f32⟩
  | .local _ .vmem, ⟨11, _⟩ => ⟨S512x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 32], ![false, false]⟩

def k0_off1 (i : grid0.Coords) (c0_i32_8 : BitVec 32) : Fin 3 → Nat :=
  let c0_9 : Index := 0#32
  let arg1 : BitVec 32 := BitVec.ofNat 32 (i 1).val
  let c4_i32 : BitVec 32 := 4#32
  let v11 : BitVec 32 := Scalar.muli arg1 c4_i32
  let v12 : BitVec 32 := Scalar.addi v11 c0_i32_8
  let v13 : Index := Scalar.indexCast v12
  let c0_10 : Index := 0#32
  ![0, v13.toNat, 0]
def k0_off2 (i : grid0.Coords) (c0_i32_17 : BitVec 32) : Fin 3 → Nat :=
  let c1_18 : Index := 1#32
  let arg1 : BitVec 32 := BitVec.ofNat 32 (i 1).val
  let c4_i32_16 : BitVec 32 := 4#32
  let v28 : BitVec 32 := Scalar.muli arg1 c4_i32_16
  let v29 : BitVec 32 := Scalar.addi v28 c0_i32_17
  let v30 : Index := Scalar.indexCast v29
  let c0_19 : Index := 0#32
  ![1, v30.toNat, 0]
def k0_off3 (i : grid0.Coords) (c0_i32_26 : BitVec 32) : Fin 3 → Nat :=
  let c2_27 : Index := 2#32
  let arg1 : BitVec 32 := BitVec.ofNat 32 (i 1).val
  let c4_i32_25 : BitVec 32 := 4#32
  let v45 : BitVec 32 := Scalar.muli arg1 c4_i32_25
  let v46 : BitVec 32 := Scalar.addi v45 c0_i32_26
  let v47 : Index := Scalar.indexCast v46
  let c0_28 : Index := 0#32
  ![2, v47.toNat, 0]
def k0_off4 (i : grid0.Coords) (c0_i32_35 : BitVec 32) : Fin 3 → Nat :=
  let c3_36 : Index := 3#32
  let arg1 : BitVec 32 := BitVec.ofNat 32 (i 1).val
  let c4_i32_34 : BitVec 32 := 4#32
  let v62 : BitVec 32 := Scalar.muli arg1 c4_i32_34
  let v63 : BitVec 32 := Scalar.addi v62 c0_i32_35
  let v64 : Index := Scalar.indexCast v63
  let c0_37 : Index := 0#32
  ![3, v64.toNat, 0]
def k0_off5 (i : grid0.Coords) (c0_i32_44 : BitVec 32) : Fin 3 → Nat :=
  let c4_45 : Index := 4#32
  let arg1 : BitVec 32 := BitVec.ofNat 32 (i 1).val
  let c4_i32_43 : BitVec 32 := 4#32
  let v79 : BitVec 32 := Scalar.muli arg1 c4_i32_43
  let v80 : BitVec 32 := Scalar.addi v79 c0_i32_44
  let v81 : Index := Scalar.indexCast v80
  let c0_46 : Index := 0#32
  ![4, v81.toNat, 0]
def k0_off6 (i : grid0.Coords) (c0_i32_53 : BitVec 32) : Fin 3 → Nat :=
  let c5_54 : Index := 5#32
  let arg1 : BitVec 32 := BitVec.ofNat 32 (i 1).val
  let c4_i32_52 : BitVec 32 := 4#32
  let v96 : BitVec 32 := Scalar.muli arg1 c4_i32_52
  let v97 : BitVec 32 := Scalar.addi v96 c0_i32_53
  let v98 : Index := Scalar.indexCast v97
  let c0_55 : Index := 0#32
  ![5, v98.toNat, 0]
def k0_off7 (i : grid0.Coords) (c0_i32_62 : BitVec 32) : Fin 3 → Nat :=
  let c6_63 : Index := 6#32
  let arg1 : BitVec 32 := BitVec.ofNat 32 (i 1).val
  let c4_i32_61 : BitVec 32 := 4#32
  let v113 : BitVec 32 := Scalar.muli arg1 c4_i32_61
  let v114 : BitVec 32 := Scalar.addi v113 c0_i32_62
  let v115 : Index := Scalar.indexCast v114
  let c0_64 : Index := 0#32
  ![6, v115.toNat, 0]
def k0_off8 (i : grid0.Coords) (c0_i32_71 : BitVec 32) : Fin 3 → Nat :=
  let c7_72 : Index := 7#32
  let arg1 : BitVec 32 := BitVec.ofNat 32 (i 1).val
  let c4_i32_70 : BitVec 32 := 4#32
  let v130 : BitVec 32 := Scalar.muli arg1 c4_i32_70
  let v131 : BitVec 32 := Scalar.addi v130 c0_i32_71
  let v132 : Index := Scalar.indexCast v131
  let c0_73 : Index := 0#32
  ![7, v132.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8x128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel15Ideal.lean ====
variable {F : FTy → Type} [FloatOps F] [Named F]
def κ : String → Option EReal := fun
  | "gelu3" => some ((12003091 / 268435456 : ℝ) : EReal)
  | "sqrt2pi" => some ((6693141 / 8388608 : ℝ) : EReal)
  | _ => none
-- ==== Reference15Ideal.lean ====
abbrev S8192x4096 : Shape := ⟨2, ![8192, 4096]⟩
abbrev S16384x4096 : Shape := ⟨2, ![16384, 4096]⟩
abbrev S8x128x8192 : Shape := ⟨3, ![8, 128, 8192]⟩
abbrev S8x8192 : Shape := ⟨2, ![8, 8192]⟩
abbrev S8x128x1x8192 : Shape := ⟨4, ![8, 128, 1, 8192]⟩
abbrev S8x1x128x8192 : Shape := ⟨4, ![8, 1, 128, 8192]⟩
abbrev S8x128x128x8192 : Shape := ⟨4, ![8, 128, 128, 8192]⟩
abbrev S8x1x1x8192 : Shape := ⟨4, ![8, 1, 1, 8192]⟩
abbrev S_ : Shape := ⟨0, ![]⟩
abbrev S128x128x8192 : Shape := ⟨3, ![128, 128, 8192]⟩
abbrev S16384x8192 : Shape := ⟨2, ![16384, 8192]⟩
abbrev S8192x16384 : Shape := ⟨2, ![8192, 16384]⟩
abbrev S4096x16384 : Shape := ⟨2, ![4096, 16384]⟩
abbrev S4096x8192 : Shape := ⟨2, ![4096, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384x4096, .f32⟩
  | .hbm, ⟨3, _⟩ => ⟨S8x128x8192, .f32⟩
  | .hbm, ⟨4, _⟩ => ⟨S8x128x8192, .f32⟩
  | .hbm, ⟨5, _⟩ => ⟨S8x8192, .f32⟩
  | .hbm, ⟨6, _⟩ => ⟨S8x128x1x8192, .f32⟩
  | .hbm, ⟨7, _⟩ => ⟨S8x1x128x8192, .f32⟩
  | .hbm, ⟨8, _⟩ => ⟨S8x128x128x8192, .f32⟩
  | .hbm, ⟨9, _⟩ => ⟨S8x128x128x8192, .f32⟩
  | .hbm, ⟨10, _⟩ => ⟨S8x128x128x8192, .f32⟩
  | .hbm, ⟨11, _⟩ => ⟨S8x1x1x8192, .f32⟩
  | .hbm, ⟨12, _⟩ => ⟨S8x128x128x8192, .f32⟩
  | .hbm, ⟨13, _⟩ => ⟨S8x128x128x8192, .i1⟩
  | .hbm, ⟨14, _⟩ => ⟨S_, .f32⟩
  | .hbm, ⟨15, _⟩ => ⟨S_, .f32⟩
  | .hbm, ⟨16, _⟩ => ⟨S8x128x128x8192, .f32⟩
  | .hbm, ⟨17, _⟩ => ⟨S8x128x128x8192, .f32⟩
  | .hbm, ⟨18, _⟩ => ⟨S_, .f32⟩
  | .hbm, ⟨19, _⟩ => ⟨S128x128x8192, .f32⟩
  | .hbm, ⟨20, _⟩ => ⟨S16384x8192, .f32⟩
  | .hbm, ⟨21, _⟩ => ⟨S8192x16384, .f32⟩
  | .hbm, ⟨22, _⟩ => ⟨S4096x16384, .f32⟩
  | .hbm, ⟨23, _⟩ => ⟨S8192x16384, .f32⟩
  | .hbm, ⟨24, _⟩ => ⟨S8192x16384, .f32⟩
  | .hbm, ⟨25, _⟩ => ⟨S8192x16384, .f32⟩
  | .hbm, ⟨26, _⟩ => ⟨S_, .f32⟩
  | .hbm, ⟨27, _⟩ => ⟨S8192x16384, .f32⟩
  | .hbm, ⟨28, _⟩ => ⟨S8192x16384, .f32⟩
  | .hbm, ⟨29, _⟩ => ⟨S8192x16384, .f32⟩
  | .hbm, ⟨30, _⟩ => ⟨S_, .f32⟩
  | .hbm, ⟨31, _⟩ => ⟨S8192x16384, .f32⟩
  | .hbm, ⟨32, _⟩ => ⟨S8192x16384, .f32⟩
  | .hbm, ⟨33, _⟩ => ⟨S8192x16384, .f32⟩
  | .hbm, ⟨34, _⟩ => ⟨S_, .f32⟩
  | .hbm, ⟨35, _⟩ => ⟨S8192x16384, .f32⟩
  | .hbm, ⟨36, _⟩ => ⟨S8192x16384, .f32⟩
  | .hbm, ⟨37, _⟩ => ⟨S_, .f32⟩
  | .hbm, ⟨38, _⟩ => ⟨S8192x16384, .f32⟩
  | .hbm, ⟨39, _⟩ => ⟨S8192x16384, .f32⟩
  | .hbm, ⟨40, _⟩ => ⟨S8192x16384, .f32⟩
  | .hbm, ⟨41, _⟩ => ⟨S8192x16384, .f32⟩
  | .hbm, ⟨42, _⟩ => ⟨S8192x4096, .f32⟩
  | .hbm, ⟨43, _⟩ => ⟨S4096x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.Attn.Bucket.lean ====
module

public import Idealize.ShloMosaic.PureOps.Ideal.Laws
public import Idealize.ShloMosaic.Lib.WordArith
public import Mathlib.Analysis.SpecialFunctions.Log.Basic

@[expose] public section

noncomputable section

namespace Cert.Attn

open Idealize.ShloMosaic

/-! ## The row of the bias table a relative position reads -/

/-- The relative position, negative ones taken as zero. -/
def nneg (r : BitVec 32) : BitVec 32 := IntOp.maxsi r 0#32

/-- The logarithmic buckets. -/
def logB (r : BitVec 32) : BitVec 32 :=
  IntOp.minsi (IntOp.addi 16#32 (FloatOps.fptosi (F := Ideal) (φ := .f32) 32
    (FloatOps.mulf (FloatOps.hostDivf (FloatOps.hostUnary .log (FloatOps.hostDivf
        (FloatOps.sitofp (F := Ideal) .f32 (IntOp.maxsi (nneg r) 1#32)) (FloatOps.ofBits .f32 0x41800000#32)))
      (FloatOps.ofBits .f32 0x40051592#32)) (FloatOps.ofBits .f32 0x41800000#32)))) 31#32

/-- The bucket. -/
def bkt (r : BitVec 32) : BitVec 32 := Scalar.select (IntOp.cmpi .slt (nneg r) 16#32) (nneg r) (logB r)

/-- The bucket as an index counted from either end. -/
def widx (r : BitVec 32) : BitVec 32 := Scalar.select (IntOp.cmpi .slt (bkt r) 0#32) (IntOp.addi (bkt r) 32#32) (bkt r)

/-- The row, kept inside the table. -/
def clampRow (b : BitVec 32) : Fin 32 := ⟨min b.toInt.toNat 31, by omega⟩
def rowI (r : BitVec 32) : Fin 32 := clampRow (widx r)

theorem toInt_small {n : ℕ} (h : n < 2 ^ 31) : (BitVec.ofNat 32 n).toInt = n := WordArith.toInt_ofNat_small n h

theorem slt_small {a b : ℕ} (ha : a < 2 ^ 31) (hb : b < 2 ^ 31) : (BitVec.ofNat 32 a).slt (BitVec.ofNat 32 b) = decide (a < b) := by
  rw [BitVec.slt_eq_decide, toInt_small ha, toInt_small hb]
  simp

theorem maxsi_small {a b : ℕ} (ha : a < 2 ^ 31) (hb : b < 2 ^ 31) (h : b ≤ a) :
    IntOp.maxsi (BitVec.ofNat 32 a) (BitVec.ofNat 32 b) = BitVec.ofNat 32 a := by
  unfold IntOp.maxsi
  rw [slt_small hb ha]
  by_cases e : b < a
  · simp [e]
  · have : a = b := by omega
    subst this; simp

theorem sixteen : (FloatOps.ofBits .f32 0x41800000#32 : Ideal .f32) = ((16 : ℝ) : EReal) := by
  show Ideal.ofBits .f32 0x41800000#32 = _
  simp [Ideal.ofBits, Ideal.ieee, -EReal.coe_mul]
  norm_num

theorem log8 : ∃ c : ℝ, (FloatOps.ofBits .f32 0x40051592#32 : Ideal .f32) = (c : EReal) ∧ 2 < c ∧ c < 9 / 4 := by
  refine ⟨8721810 * 2 ^ (-22 : ℤ), ?_, by norm_num, by norm_num⟩
  show Ideal.ofBits .f32 0x40051592#32 = _
  simp [Ideal.ofBits, Ideal.ieee, -EReal.coe_mul]

/-- Beyond 512 positions every key reads the last row. -/
theorem rowI_far {n : ℕ} (h : 513 ≤ n) (h' : n < 8192) : rowI (BitVec.ofNat 32 n) = 31 := by
  have e1 : nneg (BitVec.ofNat 32 n) = BitVec.ofNat 32 n := maxsi_small (b := 0) (by omega) (by omega) (by omega)
  have e2 : IntOp.maxsi (BitVec.ofNat 32 n) 1#32 = BitVec.ofNat 32 n := maxsi_small (b := 1) (by omega) (by omega) (by omega)
  obtain ⟨c, hc, hc2, hc3⟩ := log8
  have hn0 : (0 : ℝ) < n := by exact_mod_cast (by omega : 0 < n)
  have hn : (513 : ℝ) ≤ n := by exact_mod_cast h
  have hn' : (n : ℝ) < 8192 := by exact_mod_cast h'
  have e3 : logB (BitVec.ofNat 32 n) = 31#32 := by
    unfold logB
    rw [e1, e2, sixteen, hc]
    have : (FloatOps.mulf (F := Ideal) (φ := .f32) (FloatOps.hostDivf (FloatOps.hostUnary .log (FloatOps.hostDivf
        (FloatOps.sitofp (F := Ideal) .f32 (BitVec.ofNat 32 n)) ((16 : ℝ) : EReal))) (c : EReal)) ((16 : ℝ) : EReal))
        = ((Real.log (n * (1 / 16)) * (1 / c) * 16 : ℝ) : EReal) := by
      show Ideal.div (Ideal.log (Ideal.div (((BitVec.ofNat 32 n).toInt : ℝ) : EReal) ((16 : ℝ) : EReal))) (c : EReal) * ((16 : ℝ) : EReal) = _
      rw [toInt_small (by omega), Ideal.div_coe (by positivity), Ideal.div_coe (by norm_num), ← EReal.coe_mul, Ideal.log_coe,
        if_neg (by push_cast; linarith), ← EReal.coe_mul, ← EReal.coe_mul]
      push_cast
      rfl
    rw [this]
    have hl : 5 / 2 < Real.log (n * (1 / 16)) := by
      have h32 : Real.log 32 < Real.log (n * (1 / 16)) := Real.log_lt_log (by norm_num) (by linarith)
      have : Real.log 32 = 5 * Real.log 2 := by
        rw [show (32 : ℝ) = 2 ^ 5 by norm_num, Real.log_pow]; norm_num
      have := Real.one_sub_inv_le_log_of_pos (x := 2) (by norm_num)
      linarith
    have hu : Real.log (n * (1 / 16)) < 512 := by
      have := Real.log_le_sub_one_of_pos (x := n * (1 / 16)) (by linarith)
      linarith
    have hc0 : 0 < 1 / c := by positivity
    have hc1 : 1 / c < 1 / 2 := one_div_lt_one_div_of_lt (by norm_num) hc2
    have hc4 : 4 / 9 < 1 / c := by
      have := one_div_lt_one_div_of_lt (by linarith) hc3
      norm_num at this ⊢
      exact this
    generalize 1 / c = d at *
    generalize Real.log (n * (1 / 16)) = l at *
    have hy : 15 < l * d * 16 := by nlinarith
    have hy' : l * d * 16 < 4096 := by nlinarith
    generalize l * d * 16 = y at *
    have hf : FloatOps.fptosi (F := Ideal) (φ := .f32) 32 (y : EReal) = BitVec.ofNat 32 ⌊y⌋₊ := by
      show BitVec.ofInt 32 (max _ (min _ (if 0 ≤ y then ⌊y⌋ else ⌈y⌉))) = _
      rw [if_pos (by linarith), ← Int.natCast_floor_eq_floor (by linarith)]
      have : ⌊y⌋₊ < 4096 := (Nat.floor_lt (by linarith)).2 (by exact_mod_cast hy')
      rw [min_eq_right (by norm_num; omega), max_eq_right (by norm_num)]
      exact BitVec.ofInt_natCast _ _
    have h1 : 15 ≤ ⌊y⌋₊ := Nat.le_floor (by exact_mod_cast hy.le)
    have h2 : ⌊y⌋₊ < 4096 := (Nat.floor_lt (by linarith)).2 (by exact_mod_cast hy')
    rw [hf]
    generalize ⌊y⌋₊ = z at *
    have : IntOp.addi 16#32 (BitVec.ofNat 32 z) = BitVec.ofNat 32 (16 + z) := (BitVec.ofNat_add 16 z).symm
    rw [this]
    unfold IntOp.minsi
    rw [show (31#32) = BitVec.ofNat 32 31 from rfl, slt_small (by omega) (by omega), if_neg (by simp; omega)]
  have e4 : bkt (BitVec.ofNat 32 n) = 31#32 := by
    unfold bkt
    rw [e1, e3]
    have : IntOp.cmpi .slt (BitVec.ofNat 32 n) 16#32 = 0 := by
      show BitVec.ofBool ((BitVec.ofNat 32 n).slt (BitVec.ofNat 32 16)) = 0
      rw [slt_small (by omega) (by omega), decide_eq_false (by omega)]
      rfl
    rw [this]; rfl
  unfold rowI widx
  rw [e4]; rfl

end Cert.Attn
-- ==== Proof.Attn.Online.lean ====
/- The online softmax over the extended reals: a running maximum that is some real number, weights `2 ^ s` against it, and
   what one more group of keys does to the running sums. -/
module

public import Idealize.ShloMosaic.PureOps.Ideal.Laws
public import Idealize.ShloMosaic.Lib.ValueIdx
public import Mathlib.Analysis.SpecialFunctions.Pow.Real
public import Mathlib.Analysis.SpecialFunctions.Log.Basic

@[expose] public section

noncomputable section

namespace Cert.Attn

open Idealize.ShloMosaic
open scoped BigOperators

/-- A finite sum of real numbers is the same number among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `s` is a score whose weight is `w = 2 ^ s`: a real number, or minus infinity with the weight zero. -/
def Wt (s : EReal) (w : ℝ) : Prop := (s = ⊥ ∧ w = 0) ∨ ∃ r : ℝ, s = (r : EReal) ∧ w = (2 : ℝ) ^ r

theorem Wt.ne_top {s : EReal} {w : ℝ} (h : Wt s w) : s ≠ ⊤ := by
  rcases h with ⟨rfl, _⟩ | ⟨r, rfl, _⟩
  · exact bot_ne_top
  · exact EReal.coe_ne_top r

theorem Wt.nonneg {s : EReal} {w : ℝ} (h : Wt s w) : 0 ≤ w := by
  rcases h with ⟨_, rfl⟩ | ⟨r, _, rfl⟩
  · exact le_rfl
  · positivity

/-- The weight of a score taken against a real maximum `μ`. -/
theorem Wt.exp2_sub {s : EReal} {w : ℝ} (h : Wt s w) (μ : ℝ) :
    Ideal.exp2 (s - (μ : EReal)) = ((w * (2 : ℝ) ^ (-μ) : ℝ) : EReal) := by
  rcases h with ⟨rfl, rfl⟩ | ⟨r, rfl, rfl⟩
  · rw [EReal.bot_sub, zero_mul]; rfl
  · rw [← EReal.coe_sub]
    show ((Real.rpow 2 (r - μ) : ℝ) : EReal) = _
    congr 1
    show (2 : ℝ) ^ (r - μ) = _
    rw [sub_eq_add_neg, Real.rpow_add (by norm_num)]

/-- The factor between two maxima. -/
theorem exp2_sub_coe (μ μ' : ℝ) : Ideal.exp2 ((μ : EReal) - (μ' : EReal)) = (((2 : ℝ) ^ (μ - μ') : ℝ) : EReal) := by
  rw [← EReal.coe_sub]; rfl

/-- The maximum of minus infinity and finitely many values below plus infinity lies below plus infinity. -/
theorem fold_max_ne_top {ι : Type} (s : Finset ι) (f : ι → EReal) (h : ∀ i ∈ s, f i ≠ ⊤) :
    s.fold max (⊥ : EReal) f ≠ ⊤ := by
  classical
  induction s using Finset.induction_on with
  | empty => simp
  | insert a s ha ih =>
    rw [Finset.fold_insert ha]
    have h1 := h a (Finset.mem_insert_self _ _)
    have h2 := ih fun i hi => h i (Finset.mem_insert_of_mem hi)
    rcases max_choice (f a) (s.fold max ⊥ f) with e | e <;> rw [e] <;> assumption

/-- A running maximum that is real stays real. -/
theorem max_real (μ : ℝ) (t : EReal) (h : t ≠ ⊤) : ∃ μ' : ℝ, max (μ : EReal) t = (μ' : EReal) := by
  have h1 : max (μ : EReal) t ≠ ⊤ := by
    rcases max_choice (μ : EReal) t with e | e <;> rw [e]
    · exact EReal.coe_ne_top μ
    · exact h
  have h2 : max (μ : EReal) t ≠ ⊥ := fun e => EReal.coe_ne_bot μ (le_bot_iff.mp (e ▸ le_max_left _ _))
  exact ⟨_, (EReal.coe_toReal h1 h2).symm⟩

/-- The running sum of the first `J` keys against the maximum `μ`. -/
def run (w v : ℕ → ℝ) (J : ℕ) (μ : ℝ) : ℝ := ∑ k ∈ Finset.range J, w k * (2 : ℝ) ^ (-μ) * v k

theorem run_zero (w v : ℕ → ℝ) (μ : ℝ) : run w v 0 μ = 0 := by simp [run]

theorem run_eq (w v : ℕ → ℝ) (J : ℕ) (μ : ℝ) : run w v J μ = (∑ k ∈ Finset.range J, w k * v k) * (2 : ℝ) ^ (-μ) := by
  unfold run
  rw [Finset.sum_mul]
  exact Finset.sum_congr rfl fun k _ => by ring

/-- Rescaling the running sum to another maximum. -/
theorem rescale (w v : ℕ → ℝ) (J : ℕ) (μ μ' : ℝ) : (2 : ℝ) ^ (μ - μ') * run w v J μ = run w v J μ' := by
  rw [run_eq, run_eq]
  have : (2 : ℝ) ^ (μ - μ') * (2 : ℝ) ^ (-μ) = (2 : ℝ) ^ (-μ') := by
    rw [← Real.rpow_add (by norm_num)]; congr 1; ring
  rw [← this]; ring

/-- `n` more keys behind the first `J`. -/
theorem run_add (w v : ℕ → ℝ) (J n : ℕ) (μ : ℝ) :
    run w v (J + n) μ = run w v J μ + ∑ k : Fin n, v (J + k) * (w (J + k) * (2 : ℝ) ^ (-μ)) := by
  unfold run
  rw [Finset.sum_range_add, Finset.sum_range fun k => w (J + k) * (2 : ℝ) ^ (-μ) * v (J + k)]
  congr 1
  exact Finset.sum_congr rfl fun k _ => by ring

/-- The product of a block of values with its weights, over the extended reals. -/
theorem dot_coe {n : ℕ} (v p : Fin n → EReal) (V W : Fin n → ℝ) (hv : ∀ k, v k = (V k : EReal)) (hp : ∀ k, p k = (W k : EReal)) :
    ∑ k, v k * p k = ((∑ k, V k * W k : ℝ) : EReal) := by
  rw [coe_sum]
  exact Finset.sum_congr rfl fun k _ => by rw [hv, hp, EReal.coe_mul]

end Cert.Attn
-- ==== Proof.Attn.Step.lean ====
module
public import proofs.«01_k».proof.Proof.Gen.KernelIdeal.Frame
public import proofs.«01_k».proof.Proof.Attn.Online
public import Idealize.ShloMosaic.Lib.Pointwise
@[expose] public section
set_option maxRecDepth 16384
noncomputable section
namespace Cert.KernelIdeal.Attn
open Cert.KernelIdeal Cert.KernelIdeal.Gen
open Idealize.ShloMosaic Idealize.ShloMosaic.TcCoe Idealize.ShloMosaic.Tactic

section Ops
variable {F : FTy → Type} [FloatOps F] [Named F]

/-! ## One step of the online softmax, on vectors: 2048, 1024 or 512 keys at a time -/

/-- The row of maxima after a step whose scores have the column maxima `m`. -/
def nmx (M : Vec F S1x1x512 .f32) (m : FVec F S512 .f32) : FVec F S1x512 .f32 :=
  maximumf (shapeCast S1x512 M shapeCasts_S1x1x512_S1x512) (shapeCast S1x512 m shapeCasts_S512_S1x512)
/-- The factor the old accumulator is scaled by. -/
def alp (M : Vec F S1x1x512 .f32) (N : FVec F S1x512 .f32) : FVec F S1x512 .f32 :=
  exp2 (subf (shapeCast S1x512 M shapeCasts_S1x1x512_S1x512) N)
/-- The product of a value block and a block of weights. -/
def pvm (v : Vec F S1x1x272x512 .bf16) (p : FVec F S512x512 .bf16) : FVec F S272x512 .f32 :=
  matmul dot_S272x512_S512x512_S272x512_1_0_0_1_n_n none (shapeCast S272x512 v shapeCasts_S1x1x272x512_S272x512) p
    (constant S272x512 .f32 0x00000000#32)
/-- The new accumulator. -/
def upd (a : FVec F S1x512 .f32) (P : FVec F S272x512 .f32) (A : Vec F S1x272x512 .f32) : FVec F S1x272x512 .f32 :=
  shapeCast S1x272x512 (addf (mulf (broadcastTo S272x512 a broadcasts_S1x512_S272x512)
    (shapeCast S272x512 A shapeCasts_S1x272x512_S272x512)) P) shapeCasts_S272x512_S1x272x512
/-- The row of maxima as it is stored. -/
def stM (N : FVec F S1x512 .f32) : FVec F S1x1x512 .f32 := shapeCast S1x1x512 N shapeCasts_S1x512_S1x1x512

def mx2048 (S : FVec F S2048x512 .f32) : FVec F S512 .f32 :=
  multiReduction .maximumf [0] S512 S 0xFF800000#32 reduces_S2048x512_S512 (.inl rfl) rfl
def mx1024 (S : FVec F S1024x512 .f32) : FVec F S512 .f32 :=
  multiReduction .maximumf [0] S512 S 0xFF800000#32 reduces_S1024x512_S512 (.inl rfl) rfl
def mx512 (S : FVec F S512x512 .f32) : FVec F S512 .f32 :=
  multiReduction .maximumf [0] S512 S 0xFF800000#32 reduces_S512x512_S512 (.inl rfl) rfl
def pr2048 (S : FVec F S2048x512 .f32) (N : FVec F S1x512 .f32) : FVec F S2048x512 .bf16 :=
  truncf .bf16 (exp2 (subf S (broadcastTo S2048x512 N broadcasts_S1x512_S2048x512))) bitsLt_bf16_f32
def pr1024 (S : FVec F S1024x512 .f32) (N : FVec F S1x512 .f32) : FVec F S1024x512 .bf16 :=
  truncf .bf16 (exp2 (subf S (broadcastTo S1024x512 N broadcasts_S1x512_S1024x512))) bitsLt_bf16_f32
def pr512 (S : FVec F S512x512 .f32) (N : FVec F S1x512 .f32) : FVec F S512x512 .bf16 :=
  truncf .bf16 (exp2 (subf S (broadcastTo S512x512 N broadcasts_S1x512_S512x512))) bitsLt_bf16_f32

/-- A step of 2048 keys. -/
def gA2048 (S : FVec F S2048x512 .f32) (M : Vec F S1x1x512 .f32) (v0 v1 v2 v3 : Vec F S1x1x272x512 .bf16) (A : Vec F S1x272x512 .f32) :
    FVec F S1x272x512 .f32 :=
  upd (alp M (nmx M (mx2048 S)))
    (addf (addf (addf
      (pvm v0 (extractStridedSlice S512x512 ![0, 0] (pr2048 S (nmx M (mx2048 S))) slices_S2048x512_o0_0_S512x512))
      (pvm v1 (extractStridedSlice S512x512 ![512, 0] (pr2048 S (nmx M (mx2048 S))) slices_S2048x512_o512_0_S512x512)))
      (pvm v2 (extractStridedSlice S512x512 ![1024, 0] (pr2048 S (nmx M (mx2048 S))) slices_S2048x512_o1024_0_S512x512)))
      (pvm v3 (extractStridedSlice S512x512 ![1536, 0] (pr2048 S (nmx M (mx2048 S))) slices_S2048x512_o1536_0_S512x512))) A
/-- A step of 1024 keys. -/
def gA1024 (S : FVec F S1024x512 .f32) (M : Vec F S1x1x512 .f32) (v0 v1 : Vec F S1x1x272x512 .bf16) (A : Vec F S1x272x512 .f32) :
    FVec F S1x272x512 .f32 :=
  upd (alp M (nmx M (mx1024 S)))
    (addf
      (pvm v0 (extractStridedSlice S512x512 ![0, 0] (pr1024 S (nmx M (mx1024 S))) slices_S1024x512_o0_0_S512x512))
      (pvm v1 (extractStridedSlice S512x512 ![512, 0] (pr1024 S (nmx M (mx1024 S))) slices_S1024x512_o512_0_S512x512))) A
/-- A step of 512 keys. -/
def gA512 (S : FVec F S512x512 .f32) (M : Vec F S1x1x512 .f32) (v0 : Vec F S1x1x272x512 .bf16) (A : Vec F S1x272x512 .f32) :
    FVec F S1x272x512 .f32 :=
  upd (alp M (nmx M (mx512 S))) (pvm v0 (pr512 S (nmx M (mx512 S)))) A

end Ops

/-! ## The same at an index, over the reals -/

theorem nmx_apply (M : Vec Ideal S1x1x512 .f32) (m : FVec Ideal S512 .f32) (x : Fin 512) :
    nmx M m (ix2 0 x) = max (M (ix3 0 0 x)) (m (ix1 x)) := by
  pointwise [nmx]
theorem alp_apply (M : Vec Ideal S1x1x512 .f32) (N : FVec Ideal S1x512 .f32) (x : Fin 512) :
    alp M N (ix2 0 x) = Ideal.exp2 (M (ix3 0 0 x) - N (ix2 0 x)) := by
  pointwise [alp]
  rfl
theorem stM_apply (N : FVec Ideal S1x512 .f32) (x : Fin 512) : stM N (ix3 0 0 x) = N (ix2 0 x) := by
  pointwise [stM]
theorem pvm_apply (v : Vec Ideal S1x1x272x512 .bf16) (p : FVec Ideal S512x512 .bf16) (d : Fin 272) (x : Fin 512) :
    pvm v p (ix2 d x) = ∑ k : Fin 512, v (ix4 0 0 d k) * p (ix2 k x) := by
  pointwise [pvm]
theorem upd_apply (a : FVec Ideal S1x512 .f32) (P : FVec Ideal S272x512 .f32) (A : Vec Ideal S1x272x512 .f32) (d : Fin 272) (x : Fin 512) :
    upd a P A (ix3 0 d x) = a (ix2 0 x) * A (ix3 0 d x) + P (ix2 d x) := by
  pointwise [upd]
theorem mx2048_apply (S : FVec Ideal S2048x512 .f32) (x : Fin 512) :
    mx2048 S (ix1 x) = Finset.univ.fold max (Ideal.ofBits .f32 0xFF800000#32) fun r : Fin 2048 => S (ix2 r x) := by
  pointwise [mx2048]
theorem mx1024_apply (S : FVec Ideal S1024x512 .f32) (x : Fin 512) :
    mx1024 S (ix1 x) = Finset.univ.fold max (Ideal.ofBits .f32 0xFF800000#32) fun r : Fin 1024 => S (ix2 r x) := by
  pointwise [mx1024]
theorem mx512_apply (S : FVec Ideal S512x512 .f32) (x : Fin 512) :
    mx512 S (ix1 x) = Finset.univ.fold max (Ideal.ofBits .f32 0xFF800000#32) fun r : Fin 512 => S (ix2 r x) := by
  pointwise [mx512]
theorem pr2048_apply (S : FVec Ideal S2048x512 .f32) (N : FVec Ideal S1x512 .f32) (r : Fin 2048) (x : Fin 512) :
    pr2048 S N (ix2 r x) = Ideal.exp2 (S (ix2 r x) - N (ix2 0 x)) := by
  pointwise [pr2048]
  rfl
theorem pr1024_apply (S : FVec Ideal S1024x512 .f32) (N : FVec Ideal S1x512 .f32) (r : Fin 1024) (x : Fin 512) :
    pr1024 S N (ix2 r x) = Ideal.exp2 (S (ix2 r x) - N (ix2 0 x)) := by
  pointwise [pr1024]
  rfl
theorem pr512_apply (S : FVec Ideal S512x512 .f32) (N : FVec Ideal S1x512 .f32) (r : Fin 512) (x : Fin 512) :
    pr512 S N (ix2 r x) = Ideal.exp2 (S (ix2 r x) - N (ix2 0 x)) := by
  pointwise [pr512]
  rfl
theorem slice_apply {n : ℕ} (o : ℕ) (p : FVec Ideal ⟨2, ![n, 512]⟩ .bf16) (h) (k : Fin 512) (x : Fin 512) (hk : o + k.val < n) :
    extractStridedSlice S512x512 ![o, 0] p h (ix2 k x) = p (ix2 ⟨o + k.val, hk⟩ x) := by
  refine congrArg p (funext fun a => ?_)
  match a with
  | 0 => rfl
  | 1 => exact Fin.ext (Nat.zero_add _)

end Cert.KernelIdeal.Attn
-- ==== Proof.Attn.Score.lean ====
module
public import proofs.«01_k».proof.Proof.Attn.Step
@[expose] public section
set_option maxRecDepth 16384
noncomputable section
namespace Cert.KernelIdeal.Attn
open Cert.KernelIdeal Cert.KernelIdeal.Gen
open Idealize.ShloMosaic Idealize.ShloMosaic.TcCoe Idealize.ShloMosaic.Tactic

/-- The factor the scores are multiplied by: `1 / log 2`. -/
abbrev L2E : EReal := (((Real.log 2)⁻¹ : ℝ) : EReal)
theorem named_l2e : (Named.named κ "log2e" 0x3FB8AA3B#32 : Ideal .f32) = L2E :=
  IdealRules.named_const.ideal_named_scalar _ _ _ _ rfl

theorem pay70_apply (K : Vec Ideal S2048x128 .bf16) (Q : Vec Ideal S128x512 .bf16) (r : Fin 2048) (x : Fin 512) :
    k0_pay70 K Q (ix2 r x) = (∑ e : Fin 128, K (ix2 r e) * Q (ix2 e x)) * L2E := by
  pointwise [k0_pay70]
  rw [named_l2e]
theorem pay130_apply (K : Vec Ideal S1024x128 .bf16) (Q : Vec Ideal S128x512 .bf16) (r : Fin 1024) (x : Fin 512) :
    k0_pay130 K Q (ix2 r x) = (∑ e : Fin 128, K (ix2 r e) * Q (ix2 e x)) * L2E := by
  pointwise [k0_pay130]
  rw [named_l2e]
theorem pay180_apply (K : Vec Ideal S512x128 .bf16) (Q : Vec Ideal S128x512 .bf16) (r : Fin 512) (x : Fin 512) :
    k0_pay180 K Q (ix2 r x) = (∑ e : Fin 128, K (ix2 r e) * Q (ix2 e x)) * L2E := by
  pointwise [k0_pay180]
  rw [named_l2e]
theorem pay246_apply (K : Vec Ideal S512x128 .bf16) (Q : Vec Ideal S128x512 .bf16) (B : Vec Ideal S1x512x512 .f32) (r : Fin 512) (x : Fin 512) :
    k0_pay246 K Q B (ix2 r x) = ((∑ e : Fin 128, K (ix2 r e) * Q (ix2 e x)) + B (ix3 0 r x)) * L2E := by
  pointwise [k0_pay246]
  rw [named_l2e]
theorem pay218_apply_lo (K : Vec Ideal S1024x128 .bf16) (Q : Vec Ideal S128x512 .bf16) (B1 B0 : Vec Ideal S1x512x512 .f32) (r : Fin 512) (x : Fin 512) :
    k0_pay218 K Q B1 B0 (ix2 ⟨r.val, by omega⟩ x)
      = ((∑ e : Fin 128, K (ix2 ⟨r.val, by omega⟩ e) * Q (ix2 e x)) + B1 (ix3 0 r x)) * L2E := by
  pointwise [k0_pay218]
  rw [named_l2e]
theorem pay218_apply_hi (K : Vec Ideal S1024x128 .bf16) (Q : Vec Ideal S128x512 .bf16) (B1 B0 : Vec Ideal S1x512x512 .f32) (r : Fin 512) (x : Fin 512) :
    k0_pay218 K Q B1 B0 (ix2 ⟨512 + r.val, by omega⟩ x)
      = ((∑ e : Fin 128, K (ix2 ⟨512 + r.val, by omega⟩ e) * Q (ix2 e x)) + B0 (ix3 0 r x)) * L2E := by
  pointwise [k0_pay218]
  rw [named_l2e]
end Cert.KernelIdeal.Attn
-- ==== Proof.Attn.Inv.lean ====
module
public import proofs.«01_k».proof.Proof.Attn.Score
@[expose] public section
set_option maxRecDepth 16384
noncomputable section
namespace Cert.KernelIdeal.Attn
open Cert.KernelIdeal Cert.KernelIdeal.Gen Cert.Attn
open Idealize.ShloMosaic Idealize.ShloMosaic.TcCoe Idealize.ShloMosaic.Tactic

/-- After `J` keys a column holds its maximum `m`, a real, and the weighted sums `a` taken against it. -/
def Inv (w : ℕ → ℝ) (v : Fin 272 → ℕ → ℝ) (J : ℕ) (m : EReal) (a : Fin 272 → EReal) : Prop :=
  ∃ μ : ℝ, m = (μ : EReal) ∧ ∀ d, a d = (run w (v d) J μ : EReal)

/-- `Inv` of every column of a head map's maxima and accumulators. -/
def InvC (w : Fin 512 → ℕ → ℝ) (v : Fin 272 → ℕ → ℝ) (J : ℕ) (M : Vec Ideal S1x1x512 .f32) (A : Vec Ideal S1x272x512 .f32) : Prop :=
  ∀ x : Fin 512, Inv (w x) v J (M (ix3 0 0 x)) (fun d => A (ix3 0 d x))

theorem neg_inf : Ideal.ofBits .f32 0xFF800000#32 = ⊥ := by
  simp [Ideal.ofBits, Ideal.ieee]

theorem add_ideal (a b : EReal) : FloatOps.addf (F := Ideal) (φ := .f32) a b = a + b := rfl

/-- The new maximum is real, and the old accumulator rescaled to it is the running sum against it. -/
theorem Inv.rescaled {w : ℕ → ℝ} {v : Fin 272 → ℕ → ℝ} {J : ℕ} {m : EReal} {a : Fin 272 → EReal} (h : Inv w v J m a)
    (t : EReal) (ht : t ≠ ⊤) :
    ∃ μ' : ℝ, max m t = (μ' : EReal) ∧ ∀ d, Ideal.exp2 (m - max m t) * a d = (run w (v d) J μ' : EReal) := by
  obtain ⟨μ, rfl, ha⟩ := h
  obtain ⟨μ', hμ⟩ := max_real μ t ht
  refine ⟨μ', hμ, fun d => ?_⟩
  rw [hμ, ha, exp2_sub_coe, ← EReal.coe_mul, rescale]

/-- A block of 512 keys adds its part of the running sum. -/
theorem block (w v : ℕ → ℝ) (J : ℕ) (μ : ℝ) (s b : Fin 512 → EReal) (hs : ∀ k : Fin 512, Wt (s k) (w (J + k.val)))
    (hb : ∀ k : Fin 512, b k = (v (J + k.val) : EReal)) :
    (run w v J μ : EReal) + ∑ k, b k * Ideal.exp2 (s k - (μ : EReal)) = (run w v (J + 512) μ : EReal) := by
  rw [run_add, EReal.coe_add, dot_coe b _ (fun k => v (J + k.val)) (fun k => w (J + k.val) * (2 : ℝ) ^ (-μ)) hb
    fun k => (hs k).exp2_sub μ]

theorem fold_ne_top {n : ℕ} (f : Fin n → EReal) (h : ∀ i, f i ≠ ⊤) :
    Finset.univ.fold max (Ideal.ofBits .f32 0xFF800000#32) f ≠ ⊤ := by
  rw [neg_inf]
  exact fold_max_ne_top _ _ fun i _ => h i

section Steps
variable {w : Fin 512 → ℕ → ℝ} {v : Fin 272 → ℕ → ℝ} {J : ℕ} {M : Vec Ideal S1x1x512 .f32} {A : Vec Ideal S1x272x512 .f32}

theorem step512 (h : InvC w v J M A) (S : FVec Ideal S512x512 .f32) (v0 : Vec Ideal S1x1x272x512 .bf16)
    (hS : ∀ (r x : Fin 512), Wt (S (ix2 r x)) (w x (J + r.val)))
    (h0 : ∀ (d : Fin 272) (k : Fin 512), v0 (ix4 0 0 d k) = (v d (J + k.val) : EReal)) :
    InvC w v (J + 512) (stM (nmx M (mx512 S))) (gA512 S M v0 A) := by
  intro x
  obtain ⟨μ, hμ, ha⟩ := (h x).rescaled (mx512 S (ix1 x)) (by
    rw [mx512_apply]; exact fold_ne_top _ fun r => (hS r x).ne_top)
  refine ⟨μ, by rw [stM_apply, nmx_apply, hμ], fun d => ?_⟩
  simp only [gA512, upd_apply, alp_apply, nmx_apply, pvm_apply, pr512_apply, ha]
  rw [hμ]
  exact block _ _ _ _ _ _ (fun k => hS k x) (h0 d)

theorem step1024 (h : InvC w v J M A) (S : FVec Ideal S1024x512 .f32) (v0 v1 : Vec Ideal S1x1x272x512 .bf16)
    (hS : ∀ (r : Fin 1024) (x : Fin 512), Wt (S (ix2 r x)) (w x (J + r.val)))
    (h0 : ∀ (d : Fin 272) (k : Fin 512), v0 (ix4 0 0 d k) = (v d (J + k.val) : EReal))
    (h1 : ∀ (d : Fin 272) (k : Fin 512), v1 (ix4 0 0 d k) = (v d (J + 512 + k.val) : EReal)) :
    InvC w v (J + 1024) (stM (nmx M (mx1024 S))) (gA1024 S M v0 v1 A) := by
  intro x
  obtain ⟨μ, hμ, ha⟩ := (h x).rescaled (mx1024 S (ix1 x)) (by
    rw [mx1024_apply]; exact fold_ne_top _ fun r => (hS r x).ne_top)
  refine ⟨μ, by rw [stM_apply, nmx_apply, hμ], fun d => ?_⟩
  have e0 := fun k : Fin 512 => slice_apply 0 (pr1024 S (nmx M (mx1024 S))) slices_S1024x512_o0_0_S512x512 k x (by omega)
  have e1 := fun k : Fin 512 => slice_apply 512 (pr1024 S (nmx M (mx1024 S))) slices_S1024x512_o512_0_S512x512 k x (by omega)
  simp only [gA1024, upd_apply, alp_apply, addf_apply, pvm_apply, e0, e1, pr1024_apply, nmx_apply, ha, add_ideal]
  rw [hμ, ← add_assoc, block _ _ J _ _ _ (fun k => by simpa using hS ⟨0 + k.val, by omega⟩ x) (h0 d)]
  exact block _ _ (J + 512) _ _ _ (fun k => by simpa [Nat.add_assoc] using hS ⟨512 + k.val, by omega⟩ x) (h1 d)

theorem step2048 (h : InvC w v J M A) (S : FVec Ideal S2048x512 .f32) (v0 v1 v2 v3 : Vec Ideal S1x1x272x512 .bf16)
    (hS : ∀ (r : Fin 2048) (x : Fin 512), Wt (S (ix2 r x)) (w x (J + r.val)))
    (h0 : ∀ (d : Fin 272) (k : Fin 512), v0 (ix4 0 0 d k) = (v d (J + k.val) : EReal))
    (h1 : ∀ (d : Fin 272) (k : Fin 512), v1 (ix4 0 0 d k) = (v d (J + 512 + k.val) : EReal))
    (h2 : ∀ (d : Fin 272) (k : Fin 512), v2 (ix4 0 0 d k) = (v d (J + 1024 + k.val) : EReal))
    (h3 : ∀ (d : Fin 272) (k : Fin 512), v3 (ix4 0 0 d k) = (v d (J + 1536 + k.val) : EReal)) :
    InvC w v (J + 2048) (stM (nmx M (mx2048 S))) (gA2048 S M v0 v1 v2 v3 A) := by
  intro x
  obtain ⟨μ, hμ, ha⟩ := (h x).rescaled (mx2048 S (ix1 x)) (by
    rw [mx2048_apply]; exact fold_ne_top _ fun r => (hS r x).ne_top)
  refine ⟨μ, by rw [stM_apply, nmx_apply, hμ], fun d => ?_⟩
  have e0 := fun k : Fin 512 => slice_apply 0 (pr2048 S (nmx M (mx2048 S))) slices_S2048x512_o0_0_S512x512 k x (by omega)
  have e1 := fun k : Fin 512 => slice_apply 512 (pr2048 S (nmx M (mx2048 S))) slices_S2048x512_o512_0_S512x512 k x (by omega)
  have e2 := fun k : Fin 512 => slice_apply 1024 (pr2048 S (nmx M (mx2048 S))) slices_S2048x512_o1024_0_S512x512 k x (by omega)
  have e3 := fun k : Fin 512 => slice_apply 1536 (pr2048 S (nmx M (mx2048 S))) slices_S2048x512_o1536_0_S512x512 k x (by omega)
  simp only [gA2048, upd_apply, alp_apply, addf_apply, pvm_apply, e0, e1, e2, e3, pr2048_apply, nmx_apply, ha, add_ideal]
  rw [hμ, ← add_assoc, ← add_assoc, ← add_assoc,
    block _ _ J _ _ _ (fun k => by simpa using hS ⟨0 + k.val, by omega⟩ x) (h0 d),
    block _ _ (J + 512) _ _ _ (fun k => by simpa [Nat.add_assoc] using hS ⟨512 + k.val, by omega⟩ x) (h1 d),
    block _ _ (J + 1024) _ _ _ (fun k => by simpa [Nat.add_assoc] using hS ⟨1024 + k.val, by omega⟩ x) (h2 d)]
  exact block _ _ (J + 1536) _ _ _ (fun k => by simpa [Nat.add_assoc] using hS ⟨1536 + k.val, by omega⟩ x) (h3 d)
end Steps
end Cert.KernelIdeal.Attn
-- ==== Proof.Attn.Model.lean ====
module
public import proofs.«01_k».proof.Proof.Attn.Bucket
public import proofs.«01_k».proof.Proof.Attn.Inv
@[expose] public section
noncomputable section
namespace Cert.Attn
open Idealize.ShloMosaic
open Cert.KernelIdeal.Attn (L2E Inv)
open scoped BigOperators

/-! ## The attention's weights over the reals -/

/-- The column of entry `e` of a head's map `m`, and of entry `d` of a head's values. -/
def hcol (h : Fin 16) (m : Fin 2) (e : Fin 128) : Fin 4096 := ⟨256 * h.val + 128 * m.val + e.val, by omega⟩
def vcol (h : Fin 16) (d : Fin 256) : Fin 4096 := ⟨256 * h.val + d.val, by omega⟩

/-- The product of a query and a key of a head's map. -/
def dotp (Q K : Fin 8192 → Fin 4096 → ℝ) (h : Fin 16) (m : Fin 2) (q κ : Fin 8192) : ℝ :=
  ∑ e : Fin 128, K κ (hcol h m e) * Q q (hcol h m e)

/-- The weight of key `k`: zero ahead of the query. -/
def wt (Q K : Fin 8192 → Fin 4096 → ℝ) (T : Fin 32 → Fin 16 → ℝ) (h : Fin 16) (m : Fin 2) (q : Fin 8192) (k : ℕ) : ℝ :=
  if hk : k ≤ q.val then
    Real.exp (dotp Q K h m q ⟨k, by omega⟩ + (T (rowI (BitVec.ofNat 32 (q.val - k))) h - T 31 h))
  else 0

/-- The weighted mean of the first `J` values. -/
def soft (w v : ℕ → ℝ) (J : ℕ) : ℝ := (∑ k ∈ Finset.range J, w k * v k) / ∑ k ∈ Finset.range J, w k

theorem wt_nonneg (Q K : Fin 8192 → Fin 4096 → ℝ) (T : Fin 32 → Fin 16 → ℝ) (h : Fin 16) (m : Fin 2) (q : Fin 8192) (k : ℕ) :
    0 ≤ wt Q K T h m q k := by
  unfold wt; split
  · positivity
  · exact le_rfl

theorem wt_self (Q K : Fin 8192 → Fin 4096 → ℝ) (T : Fin 32 → Fin 16 → ℝ) (h : Fin 16) (m : Fin 2) (q : Fin 8192) :
    0 < wt Q K T h m q q.val := by
  unfold wt; rw [dif_pos le_rfl]; positivity

theorem wt_zero (Q K : Fin 8192 → Fin 4096 → ℝ) (T : Fin 32 → Fin 16 → ℝ) (h : Fin 16) (m : Fin 2) (q : Fin 8192) (k : ℕ)
    (hk : q.val < k) : wt Q K T h m q k = 0 := dif_neg (by omega)

theorem wt_sum_pos (Q K : Fin 8192 → Fin 4096 → ℝ) (T : Fin 32 → Fin 16 → ℝ) (h : Fin 16) (m : Fin 2) (q : Fin 8192) (J : ℕ)
    (hJ : q.val < J) : 0 < ∑ k ∈ Finset.range J, wt Q K T h m q k :=
  lt_of_lt_of_le (wt_self Q K T h m q)
    (Finset.single_le_sum (f := fun k => wt Q K T h m q k) (fun k _ => wt_nonneg Q K T h m q k) (Finset.mem_range.2 hJ))

/-- Keys ahead of the query change no sum. -/
theorem sum_cut (w v : ℕ → ℝ) {J J' : ℕ} (h : J ≤ J') (hw : ∀ k, J ≤ k → w k = 0) :
    ∑ k ∈ Finset.range J', w k * v k = ∑ k ∈ Finset.range J, w k * v k := by
  refine (Finset.sum_subset (Finset.range_mono h) fun k _ hk => ?_).symm
  rw [hw k (by simpa using hk), zero_mul]

theorem soft_cut (w v : ℕ → ℝ) {J J' : ℕ} (h : J ≤ J') (hw : ∀ k, J ≤ k → w k = 0) : soft w v J' = soft w v J := by
  unfold soft
  have := sum_cut w (fun _ => 1) h hw
  simp only [mul_one] at this
  rw [sum_cut w v h hw, this]

theorem Wt_exp (s : ℝ) : Wt ((s : EReal) * L2E) (Real.exp s) := by
  refine Or.inr ⟨s * (Real.log 2)⁻¹, (EReal.coe_mul _ _).symm, ?_⟩
  have h2 : Real.log 2 ≠ 0 := (Real.log_pos (by norm_num)).ne'
  rw [Real.rpow_def_of_pos (by norm_num)]
  congr 1
  field_simp

theorem Wt_bot : Wt ((⊥ : EReal) * L2E) 0 :=
  Or.inl ⟨EReal.bot_mul_coe_of_pos (inv_pos.2 (Real.log_pos (by norm_num))), rfl⟩

/-- The last accumulator row holds the sum of the weights: the quotient is the weighted mean. -/
theorem Inv_soft {w : ℕ → ℝ} {v : Fin 272 → ℕ → ℝ} {J : ℕ} {m : EReal} {a : Fin 272 → EReal} (h : Inv w v J m a)
    (h1 : ∀ k, v 256 k = 1) (hp : 0 < ∑ k ∈ Finset.range J, w k) (d : Fin 272) :
    Ideal.div (a d) (a 256) = ((soft w (v d) J : ℝ) : EReal) := by
  obtain ⟨μ, -, ha⟩ := h
  have h2 : (0 : ℝ) < (2 : ℝ) ^ (-μ) := by positivity
  have e : run w (v 256) J μ = (∑ k ∈ Finset.range J, w k) * (2 : ℝ) ^ (-μ) := by
    rw [run_eq]; simp only [h1, mul_one]
  rw [ha, ha, e, Ideal.div_coe (by positivity), ← EReal.coe_mul, run_eq]
  congr 1
  unfold soft
  field_simp

/-- Weights all scaled by a positive factor, each divided by their sum. -/
theorem soft_scaled (w : ℕ → ℝ) (V : ℕ → ℝ) (J : ℕ) (c : ℝ) (hc : 0 < c) :
    ∑ k : Fin J, V k.val * (w k.val * c * (1 / ∑ k : Fin J, w k.val * c)) = soft w V J := by
  unfold soft
  rw [← Finset.sum_range (fun k => w k * c), ← Finset.sum_range (fun k => V k * (w k * c * (1 / ∑ k ∈ Finset.range J, w k * c))),
    ← Finset.sum_mul, Finset.sum_div]
  refine Finset.sum_congr rfl fun k _ => ?_
  by_cases hs : ∑ k ∈ Finset.range J, w k = 0
  · simp [hs]
  · field_simp

end Cert.Attn
-- ==== Proof.Attn.Reads.lean ====
module
public import proofs.«01_k».proof.Proof.Attn.Inv
public import Idealize.ShloMosaic.Lib.VecWindow
@[expose] public section
set_option maxRecDepth 16384
noncomputable section
namespace Cert.KernelIdeal.Attn
open Cert.KernelIdeal Cert.KernelIdeal.Gen Cert.Attn
open Idealize.ShloMosaic Idealize.ShloMosaic.TcCoe Idealize.ShloMosaic.Tactic

section
variable {sig' : RefSig} {κ' : Kind} {sp : Space} {s : Shape} {e : EltTy} {Val : EltTy → Type}

/-- A load of the rectangle stored last reads what was stored. -/
theorem readAt_same (v : View sig' κ' sp s e) (f : v.ty.Contents Val) {off size : Fin s.rank → ℕ}
    (inb inb' : ∀ a, off a + size a ≤ s.size a) (w : (Rect.unit off size inb).shape.Idx → Val e) (L : List (View.Piece Val s e)) :
    v.readAt Val (Rect.unit off size inb').toLoadRect (v.writes Val f (⟨Rect.unit off size inb, w⟩ :: L)) = w := by
  rw [View.readAt_unit v _ inb' rfl inb', View.read_writes_cons_put v f inb w L rfl]
  exact VecWindow.window_put_same _ _ _ _ _

/-- A load apart from the rectangle stored last reads what was there before. -/
theorem readAt_apart (v : View sig' κ' sp s e) (f : v.ty.Contents Val) {off size off' size' : Fin s.rank → ℕ}
    (inb : ∀ a, off a + size a ≤ s.size a) (inb' : ∀ a, off' a + size' a ≤ s.size a)
    (w : (Rect.unit off size inb).shape.Idx → Val e) (L : List (View.Piece Val s e)) (a : Fin s.rank)
    (ha : off' a + size' a ≤ off a ∨ off a + size a ≤ off' a) :
    v.readAt Val (Rect.unit off' size' inb').toLoadRect (v.writes Val f (⟨Rect.unit off size inb, w⟩ :: L))
      = v.readAt Val (Rect.unit off' size' inb').toLoadRect (v.writes Val f L) := by
  rw [View.readAt_unit v _ inb' rfl inb', View.readAt_unit v _ inb' rfl inb', View.read_writes_cons_put v f inb w L rfl]
  exact VecWindow.window_put_of_disjoint _ _ _ _ _ _ _ a ha
end

section Rows
variable {F : FTy → Type} [FloatOps F] [Named F]
/-- Row 0 of the four head maps' maxima. -/
abbrev RM0 (v : View sig .tc .vmem S4x1x512 .f32) (f : v.ty.Contents (Elt F)) : Vec F S1x1x512 .f32 :=
  View.readAt (Elt F) v (Rect.unit (s := S4x1x512) ![0, 0, 0] S1x1x512.size inb_S4x1x512_S1x1x512_0_0_0).toLoadRect f
/-- Row 1 of the four head maps' maxima. -/
abbrev RM1 (v : View sig .tc .vmem S4x1x512 .f32) (f : v.ty.Contents (Elt F)) : Vec F S1x1x512 .f32 :=
  View.readAt (Elt F) v (Rect.unit (s := S4x1x512) ![1, 0, 0] S1x1x512.size inb_S4x1x512_S1x1x512_1_0_0).toLoadRect f
/-- Row 2 of the four head maps' maxima. -/
abbrev RM2 (v : View sig .tc .vmem S4x1x512 .f32) (f : v.ty.Contents (Elt F)) : Vec F S1x1x512 .f32 :=
  View.readAt (Elt F) v (Rect.unit (s := S4x1x512) ![2, 0, 0] S1x1x512.size inb_S4x1x512_S1x1x512_2_0_0).toLoadRect f
/-- Row 3 of the four head maps' maxima. -/
abbrev RM3 (v : View sig .tc .vmem S4x1x512 .f32) (f : v.ty.Contents (Elt F)) : Vec F S1x1x512 .f32 :=
  View.readAt (Elt F) v (Rect.unit (s := S4x1x512) ![3, 0, 0] S1x1x512.size inb_S4x1x512_S1x1x512_3_0_0).toLoadRect f
/-- The four rows just stored, one after the other, are what they were stored as. -/
theorem fourM (v : View sig .tc .vmem S4x1x512 .f32) (f : v.ty.Contents (Elt F)) (p0 p1 p2 p3 : Vec F S1x1x512 .f32) :
    RM0 v (v.writes (Elt F) f [⟨Rect.unit (s := S4x1x512) ![3, 0, 0] S1x1x512.size inb_S4x1x512_S1x1x512_3_0_0, p3⟩, ⟨Rect.unit (s := S4x1x512) ![2, 0, 0] S1x1x512.size inb_S4x1x512_S1x1x512_2_0_0, p2⟩, ⟨Rect.unit (s := S4x1x512) ![1, 0, 0] S1x1x512.size inb_S4x1x512_S1x1x512_1_0_0, p1⟩, ⟨Rect.unit (s := S4x1x512) ![0, 0, 0] S1x1x512.size inb_S4x1x512_S1x1x512_0_0_0, p0⟩]) = p0
      ∧ RM1 v (v.writes (Elt F) f [⟨Rect.unit (s := S4x1x512) ![3, 0, 0] S1x1x512.size inb_S4x1x512_S1x1x512_3_0_0, p3⟩, ⟨Rect.unit (s := S4x1x512) ![2, 0, 0] S1x1x512.size inb_S4x1x512_S1x1x512_2_0_0, p2⟩, ⟨Rect.unit (s := S4x1x512) ![1, 0, 0] S1x1x512.size inb_S4x1x512_S1x1x512_1_0_0, p1⟩, ⟨Rect.unit (s := S4x1x512) ![0, 0, 0] S1x1x512.size inb_S4x1x512_S1x1x512_0_0_0, p0⟩]) = p1
      ∧ RM2 v (v.writes (Elt F) f [⟨Rect.unit (s := S4x1x512) ![3, 0, 0] S1x1x512.size inb_S4x1x512_S1x1x512_3_0_0, p3⟩, ⟨Rect.unit (s := S4x1x512) ![2, 0, 0] S1x1x512.size inb_S4x1x512_S1x1x512_2_0_0, p2⟩, ⟨Rect.unit (s := S4x1x512) ![1, 0, 0] S1x1x512.size inb_S4x1x512_S1x1x512_1_0_0, p1⟩, ⟨Rect.unit (s := S4x1x512) ![0, 0, 0] S1x1x512.size inb_S4x1x512_S1x1x512_0_0_0, p0⟩]) = p2
      ∧ RM3 v (v.writes (Elt F) f [⟨Rect.unit (s := S4x1x512) ![3, 0, 0] S1x1x512.size inb_S4x1x512_S1x1x512_3_0_0, p3⟩, ⟨Rect.unit (s := S4x1x512) ![2, 0, 0] S1x1x512.size inb_S4x1x512_S1x1x512_2_0_0, p2⟩, ⟨Rect.unit (s := S4x1x512) ![1, 0, 0] S1x1x512.size inb_S4x1x512_S1x1x512_1_0_0, p1⟩, ⟨Rect.unit (s := S4x1x512) ![0, 0, 0] S1x1x512.size inb_S4x1x512_S1x1x512_0_0_0, p0⟩]) = p3 := by
  refine ⟨?_, ?_, ?_, ?_⟩
  · unfold RM0
    rw [readAt_apart v f _ _ _ _ 0 (by decide), readAt_apart v f _ _ _ _ 0 (by decide), readAt_apart v f _ _ _ _ 0 (by decide)]
    exact readAt_same v f _ _ _ _
  · unfold RM1
    rw [readAt_apart v f _ _ _ _ 0 (by decide), readAt_apart v f _ _ _ _ 0 (by decide)]
    exact readAt_same v f _ _ _ _
  · unfold RM2
    rw [readAt_apart v f _ _ _ _ 0 (by decide)]
    exact readAt_same v f _ _ _ _
  · unfold RM3
    exact readAt_same v f _ _ _ _
/-- Row 0 of the four head maps' accumulators. -/
abbrev RA0 (v : View sig .tc .vmem S4x272x512 .f32) (f : v.ty.Contents (Elt F)) : Vec F S1x272x512 .f32 :=
  View.readAt (Elt F) v (Rect.unit (s := S4x272x512) ![0, 0, 0] S1x272x512.size inb_S4x272x512_S1x272x512_0_0_0).toLoadRect f
/-- Row 1 of the four head maps' accumulators. -/
abbrev RA1 (v : View sig .tc .vmem S4x272x512 .f32) (f : v.ty.Contents (Elt F)) : Vec F S1x272x512 .f32 :=
  View.readAt (Elt F) v (Rect.unit (s := S4x272x512) ![1, 0, 0] S1x272x512.size inb_S4x272x512_S1x272x512_1_0_0).toLoadRect f
/-- Row 2 of the four head maps' accumulators. -/
abbrev RA2 (v : View sig .tc .vmem S4x272x512 .f32) (f : v.ty.Contents (Elt F)) : Vec F S1x272x512 .f32 :=
  View.readAt (Elt F) v (Rect.unit (s := S4x272x512) ![2, 0, 0] S1x272x512.size inb_S4x272x512_S1x272x512_2_0_0).toLoadRect f
/-- Row 3 of the four head maps' accumulators. -/
abbrev RA3 (v : View sig .tc .vmem S4x272x512 .f32) (f : v.ty.Contents (Elt F)) : Vec F S1x272x512 .f32 :=
  View.readAt (Elt F) v (Rect.unit (s := S4x272x512) ![3, 0, 0] S1x272x512.size inb_S4x272x512_S1x272x512_3_0_0).toLoadRect f
/-- The four rows just stored, one after the other, are what they were stored as. -/
theorem fourA (v : View sig .tc .vmem S4x272x512 .f32) (f : v.ty.Contents (Elt F)) (p0 p1 p2 p3 : Vec F S1x272x512 .f32) :
    RA0 v (v.writes (Elt F) f [⟨Rect.unit (s := S4x272x512) ![3, 0, 0] S1x272x512.size inb_S4x272x512_S1x272x512_3_0_0, p3⟩, ⟨Rect.unit (s := S4x272x512) ![2, 0, 0] S1x272x512.size inb_S4x272x512_S1x272x512_2_0_0, p2⟩, ⟨Rect.unit (s := S4x272x512) ![1, 0, 0] S1x272x512.size inb_S4x272x512_S1x272x512_1_0_0, p1⟩, ⟨Rect.unit (s := S4x272x512) ![0, 0, 0] S1x272x512.size inb_S4x272x512_S1x272x512_0_0_0, p0⟩]) = p0
      ∧ RA1 v (v.writes (Elt F) f [⟨Rect.unit (s := S4x272x512) ![3, 0, 0] S1x272x512.size inb_S4x272x512_S1x272x512_3_0_0, p3⟩, ⟨Rect.unit (s := S4x272x512) ![2, 0, 0] S1x272x512.size inb_S4x272x512_S1x272x512_2_0_0, p2⟩, ⟨Rect.unit (s := S4x272x512) ![1, 0, 0] S1x272x512.size inb_S4x272x512_S1x272x512_1_0_0, p1⟩, ⟨Rect.unit (s := S4x272x512) ![0, 0, 0] S1x272x512.size inb_S4x272x512_S1x272x512_0_0_0, p0⟩]) = p1
      ∧ RA2 v (v.writes (Elt F) f [⟨Rect.unit (s := S4x272x512) ![3, 0, 0] S1x272x512.size inb_S4x272x512_S1x272x512_3_0_0, p3⟩, ⟨Rect.unit (s := S4x272x512) ![2, 0, 0] S1x272x512.size inb_S4x272x512_S1x272x512_2_0_0, p2⟩, ⟨Rect.unit (s := S4x272x512) ![1, 0, 0] S1x272x512.size inb_S4x272x512_S1x272x512_1_0_0, p1⟩, ⟨Rect.unit (s := S4x272x512) ![0, 0, 0] S1x272x512.size inb_S4x272x512_S1x272x512_0_0_0, p0⟩]) = p2
      ∧ RA3 v (v.writes (Elt F) f [⟨Rect.unit (s := S4x272x512) ![3, 0, 0] S1x272x512.size inb_S4x272x512_S1x272x512_3_0_0, p3⟩, ⟨Rect.unit (s := S4x272x512) ![2, 0, 0] S1x272x512.size inb_S4x272x512_S1x272x512_2_0_0, p2⟩, ⟨Rect.unit (s := S4x272x512) ![1, 0, 0] S1x272x512.size inb_S4x272x512_S1x272x512_1_0_0, p1⟩, ⟨Rect.unit (s := S4x272x512) ![0, 0, 0] S1x272x512.size inb_S4x272x512_S1x272x512_0_0_0, p0⟩]) = p3 := by
  refine ⟨?_, ?_, ?_, ?_⟩
  · unfold RA0
    rw [readAt_apart v f _ _ _ _ 0 (by decide), readAt_apart v f _ _ _ _ 0 (by decide), readAt_apart v f _ _ _ _ 0 (by decide)]
    exact readAt_same v f _ _ _ _
  · unfold RA1
    rw [readAt_apart v f _ _ _ _ 0 (by decide), readAt_apart v f _ _ _ _ 0 (by decide)]
    exact readAt_same v f _ _ _ _
  · unfold RA2
    rw [readAt_apart v f _ _ _ _ 0 (by decide)]
    exact readAt_same v f _ _ _ _
  · unfold RA3
    exact readAt_same v f _ _ _ _
end Rows
end Cert.KernelIdeal.Attn
-- ==== Proof.Attn.Offsets.lean ====
module
public import proofs.«01_k».proof.Proof.Gen.KernelIdeal.Frame
@[expose] public section
set_option maxRecDepth 16384
noncomputable section
namespace Cert.KernelIdeal.Attn
open Cert.KernelIdeal Cert.KernelIdeal.Gen
open Idealize.ShloMosaic Idealize.ShloMosaic.TcCoe

/-- The grid point of head pair 0 and query block `b`: every word below reads the second coordinate alone. -/
abbrev pt (b : Fin 16) : grid0.Coords := fun a => match a with | 0 => (0 : Fin 8) | 1 => b

/-- Trips of the loop over four key blocks at a time. -/
abbrev n1 (b : ℕ) : ℕ := (b - 1) / 4
/-- Trips of the loop over two key blocks at a time. -/
abbrev n3 (b : ℕ) : ℕ := (b - 1) % 4 / 2
/-- Trips of the loop over one key block at a time. -/
abbrev n5 (b : ℕ) : ℕ := (b - 1) % 4 % 2

theorem trips1 (i : grid0.Coords) : (k0_t1_loop i).trips = n1 (i 1).val := by
  have h : ∀ b : Fin 16, (k0_t1_loop (pt b)).trips = n1 b.val := by decide +kernel
  exact h (i 1)
theorem trips2 (i : grid0.Coords) : (k0_t2_loop i).trips = 0 := by
  have h : ∀ b : Fin 16, (k0_t2_loop (pt b)).trips = 0 := by decide +kernel
  exact h (i 1)
theorem trips3 (i : grid0.Coords) : (k0_t3_loop i).trips = n3 (i 1).val := by
  have h : ∀ b : Fin 16, (k0_t3_loop (pt b)).trips = n3 b.val := by decide +kernel
  exact h (i 1)
theorem trips4 (i : grid0.Coords) : (k0_t4_loop i).trips = 0 := by
  have h : ∀ b : Fin 16, (k0_t4_loop (pt b)).trips = 0 := by decide +kernel
  exact h (i 1)
theorem trips5 (i : grid0.Coords) : (k0_t5_loop i).trips = n5 (i 1).val := by
  have h : ∀ b : Fin 16, (k0_t5_loop (pt b)).trips = n5 b.val := by decide +kernel
  exact h (i 1)
theorem trips6 (i : grid0.Coords) : (k0_t6_loop i).trips = 0 := by
  have h : ∀ b : Fin 16, (k0_t6_loop (pt b)).trips = 0 := by decide +kernel
  exact h (i 1)

theorem off1 (i : grid0.Coords) (k : Fin (k0_t1_loop i).trips) :
    k0_off1 i k = ![2048 * k.val, 0] ∧ k0_off4 i k = ![2048 * k.val, 128]
      ∧ k0_off5 i k = ![2048 * k.val, 256] ∧ k0_off8 i k = ![2048 * k.val, 384] := by
  have h : ∀ (b : Fin 16) (k : Fin (k0_t1_loop (pt b)).trips),
    k0_off1 (pt b) k = ![2048 * k.val, 0] ∧ k0_off4 (pt b) k = ![2048 * k.val, 128]
      ∧ k0_off5 (pt b) k = ![2048 * k.val, 256] ∧ k0_off8 (pt b) k = ![2048 * k.val, 384] := by decide +kernel
  exact h (i 1) k
theorem offv1 (i : grid0.Coords) (k : Fin (k0_t1_loop i).trips) :
    k0_off2 i k = ![0, 4 * k.val, 0, 0] ∧ k0_off6 i k = ![1, 4 * k.val, 0, 0]
      ∧ (∀ r : Fin 3, k0_off3 i k (BitVec.ofNat 32 (1 + r.val)) = ![0, 4 * k.val + (1 + r.val), 0, 0])
      ∧ (∀ r : Fin 3, k0_off7 i k (BitVec.ofNat 32 (1 + r.val)) = ![1, 4 * k.val + (1 + r.val), 0, 0]) := by
  have h : ∀ (b : Fin 16) (k : Fin (k0_t1_loop (pt b)).trips),
    k0_off2 (pt b) k = ![0, 4 * k.val, 0, 0] ∧ k0_off6 (pt b) k = ![1, 4 * k.val, 0, 0]
      ∧ (∀ r : Fin 3, k0_off3 (pt b) k (BitVec.ofNat 32 (1 + r.val)) = ![0, 4 * k.val + (1 + r.val), 0, 0])
      ∧ (∀ r : Fin 3, k0_off7 (pt b) k (BitVec.ofNat 32 (1 + r.val)) = ![1, 4 * k.val + (1 + r.val), 0, 0]) := by
    decide +kernel
  exact h (i 1) k
theorem off3 (i : grid0.Coords) (k : Fin (k0_t3_loop i).trips) :
    k0_off17 i k = ![512 * (4 * n1 (i 1).val + 2 * k.val), 0] ∧ k0_off20 i k = ![512 * (4 * n1 (i 1).val + 2 * k.val), 128]
      ∧ k0_off21 i k = ![512 * (4 * n1 (i 1).val + 2 * k.val), 256]
      ∧ k0_off24 i k = ![512 * (4 * n1 (i 1).val + 2 * k.val), 384] := by
  have h : ∀ (b : Fin 16) (k : Fin (k0_t3_loop (pt b)).trips),
    k0_off17 (pt b) k = ![512 * (4 * n1 b.val + 2 * k.val), 0] ∧ k0_off20 (pt b) k = ![512 * (4 * n1 b.val + 2 * k.val), 128]
      ∧ k0_off21 (pt b) k = ![512 * (4 * n1 b.val + 2 * k.val), 256]
      ∧ k0_off24 (pt b) k = ![512 * (4 * n1 b.val + 2 * k.val), 384] := by decide +kernel
  exact h (i 1) k
theorem offv3 (i : grid0.Coords) (k : Fin (k0_t3_loop i).trips) :
    k0_off18 i k = ![0, 4 * n1 (i 1).val + 2 * k.val, 0, 0] ∧ k0_off19 i k = ![0, 4 * n1 (i 1).val + 2 * k.val + 1, 0, 0]
      ∧ k0_off22 i k = ![1, 4 * n1 (i 1).val + 2 * k.val, 0, 0]
      ∧ k0_off23 i k = ![1, 4 * n1 (i 1).val + 2 * k.val + 1, 0, 0] := by
  have h : ∀ (b : Fin 16) (k : Fin (k0_t3_loop (pt b)).trips),
    k0_off18 (pt b) k = ![0, 4 * n1 b.val + 2 * k.val, 0, 0] ∧ k0_off19 (pt b) k = ![0, 4 * n1 b.val + 2 * k.val + 1, 0, 0]
      ∧ k0_off22 (pt b) k = ![1, 4 * n1 b.val + 2 * k.val, 0, 0]
      ∧ k0_off23 (pt b) k = ![1, 4 * n1 b.val + 2 * k.val + 1, 0, 0] := by decide +kernel
  exact h (i 1) k
theorem off5 (i : grid0.Coords) (k : Fin (k0_t5_loop i).trips) :
    k0_off33 i k = ![512 * (4 * n1 (i 1).val + 2 * n3 (i 1).val + k.val), 0]
      ∧ k0_off35 i k = ![512 * (4 * n1 (i 1).val + 2 * n3 (i 1).val + k.val), 128]
      ∧ k0_off36 i k = ![512 * (4 * n1 (i 1).val + 2 * n3 (i 1).val + k.val), 256]
      ∧ k0_off38 i k = ![512 * (4 * n1 (i 1).val + 2 * n3 (i 1).val + k.val), 384]
      ∧ k0_off34 i k = ![0, 4 * n1 (i 1).val + 2 * n3 (i 1).val + k.val, 0, 0]
      ∧ k0_off37 i k = ![1, 4 * n1 (i 1).val + 2 * n3 (i 1).val + k.val, 0, 0] := by
  have h : ∀ (b : Fin 16) (k : Fin (k0_t5_loop (pt b)).trips),
    k0_off33 (pt b) k = ![512 * (4 * n1 b.val + 2 * n3 b.val + k.val), 0]
      ∧ k0_off35 (pt b) k = ![512 * (4 * n1 b.val + 2 * n3 b.val + k.val), 128]
      ∧ k0_off36 (pt b) k = ![512 * (4 * n1 b.val + 2 * n3 b.val + k.val), 256]
      ∧ k0_off38 (pt b) k = ![512 * (4 * n1 b.val + 2 * n3 b.val + k.val), 384]
      ∧ k0_off34 (pt b) k = ![0, 4 * n1 b.val + 2 * n3 b.val + k.val, 0, 0]
      ∧ k0_off37 (pt b) k = ![1, 4 * n1 b.val + 2 * n3 b.val + k.val, 0, 0] := by decide +kernel
  exact h (i 1) k
theorem offB (i : grid0.Coords) (hi : 0 < (i 1).val) :
    k0_off45 i = ![512 * ((i 1).val - 1), 0] ∧ k0_off48 i = ![512 * ((i 1).val - 1), 128]
      ∧ k0_off49 i = ![512 * ((i 1).val - 1), 256] ∧ k0_off52 i = ![512 * ((i 1).val - 1), 384]
      ∧ k0_off46 i = ![0, (i 1).val - 1, 0, 0] ∧ k0_off47 i = ![0, (i 1).val, 0, 0]
      ∧ k0_off50 i = ![1, (i 1).val - 1, 0, 0] ∧ k0_off51 i = ![1, (i 1).val, 0, 0] := by
  have h : ∀ (b : Fin 16), 0 < b.val →
    k0_off45 (pt b) = ![512 * (b.val - 1), 0] ∧ k0_off48 (pt b) = ![512 * (b.val - 1), 128]
      ∧ k0_off49 (pt b) = ![512 * (b.val - 1), 256] ∧ k0_off52 (pt b) = ![512 * (b.val - 1), 384]
      ∧ k0_off46 (pt b) = ![0, b.val - 1, 0, 0] ∧ k0_off47 (pt b) = ![0, b.val, 0, 0]
      ∧ k0_off50 (pt b) = ![1, b.val - 1, 0, 0] ∧ k0_off51 (pt b) = ![1, b.val, 0, 0] := by decide +kernel
  exact h (i 1) hi
end Cert.KernelIdeal.Attn
-- ==== Proof.Attn.Trip.lean ====
module
public import proofs.«01_k».proof.Proof.Attn.Reads
public import proofs.«01_k».proof.Proof.Attn.Offsets
@[expose] public section
set_option maxRecDepth 16384
noncomputable section
namespace Cert.KernelIdeal.Attn
open Cert.KernelIdeal Cert.KernelIdeal.Gen Cert.Attn
open Idealize.ShloMosaic Idealize.ShloMosaic.TcCoe Idealize.ShloMosaic.Tactic

variable {F : FTy → Type} [FloatOps F] [Named F]
variable (𝒱 : Variants) (c : Dev nD) (bd : Option 𝒱.V) (i : grid0.Coords) (arg2 : Memref sig .tc .vmem S512x512 .bf16) (harg2 : arg2.IsWhole) (arg3 : Memref sig .tc .vmem S8192x512 .bf16) (harg3 : arg3.IsWhole) (arg4 : Memref sig .tc .vmem S512x8192 .bf16) (harg4 : arg4.IsWhole) (arg5 : Memref sig .tc .vmem S2x512x512 .f32) (harg5 : arg5.IsWhole) (arg6 : Memref sig .tc .vmem S2x512x512 .f32) (harg6 : arg6.IsWhole) (arg7 : Memref sig .tc .vmem S1x1 .f32) (harg7 : arg7.IsWhole) (arg8 : Memref sig .tc .vmem S1x256 .f32) (harg8 : arg8.IsWhole) (arg9 : Memref sig .tc .vmem S512x512 .bf16) (harg9 : arg9.IsWhole) (arg10 : Memref sig .tc .vmem S4x1x512 .f32) (harg10 : arg10.IsWhole) (arg11 : Memref sig .tc .vmem S4x272x512 .f32) (harg11 : arg11.IsWhole) (arg12 : Memref sig .tc .vmem S2x16x272x512 .bf16) (harg12 : arg12.IsWhole)
variable (X2 : BufTy.Contents (Elt F) arg2.view.ty) (X3 : BufTy.Contents (Elt F) arg3.view.ty) (X12 : BufTy.Contents (Elt F) arg12.view.ty)
  (f10 : BufTy.Contents (Elt F) arg10.view.ty) (f11 : BufTy.Contents (Elt F) arg11.view.ty)

/-- A block of 128 rows of the queries: one head map's. -/
abbrev Qb0 (v : View sig .tc .vmem S512x512 .bf16) (X : v.ty.Contents (Elt F)) : Vec F S128x512 .bf16 :=
  View.readAt (Elt F) v (Rect.unit (s := S512x512) ![0, 0] S128x512.size inb_S512x512_S128x512_0_0).toLoadRect X
abbrev Qb1 (v : View sig .tc .vmem S512x512 .bf16) (X : v.ty.Contents (Elt F)) : Vec F S128x512 .bf16 :=
  View.readAt (Elt F) v (Rect.unit (s := S512x512) ![128, 0] S128x512.size inb_S512x512_S128x512_128_0).toLoadRect X
abbrev Qb2 (v : View sig .tc .vmem S512x512 .bf16) (X : v.ty.Contents (Elt F)) : Vec F S128x512 .bf16 :=
  View.readAt (Elt F) v (Rect.unit (s := S512x512) ![256, 0] S128x512.size inb_S512x512_S128x512_256_0).toLoadRect X
abbrev Qb3 (v : View sig .tc .vmem S512x512 .bf16) (X : v.ty.Contents (Elt F)) : Vec F S128x512 .bf16 :=
  View.readAt (Elt F) v (Rect.unit (s := S512x512) ![384, 0] S128x512.size inb_S512x512_S128x512_384_0).toLoadRect X
/-- What a trip of loop 1 stores as the four rows of maxima. -/
theorem t1_M (v12 v30 c0 v31 : BitVec 32) (k : Fin (k0_t1_loop i).trips) :
    RM0 arg10.view (arg10.view.writes (Elt F) f10 ((trip_k0_t1 𝒱 c bd i arg2 harg2 arg3 harg3 arg4 harg4 arg5 harg5 arg6 harg6 arg7 harg7 arg8 harg8 arg9 harg9 arg10 harg10 arg11 harg11 arg12 harg12 v12 v30 c0 v31 X2 X3 X12 k).1 f10 f11)) = stM (nmx (RM0 arg10.view f10) (mx2048 (k0_pay70 (View.readAt (Elt F) arg3.view (Rect.unit (s := S8192x512) (k0_off1 i k) S2048x128.size (k0_off1_inb i k)).toLoadRect X3) (Qb0 arg2.view X2))))
      ∧     RM1 arg10.view (arg10.view.writes (Elt F) f10 ((trip_k0_t1 𝒱 c bd i arg2 harg2 arg3 harg3 arg4 harg4 arg5 harg5 arg6 harg6 arg7 harg7 arg8 harg8 arg9 harg9 arg10 harg10 arg11 harg11 arg12 harg12 v12 v30 c0 v31 X2 X3 X12 k).1 f10 f11)) = stM (nmx (RM1 arg10.view f10) (mx2048 (k0_pay70 (View.readAt (Elt F) arg3.view (Rect.unit (s := S8192x512) (k0_off4 i k) S2048x128.size (k0_off4_inb i k)).toLoadRect X3) (Qb1 arg2.view X2))))
      ∧     RM2 arg10.view (arg10.view.writes (Elt F) f10 ((trip_k0_t1 𝒱 c bd i arg2 harg2 arg3 harg3 arg4 harg4 arg5 harg5 arg6 harg6 arg7 harg7 arg8 harg8 arg9 harg9 arg10 harg10 arg11 harg11 arg12 harg12 v12 v30 c0 v31 X2 X3 X12 k).1 f10 f11)) = stM (nmx (RM2 arg10.view f10) (mx2048 (k0_pay70 (View.readAt (Elt F) arg3.view (Rect.unit (s := S8192x512) (k0_off5 i k) S2048x128.size (k0_off5_inb i k)).toLoadRect X3) (Qb2 arg2.view X2))))
      ∧     RM3 arg10.view (arg10.view.writes (Elt F) f10 ((trip_k0_t1 𝒱 c bd i arg2 harg2 arg3 harg3 arg4 harg4 arg5 harg5 arg6 harg6 arg7 harg7 arg8 harg8 arg9 harg9 arg10 harg10 arg11 harg11 arg12 harg12 v12 v30 c0 v31 X2 X3 X12 k).1 f10 f11)) = stM (nmx (RM3 arg10.view f10) (mx2048 (k0_pay70 (View.readAt (Elt F) arg3.view (Rect.unit (s := S8192x512) (k0_off8 i k) S2048x128.size (k0_off8_inb i k)).toLoadRect X3) (Qb3 arg2.view X2)))) := by
  unfold trip_k0_t1
  exact fourM arg10.view f10 _ _ _ _
/-- What a trip of loop 1 stores as the four accumulators. -/
theorem t1_A (v12 v30 c0 v31 : BitVec 32) (k : Fin (k0_t1_loop i).trips) :
    RA0 arg11.view (arg11.view.writes (Elt F) f11 ((trip_k0_t1 𝒱 c bd i arg2 harg2 arg3 harg3 arg4 harg4 arg5 harg5 arg6 harg6 arg7 harg7 arg8 harg8 arg9 harg9 arg10 harg10 arg11 harg11 arg12 harg12 v12 v30 c0 v31 X2 X3 X12 k).2.1 f10 f11)) = gA2048 (k0_pay70 (View.readAt (Elt F) arg3.view (Rect.unit (s := S8192x512) (k0_off1 i k) S2048x128.size (k0_off1_inb i k)).toLoadRect X3) (Qb0 arg2.view X2)) (RM0 arg10.view f10) (View.readAt (Elt F) arg12.view (Rect.unit (s := S2x16x272x512) (k0_off2 i k) S1x1x272x512.size (k0_off2_inb i k)).toLoadRect X12) (View.readAt (Elt F) arg12.view (Rect.unit (s := S2x16x272x512) (k0_off3 i k (BitVec.ofNat 32 (1 + (0 : Fin 3).val))) S1x1x272x512.size (k0_off3_inb i k 0)).toLoadRect X12) (View.readAt (Elt F) arg12.view (Rect.unit (s := S2x16x272x512) (k0_off3 i k (BitVec.ofNat 32 (1 + (1 : Fin 3).val))) S1x1x272x512.size (k0_off3_inb i k 1)).toLoadRect X12) (View.readAt (Elt F) arg12.view (Rect.unit (s := S2x16x272x512) (k0_off3 i k (BitVec.ofNat 32 (1 + (2 : Fin 3).val))) S1x1x272x512.size (k0_off3_inb i k 2)).toLoadRect X12) (RA0 arg11.view f11)
      ∧     RA1 arg11.view (arg11.view.writes (Elt F) f11 ((trip_k0_t1 𝒱 c bd i arg2 harg2 arg3 harg3 arg4 harg4 arg5 harg5 arg6 harg6 arg7 harg7 arg8 harg8 arg9 harg9 arg10 harg10 arg11 harg11 arg12 harg12 v12 v30 c0 v31 X2 X3 X12 k).2.1 f10 f11)) = gA2048 (k0_pay70 (View.readAt (Elt F) arg3.view (Rect.unit (s := S8192x512) (k0_off4 i k) S2048x128.size (k0_off4_inb i k)).toLoadRect X3) (Qb1 arg2.view X2)) (RM1 arg10.view f10) (View.readAt (Elt F) arg12.view (Rect.unit (s := S2x16x272x512) (k0_off2 i k) S1x1x272x512.size (k0_off2_inb i k)).toLoadRect X12) (View.readAt (Elt F) arg12.view (Rect.unit (s := S2x16x272x512) (k0_off3 i k (BitVec.ofNat 32 (1 + (0 : Fin 3).val))) S1x1x272x512.size (k0_off3_inb i k 0)).toLoadRect X12) (View.readAt (Elt F) arg12.view (Rect.unit (s := S2x16x272x512) (k0_off3 i k (BitVec.ofNat 32 (1 + (1 : Fin 3).val))) S1x1x272x512.size (k0_off3_inb i k 1)).toLoadRect X12) (View.readAt (Elt F) arg12.view (Rect.unit (s := S2x16x272x512) (k0_off3 i k (BitVec.ofNat 32 (1 + (2 : Fin 3).val))) S1x1x272x512.size (k0_off3_inb i k 2)).toLoadRect X12) (RA1 arg11.view f11)
      ∧     RA2 arg11.view (arg11.view.writes (Elt F) f11 ((trip_k0_t1 𝒱 c bd i arg2 harg2 arg3 harg3 arg4 harg4 arg5 harg5 arg6 harg6 arg7 harg7 arg8 harg8 arg9 harg9 arg10 harg10 arg11 harg11 arg12 harg12 v12 v30 c0 v31 X2 X3 X12 k).2.1 f10 f11)) = gA2048 (k0_pay70 (View.readAt (Elt F) arg3.view (Rect.unit (s := S8192x512) (k0_off5 i k) S2048x128.size (k0_off5_inb i k)).toLoadRect X3) (Qb2 arg2.view X2)) (RM2 arg10.view f10) (View.readAt (Elt F) arg12.view (Rect.unit (s := S2x16x272x512) (k0_off6 i k) S1x1x272x512.size (k0_off6_inb i k)).toLoadRect X12) (View.readAt (Elt F) arg12.view (Rect.unit (s := S2x16x272x512) (k0_off7 i k (BitVec.ofNat 32 (1 + (0 : Fin 3).val))) S1x1x272x512.size (k0_off7_inb i k 0)).toLoadRect X12) (View.readAt (Elt F) arg12.view (Rect.unit (s := S2x16x272x512) (k0_off7 i k (BitVec.ofNat 32 (1 + (1 : Fin 3).val))) S1x1x272x512.size (k0_off7_inb i k 1)).toLoadRect X12) (View.readAt (Elt F) arg12.view (Rect.unit (s := S2x16x272x512) (k0_off7 i k (BitVec.ofNat 32 (1 + (2 : Fin 3).val))) S1x1x272x512.size (k0_off7_inb i k 2)).toLoadRect X12) (RA2 arg11.view f11)
      ∧     RA3 arg11.view (arg11.view.writes (Elt F) f11 ((trip_k0_t1 𝒱 c bd i arg2 harg2 arg3 harg3 arg4 harg4 arg5 harg5 arg6 harg6 arg7 harg7 arg8 harg8 arg9 harg9 arg10 harg10 arg11 harg11 arg12 harg12 v12 v30 c0 v31 X2 X3 X12 k).2.1 f10 f11)) = gA2048 (k0_pay70 (View.readAt (Elt F) arg3.view (Rect.unit (s := S8192x512) (k0_off8 i k) S2048x128.size (k0_off8_inb i k)).toLoadRect X3) (Qb3 arg2.view X2)) (RM3 arg10.view f10) (View.readAt (Elt F) arg12.view (Rect.unit (s := S2x16x272x512) (k0_off6 i k) S1x1x272x512.size (k0_off6_inb i k)).toLoadRect X12) (View.readAt (Elt F) arg12.view (Rect.unit (s := S2x16x272x512) (k0_off7 i k (BitVec.ofNat 32 (1 + (0 : Fin 3).val))) S1x1x272x512.size (k0_off7_inb i k 0)).toLoadRect X12) (View.readAt (Elt F) arg12.view (Rect.unit (s := S2x16x272x512) (k0_off7 i k (BitVec.ofNat 32 (1 + (1 : Fin 3).val))) S1x1x272x512.size (k0_off7_inb i k 1)).toLoadRect X12) (View.readAt (Elt F) arg12.view (Rect.unit (s := S2x16x272x512) (k0_off7 i k (BitVec.ofNat 32 (1 + (2 : Fin 3).val))) S1x1x272x512.size (k0_off7_inb i k 2)).toLoadRect X12) (RA3 arg11.view f11) := by
  unfold trip_k0_t1
  exact fourA arg11.view f11 _ _ _ _
/-- What a trip of loop 3 stores as the four rows of maxima. -/
theorem t3_M (v12 v30 c0 v31 v37 : BitVec 32) (k : Fin (k0_t3_loop i).trips) :
    RM0 arg10.view (arg10.view.writes (Elt F) f10 ((trip_k0_t3 𝒱 c bd i arg2 harg2 arg3 harg3 arg4 harg4 arg5 harg5 arg6 harg6 arg7 harg7 arg8 harg8 arg9 harg9 arg10 harg10 arg11 harg11 arg12 harg12 v12 v30 c0 v31 v37 X2 X3 X12 k).1 f10 f11)) = stM (nmx (RM0 arg10.view f10) (mx1024 (k0_pay130 (View.readAt (Elt F) arg3.view (Rect.unit (s := S8192x512) (k0_off17 i k) S1024x128.size (k0_off17_inb i k)).toLoadRect X3) (Qb0 arg2.view X2))))
      ∧     RM1 arg10.view (arg10.view.writes (Elt F) f10 ((trip_k0_t3 𝒱 c bd i arg2 harg2 arg3 harg3 arg4 harg4 arg5 harg5 arg6 harg6 arg7 harg7 arg8 harg8 arg9 harg9 arg10 harg10 arg11 harg11 arg12 harg12 v12 v30 c0 v31 v37 X2 X3 X12 k).1 f10 f11)) = stM (nmx (RM1 arg10.view f10) (mx1024 (k0_pay130 (View.readAt (Elt F) arg3.view (Rect.unit (s := S8192x512) (k0_off20 i k) S1024x128.size (k0_off20_inb i k)).toLoadRect X3) (Qb1 arg2.view X2))))
      ∧     RM2 arg10.view (arg10.view.writes (Elt F) f10 ((trip_k0_t3 𝒱 c bd i arg2 harg2 arg3 harg3 arg4 harg4 arg5 harg5 arg6 harg6 arg7 harg7 arg8 harg8 arg9 harg9 arg10 harg10 arg11 harg11 arg12 harg12 v12 v30 c0 v31 v37 X2 X3 X12 k).1 f10 f11)) = stM (nmx (RM2 arg10.view f10) (mx1024 (k0_pay130 (View.readAt (Elt F) arg3.view (Rect.unit (s := S8192x512) (k0_off21 i k) S1024x128.size (k0_off21_inb i k)).toLoadRect X3) (Qb2 arg2.view X2))))
      ∧     RM3 arg10.view (arg10.view.writes (Elt F) f10 ((trip_k0_t3 𝒱 c bd i arg2 harg2 arg3 harg3 arg4 harg4 arg5 harg5 arg6 harg6 arg7 harg7 arg8 harg8 arg9 harg9 arg10 harg10 arg11 harg11 arg12 harg12 v12 v30 c0 v31 v37 X2 X3 X12 k).1 f10 f11)) = stM (nmx (RM3 arg10.view f10) (mx1024 (k0_pay130 (View.readAt (Elt F) arg3.view (Rect.unit (s := S8192x512) (k0_off24 i k) S1024x128.size (k0_off24_inb i k)).toLoadRect X3) (Qb3 arg2.view X2)))) := by
  unfold trip_k0_t3
  exact fourM arg10.view f10 _ _ _ _
/-- What a trip of loop 3 stores as the four accumulators. -/
theorem t3_A (v12 v30 c0 v31 v37 : BitVec 32) (k : Fin (k0_t3_loop i).trips) :
    RA0 arg11.view (arg11.view.writes (Elt F) f11 ((trip_k0_t3 𝒱 c bd i arg2 harg2 arg3 harg3 arg4 harg4 arg5 harg5 arg6 harg6 arg7 harg7 arg8 harg8 arg9 harg9 arg10 harg10 arg11 harg11 arg12 harg12 v12 v30 c0 v31 v37 X2 X3 X12 k).2.1 f10 f11)) = gA1024 (k0_pay130 (View.readAt (Elt F) arg3.view (Rect.unit (s := S8192x512) (k0_off17 i k) S1024x128.size (k0_off17_inb i k)).toLoadRect X3) (Qb0 arg2.view X2)) (RM0 arg10.view f10) (View.readAt (Elt F) arg12.view (Rect.unit (s := S2x16x272x512) (k0_off18 i k) S1x1x272x512.size (k0_off18_inb i k)).toLoadRect X12) (View.readAt (Elt F) arg12.view (Rect.unit (s := S2x16x272x512) (k0_off19 i k) S1x1x272x512.size (k0_off19_inb i k)).toLoadRect X12) (RA0 arg11.view f11)
      ∧     RA1 arg11.view (arg11.view.writes (Elt F) f11 ((trip_k0_t3 𝒱 c bd i arg2 harg2 arg3 harg3 arg4 harg4 arg5 harg5 arg6 harg6 arg7 harg7 arg8 harg8 arg9 harg9 arg10 harg10 arg11 harg11 arg12 harg12 v12 v30 c0 v31 v37 X2 X3 X12 k).2.1 f10 f11)) = gA1024 (k0_pay130 (View.readAt (Elt F) arg3.view (Rect.unit (s := S8192x512) (k0_off20 i k) S1024x128.size (k0_off20_inb i k)).toLoadRect X3) (Qb1 arg2.view X2)) (RM1 arg10.view f10) (View.readAt (Elt F) arg12.view (Rect.unit (s := S2x16x272x512) (k0_off18 i k) S1x1x272x512.size (k0_off18_inb i k)).toLoadRect X12) (View.readAt (Elt F) arg12.view (Rect.unit (s := S2x16x272x512) (k0_off19 i k) S1x1x272x512.size (k0_off19_inb i k)).toLoadRect X12) (RA1 arg11.view f11)
      ∧     RA2 arg11.view (arg11.view.writes (Elt F) f11 ((trip_k0_t3 𝒱 c bd i arg2 harg2 arg3 harg3 arg4 harg4 arg5 harg5 arg6 harg6 arg7 harg7 arg8 harg8 arg9 harg9 arg10 harg10 arg11 harg11 arg12 harg12 v12 v30 c0 v31 v37 X2 X3 X12 k).2.1 f10 f11)) = gA1024 (k0_pay130 (View.readAt (Elt F) arg3.view (Rect.unit (s := S8192x512) (k0_off21 i k) S1024x128.size (k0_off21_inb i k)).toLoadRect X3) (Qb2 arg2.view X2)) (RM2 arg10.view f10) (View.readAt (Elt F) arg12.view (Rect.unit (s := S2x16x272x512) (k0_off22 i k) S1x1x272x512.size (k0_off22_inb i k)).toLoadRect X12) (View.readAt (Elt F) arg12.view (Rect.unit (s := S2x16x272x512) (k0_off23 i k) S1x1x272x512.size (k0_off23_inb i k)).toLoadRect X12) (RA2 arg11.view f11)
      ∧     RA3 arg11.view (arg11.view.writes (Elt F) f11 ((trip_k0_t3 𝒱 c bd i arg2 harg2 arg3 harg3 arg4 harg4 arg5 harg5 arg6 harg6 arg7 harg7 arg8 harg8 arg9 harg9 arg10 harg10 arg11 harg11 arg12 harg12 v12 v30 c0 v31 v37 X2 X3 X12 k).2.1 f10 f11)) = gA1024 (k0_pay130 (View.readAt (Elt F) arg3.view (Rect.unit (s := S8192x512) (k0_off24 i k) S1024x128.size (k0_off24_inb i k)).toLoadRect X3) (Qb3 arg2.view X2)) (RM3 arg10.view f10) (View.readAt (Elt F) arg12.view (Rect.unit (s := S2x16x272x512) (k0_off22 i k) S1x1x272x512.size (k0_off22_inb i k)).toLoadRect X12) (View.readAt (Elt F) arg12.view (Rect.unit (s := S2x16x272x512) (k0_off23 i k) S1x1x272x512.size (k0_off23_inb i k)).toLoadRect X12) (RA3 arg11.view f11) := by
  unfold trip_k0_t3
  exact fourA arg11.view f11 _ _ _ _
/-- What a trip of loop 5 stores as the four rows of maxima. -/
theorem t5_M (a1 v62 v63 c1 v64 v66 : BitVec 32) (v67 : BitVec 1) (k : Fin (k0_t5_loop i).trips) :
    RM0 arg10.view (arg10.view.writes (Elt F) f10 ((trip_k0_t5 𝒱 c bd i arg2 harg2 arg3 harg3 arg4 harg4 arg5 harg5 arg6 harg6 arg7 harg7 arg8 harg8 arg9 harg9 arg10 harg10 arg11 harg11 arg12 harg12 a1 v62 v63 c1 v64 v66 v67 X2 X3 X12 k).1 f10 f11)) = stM (nmx (RM0 arg10.view f10) (mx512 (k0_pay180 (View.readAt (Elt F) arg3.view (Rect.unit (s := S8192x512) (k0_off33 i k) S512x128.size (k0_off33_inb i k)).toLoadRect X3) (Qb0 arg2.view X2))))
      ∧     RM1 arg10.view (arg10.view.writes (Elt F) f10 ((trip_k0_t5 𝒱 c bd i arg2 harg2 arg3 harg3 arg4 harg4 arg5 harg5 arg6 harg6 arg7 harg7 arg8 harg8 arg9 harg9 arg10 harg10 arg11 harg11 arg12 harg12 a1 v62 v63 c1 v64 v66 v67 X2 X3 X12 k).1 f10 f11)) = stM (nmx (RM1 arg10.view f10) (mx512 (k0_pay180 (View.readAt (Elt F) arg3.view (Rect.unit (s := S8192x512) (k0_off35 i k) S512x128.size (k0_off35_inb i k)).toLoadRect X3) (Qb1 arg2.view X2))))
      ∧     RM2 arg10.view (arg10.view.writes (Elt F) f10 ((trip_k0_t5 𝒱 c bd i arg2 harg2 arg3 harg3 arg4 harg4 arg5 harg5 arg6 harg6 arg7 harg7 arg8 harg8 arg9 harg9 arg10 harg10 arg11 harg11 arg12 harg12 a1 v62 v63 c1 v64 v66 v67 X2 X3 X12 k).1 f10 f11)) = stM (nmx (RM2 arg10.view f10) (mx512 (k0_pay180 (View.readAt (Elt F) arg3.view (Rect.unit (s := S8192x512) (k0_off36 i k) S512x128.size (k0_off36_inb i k)).toLoadRect X3) (Qb2 arg2.view X2))))
      ∧     RM3 arg10.view (arg10.view.writes (Elt F) f10 ((trip_k0_t5 𝒱 c bd i arg2 harg2 arg3 harg3 arg4 harg4 arg5 harg5 arg6 harg6 arg7 harg7 arg8 harg8 arg9 harg9 arg10 harg10 arg11 harg11 arg12 harg12 a1 v62 v63 c1 v64 v66 v67 X2 X3 X12 k).1 f10 f11)) = stM (nmx (RM3 arg10.view f10) (mx512 (k0_pay180 (View.readAt (Elt F) arg3.view (Rect.unit (s := S8192x512) (k0_off38 i k) S512x128.size (k0_off38_inb i k)).toLoadRect X3) (Qb3 arg2.view X2)))) := by
  unfold trip_k0_t5
  exact fourM arg10.view f10 _ _ _ _
/-- What a trip of loop 5 stores as the four accumulators. -/
theorem t5_A (a1 v62 v63 c1 v64 v66 : BitVec 32) (v67 : BitVec 1) (k : Fin (k0_t5_loop i).trips) :
    RA0 arg11.view (arg11.view.writes (Elt F) f11 ((trip_k0_t5 𝒱 c bd i arg2 harg2 arg3 harg3 arg4 harg4 arg5 harg5 arg6 harg6 arg7 harg7 arg8 harg8 arg9 harg9 arg10 harg10 arg11 harg11 arg12 harg12 a1 v62 v63 c1 v64 v66 v67 X2 X3 X12 k).2.1 f10 f11)) = gA512 (k0_pay180 (View.readAt (Elt F) arg3.view (Rect.unit (s := S8192x512) (k0_off33 i k) S512x128.size (k0_off33_inb i k)).toLoadRect X3) (Qb0 arg2.view X2)) (RM0 arg10.view f10) (View.readAt (Elt F) arg12.view (Rect.unit (s := S2x16x272x512) (k0_off34 i k) S1x1x272x512.size (k0_off34_inb i k)).toLoadRect X12) (RA0 arg11.view f11)
      ∧     RA1 arg11.view (arg11.view.writes (Elt F) f11 ((trip_k0_t5 𝒱 c bd i arg2 harg2 arg3 harg3 arg4 harg4 arg5 harg5 arg6 harg6 arg7 harg7 arg8 harg8 arg9 harg9 arg10 harg10 arg11 harg11 arg12 harg12 a1 v62 v63 c1 v64 v66 v67 X2 X3 X12 k).2.1 f10 f11)) = gA512 (k0_pay180 (View.readAt (Elt F) arg3.view (Rect.unit (s := S8192x512) (k0_off35 i k) S512x128.size (k0_off35_inb i k)).toLoadRect X3) (Qb1 arg2.view X2)) (RM1 arg10.view f10) (View.readAt (Elt F) arg12.view (Rect.unit (s := S2x16x272x512) (k0_off34 i k) S1x1x272x512.size (k0_off34_inb i k)).toLoadRect X12) (RA1 arg11.view f11)
      ∧     RA2 arg11.view (arg11.view.writes (Elt F) f11 ((trip_k0_t5 𝒱 c bd i arg2 harg2 arg3 harg3 arg4 harg4 arg5 harg5 arg6 harg6 arg7 harg7 arg8 harg8 arg9 harg9 arg10 harg10 arg11 harg11 arg12 harg12 a1 v62 v63 c1 v64 v66 v67 X2 X3 X12 k).2.1 f10 f11)) = gA512 (k0_pay180 (View.readAt (Elt F) arg3.view (Rect.unit (s := S8192x512) (k0_off36 i k) S512x128.size (k0_off36_inb i k)).toLoadRect X3) (Qb2 arg2.view X2)) (RM2 arg10.view f10) (View.readAt (Elt F) arg12.view (Rect.unit (s := S2x16x272x512) (k0_off37 i k) S1x1x272x512.size (k0_off37_inb i k)).toLoadRect X12) (RA2 arg11.view f11)
      ∧     RA3 arg11.view (arg11.view.writes (Elt F) f11 ((trip_k0_t5 𝒱 c bd i arg2 harg2 arg3 harg3 arg4 harg4 arg5 harg5 arg6 harg6 arg7 harg7 arg8 harg8 arg9 harg9 arg10 harg10 arg11 harg11 arg12 harg12 a1 v62 v63 c1 v64 v66 v67 X2 X3 X12 k).2.1 f10 f11)) = gA512 (k0_pay180 (View.readAt (Elt F) arg3.view (Rect.unit (s := S8192x512) (k0_off38 i k) S512x128.size (k0_off38_inb i k)).toLoadRect X3) (Qb3 arg2.view X2)) (RM3 arg10.view f10) (View.readAt (Elt F) arg12.view (Rect.unit (s := S2x16x272x512) (k0_off37 i k) S1x1x272x512.size (k0_off37_inb i k)).toLoadRect X12) (RA3 arg11.view f11) := by
  unfold trip_k0_t5
  exact fourA arg11.view f11 _ _ _ _
end Cert.KernelIdeal.Attn
-- ==== Proof.Attn.Loop.lean ====
module
public import proofs.«01_k».proof.Proof.Attn.Trip
@[expose] public section
set_option maxRecDepth 16384
noncomputable section
namespace Cert.KernelIdeal.Attn
open Cert.KernelIdeal Cert.KernelIdeal.Gen Cert.Attn
open Idealize.ShloMosaic Idealize.ShloMosaic.TcCoe Idealize.ShloMosaic.Tactic

/-! ## The data one grid point reads: queries, keys, values, and the weights and values they stand for -/

/-- Column `e` of head map `c`. -/
abbrev col (c : Fin 4) (e : Fin 128) : Fin 512 := ⟨128 * c.val + e.val, by omega⟩

/-- The queries, keys and values of query block `b` give the far keys the weights `w`, and the values are the reals `v`. -/
structure Data (b : ℕ) (xq : Vec Ideal S512x512 .bf16) (xk : Vec Ideal S8192x512 .bf16) (xv : Vec Ideal S2x16x272x512 .bf16)
    (w : Fin 4 → Fin 512 → ℕ → ℝ) (v : Fin 2 → Fin 272 → ℕ → ℝ) : Prop where
  far : ∀ (c : Fin 4) (κ : Fin 8192) (x : Fin 512), κ.val < 512 * (b - 1) →
    Wt ((∑ e : Fin 128, xk (ix2 κ (col c e)) * xq (ix2 (col c e) x)) * L2E) (w c x κ.val)
  va : ∀ (hh : Fin 2) (u : Fin 16) (d : Fin 272) (k : Fin 512), xv (ix4 hh u d k) = (v hh d (512 * u.val + k.val) : EReal)

section Ld
variable {F : FTy → Type} [FloatOps F] [Named F]

theorem ldK (v : View sig .tc .vmem S8192x512 .bf16) (X : v.ty.Contents (Elt F)) {n : ℕ} {off : Fin 2 → ℕ}
    (inb : ∀ a, off a + (![n, 128] : Fin 2 → ℕ) a ≤ S8192x512.size a) {o o' : ℕ} (h : off = ![o, o']) (r : Fin n) (e : Fin 128)
    (hr : o + r.val < 8192) (he : o' + e.val < 512) :
    View.readAt (Elt F) v (Rect.unit (s := S8192x512) off ![n, 128] inb).toLoadRect X (ix2 r e)
      = v.read (Elt F) X (ix2 ⟨o + r.val, hr⟩ ⟨o' + e.val, he⟩) := by
  subst h
  refine congrArg (v.read (Elt F) X) (funext fun a => ?_)
  match a with
  | 0 => exact Fin.ext (congrArg (o + ·) (Nat.one_mul _))
  | 1 => exact Fin.ext (congrArg (o' + ·) (Nat.one_mul _))
theorem ldQ (v : View sig .tc .vmem S512x512 .bf16) (X : v.ty.Contents (Elt F)) {off : Fin 2 → ℕ}
    (inb : ∀ a, off a + S128x512.size a ≤ S512x512.size a) {o : ℕ} (h : off = ![o, 0]) (e : Fin 128) (x : Fin 512)
    (he : o + e.val < 512) :
    View.readAt (Elt F) v (Rect.unit (s := S512x512) off S128x512.size inb).toLoadRect X (ix2 e x)
      = v.read (Elt F) X (ix2 ⟨o + e.val, he⟩ x) := by
  subst h
  refine congrArg (v.read (Elt F) X) (funext fun a => ?_)
  match a with
  | 0 => exact Fin.ext (congrArg (o + ·) (Nat.one_mul _))
  | 1 => exact Fin.ext ((Nat.zero_add _).trans (Nat.one_mul _))
theorem ldV (v : View sig .tc .vmem S2x16x272x512 .bf16) (X : v.ty.Contents (Elt F)) {off : Fin 4 → ℕ}
    (inb : ∀ a, off a + S1x1x272x512.size a ≤ S2x16x272x512.size a) {o u : ℕ} (h : off = ![o, u, 0, 0]) (d : Fin 272) (k : Fin 512)
    (ho : o < 2) (hu : u < 16) :
    View.readAt (Elt F) v (Rect.unit (s := S2x16x272x512) off S1x1x272x512.size inb).toLoadRect X (ix4 0 0 d k)
      = v.read (Elt F) X (ix4 ⟨o, ho⟩ ⟨u, hu⟩ d k) := by
  subst h
  refine congrArg (v.read (Elt F) X) (funext fun a => ?_)
  match a with
  | 0 => exact Fin.ext rfl
  | 1 => exact Fin.ext rfl
  | 2 => exact Fin.ext ((Nat.zero_add _).trans (Nat.one_mul _))
  | 3 => exact Fin.ext ((Nat.zero_add _).trans (Nat.one_mul _))
end Ld

section Head
variable {b : ℕ} {xq : Vec Ideal S512x512 .bf16} {xk : Vec Ideal S8192x512 .bf16} {xv : Vec Ideal S2x16x272x512 .bf16}
  {w : Fin 4 → Fin 512 → ℕ → ℝ} {v : Fin 2 → Fin 272 → ℕ → ℝ} (D : Data b xq xk xv w v)
include D

/-- The score of a far key, from the blocks that hold it. -/
theorem Data.score {n : ℕ} (c : Fin 4) (J : ℕ) (hJ : J + n ≤ 512 * (b - 1)) (hb : b ≤ 16) (K : Vec Ideal ⟨2, ![n, 128]⟩ .bf16) (Q : Vec Ideal S128x512 .bf16)
    (hK : ∀ (r : Fin n) (e : Fin 128), K (ix2 r e) = xk (ix2 ⟨J + r.val, by omega⟩ (col c e)))
    (hQ : ∀ (e : Fin 128) (x : Fin 512), Q (ix2 e x) = xq (ix2 (col c e) x)) (r : Fin n) (x : Fin 512) :
    Wt ((∑ e : Fin 128, K (ix2 r e) * Q (ix2 e x)) * L2E) (w c x (J + r.val)) := by
  simp only [hK, hQ]
  exact D.far c ⟨J + r.val, by omega⟩ x (by show J + r.val < _; omega)

/-- A block of values. -/
theorem Data.val (hh : Fin 2) (u : Fin 16) (j : ℕ) (hj : j = 512 * u.val) (V : Vec Ideal S1x1x272x512 .bf16)
    (hV : ∀ (d : Fin 272) (k : Fin 512), V (ix4 0 0 d k) = xv (ix4 hh u d k)) (d : Fin 272) (k : Fin 512) :
    V (ix4 0 0 d k) = (v hh d (j + k.val) : EReal) := by
  subst hj; rw [hV, D.va]
end Head

/-- After `J` keys all four head maps of the grid point hold their running sums. -/
def St (w : Fin 4 → Fin 512 → ℕ → ℝ) (v : Fin 2 → Fin 272 → ℕ → ℝ) (J : ℕ) (v10 : View sig .tc .vmem S4x1x512 .f32)
    (v11 : View sig .tc .vmem S4x272x512 .f32) (f10 : v10.ty.Contents (Elt Ideal)) (f11 : v11.ty.Contents (Elt Ideal)) : Prop :=
  InvC (w 0) (v 0) J (RM0 v10 f10) (RA0 v11 f11) ∧ InvC (w 1) (v 0) J (RM1 v10 f10) (RA1 v11 f11)
    ∧ InvC (w 2) (v 1) J (RM2 v10 f10) (RA2 v11 f11) ∧ InvC (w 3) (v 1) J (RM3 v10 f10) (RA3 v11 f11)

section Loops
variable (𝒱 : Variants) (c : Dev nD) (bd : Option 𝒱.V) (i : grid0.Coords) (arg2 : Memref sig .tc .vmem S512x512 .bf16) (harg2 : arg2.IsWhole) (arg3 : Memref sig .tc .vmem S8192x512 .bf16) (harg3 : arg3.IsWhole) (arg4 : Memref sig .tc .vmem S512x8192 .bf16) (harg4 : arg4.IsWhole) (arg5 : Memref sig .tc .vmem S2x512x512 .f32) (harg5 : arg5.IsWhole) (arg6 : Memref sig .tc .vmem S2x512x512 .f32) (harg6 : arg6.IsWhole) (arg7 : Memref sig .tc .vmem S1x1 .f32) (harg7 : arg7.IsWhole) (arg8 : Memref sig .tc .vmem S1x256 .f32) (harg8 : arg8.IsWhole) (arg9 : Memref sig .tc .vmem S512x512 .bf16) (harg9 : arg9.IsWhole) (arg10 : Memref sig .tc .vmem S4x1x512 .f32) (harg10 : arg10.IsWhole) (arg11 : Memref sig .tc .vmem S4x272x512 .f32) (harg11 : arg11.IsWhole) (arg12 : Memref sig .tc .vmem S2x16x272x512 .bf16) (harg12 : arg12.IsWhole)
variable (X2 : BufTy.Contents (Elt Ideal) arg2.view.ty) (X3 : BufTy.Contents (Elt Ideal) arg3.view.ty) (X12 : BufTy.Contents (Elt Ideal) arg12.view.ty)
  (f10 : BufTy.Contents (Elt Ideal) arg10.view.ty) (f11 : BufTy.Contents (Elt Ideal) arg11.view.ty)
variable {w : Fin 4 → Fin 512 → ℕ → ℝ} {v : Fin 2 → Fin 272 → ℕ → ℝ}
  (D : Data (i 1).val (arg2.view.read (Elt Ideal) X2) (arg3.view.read (Elt Ideal) X3) (arg12.view.read (Elt Ideal) X12) w v)
include D

/-- One trip of loop 1 takes 2048 more keys. -/
theorem t1_step (v12 v30 c0 v31 : BitVec 32) (k : Fin (k0_t1_loop i).trips) (h : St w v (2048 * k.val) arg10.view arg11.view f10 f11) :
    St w v (2048 * k.val + 2048) arg10.view arg11.view (arg10.view.writes (Elt Ideal) f10 ((trip_k0_t1 𝒱 c bd i arg2 harg2 arg3 harg3 arg4 harg4 arg5 harg5 arg6 harg6 arg7 harg7 arg8 harg8 arg9 harg9 arg10 harg10 arg11 harg11 arg12 harg12 v12 v30 c0 v31 X2 X3 X12 k).1 f10 f11))
      (arg11.view.writes (Elt Ideal) f11 ((trip_k0_t1 𝒱 c bd i arg2 harg2 arg3 harg3 arg4 harg4 arg5 harg5 arg6 harg6 arg7 harg7 arg8 harg8 arg9 harg9 arg10 harg10 arg11 harg11 arg12 harg12 v12 v30 c0 v31 X2 X3 X12 k).2.1 f10 f11)) := by
  obtain ⟨m0, m1, m2, m3⟩ := t1_M 𝒱 c bd i arg2 harg2 arg3 harg3 arg4 harg4 arg5 harg5 arg6 harg6 arg7 harg7 arg8 harg8 arg9 harg9 arg10 harg10 arg11 harg11 arg12 harg12 X2 X3 X12 f10 f11 v12 v30 c0 v31 k
  obtain ⟨a0, a1, a2, a3⟩ := t1_A 𝒱 c bd i arg2 harg2 arg3 harg3 arg4 harg4 arg5 harg5 arg6 harg6 arg7 harg7 arg8 harg8 arg9 harg9 arg10 harg10 arg11 harg11 arg12 harg12 X2 X3 X12 f10 f11 v12 v30 c0 v31 k
  obtain ⟨h0, h1, h2, h3⟩ := h
  have hi : (i 1).val < 16 := (i 1).isLt
  have hk : k.val < n1 (i 1).val := lt_of_lt_of_eq k.isLt (trips1 i)
  have e1 : n1 (i 1).val = ((i 1).val - 1) / 4 := rfl
  have e3 : n3 (i 1).val = ((i 1).val - 1) % 4 / 2 := rfl
  have e5 : n5 (i 1).val = ((i 1).val - 1) % 4 % 2 := rfl
  obtain ⟨ok0, ok1, ok2, ok3⟩ := off1 i k
  obtain ⟨ov0, ov1, ov00, ov11⟩ := offv1 i k
  refine ⟨?_, ?_, ?_, ?_⟩
  · rw [m0, a0]
    exact step2048 h0 _ _ _ _ _
      (fun r x => by
        rw [pay70_apply]
        exact D.score 0 _ (by omega) (by omega) _ _ (fun r e => ldK arg3.view X3 _ ok0 r e _ _)
          (fun e x => ldQ arg2.view X2 _ rfl e x _) r x)
      (D.val 0 ⟨4 * k.val, by omega⟩ _ (by show _ = 512 * (4 * k.val); omega) _ fun d k => ldV arg12.view X12 _ ov0 d k (by decide) (by omega))
      (D.val 0 ⟨4 * k.val + (1 + (0 : Fin 3).val), by omega⟩ _ (by show _ = 512 * (4 * k.val + (1 + (0 : Fin 3).val)); omega) _ fun d k => ldV arg12.view X12 _ (ov00 0) d k (by decide) (by omega))
      (D.val 0 ⟨4 * k.val + (1 + (1 : Fin 3).val), by omega⟩ _ (by show _ = 512 * (4 * k.val + (1 + (1 : Fin 3).val)); omega) _ fun d k => ldV arg12.view X12 _ (ov00 1) d k (by decide) (by omega))
      (D.val 0 ⟨4 * k.val + (1 + (2 : Fin 3).val), by omega⟩ _ (by show _ = 512 * (4 * k.val + (1 + (2 : Fin 3).val)); omega) _ fun d k => ldV arg12.view X12 _ (ov00 2) d k (by decide) (by omega))
  · rw [m1, a1]
    exact step2048 h1 _ _ _ _ _
      (fun r x => by
        rw [pay70_apply]
        exact D.score 1 _ (by omega) (by omega) _ _ (fun r e => ldK arg3.view X3 _ ok1 r e _ _)
          (fun e x => ldQ arg2.view X2 _ rfl e x _) r x)
      (D.val 0 ⟨4 * k.val, by omega⟩ _ (by show _ = 512 * (4 * k.val); omega) _ fun d k => ldV arg12.view X12 _ ov0 d k (by decide) (by omega))
      (D.val 0 ⟨4 * k.val + (1 + (0 : Fin 3).val), by omega⟩ _ (by show _ = 512 * (4 * k.val + (1 + (0 : Fin 3).val)); omega) _ fun d k => ldV arg12.view X12 _ (ov00 0) d k (by decide) (by omega))
      (D.val 0 ⟨4 * k.val + (1 + (1 : Fin 3).val), by omega⟩ _ (by show _ = 512 * (4 * k.val + (1 + (1 : Fin 3).val)); omega) _ fun d k => ldV arg12.view X12 _ (ov00 1) d k (by decide) (by omega))
      (D.val 0 ⟨4 * k.val + (1 + (2 : Fin 3).val), by omega⟩ _ (by show _ = 512 * (4 * k.val + (1 + (2 : Fin 3).val)); omega) _ fun d k => ldV arg12.view X12 _ (ov00 2) d k (by decide) (by omega))
  · rw [m2, a2]
    exact step2048 h2 _ _ _ _ _
      (fun r x => by
        rw [pay70_apply]
        exact D.score 2 _ (by omega) (by omega) _ _ (fun r e => ldK arg3.view X3 _ ok2 r e _ _)
          (fun e x => ldQ arg2.view X2 _ rfl e x _) r x)
      (D.val 1 ⟨4 * k.val, by omega⟩ _ (by show _ = 512 * (4 * k.val); omega) _ fun d k => ldV arg12.view X12 _ ov1 d k (by decide) (by omega))
      (D.val 1 ⟨4 * k.val + (1 + (0 : Fin 3).val), by omega⟩ _ (by show _ = 512 * (4 * k.val + (1 + (0 : Fin 3).val)); omega) _ fun d k => ldV arg12.view X12 _ (ov11 0) d k (by decide) (by omega))
      (D.val 1 ⟨4 * k.val + (1 + (1 : Fin 3).val), by omega⟩ _ (by show _ = 512 * (4 * k.val + (1 + (1 : Fin 3).val)); omega) _ fun d k => ldV arg12.view X12 _ (ov11 1) d k (by decide) (by omega))
      (D.val 1 ⟨4 * k.val + (1 + (2 : Fin 3).val), by omega⟩ _ (by show _ = 512 * (4 * k.val + (1 + (2 : Fin 3).val)); omega) _ fun d k => ldV arg12.view X12 _ (ov11 2) d k (by decide) (by omega))
  · rw [m3, a3]
    exact step2048 h3 _ _ _ _ _
      (fun r x => by
        rw [pay70_apply]
        exact D.score 3 _ (by omega) (by omega) _ _ (fun r e => ldK arg3.view X3 _ ok3 r e _ _)
          (fun e x => ldQ arg2.view X2 _ rfl e x _) r x)
      (D.val 1 ⟨4 * k.val, by omega⟩ _ (by show _ = 512 * (4 * k.val); omega) _ fun d k => ldV arg12.view X12 _ ov1 d k (by decide) (by omega))
      (D.val 1 ⟨4 * k.val + (1 + (0 : Fin 3).val), by omega⟩ _ (by show _ = 512 * (4 * k.val + (1 + (0 : Fin 3).val)); omega) _ fun d k => ldV arg12.view X12 _ (ov11 0) d k (by decide) (by omega))
      (D.val 1 ⟨4 * k.val + (1 + (1 : Fin 3).val), by omega⟩ _ (by show _ = 512 * (4 * k.val + (1 + (1 : Fin 3).val)); omega) _ fun d k => ldV arg12.view X12 _ (ov11 1) d k (by decide) (by omega))
      (D.val 1 ⟨4 * k.val + (1 + (2 : Fin 3).val), by omega⟩ _ (by show _ = 512 * (4 * k.val + (1 + (2 : Fin 3).val)); omega) _ fun d k => ldV arg12.view X12 _ (ov11 2) d k (by decide) (by omega))

/-- One trip of loop 3 takes 1024 more keys. -/
theorem t3_step (v12 v30 c0 v31 v37 : BitVec 32) (k : Fin (k0_t3_loop i).trips) (h : St w v (512 * (4 * n1 (i 1).val + 2 * k.val)) arg10.view arg11.view f10 f11) :
    St w v (512 * (4 * n1 (i 1).val + 2 * k.val) + 1024) arg10.view arg11.view (arg10.view.writes (Elt Ideal) f10 ((trip_k0_t3 𝒱 c bd i arg2 harg2 arg3 harg3 arg4 harg4 arg5 harg5 arg6 harg6 arg7 harg7 arg8 harg8 arg9 harg9 arg10 harg10 arg11 harg11 arg12 harg12 v12 v30 c0 v31 v37 X2 X3 X12 k).1 f10 f11))
      (arg11.view.writes (Elt Ideal) f11 ((trip_k0_t3 𝒱 c bd i arg2 harg2 arg3 harg3 arg4 harg4 arg5 harg5 arg6 harg6 arg7 harg7 arg8 harg8 arg9 harg9 arg10 harg10 arg11 harg11 arg12 harg12 v12 v30 c0 v31 v37 X2 X3 X12 k).2.1 f10 f11)) := by
  obtain ⟨m0, m1, m2, m3⟩ := t3_M 𝒱 c bd i arg2 harg2 arg3 harg3 arg4 harg4 arg5 harg5 arg6 harg6 arg7 harg7 arg8 harg8 arg9 harg9 arg10 harg10 arg11 harg11 arg12 harg12 X2 X3 X12 f10 f11 v12 v30 c0 v31 v37 k
  obtain ⟨a0, a1, a2, a3⟩ := t3_A 𝒱 c bd i arg2 harg2 arg3 harg3 arg4 harg4 arg5 harg5 arg6 harg6 arg7 harg7 arg8 harg8 arg9 harg9 arg10 harg10 arg11 harg11 arg12 harg12 X2 X3 X12 f10 f11 v12 v30 c0 v31 v37 k
  obtain ⟨h0, h1, h2, h3⟩ := h
  have hi : (i 1).val < 16 := (i 1).isLt
  have hk : k.val < n3 (i 1).val := lt_of_lt_of_eq k.isLt (trips3 i)
  have e1 : n1 (i 1).val = ((i 1).val - 1) / 4 := rfl
  have e3 : n3 (i 1).val = ((i 1).val - 1) % 4 / 2 := rfl
  have e5 : n5 (i 1).val = ((i 1).val - 1) % 4 % 2 := rfl
  obtain ⟨ok0, ok1, ok2, ok3⟩ := off3 i k
  obtain ⟨ov0, ov1, ov2, ov3⟩ := offv3 i k
  refine ⟨?_, ?_, ?_, ?_⟩
  · rw [m0, a0]
    exact step1024 h0 _ _ _
      (fun r x => by
        rw [pay130_apply]
        exact D.score 0 _ (by omega) (by omega) _ _ (fun r e => ldK arg3.view X3 _ ok0 r e _ _)
          (fun e x => ldQ arg2.view X2 _ rfl e x _) r x)
      (D.val 0 ⟨4 * n1 (i 1).val + 2 * k.val, by omega⟩ _ (by show _ = 512 * (4 * n1 (i 1).val + 2 * k.val); omega) _ fun d k => ldV arg12.view X12 _ ov0 d k (by decide) (by omega))
      (D.val 0 ⟨4 * n1 (i 1).val + 2 * k.val + 1, by omega⟩ _ (by show _ = 512 * (4 * n1 (i 1).val + 2 * k.val + 1); omega) _ fun d k => ldV arg12.view X12 _ ov1 d k (by decide) (by omega))
  · rw [m1, a1]
    exact step1024 h1 _ _ _
      (fun r x => by
        rw [pay130_apply]
        exact D.score 1 _ (by omega) (by omega) _ _ (fun r e => ldK arg3.view X3 _ ok1 r e _ _)
          (fun e x => ldQ arg2.view X2 _ rfl e x _) r x)
      (D.val 0 ⟨4 * n1 (i 1).val + 2 * k.val, by omega⟩ _ (by show _ = 512 * (4 * n1 (i 1).val + 2 * k.val); omega) _ fun d k => ldV arg12.view X12 _ ov0 d k (by decide) (by omega))
      (D.val 0 ⟨4 * n1 (i 1).val + 2 * k.val + 1, by omega⟩ _ (by show _ = 512 * (4 * n1 (i 1).val + 2 * k.val + 1); omega) _ fun d k => ldV arg12.view X12 _ ov1 d k (by decide) (by omega))
  · rw [m2, a2]
    exact step1024 h2 _ _ _
      (fun r x => by
        rw [pay130_apply]
        exact D.score 2 _ (by omega) (by omega) _ _ (fun r e => ldK arg3.view X3 _ ok2 r e _ _)
          (fun e x => ldQ arg2.view X2 _ rfl e x _) r x)
      (D.val 1 ⟨4 * n1 (i 1).val + 2 * k.val, by omega⟩ _ (by show _ = 512 * (4 * n1 (i 1).val + 2 * k.val); omega) _ fun d k => ldV arg12.view X12 _ ov2 d k (by decide) (by omega))
      (D.val 1 ⟨4 * n1 (i 1).val + 2 * k.val + 1, by omega⟩ _ (by show _ = 512 * (4 * n1 (i 1).val + 2 * k.val + 1); omega) _ fun d k => ldV arg12.view X12 _ ov3 d k (by decide) (by omega))
  · rw [m3, a3]
    exact step1024 h3 _ _ _
      (fun r x => by
        rw [pay130_apply]
        exact D.score 3 _ (by omega) (by omega) _ _ (fun r e => ldK arg3.view X3 _ ok3 r e _ _)
          (fun e x => ldQ arg2.view X2 _ rfl e x _) r x)
      (D.val 1 ⟨4 * n1 (i 1).val + 2 * k.val, by omega⟩ _ (by show _ = 512 * (4 * n1 (i 1).val + 2 * k.val); omega) _ fun d k => ldV arg12.view X12 _ ov2 d k (by decide) (by omega))
      (D.val 1 ⟨4 * n1 (i 1).val + 2 * k.val + 1, by omega⟩ _ (by show _ = 512 * (4 * n1 (i 1).val + 2 * k.val + 1); omega) _ fun d k => ldV arg12.view X12 _ ov3 d k (by decide) (by omega))

/-- One trip of loop 5 takes 512 more keys. -/
theorem t5_step (a1 v62 v63 c1 v64 v66 : BitVec 32) (v67 : BitVec 1) (k : Fin (k0_t5_loop i).trips) (h : St w v (512 * (4 * n1 (i 1).val + 2 * n3 (i 1).val + k.val)) arg10.view arg11.view f10 f11) :
    St w v (512 * (4 * n1 (i 1).val + 2 * n3 (i 1).val + k.val) + 512) arg10.view arg11.view (arg10.view.writes (Elt Ideal) f10 ((trip_k0_t5 𝒱 c bd i arg2 harg2 arg3 harg3 arg4 harg4 arg5 harg5 arg6 harg6 arg7 harg7 arg8 harg8 arg9 harg9 arg10 harg10 arg11 harg11 arg12 harg12 a1 v62 v63 c1 v64 v66 v67 X2 X3 X12 k).1 f10 f11))
      (arg11.view.writes (Elt Ideal) f11 ((trip_k0_t5 𝒱 c bd i arg2 harg2 arg3 harg3 arg4 harg4 arg5 harg5 arg6 harg6 arg7 harg7 arg8 harg8 arg9 harg9 arg10 harg10 arg11 harg11 arg12 harg12 a1 v62 v63 c1 v64 v66 v67 X2 X3 X12 k).2.1 f10 f11)) := by
  obtain ⟨m0, m1, m2, m3⟩ := t5_M 𝒱 c bd i arg2 harg2 arg3 harg3 arg4 harg4 arg5 harg5 arg6 harg6 arg7 harg7 arg8 harg8 arg9 harg9 arg10 harg10 arg11 harg11 arg12 harg12 X2 X3 X12 f10 f11 a1 v62 v63 c1 v64 v66 v67 k
  obtain ⟨a0, a1, a2, a3⟩ := t5_A 𝒱 c bd i arg2 harg2 arg3 harg3 arg4 harg4 arg5 harg5 arg6 harg6 arg7 harg7 arg8 harg8 arg9 harg9 arg10 harg10 arg11 harg11 arg12 harg12 X2 X3 X12 f10 f11 a1 v62 v63 c1 v64 v66 v67 k
  obtain ⟨h0, h1, h2, h3⟩ := h
  have hi : (i 1).val < 16 := (i 1).isLt
  have hk : k.val < n5 (i 1).val := lt_of_lt_of_eq k.isLt (trips5 i)
  have e1 : n1 (i 1).val = ((i 1).val - 1) / 4 := rfl
  have e3 : n3 (i 1).val = ((i 1).val - 1) % 4 / 2 := rfl
  have e5 : n5 (i 1).val = ((i 1).val - 1) % 4 % 2 := rfl
  obtain ⟨ok0, ok1, ok2, ok3, ov0, ov1⟩ := off5 i k
  refine ⟨?_, ?_, ?_, ?_⟩
  · rw [m0, a0]
    exact step512 h0 _ _
      (fun r x => by
        rw [pay180_apply]
        exact D.score 0 _ (by omega) (by omega) _ _ (fun r e => ldK arg3.view X3 _ ok0 r e _ _)
          (fun e x => ldQ arg2.view X2 _ rfl e x _) r x)
      (D.val 0 ⟨4 * n1 (i 1).val + 2 * n3 (i 1).val + k.val, by omega⟩ _ (by show _ = 512 * (4 * n1 (i 1).val + 2 * n3 (i 1).val + k.val); omega) _ fun d k => ldV arg12.view X12 _ ov0 d k (by decide) (by omega))
  · rw [m1, a1]
    exact step512 h1 _ _
      (fun r x => by
        rw [pay180_apply]
        exact D.score 1 _ (by omega) (by omega) _ _ (fun r e => ldK arg3.view X3 _ ok1 r e _ _)
          (fun e x => ldQ arg2.view X2 _ rfl e x _) r x)
      (D.val 0 ⟨4 * n1 (i 1).val + 2 * n3 (i 1).val + k.val, by omega⟩ _ (by show _ = 512 * (4 * n1 (i 1).val + 2 * n3 (i 1).val + k.val); omega) _ fun d k => ldV arg12.view X12 _ ov0 d k (by decide) (by omega))
  · rw [m2, a2]
    exact step512 h2 _ _
      (fun r x => by
        rw [pay180_apply]
        exact D.score 2 _ (by omega) (by omega) _ _ (fun r e => ldK arg3.view X3 _ ok2 r e _ _)
          (fun e x => ldQ arg2.view X2 _ rfl e x _) r x)
      (D.val 1 ⟨4 * n1 (i 1).val + 2 * n3 (i 1).val + k.val, by omega⟩ _ (by show _ = 512 * (4 * n1 (i 1).val + 2 * n3 (i 1).val + k.val); omega) _ fun d k => ldV arg12.view X12 _ ov1 d k (by decide) (by omega))
  · rw [m3, a3]
    exact step512 h3 _ _
      (fun r x => by
        rw [pay180_apply]
        exact D.score 3 _ (by omega) (by omega) _ _ (fun r e => ldK arg3.view X3 _ ok3 r e _ _)
          (fun e x => ldQ arg2.view X2 _ rfl e x _) r x)
      (D.val 1 ⟨4 * n1 (i 1).val + 2 * n3 (i 1).val + k.val, by omega⟩ _ (by show _ = 512 * (4 * n1 (i 1).val + 2 * n3 (i 1).val + k.val); omega) _ fun d k => ldV arg12.view X12 _ ov1 d k (by decide) (by omega))
end Loops
end Cert.KernelIdeal.Attn
-- ==== Proof.Attn.Chain.lean ====
module
public import proofs.«01_k».proof.Proof.Attn.Loop
@[expose] public section
set_option maxRecDepth 16384
noncomputable section
namespace Cert.KernelIdeal.Attn
open Cert.KernelIdeal Cert.KernelIdeal.Gen Cert.Attn
open Idealize.ShloMosaic Idealize.ShloMosaic.TcCoe Idealize.ShloMosaic.Tactic

section Loops
variable (𝒱 : Variants) (c : Dev nD) (bd : Option 𝒱.V) (i : grid0.Coords) (arg2 : Memref sig .tc .vmem S512x512 .bf16) (harg2 : arg2.IsWhole) (arg3 : Memref sig .tc .vmem S8192x512 .bf16) (harg3 : arg3.IsWhole) (arg4 : Memref sig .tc .vmem S512x8192 .bf16) (harg4 : arg4.IsWhole) (arg5 : Memref sig .tc .vmem S2x512x512 .f32) (harg5 : arg5.IsWhole) (arg6 : Memref sig .tc .vmem S2x512x512 .f32) (harg6 : arg6.IsWhole) (arg7 : Memref sig .tc .vmem S1x1 .f32) (harg7 : arg7.IsWhole) (arg8 : Memref sig .tc .vmem S1x256 .f32) (harg8 : arg8.IsWhole) (arg9 : Memref sig .tc .vmem S512x512 .bf16) (harg9 : arg9.IsWhole) (arg10 : Memref sig .tc .vmem S4x1x512 .f32) (harg10 : arg10.IsWhole) (arg11 : Memref sig .tc .vmem S4x272x512 .f32) (harg11 : arg11.IsWhole) (arg12 : Memref sig .tc .vmem S2x16x272x512 .bf16) (harg12 : arg12.IsWhole)
variable (X2 : BufTy.Contents (Elt Ideal) arg2.view.ty) (X3 : BufTy.Contents (Elt Ideal) arg3.view.ty) (X12 : BufTy.Contents (Elt Ideal) arg12.view.ty)
  (f10 : BufTy.Contents (Elt Ideal) arg10.view.ty) (f11 : BufTy.Contents (Elt Ideal) arg11.view.ty)
variable {w : Fin 4 → Fin 512 → ℕ → ℝ} {v : Fin 2 → Fin 272 → ℕ → ℝ}

/-- Loop 2 makes no trip. -/
theorem t2_none (v12 v30 c0 v31 v35 : BitVec 32) : pb_k0_t2 𝒱 c bd i arg2 harg2 arg3 harg3 arg4 harg4 arg5 harg5 arg6 harg6 arg7 harg7 arg8 harg8 arg9 harg9 arg10 harg10 arg11 harg11 arg12 harg12 v12 v30 c0 v31 v35 X2 X3 X12 f10 f11 (k0_t2_loop i).trips = ([], []) := by
  rw [trips2 i]; exact pb_k0_t2.eq_1 𝒱 c bd i arg2 harg2 arg3 harg3 arg4 harg4 arg5 harg5 arg6 harg6 arg7 harg7 arg8 harg8 arg9 harg9 arg10 harg10 arg11 harg11 arg12 harg12 v12 v30 c0 v31 v35 X2 X3 X12 f10 f11

/-- Loop 4 makes no trip. -/
theorem t4_none (v12 v30 c0 v31 v37 v60 : BitVec 32) : pb_k0_t4 𝒱 c bd i arg2 harg2 arg3 harg3 arg4 harg4 arg5 harg5 arg6 harg6 arg7 harg7 arg8 harg8 arg9 harg9 arg10 harg10 arg11 harg11 arg12 harg12 v12 v30 c0 v31 v37 v60 X2 X3 X12 f10 f11 (k0_t4_loop i).trips = ([], []) := by
  rw [trips4 i]; exact pb_k0_t4.eq_1 𝒱 c bd i arg2 harg2 arg3 harg3 arg4 harg4 arg5 harg5 arg6 harg6 arg7 harg7 arg8 harg8 arg9 harg9 arg10 harg10 arg11 harg11 arg12 harg12 v12 v30 c0 v31 v37 v60 X2 X3 X12 f10 f11

/-- Loop 6 makes no trip. -/
theorem t6_none (a1 v62 v63 c1 v64 v66 : BitVec 32) (v67 : BitVec 1) (v85 : BitVec 32) : pb_k0_t6 𝒱 c bd i arg2 harg2 arg3 harg3 arg4 harg4 arg5 harg5 arg6 harg6 arg7 harg7 arg8 harg8 arg9 harg9 arg10 harg10 arg11 harg11 arg12 harg12 a1 v62 v63 c1 v64 v66 v67 v85 X2 X3 X12 f10 f11 (k0_t6_loop i).trips = ([], []) := by
  rw [trips6 i]; exact pb_k0_t6.eq_1 𝒱 c bd i arg2 harg2 arg3 harg3 arg4 harg4 arg5 harg5 arg6 harg6 arg7 harg7 arg8 harg8 arg9 harg9 arg10 harg10 arg11 harg11 arg12 harg12 a1 v62 v63 c1 v64 v66 v67 v85 X2 X3 X12 f10 f11

/-- Loop 2, over the stores made before it, stores nothing. -/
theorem t2_list (v12 v30 c0 v31 v35 : BitVec 32) (J : ℕ) (L10 : List (View.Piece (Elt Ideal) S4x1x512 .f32)) (L11 : List (View.Piece (Elt Ideal) S4x272x512 .f32))
    (h : St w v J arg10.view arg11.view (arg10.view.writes (Elt Ideal) f10 L10) (arg11.view.writes (Elt Ideal) f11 L11)) :
    St w v J arg10.view arg11.view
      (arg10.view.writes (Elt Ideal) f10 ((pb_k0_t2 𝒱 c bd i arg2 harg2 arg3 harg3 arg4 harg4 arg5 harg5 arg6 harg6 arg7 harg7 arg8 harg8 arg9 harg9 arg10 harg10 arg11 harg11 arg12 harg12 v12 v30 c0 v31 v35 X2 X3 X12 (arg10.view.writes (Elt Ideal) f10 L10) (arg11.view.writes (Elt Ideal) f11 L11) (k0_t2_loop i).trips).1 ++ L10))
      (arg11.view.writes (Elt Ideal) f11 ((pb_k0_t2 𝒱 c bd i arg2 harg2 arg3 harg3 arg4 harg4 arg5 harg5 arg6 harg6 arg7 harg7 arg8 harg8 arg9 harg9 arg10 harg10 arg11 harg11 arg12 harg12 v12 v30 c0 v31 v35 X2 X3 X12 (arg10.view.writes (Elt Ideal) f10 L10) (arg11.view.writes (Elt Ideal) f11 L11) (k0_t2_loop i).trips).2 ++ L11)) := by
  rw [t2_none]; exact h

/-- Loop 4, over the stores made before it, stores nothing. -/
theorem t4_list (v12 v30 c0 v31 v37 v60 : BitVec 32) (J : ℕ) (L10 : List (View.Piece (Elt Ideal) S4x1x512 .f32)) (L11 : List (View.Piece (Elt Ideal) S4x272x512 .f32))
    (h : St w v J arg10.view arg11.view (arg10.view.writes (Elt Ideal) f10 L10) (arg11.view.writes (Elt Ideal) f11 L11)) :
    St w v J arg10.view arg11.view
      (arg10.view.writes (Elt Ideal) f10 ((pb_k0_t4 𝒱 c bd i arg2 harg2 arg3 harg3 arg4 harg4 arg5 harg5 arg6 harg6 arg7 harg7 arg8 harg8 arg9 harg9 arg10 harg10 arg11 harg11 arg12 harg12 v12 v30 c0 v31 v37 v60 X2 X3 X12 (arg10.view.writes (Elt Ideal) f10 L10) (arg11.view.writes (Elt Ideal) f11 L11) (k0_t4_loop i).trips).1 ++ L10))
      (arg11.view.writes (Elt Ideal) f11 ((pb_k0_t4 𝒱 c bd i arg2 harg2 arg3 harg3 arg4 harg4 arg5 harg5 arg6 harg6 arg7 harg7 arg8 harg8 arg9 harg9 arg10 harg10 arg11 harg11 arg12 harg12 v12 v30 c0 v31 v37 v60 X2 X3 X12 (arg10.view.writes (Elt Ideal) f10 L10) (arg11.view.writes (Elt Ideal) f11 L11) (k0_t4_loop i).trips).2 ++ L11)) := by
  rw [t4_none]; exact h

/-- Loop 6, over the stores made before it, stores nothing. -/
theorem t6_list (a1 v62 v63 c1 v64 v66 : BitVec 32) (v67 : BitVec 1) (v85 : BitVec 32) (J : ℕ) (L10 : List (View.Piece (Elt Ideal) S4x1x512 .f32)) (L11 : List (View.Piece (Elt Ideal) S4x272x512 .f32))
    (h : St w v J arg10.view arg11.view (arg10.view.writes (Elt Ideal) f10 L10) (arg11.view.writes (Elt Ideal) f11 L11)) :
    St w v J arg10.view arg11.view
      (arg10.view.writes (Elt Ideal) f10 ((pb_k0_t6 𝒱 c bd i arg2 harg2 arg3 harg3 arg4 harg4 arg5 harg5 arg6 harg6 arg7 harg7 arg8 harg8 arg9 harg9 arg10 harg10 arg11 harg11 arg12 harg12 a1 v62 v63 c1 v64 v66 v67 v85 X2 X3 X12 (arg10.view.writes (Elt Ideal) f10 L10) (arg11.view.writes (Elt Ideal) f11 L11) (k0_t6_loop i).trips).1 ++ L10))
      (arg11.view.writes (Elt Ideal) f11 ((pb_k0_t6 𝒱 c bd i arg2 harg2 arg3 harg3 arg4 harg4 arg5 harg5 arg6 harg6 arg7 harg7 arg8 harg8 arg9 harg9 arg10 harg10 arg11 harg11 arg12 harg12 a1 v62 v63 c1 v64 v66 v67 v85 X2 X3 X12 (arg10.view.writes (Elt Ideal) f10 L10) (arg11.view.writes (Elt Ideal) f11 L11) (k0_t6_loop i).trips).2 ++ L11)) := by
  rw [t6_none]; exact h

variable (D : Data (i 1).val (arg2.view.read (Elt Ideal) X2) (arg3.view.read (Elt Ideal) X3) (arg12.view.read (Elt Ideal) X12) w v)
include D

/-- Loop 1, trip by trip. -/
theorem t1_upto (v12 v30 c0 v31 : BitVec 32) (h : St w v (2048 * 0) arg10.view arg11.view f10 f11) (n : ℕ) (hn : n ≤ (k0_t1_loop i).trips) :
    St w v (2048 * n) arg10.view arg11.view (arg10.view.writes (Elt Ideal) f10 (pb_k0_t1 𝒱 c bd i arg2 harg2 arg3 harg3 arg4 harg4 arg5 harg5 arg6 harg6 arg7 harg7 arg8 harg8 arg9 harg9 arg10 harg10 arg11 harg11 arg12 harg12 v12 v30 c0 v31 X2 X3 X12 f10 f11 n).1)
      (arg11.view.writes (Elt Ideal) f11 (pb_k0_t1 𝒱 c bd i arg2 harg2 arg3 harg3 arg4 harg4 arg5 harg5 arg6 harg6 arg7 harg7 arg8 harg8 arg9 harg9 arg10 harg10 arg11 harg11 arg12 harg12 v12 v30 c0 v31 X2 X3 X12 f10 f11 n).2) := by
  induction n with
  | zero => rw [pb_k0_t1.eq_1]; exact h
  | succ n ih =>
    have hs := pb_k0_t1_succ 𝒱 c bd i arg2 harg2 arg3 harg3 arg4 harg4 arg5 harg5 arg6 harg6 arg7 harg7 arg8 harg8 arg9 harg9 arg10 harg10 arg11 harg11 arg12 harg12 v12 v30 c0 v31 X2 X3 X12 f10 f11 ⟨n, hn⟩
    rw [show n + 1 = (⟨n, hn⟩ : Fin (k0_t1_loop i).trips).val + 1 from rfl, hs, View.writes_append, View.writes_append]
    have := t1_step 𝒱 c bd i arg2 harg2 arg3 harg3 arg4 harg4 arg5 harg5 arg6 harg6 arg7 harg7 arg8 harg8 arg9 harg9 arg10 harg10 arg11 harg11 arg12 harg12 X2 X3 X12 _ _ D v12 v30 c0 v31 ⟨n, hn⟩ (ih (Nat.le_of_succ_le hn))
    have e : 2048 * n + 2048 = 2048 * (n + 1) := by omega
    exact e ▸ this
/-- Loop 1, over the stores made before it. -/
theorem t1_list (v12 v30 c0 v31 : BitVec 32) (L10 : List (View.Piece (Elt Ideal) S4x1x512 .f32)) (L11 : List (View.Piece (Elt Ideal) S4x272x512 .f32))
    (h : St w v (2048 * 0) arg10.view arg11.view (arg10.view.writes (Elt Ideal) f10 L10) (arg11.view.writes (Elt Ideal) f11 L11)) :
    St w v (2048 * n1 (i 1).val) arg10.view arg11.view
      (arg10.view.writes (Elt Ideal) f10 ((pb_k0_t1 𝒱 c bd i arg2 harg2 arg3 harg3 arg4 harg4 arg5 harg5 arg6 harg6 arg7 harg7 arg8 harg8 arg9 harg9 arg10 harg10 arg11 harg11 arg12 harg12 v12 v30 c0 v31 X2 X3 X12 (arg10.view.writes (Elt Ideal) f10 L10) (arg11.view.writes (Elt Ideal) f11 L11) (k0_t1_loop i).trips).1 ++ L10))
      (arg11.view.writes (Elt Ideal) f11 ((pb_k0_t1 𝒱 c bd i arg2 harg2 arg3 harg3 arg4 harg4 arg5 harg5 arg6 harg6 arg7 harg7 arg8 harg8 arg9 harg9 arg10 harg10 arg11 harg11 arg12 harg12 v12 v30 c0 v31 X2 X3 X12 (arg10.view.writes (Elt Ideal) f10 L10) (arg11.view.writes (Elt Ideal) f11 L11) (k0_t1_loop i).trips).2 ++ L11)) := by
  have := t1_upto 𝒱 c bd i arg2 harg2 arg3 harg3 arg4 harg4 arg5 harg5 arg6 harg6 arg7 harg7 arg8 harg8 arg9 harg9 arg10 harg10 arg11 harg11 arg12 harg12 X2 X3 X12 _ _ D v12 v30 c0 v31 h _ le_rfl
  rw [trips1 i] at this
  rw [View.writes_append, View.writes_append, trips1 i]
  exact this

/-- Loop 3, trip by trip. -/
theorem t3_upto (v12 v30 c0 v31 v37 : BitVec 32) (h : St w v (512 * (4 * n1 (i 1).val + 2 * 0)) arg10.view arg11.view f10 f11) (n : ℕ) (hn : n ≤ (k0_t3_loop i).trips) :
    St w v (512 * (4 * n1 (i 1).val + 2 * n)) arg10.view arg11.view (arg10.view.writes (Elt Ideal) f10 (pb_k0_t3 𝒱 c bd i arg2 harg2 arg3 harg3 arg4 harg4 arg5 harg5 arg6 harg6 arg7 harg7 arg8 harg8 arg9 harg9 arg10 harg10 arg11 harg11 arg12 harg12 v12 v30 c0 v31 v37 X2 X3 X12 f10 f11 n).1)
      (arg11.view.writes (Elt Ideal) f11 (pb_k0_t3 𝒱 c bd i arg2 harg2 arg3 harg3 arg4 harg4 arg5 harg5 arg6 harg6 arg7 harg7 arg8 harg8 arg9 harg9 arg10 harg10 arg11 harg11 arg12 harg12 v12 v30 c0 v31 v37 X2 X3 X12 f10 f11 n).2) := by
  induction n with
  | zero => rw [pb_k0_t3.eq_1]; exact h
  | succ n ih =>
    have hs := pb_k0_t3_succ 𝒱 c bd i arg2 harg2 arg3 harg3 arg4 harg4 arg5 harg5 arg6 harg6 arg7 harg7 arg8 harg8 arg9 harg9 arg10 harg10 arg11 harg11 arg12 harg12 v12 v30 c0 v31 v37 X2 X3 X12 f10 f11 ⟨n, hn⟩
    rw [show n + 1 = (⟨n, hn⟩ : Fin (k0_t3_loop i).trips).val + 1 from rfl, hs, View.writes_append, View.writes_append]
    have := t3_step 𝒱 c bd i arg2 harg2 arg3 harg3 arg4 harg4 arg5 harg5 arg6 harg6 arg7 harg7 arg8 harg8 arg9 harg9 arg10 harg10 arg11 harg11 arg12 harg12 X2 X3 X12 _ _ D v12 v30 c0 v31 v37 ⟨n, hn⟩ (ih (Nat.le_of_succ_le hn))
    have e : 512 * (4 * n1 (i 1).val + 2 * n) + 1024 = 512 * (4 * n1 (i 1).val + 2 * (n + 1)) := by omega
    exact e ▸ this
/-- Loop 3, over the stores made before it. -/
theorem t3_list (v12 v30 c0 v31 v37 : BitVec 32) (L10 : List (View.Piece (Elt Ideal) S4x1x512 .f32)) (L11 : List (View.Piece (Elt Ideal) S4x272x512 .f32))
    (h : St w v (512 * (4 * n1 (i 1).val + 2 * 0)) arg10.view arg11.view (arg10.view.writes (Elt Ideal) f10 L10) (arg11.view.writes (Elt Ideal) f11 L11)) :
    St w v (512 * (4 * n1 (i 1).val + 2 * n3 (i 1).val)) arg10.view arg11.view
      (arg10.view.writes (Elt Ideal) f10 ((pb_k0_t3 𝒱 c bd i arg2 harg2 arg3 harg3 arg4 harg4 arg5 harg5 arg6 harg6 arg7 harg7 arg8 harg8 arg9 harg9 arg10 harg10 arg11 harg11 arg12 harg12 v12 v30 c0 v31 v37 X2 X3 X12 (arg10.view.writes (Elt Ideal) f10 L10) (arg11.view.writes (Elt Ideal) f11 L11) (k0_t3_loop i).trips).1 ++ L10))
      (arg11.view.writes (Elt Ideal) f11 ((pb_k0_t3 𝒱 c bd i arg2 harg2 arg3 harg3 arg4 harg4 arg5 harg5 arg6 harg6 arg7 harg7 arg8 harg8 arg9 harg9 arg10 harg10 arg11 harg11 arg12 harg12 v12 v30 c0 v31 v37 X2 X3 X12 (arg10.view.writes (Elt Ideal) f10 L10) (arg11.view.writes (Elt Ideal) f11 L11) (k0_t3_loop i).trips).2 ++ L11)) := by
  have := t3_upto 𝒱 c bd i arg2 harg2 arg3 harg3 arg4 harg4 arg5 harg5 arg6 harg6 arg7 harg7 arg8 harg8 arg9 harg9 arg10 harg10 arg11 harg11 arg12 harg12 X2 X3 X12 _ _ D v12 v30 c0 v31 v37 h _ le_rfl
  rw [trips3 i] at this
  rw [View.writes_append, View.writes_append, trips3 i]
  exact this

/-- Loop 5, trip by trip. -/
theorem t5_upto (a1 v62 v63 c1 v64 v66 : BitVec 32) (v67 : BitVec 1) (h : St w v (512 * (4 * n1 (i 1).val + 2 * n3 (i 1).val + 0)) arg10.view arg11.view f10 f11) (n : ℕ) (hn : n ≤ (k0_t5_loop i).trips) :
    St w v (512 * (4 * n1 (i 1).val + 2 * n3 (i 1).val + n)) arg10.view arg11.view (arg10.view.writes (Elt Ideal) f10 (pb_k0_t5 𝒱 c bd i arg2 harg2 arg3 harg3 arg4 harg4 arg5 harg5 arg6 harg6 arg7 harg7 arg8 harg8 arg9 harg9 arg10 harg10 arg11 harg11 arg12 harg12 a1 v62 v63 c1 v64 v66 v67 X2 X3 X12 f10 f11 n).1)
      (arg11.view.writes (Elt Ideal) f11 (pb_k0_t5 𝒱 c bd i arg2 harg2 arg3 harg3 arg4 harg4 arg5 harg5 arg6 harg6 arg7 harg7 arg8 harg8 arg9 harg9 arg10 harg10 arg11 harg11 arg12 harg12 a1 v62 v63 c1 v64 v66 v67 X2 X3 X12 f10 f11 n).2) := by
  induction n with
  | zero => rw [pb_k0_t5.eq_1]; exact h
  | succ n ih =>
    have hs := pb_k0_t5_succ 𝒱 c bd i arg2 harg2 arg3 harg3 arg4 harg4 arg5 harg5 arg6 harg6 arg7 harg7 arg8 harg8 arg9 harg9 arg10 harg10 arg11 harg11 arg12 harg12 a1 v62 v63 c1 v64 v66 v67 X2 X3 X12 f10 f11 ⟨n, hn⟩
    rw [show n + 1 = (⟨n, hn⟩ : Fin (k0_t5_loop i).trips).val + 1 from rfl, hs, View.writes_append, View.writes_append]
    have := t5_step 𝒱 c bd i arg2 harg2 arg3 harg3 arg4 harg4 arg5 harg5 arg6 harg6 arg7 harg7 arg8 harg8 arg9 harg9 arg10 harg10 arg11 harg11 arg12 harg12 X2 X3 X12 _ _ D a1 v62 v63 c1 v64 v66 v67 ⟨n, hn⟩ (ih (Nat.le_of_succ_le hn))
    have e : 512 * (4 * n1 (i 1).val + 2 * n3 (i 1).val + n) + 512 = 512 * (4 * n1 (i 1).val + 2 * n3 (i 1).val + (n + 1)) := by omega
    exact e ▸ this
/-- Loop 5, over the stores made before it. -/
theorem t5_list (a1 v62 v63 c1 v64 v66 : BitVec 32) (v67 : BitVec 1) (L10 : List (View.Piece (Elt Ideal) S4x1x512 .f32)) (L11 : List (View.Piece (Elt Ideal) S4x272x512 .f32))
    (h : St w v (512 * (4 * n1 (i 1).val + 2 * n3 (i 1).val + 0)) arg10.view arg11.view (arg10.view.writes (Elt Ideal) f10 L10) (arg11.view.writes (Elt Ideal) f11 L11)) :
    St w v (512 * (4 * n1 (i 1).val + 2 * n3 (i 1).val + n5 (i 1).val)) arg10.view arg11.view
      (arg10.view.writes (Elt Ideal) f10 ((pb_k0_t5 𝒱 c bd i arg2 harg2 arg3 harg3 arg4 harg4 arg5 harg5 arg6 harg6 arg7 harg7 arg8 harg8 arg9 harg9 arg10 harg10 arg11 harg11 arg12 harg12 a1 v62 v63 c1 v64 v66 v67 X2 X3 X12 (arg10.view.writes (Elt Ideal) f10 L10) (arg11.view.writes (Elt Ideal) f11 L11) (k0_t5_loop i).trips).1 ++ L10))
      (arg11.view.writes (Elt Ideal) f11 ((pb_k0_t5 𝒱 c bd i arg2 harg2 arg3 harg3 arg4 harg4 arg5 harg5 arg6 harg6 arg7 harg7 arg8 harg8 arg9 harg9 arg10 harg10 arg11 harg11 arg12 harg12 a1 v62 v63 c1 v64 v66 v67 X2 X3 X12 (arg10.view.writes (Elt Ideal) f10 L10) (arg11.view.writes (Elt Ideal) f11 L11) (k0_t5_loop i).trips).2 ++ L11)) := by
  have := t5_upto 𝒱 c bd i arg2 harg2 arg3 harg3 arg4 harg4 arg5 harg5 arg6 harg6 arg7 harg7 arg8 harg8 arg9 harg9 arg10 harg10 arg11 harg11 arg12 harg12 X2 X3 X12 _ _ D a1 v62 v63 c1 v64 v66 v67 h _ le_rfl
  rw [trips5 i] at this
  rw [View.writes_append, View.writes_append, trips5 i]
  exact this
end Loops
end Cert.KernelIdeal.Attn
-- ==== Proof.Attn.LastA.lean ====
module
public import proofs.«01_k».proof.Proof.Attn.Chain
@[expose] public section
set_option maxRecDepth 16384
noncomputable section
namespace Cert.KernelIdeal.Attn
open Cert.KernelIdeal Cert.KernelIdeal.Gen Cert.Attn
open Idealize.ShloMosaic Idealize.ShloMosaic.TcCoe Idealize.ShloMosaic.Tactic

section CaseA
variable {F : FTy → Type} [FloatOps F] [Named F]
variable (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x8192 .bf16) (harg4 : arg4.IsWhole) (arg5 : Memref sig .tc .vmem S2x512x512 .f32) (harg5 : arg5.IsWhole) (arg6 : Memref sig .tc .vmem S2x512x512 .f32) (harg6 : arg6.IsWhole) (arg7 : Memref sig .tc .vmem S1x1 .f32) (harg7 : arg7.IsWhole) (arg8 : Memref sig .tc .vmem S1x256 .f32) (harg8 : arg8.IsWhole) (arg9 : Memref sig .tc .vmem S512x512 .bf16) (harg9 : arg9.IsWhole) (arg10 : Memref sig .tc .vmem S4x1x512 .f32) (harg10 : arg10.IsWhole) (arg11 : Memref sig .tc .vmem S4x272x512 .f32) (harg11 : arg11.IsWhole) (arg12 : Memref sig .tc .vmem S2x16x272x512 .bf16) (harg12 : arg12.IsWhole)  (x0 : Vec F S512x512 .bf16) (x1 : Vec F S8192x512 .bf16) (x2 : Vec F S512x8192 .bf16) (x3 : Vec F S2x512x512 .f32)

/-- The stores into the maxima before the last step of a head's first point. -/
abbrev LA10 : List (View.Piece (Elt F) S4x1x512 .f32) := (kernelRun0_A.sl.HS0_1_1 c i arg2 harg2 arg3 harg3 arg4 harg4 arg5 harg5 arg6 harg6 arg7 harg7 arg8 harg8 arg9 harg9 arg10 harg10 arg11 harg11 arg12 harg12 x0 x1 x2 x3).tail
/-- The stores into the accumulators before the last step of a head's first point. -/
abbrev LA11 : List (View.Piece (Elt F) S4x272x512 .f32) := (kernelRun0_A.sl.HS1_1_1 c i arg2 harg2 arg3 harg3 arg4 harg4 arg5 harg5 arg6 harg6 arg7 harg7 arg8 harg8 arg9 harg9 arg10 harg10 arg11 harg11 arg12 harg12 x0 x1 x2 x3).tail
theorem rowA_M0 : (kernelRun0_A.sl.v176_1 c i arg2 harg2 arg3 harg3 arg4 harg4 arg5 harg5 arg6 harg6 arg7 harg7 arg8 harg8 arg9 harg9 arg10 harg10 arg11 harg11 arg12 harg12 x0 x1 x2) = RM0 arg10.view (arg10.view.writes (Elt F) arg10.view.junk (LA10 c i arg2 harg2 arg3 harg3 arg4 harg4 arg5 harg5 arg6 harg6 arg7 harg7 arg8 harg8 arg9 harg9 arg10 harg10 arg11 harg11 arg12 harg12 x0 x1 x2 x3)) :=
  rfl
theorem rowA_M1 : (kernelRun0_A.sl.v212_1 c i arg2 harg2 arg3 harg3 arg4 harg4 arg5 harg5 arg6 harg6 arg7 harg7 arg8 harg8 arg9 harg9 arg10 harg10 arg11 harg11 arg12 harg12 x0 x1 x2 x3) = RM1 arg10.view (arg10.view.writes (Elt F) arg10.view.junk (LA10 c i arg2 harg2 arg3 harg3 arg4 harg4 arg5 harg5 arg6 harg6 arg7 harg7 arg8 harg8 arg9 harg9 arg10 harg10 arg11 harg11 arg12 harg12 x0 x1 x2 x3)) :=
  readAt_apart arg10.view _ _ _ _ _ 0 (by decide)
theorem rowA_M2 : (kernelRun0_A.sl.v248_1 c i arg2 harg2 arg3 harg3 arg4 harg4 arg5 harg5 arg6 harg6 arg7 harg7 arg8 harg8 arg9 harg9 arg10 harg10 arg11 harg11 arg12 harg12 x0 x1 x2 x3) = RM2 arg10.view (arg10.view.writes (Elt F) arg10.view.junk (LA10 c i arg2 harg2 arg3 harg3 arg4 harg4 arg5 harg5 arg6 harg6 arg7 harg7 arg8 harg8 arg9 harg9 arg10 harg10 arg11 harg11 arg12 harg12 x0 x1 x2 x3)) :=
  (readAt_apart arg10.view _ _ _ _ _ 0 (by decide)).trans <| readAt_apart arg10.view _ _ _ _ _ 0 (by decide)
theorem rowA_M3 : (kernelRun0_A.sl.v284_1 c i arg2 harg2 arg3 harg3 arg4 harg4 arg5 harg5 arg6 harg6 arg7 harg7 arg8 harg8 arg9 harg9 arg10 harg10 arg11 harg11 arg12 harg12 x0 x1 x2 x3) = RM3 arg10.view (arg10.view.writes (Elt F) arg10.view.junk (LA10 c i arg2 harg2 arg3 harg3 arg4 harg4 arg5 harg5 arg6 harg6 arg7 harg7 arg8 harg8 arg9 harg9 arg10 harg10 arg11 harg11 arg12 harg12 x0 x1 x2 x3)) :=
  (readAt_apart arg10.view _ _ _ _ _ 0 (by decide)).trans <| (readAt_apart arg10.view _ _ _ _ _ 0 (by decide)).trans <| readAt_apart arg10.view _ _ _ _ _ 0 (by decide)
theorem rowA_A0 : (kernelRun0_A.sl.v190 c i arg2 harg2 arg3 harg3 arg4 harg4 arg5 harg5 arg6 harg6 arg7 harg7 arg8 harg8 arg9 harg9 arg10 harg10 arg11 harg11 arg12 harg12 x0 x1 x2) = RA0 arg11.view (arg11.view.writes (Elt F) arg11.view.junk (LA11 c i arg2 harg2 arg3 harg3 arg4 harg4 arg5 harg5 arg6 harg6 arg7 harg7 arg8 harg8 arg9 harg9 arg10 harg10 arg11 harg11 arg12 harg12 x0 x1 x2 x3)) :=
  rfl
theorem rowA_A1 : (kernelRun0_A.sl.v226 c i arg2 harg2 arg3 harg3 arg4 harg4 arg5 harg5 arg6 harg6 arg7 harg7 arg8 harg8 arg9 harg9 arg10 harg10 arg11 harg11 arg12 harg12 x0 x1 x2 x3) = RA1 arg11.view (arg11.view.writes (Elt F) arg11.view.junk (LA11 c i arg2 harg2 arg3 harg3 arg4 harg4 arg5 harg5 arg6 harg6 arg7 harg7 arg8 harg8 arg9 harg9 arg10 harg10 arg11 harg11 arg12 harg12 x0 x1 x2 x3)) :=
  readAt_apart arg11.view _ _ _ _ _ 0 (by decide)
theorem rowA_A2 : (kernelRun0_A.sl.v262 c i arg2 harg2 arg3 harg3 arg4 harg4 arg5 harg5 arg6 harg6 arg7 harg7 arg8 harg8 arg9 harg9 arg10 harg10 arg11 harg11 arg12 harg12 x0 x1 x2 x3) = RA2 arg11.view (arg11.view.writes (Elt F) arg11.view.junk (LA11 c i arg2 harg2 arg3 harg3 arg4 harg4 arg5 harg5 arg6 harg6 arg7 harg7 arg8 harg8 arg9 harg9 arg10 harg10 arg11 harg11 arg12 harg12 x0 x1 x2 x3)) :=
  (readAt_apart arg11.view _ _ _ _ _ 0 (by decide)).trans <| readAt_apart arg11.view _ _ _ _ _ 0 (by decide)
theorem rowA_A3 : (kernelRun0_A.sl.v298 c i arg2 harg2 arg3 harg3 arg4 harg4 arg5 harg5 arg6 harg6 arg7 harg7 arg8 harg8 arg9 harg9 arg10 harg10 arg11 harg11 arg12 harg12 x0 x1 x2 x3) = RA3 arg11.view (arg11.view.writes (Elt F) arg11.view.junk (LA11 c i arg2 harg2 arg3 harg3 arg4 harg4 arg5 harg5 arg6 harg6 arg7 harg7 arg8 harg8 arg9 harg9 arg10 harg10 arg11 harg11 arg12 harg12 x0 x1 x2 x3)) :=
  (readAt_apart arg11.view _ _ _ _ _ 0 (by decide)).trans <| (readAt_apart arg11.view _ _ _ _ _ 0 (by decide)).trans <| readAt_apart arg11.view _ _ _ _ _ 0 (by decide)
theorem lastA0 : RA0 arg11.view (arg11.view.writes (Elt F) arg11.view.junk (kernelRun0_A.sl.HS1_4 c i arg2 harg2 arg3 harg3 arg4 harg4 arg5 harg5 arg6 harg6 arg7 harg7 arg8 harg8 arg9 harg9 arg10 harg10 arg11 harg11 arg12 harg12 x0 x1 x2 x3)) = gA512 (k0_pay246 (View.readAt (Elt F) arg3.view (Rect.unit (s := S8192x512) ![0, 0] S512x128.size inb_S8192x512_S512x128_0_0).toLoadRect (harg3.unread x1)) (View.readAt (Elt F) arg2.view (Rect.unit (s := S512x512) ![0, 0] S128x512.size inb_S512x512_S128x512_0_0).toLoadRect (harg2.unread x0)) (View.readAt (Elt F) arg5.view (Rect.unit (s := S2x512x512) ![0, 0, 0] S1x512x512.size inb_S2x512x512_S1x512x512_0_0_0).toLoadRect (harg5.unread x3))) (RM0 arg10.view (arg10.view.writes (Elt F) arg10.view.junk (LA10 c i arg2 harg2 arg3 harg3 arg4 harg4 arg5 harg5 arg6 harg6 arg7 harg7 arg8 harg8 arg9 harg9 arg10 harg10 arg11 harg11 arg12 harg12 x0 x1 x2 x3))) (View.readAt (Elt F) arg12.view (Rect.unit (s := S2x16x272x512) ![0, 0, 0, 0] S1x1x272x512.size inb_S2x16x272x512_S1x1x272x512_0_0_0_0).toLoadRect (arg12.view.writes (Elt F) arg12.view.junk (kernelRun0_A.sl.HS2_64 c arg4 harg4 x2))) (RA0 arg11.view (arg11.view.writes (Elt F) arg11.view.junk (LA11 c i arg2 harg2 arg3 harg3 arg4 harg4 arg5 harg5 arg6 harg6 arg7 harg7 arg8 harg8 arg9 harg9 arg10 harg10 arg11 harg11 arg12 harg12 x0 x1 x2 x3))) := by
  rw [← rowA_M0, ← rowA_A0]
  exact (readAt_apart arg11.view _ _ _ _ _ 0 (by decide)).trans <| (readAt_apart arg11.view _ _ _ _ _ 0 (by decide)).trans <| (readAt_apart arg11.view _ _ _ _ _ 0 (by decide)).trans <| readAt_same arg11.view _ _ _ _ _
theorem lastA1 : RA1 arg11.view (arg11.view.writes (Elt F) arg11.view.junk (kernelRun0_A.sl.HS1_4 c i arg2 harg2 arg3 harg3 arg4 harg4 arg5 harg5 arg6 harg6 arg7 harg7 arg8 harg8 arg9 harg9 arg10 harg10 arg11 harg11 arg12 harg12 x0 x1 x2 x3)) = gA512 (k0_pay246 (View.readAt (Elt F) arg3.view (Rect.unit (s := S8192x512) ![0, 128] S512x128.size inb_S8192x512_S512x128_0_128).toLoadRect (harg3.unread x1)) (View.readAt (Elt F) arg2.view (Rect.unit (s := S512x512) ![128, 0] S128x512.size inb_S512x512_S128x512_128_0).toLoadRect (harg2.unread x0)) (View.readAt (Elt F) arg5.view (Rect.unit (s := S2x512x512) ![0, 0, 0] S1x512x512.size inb_S2x512x512_S1x512x512_0_0_0).toLoadRect (harg5.unread x3))) (RM1 arg10.view (arg10.view.writes (Elt F) arg10.view.junk (LA10 c i arg2 harg2 arg3 harg3 arg4 harg4 arg5 harg5 arg6 harg6 arg7 harg7 arg8 harg8 arg9 harg9 arg10 harg10 arg11 harg11 arg12 harg12 x0 x1 x2 x3))) (View.readAt (Elt F) arg12.view (Rect.unit (s := S2x16x272x512) ![0, 0, 0, 0] S1x1x272x512.size inb_S2x16x272x512_S1x1x272x512_0_0_0_0).toLoadRect (arg12.view.writes (Elt F) arg12.view.junk (kernelRun0_A.sl.HS2_64 c arg4 harg4 x2))) (RA1 arg11.view (arg11.view.writes (Elt F) arg11.view.junk (LA11 c i arg2 harg2 arg3 harg3 arg4 harg4 arg5 harg5 arg6 harg6 arg7 harg7 arg8 harg8 arg9 harg9 arg10 harg10 arg11 harg11 arg12 harg12 x0 x1 x2 x3))) := by
  rw [← rowA_M1, ← rowA_A1]
  exact (readAt_apart arg11.view _ _ _ _ _ 0 (by decide)).trans <| (readAt_apart arg11.view _ _ _ _ _ 0 (by decide)).trans <| readAt_same arg11.view _ _ _ _ _
theorem lastA2 : RA2 arg11.view (arg11.view.writes (Elt F) arg11.view.junk (kernelRun0_A.sl.HS1_4 c i arg2 harg2 arg3 harg3 arg4 harg4 arg5 harg5 arg6 harg6 arg7 harg7 arg8 harg8 arg9 harg9 arg10 harg10 arg11 harg11 arg12 harg12 x0 x1 x2 x3)) = gA512 (k0_pay246 (View.readAt (Elt F) arg3.view (Rect.unit (s := S8192x512) ![0, 256] S512x128.size inb_S8192x512_S512x128_0_256).toLoadRect (harg3.unread x1)) (View.readAt (Elt F) arg2.view (Rect.unit (s := S512x512) ![256, 0] S128x512.size inb_S512x512_S128x512_256_0).toLoadRect (harg2.unread x0)) (View.readAt (Elt F) arg5.view (Rect.unit (s := S2x512x512) ![1, 0, 0] S1x512x512.size inb_S2x512x512_S1x512x512_1_0_0).toLoadRect (harg5.unread x3))) (RM2 arg10.view (arg10.view.writes (Elt F) arg10.view.junk (LA10 c i arg2 harg2 arg3 harg3 arg4 harg4 arg5 harg5 arg6 harg6 arg7 harg7 arg8 harg8 arg9 harg9 arg10 harg10 arg11 harg11 arg12 harg12 x0 x1 x2 x3))) (View.readAt (Elt F) arg12.view (Rect.unit (s := S2x16x272x512) ![1, 0, 0, 0] S1x1x272x512.size inb_S2x16x272x512_S1x1x272x512_1_0_0_0).toLoadRect (arg12.view.writes (Elt F) arg12.view.junk (kernelRun0_A.sl.HS2_64 c arg4 harg4 x2))) (RA2 arg11.view (arg11.view.writes (Elt F) arg11.view.junk (LA11 c i arg2 harg2 arg3 harg3 arg4 harg4 arg5 harg5 arg6 harg6 arg7 harg7 arg8 harg8 arg9 harg9 arg10 harg10 arg11 harg11 arg12 harg12 x0 x1 x2 x3))) := by
  rw [← rowA_M2, ← rowA_A2]
  exact (readAt_apart arg11.view _ _ _ _ _ 0 (by decide)).trans <| readAt_same arg11.view _ _ _ _ _
theorem lastA3 : RA3 arg11.view (arg11.view.writes (Elt F) arg11.view.junk (kernelRun0_A.sl.HS1_4 c i arg2 harg2 arg3 harg3 arg4 harg4 arg5 harg5 arg6 harg6 arg7 harg7 arg8 harg8 arg9 harg9 arg10 harg10 arg11 harg11 arg12 harg12 x0 x1 x2 x3)) = gA512 (k0_pay246 (View.readAt (Elt F) arg3.view (Rect.unit (s := S8192x512) ![0, 384] S512x128.size inb_S8192x512_S512x128_0_384).toLoadRect (harg3.unread x1)) (View.readAt (Elt F) arg2.view (Rect.unit (s := S512x512) ![384, 0] S128x512.size inb_S512x512_S128x512_384_0).toLoadRect (harg2.unread x0)) (View.readAt (Elt F) arg5.view (Rect.unit (s := S2x512x512) ![1, 0, 0] S1x512x512.size inb_S2x512x512_S1x512x512_1_0_0).toLoadRect (harg5.unread x3))) (RM3 arg10.view (arg10.view.writes (Elt F) arg10.view.junk (LA10 c i arg2 harg2 arg3 harg3 arg4 harg4 arg5 harg5 arg6 harg6 arg7 harg7 arg8 harg8 arg9 harg9 arg10 harg10 arg11 harg11 arg12 harg12 x0 x1 x2 x3))) (View.readAt (Elt F) arg12.view (Rect.unit (s := S2x16x272x512) ![1, 0, 0, 0] S1x1x272x512.size inb_S2x16x272x512_S1x1x272x512_1_0_0_0).toLoadRect (arg12.view.writes (Elt F) arg12.view.junk (kernelRun0_A.sl.HS2_64 c arg4 harg4 x2))) (RA3 arg11.view (arg11.view.writes (Elt F) arg11.view.junk (LA11 c i arg2 harg2 arg3 harg3 arg4 harg4 arg5 harg5 arg6 harg6 arg7 harg7 arg8 harg8 arg9 harg9 arg10 harg10 arg11 harg11 arg12 harg12 x0 x1 x2 x3))) := by
  rw [← rowA_M3, ← rowA_A3]
  exact readAt_same arg11.view _ _ _ _ _
end CaseA
end Cert.KernelIdeal.Attn
-- ==== Proof.Attn.LastB.lean ====
module
public import proofs.«01_k».proof.Proof.Attn.Chain
@[expose] public section
set_option maxRecDepth 16384
noncomputable section
namespace Cert.KernelIdeal.Attn
open Cert.KernelIdeal Cert.KernelIdeal.Gen Cert.Attn
open Idealize.ShloMosaic Idealize.ShloMosaic.TcCoe Idealize.ShloMosaic.Tactic

section CaseB
variable {F : FTy → Type} [FloatOps F] [Named F]
variable (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x8192 .bf16) (harg4 : arg4.IsWhole) (arg5 : Memref sig .tc .vmem S2x512x512 .f32) (harg5 : arg5.IsWhole) (arg6 : Memref sig .tc .vmem S2x512x512 .f32) (harg6 : arg6.IsWhole) (arg7 : Memref sig .tc .vmem S1x1 .f32) (harg7 : arg7.IsWhole) (arg8 : Memref sig .tc .vmem S1x256 .f32) (harg8 : arg8.IsWhole) (arg9 : Memref sig .tc .vmem S512x512 .bf16) (harg9 : arg9.IsWhole) (arg10 : Memref sig .tc .vmem S4x1x512 .f32) (harg10 : arg10.IsWhole) (arg11 : Memref sig .tc .vmem S4x272x512 .f32) (harg11 : arg11.IsWhole) (arg12 : Memref sig .tc .vmem S2x16x272x512 .bf16) (harg12 : arg12.IsWhole)  (hc1 : cond0_1 i) (x0 : Vec F S512x512 .bf16) (x1 : Vec F S8192x512 .bf16) (x3 : Vec F S2x512x512 .f32) (x4 : Vec F S2x512x512 .f32) (xs2 : Vec F S2x16x272x512 .bf16)

/-- The stores into the maxima before the last step of a later point. -/
abbrev LB10 : List (View.Piece (Elt F) S4x1x512 .f32) := (kernelRun0_B.sl.HS0_1_1 c i arg2 harg2 arg3 harg3 arg4 harg4 arg5 harg5 arg6 harg6 arg7 harg7 arg8 harg8 arg9 harg9 arg10 harg10 arg11 harg11 arg12 harg12 hc1 x0 x1 x3 x4 xs2).tail
/-- The stores into the accumulators before the last step of a later point. -/
abbrev LB11 : List (View.Piece (Elt F) S4x272x512 .f32) := (kernelRun0_B.sl.HS1_1_1 c i arg2 harg2 arg3 harg3 arg4 harg4 arg5 harg5 arg6 harg6 arg7 harg7 arg8 harg8 arg9 harg9 arg10 harg10 arg11 harg11 arg12 harg12 hc1 x0 x1 x3 x4 xs2).tail
theorem rowB_M0 : (kernelRun0_B.sl.v181 c i arg2 harg2 arg3 harg3 arg4 harg4 arg5 harg5 arg6 harg6 arg7 harg7 arg8 harg8 arg9 harg9 arg10 harg10 arg11 harg11 arg12 harg12 x0 x1 xs2) = RM0 arg10.view (arg10.view.writes (Elt F) arg10.view.junk (LB10 c i arg2 harg2 arg3 harg3 arg4 harg4 arg5 harg5 arg6 harg6 arg7 harg7 arg8 harg8 arg9 harg9 arg10 harg10 arg11 harg11 arg12 harg12 hc1 x0 x1 x3 x4 xs2)) :=
  rfl
theorem rowB_M1 : (kernelRun0_B.sl.v229 c i arg2 harg2 arg3 harg3 arg4 harg4 arg5 harg5 arg6 harg6 arg7 harg7 arg8 harg8 arg9 harg9 arg10 harg10 arg11 harg11 arg12 harg12 hc1 x0 x1 x3 x4 xs2) = RM1 arg10.view (arg10.view.writes (Elt F) arg10.view.junk (LB10 c i arg2 harg2 arg3 harg3 arg4 harg4 arg5 harg5 arg6 harg6 arg7 harg7 arg8 harg8 arg9 harg9 arg10 harg10 arg11 harg11 arg12 harg12 hc1 x0 x1 x3 x4 xs2)) :=
  readAt_apart arg10.view _ _ _ _ _ 0 (by decide)
theorem rowB_M2 : (kernelRun0_B.sl.v277 c i arg2 harg2 arg3 harg3 arg4 harg4 arg5 harg5 arg6 harg6 arg7 harg7 arg8 harg8 arg9 harg9 arg10 harg10 arg11 harg11 arg12 harg12 hc1 x0 x1 x3 x4 xs2) = RM2 arg10.view (arg10.view.writes (Elt F) arg10.view.junk (LB10 c i arg2 harg2 arg3 harg3 arg4 harg4 arg5 harg5 arg6 harg6 arg7 harg7 arg8 harg8 arg9 harg9 arg10 harg10 arg11 harg11 arg12 harg12 hc1 x0 x1 x3 x4 xs2)) :=
  (readAt_apart arg10.view _ _ _ _ _ 0 (by decide)).trans <| readAt_apart arg10.view _ _ _ _ _ 0 (by decide)
theorem rowB_M3 : (kernelRun0_B.sl.v325 c i arg2 harg2 arg3 harg3 arg4 harg4 arg5 harg5 arg6 harg6 arg7 harg7 arg8 harg8 arg9 harg9 arg10 harg10 arg11 harg11 arg12 harg12 hc1 x0 x1 x3 x4 xs2) = RM3 arg10.view (arg10.view.writes (Elt F) arg10.view.junk (LB10 c i arg2 harg2 arg3 harg3 arg4 harg4 arg5 harg5 arg6 harg6 arg7 harg7 arg8 harg8 arg9 harg9 arg10 harg10 arg11 harg11 arg12 harg12 hc1 x0 x1 x3 x4 xs2)) :=
  (readAt_apart arg10.view _ _ _ _ _ 0 (by decide)).trans <| (readAt_apart arg10.view _ _ _ _ _ 0 (by decide)).trans <| readAt_apart arg10.view _ _ _ _ _ 0 (by decide)
theorem rowB_A0 : (kernelRun0_B.sl.v204 c i arg2 harg2 arg3 harg3 arg4 harg4 arg5 harg5 arg6 harg6 arg7 harg7 arg8 harg8 arg9 harg9 arg10 harg10 arg11 harg11 arg12 harg12 x0 x1 xs2) = RA0 arg11.view (arg11.view.writes (Elt F) arg11.view.junk (LB11 c i arg2 harg2 arg3 harg3 arg4 harg4 arg5 harg5 arg6 harg6 arg7 harg7 arg8 harg8 arg9 harg9 arg10 harg10 arg11 harg11 arg12 harg12 hc1 x0 x1 x3 x4 xs2)) :=
  rfl
theorem rowB_A1 : (kernelRun0_B.sl.v252 c i arg2 harg2 arg3 harg3 arg4 harg4 arg5 harg5 arg6 harg6 arg7 harg7 arg8 harg8 arg9 harg9 arg10 harg10 arg11 harg11 arg12 harg12 hc1 x0 x1 x3 x4 xs2) = RA1 arg11.view (arg11.view.writes (Elt F) arg11.view.junk (LB11 c i arg2 harg2 arg3 harg3 arg4 harg4 arg5 harg5 arg6 harg6 arg7 harg7 arg8 harg8 arg9 harg9 arg10 harg10 arg11 harg11 arg12 harg12 hc1 x0 x1 x3 x4 xs2)) :=
  readAt_apart arg11.view _ _ _ _ _ 0 (by decide)
theorem rowB_A2 : (kernelRun0_B.sl.v300 c i arg2 harg2 arg3 harg3 arg4 harg4 arg5 harg5 arg6 harg6 arg7 harg7 arg8 harg8 arg9 harg9 arg10 harg10 arg11 harg11 arg12 harg12 hc1 x0 x1 x3 x4 xs2) = RA2 arg11.view (arg11.view.writes (Elt F) arg11.view.junk (LB11 c i arg2 harg2 arg3 harg3 arg4 harg4 arg5 harg5 arg6 harg6 arg7 harg7 arg8 harg8 arg9 harg9 arg10 harg10 arg11 harg11 arg12 harg12 hc1 x0 x1 x3 x4 xs2)) :=
  (readAt_apart arg11.view _ _ _ _ _ 0 (by decide)).trans <| readAt_apart arg11.view _ _ _ _ _ 0 (by decide)
theorem rowB_A3 : (kernelRun0_B.sl.v348 c i arg2 harg2 arg3 harg3 arg4 harg4 arg5 harg5 arg6 harg6 arg7 harg7 arg8 harg8 arg9 harg9 arg10 harg10 arg11 harg11 arg12 harg12 hc1 x0 x1 x3 x4 xs2) = RA3 arg11.view (arg11.view.writes (Elt F) arg11.view.junk (LB11 c i arg2 harg2 arg3 harg3 arg4 harg4 arg5 harg5 arg6 harg6 arg7 harg7 arg8 harg8 arg9 harg9 arg10 harg10 arg11 harg11 arg12 harg12 hc1 x0 x1 x3 x4 xs2)) :=
  (readAt_apart arg11.view _ _ _ _ _ 0 (by decide)).trans <| (readAt_apart arg11.view _ _ _ _ _ 0 (by decide)).trans <| readAt_apart arg11.view _ _ _ _ _ 0 (by decide)
theorem lastB0 (inbK0 : ∀ a, k0_off45 i a + S1024x128.size a ≤ S8192x512.size a) (inbK1 : ∀ a, k0_off48 i a + S1024x128.size a ≤ S8192x512.size a) (inbK2 : ∀ a, k0_off49 i a + S1024x128.size a ≤ S8192x512.size a) (inbK3 : ∀ a, k0_off52 i a + S1024x128.size a ≤ S8192x512.size a) (inbV0 : ∀ a, k0_off46 i a + S1x1x272x512.size a ≤ S2x16x272x512.size a) (inbV1 : ∀ a, k0_off47 i a + S1x1x272x512.size a ≤ S2x16x272x512.size a) (inbV2 : ∀ a, k0_off50 i a + S1x1x272x512.size a ≤ S2x16x272x512.size a) (inbV3 : ∀ a, k0_off51 i a + S1x1x272x512.size a ≤ S2x16x272x512.size a) : RA0 arg11.view (arg11.view.writes (Elt F) arg11.view.junk (kernelRun0_B.sl.HS1_4 c i arg2 harg2 arg3 harg3 arg4 harg4 arg5 harg5 arg6 harg6 arg7 harg7 arg8 harg8 arg9 harg9 arg10 harg10 arg11 harg11 arg12 harg12 hc1 x0 x1 x3 x4 xs2)) = gA1024 (k0_pay218 (View.readAt (Elt F) arg3.view (Rect.unit (s := S8192x512) (k0_off45 i) S1024x128.size inbK0).toLoadRect (harg3.unread x1)) (View.readAt (Elt F) arg2.view (Rect.unit (s := S512x512) ![0, 0] S128x512.size inb_S512x512_S128x512_0_0).toLoadRect (harg2.unread x0)) (View.readAt (Elt F) arg6.view (Rect.unit (s := S2x512x512) ![0, 0, 0] S1x512x512.size inb_S2x512x512_S1x512x512_0_0_0).toLoadRect (harg6.unread x4)) (View.readAt (Elt F) arg5.view (Rect.unit (s := S2x512x512) ![0, 0, 0] S1x512x512.size inb_S2x512x512_S1x512x512_0_0_0).toLoadRect (harg5.unread x3))) (RM0 arg10.view (arg10.view.writes (Elt F) arg10.view.junk (LB10 c i arg2 harg2 arg3 harg3 arg4 harg4 arg5 harg5 arg6 harg6 arg7 harg7 arg8 harg8 arg9 harg9 arg10 harg10 arg11 harg11 arg12 harg12 hc1 x0 x1 x3 x4 xs2))) (View.readAt (Elt F) arg12.view (Rect.unit (s := S2x16x272x512) (k0_off46 i) S1x1x272x512.size inbV0).toLoadRect (harg12.unread xs2)) (View.readAt (Elt F) arg12.view (Rect.unit (s := S2x16x272x512) (k0_off47 i) S1x1x272x512.size inbV1).toLoadRect (harg12.unread xs2)) (RA0 arg11.view (arg11.view.writes (Elt F) arg11.view.junk (LB11 c i arg2 harg2 arg3 harg3 arg4 harg4 arg5 harg5 arg6 harg6 arg7 harg7 arg8 harg8 arg9 harg9 arg10 harg10 arg11 harg11 arg12 harg12 hc1 x0 x1 x3 x4 xs2))) := by
  rw [← rowB_M0, ← rowB_A0]
  exact (readAt_apart arg11.view _ _ _ _ _ 0 (by decide)).trans <| (readAt_apart arg11.view _ _ _ _ _ 0 (by decide)).trans <| (readAt_apart arg11.view _ _ _ _ _ 0 (by decide)).trans <| readAt_same arg11.view _ _ _ _ _
theorem lastB1 (inbK0 : ∀ a, k0_off45 i a + S1024x128.size a ≤ S8192x512.size a) (inbK1 : ∀ a, k0_off48 i a + S1024x128.size a ≤ S8192x512.size a) (inbK2 : ∀ a, k0_off49 i a + S1024x128.size a ≤ S8192x512.size a) (inbK3 : ∀ a, k0_off52 i a + S1024x128.size a ≤ S8192x512.size a) (inbV0 : ∀ a, k0_off46 i a + S1x1x272x512.size a ≤ S2x16x272x512.size a) (inbV1 : ∀ a, k0_off47 i a + S1x1x272x512.size a ≤ S2x16x272x512.size a) (inbV2 : ∀ a, k0_off50 i a + S1x1x272x512.size a ≤ S2x16x272x512.size a) (inbV3 : ∀ a, k0_off51 i a + S1x1x272x512.size a ≤ S2x16x272x512.size a) : RA1 arg11.view (arg11.view.writes (Elt F) arg11.view.junk (kernelRun0_B.sl.HS1_4 c i arg2 harg2 arg3 harg3 arg4 harg4 arg5 harg5 arg6 harg6 arg7 harg7 arg8 harg8 arg9 harg9 arg10 harg10 arg11 harg11 arg12 harg12 hc1 x0 x1 x3 x4 xs2)) = gA1024 (k0_pay218 (View.readAt (Elt F) arg3.view (Rect.unit (s := S8192x512) (k0_off48 i) S1024x128.size inbK1).toLoadRect (harg3.unread x1)) (View.readAt (Elt F) arg2.view (Rect.unit (s := S512x512) ![128, 0] S128x512.size inb_S512x512_S128x512_128_0).toLoadRect (harg2.unread x0)) (View.readAt (Elt F) arg6.view (Rect.unit (s := S2x512x512) ![0, 0, 0] S1x512x512.size inb_S2x512x512_S1x512x512_0_0_0).toLoadRect (harg6.unread x4)) (View.readAt (Elt F) arg5.view (Rect.unit (s := S2x512x512) ![0, 0, 0] S1x512x512.size inb_S2x512x512_S1x512x512_0_0_0).toLoadRect (harg5.unread x3))) (RM1 arg10.view (arg10.view.writes (Elt F) arg10.view.junk (LB10 c i arg2 harg2 arg3 harg3 arg4 harg4 arg5 harg5 arg6 harg6 arg7 harg7 arg8 harg8 arg9 harg9 arg10 harg10 arg11 harg11 arg12 harg12 hc1 x0 x1 x3 x4 xs2))) (View.readAt (Elt F) arg12.view (Rect.unit (s := S2x16x272x512) (k0_off46 i) S1x1x272x512.size inbV0).toLoadRect (harg12.unread xs2)) (View.readAt (Elt F) arg12.view (Rect.unit (s := S2x16x272x512) (k0_off47 i) S1x1x272x512.size inbV1).toLoadRect (harg12.unread xs2)) (RA1 arg11.view (arg11.view.writes (Elt F) arg11.view.junk (LB11 c i arg2 harg2 arg3 harg3 arg4 harg4 arg5 harg5 arg6 harg6 arg7 harg7 arg8 harg8 arg9 harg9 arg10 harg10 arg11 harg11 arg12 harg12 hc1 x0 x1 x3 x4 xs2))) := by
  rw [← rowB_M1, ← rowB_A1]
  exact (readAt_apart arg11.view _ _ _ _ _ 0 (by decide)).trans <| (readAt_apart arg11.view _ _ _ _ _ 0 (by decide)).trans <| readAt_same arg11.view _ _ _ _ _
theorem lastB2 (inbK0 : ∀ a, k0_off45 i a + S1024x128.size a ≤ S8192x512.size a) (inbK1 : ∀ a, k0_off48 i a + S1024x128.size a ≤ S8192x512.size a) (inbK2 : ∀ a, k0_off49 i a + S1024x128.size a ≤ S8192x512.size a) (inbK3 : ∀ a, k0_off52 i a + S1024x128.size a ≤ S8192x512.size a) (inbV0 : ∀ a, k0_off46 i a + S1x1x272x512.size a ≤ S2x16x272x512.size a) (inbV1 : ∀ a, k0_off47 i a + S1x1x272x512.size a ≤ S2x16x272x512.size a) (inbV2 : ∀ a, k0_off50 i a + S1x1x272x512.size a ≤ S2x16x272x512.size a) (inbV3 : ∀ a, k0_off51 i a + S1x1x272x512.size a ≤ S2x16x272x512.size a) : RA2 arg11.view (arg11.view.writes (Elt F) arg11.view.junk (kernelRun0_B.sl.HS1_4 c i arg2 harg2 arg3 harg3 arg4 harg4 arg5 harg5 arg6 harg6 arg7 harg7 arg8 harg8 arg9 harg9 arg10 harg10 arg11 harg11 arg12 harg12 hc1 x0 x1 x3 x4 xs2)) = gA1024 (k0_pay218 (View.readAt (Elt F) arg3.view (Rect.unit (s := S8192x512) (k0_off49 i) S1024x128.size inbK2).toLoadRect (harg3.unread x1)) (View.readAt (Elt F) arg2.view (Rect.unit (s := S512x512) ![256, 0] S128x512.size inb_S512x512_S128x512_256_0).toLoadRect (harg2.unread x0)) (View.readAt (Elt F) arg6.view (Rect.unit (s := S2x512x512) ![1, 0, 0] S1x512x512.size inb_S2x512x512_S1x512x512_1_0_0).toLoadRect (harg6.unread x4)) (View.readAt (Elt F) arg5.view (Rect.unit (s := S2x512x512) ![1, 0, 0] S1x512x512.size inb_S2x512x512_S1x512x512_1_0_0).toLoadRect (harg5.unread x3))) (RM2 arg10.view (arg10.view.writes (Elt F) arg10.view.junk (LB10 c i arg2 harg2 arg3 harg3 arg4 harg4 arg5 harg5 arg6 harg6 arg7 harg7 arg8 harg8 arg9 harg9 arg10 harg10 arg11 harg11 arg12 harg12 hc1 x0 x1 x3 x4 xs2))) (View.readAt (Elt F) arg12.view (Rect.unit (s := S2x16x272x512) (k0_off50 i) S1x1x272x512.size inbV2).toLoadRect (harg12.unread xs2)) (View.readAt (Elt F) arg12.view (Rect.unit (s := S2x16x272x512) (k0_off51 i) S1x1x272x512.size inbV3).toLoadRect (harg12.unread xs2)) (RA2 arg11.view (arg11.view.writes (Elt F) arg11.view.junk (LB11 c i arg2 harg2 arg3 harg3 arg4 harg4 arg5 harg5 arg6 harg6 arg7 harg7 arg8 harg8 arg9 harg9 arg10 harg10 arg11 harg11 arg12 harg12 hc1 x0 x1 x3 x4 xs2))) := by
  rw [← rowB_M2, ← rowB_A2]
  exact (readAt_apart arg11.view _ _ _ _ _ 0 (by decide)).trans <| readAt_same arg11.view _ _ _ _ _
theorem lastB3 (inbK0 : ∀ a, k0_off45 i a + S1024x128.size a ≤ S8192x512.size a) (inbK1 : ∀ a, k0_off48 i a + S1024x128.size a ≤ S8192x512.size a) (inbK2 : ∀ a, k0_off49 i a + S1024x128.size a ≤ S8192x512.size a) (inbK3 : ∀ a, k0_off52 i a + S1024x128.size a ≤ S8192x512.size a) (inbV0 : ∀ a, k0_off46 i a + S1x1x272x512.size a ≤ S2x16x272x512.size a) (inbV1 : ∀ a, k0_off47 i a + S1x1x272x512.size a ≤ S2x16x272x512.size a) (inbV2 : ∀ a, k0_off50 i a + S1x1x272x512.size a ≤ S2x16x272x512.size a) (inbV3 : ∀ a, k0_off51 i a + S1x1x272x512.size a ≤ S2x16x272x512.size a) : RA3 arg11.view (arg11.view.writes (Elt F) arg11.view.junk (kernelRun0_B.sl.HS1_4 c i arg2 harg2 arg3 harg3 arg4 harg4 arg5 harg5 arg6 harg6 arg7 harg7 arg8 harg8 arg9 harg9 arg10 harg10 arg11 harg11 arg12 harg12 hc1 x0 x1 x3 x4 xs2)) = gA1024 (k0_pay218 (View.readAt (Elt F) arg3.view (Rect.unit (s := S8192x512) (k0_off52 i) S1024x128.size inbK3).toLoadRect (harg3.unread x1)) (View.readAt (Elt F) arg2.view (Rect.unit (s := S512x512) ![384, 0] S128x512.size inb_S512x512_S128x512_384_0).toLoadRect (harg2.unread x0)) (View.readAt (Elt F) arg6.view (Rect.unit (s := S2x512x512) ![1, 0, 0] S1x512x512.size inb_S2x512x512_S1x512x512_1_0_0).toLoadRect (harg6.unread x4)) (View.readAt (Elt F) arg5.view (Rect.unit (s := S2x512x512) ![1, 0, 0] S1x512x512.size inb_S2x512x512_S1x512x512_1_0_0).toLoadRect (harg5.unread x3))) (RM3 arg10.view (arg10.view.writes (Elt F) arg10.view.junk (LB10 c i arg2 harg2 arg3 harg3 arg4 harg4 arg5 harg5 arg6 harg6 arg7 harg7 arg8 harg8 arg9 harg9 arg10 harg10 arg11 harg11 arg12 harg12 hc1 x0 x1 x3 x4 xs2))) (View.readAt (Elt F) arg12.view (Rect.unit (s := S2x16x272x512) (k0_off50 i) S1x1x272x512.size inbV2).toLoadRect (harg12.unread xs2)) (View.readAt (Elt F) arg12.view (Rect.unit (s := S2x16x272x512) (k0_off51 i) S1x1x272x512.size inbV3).toLoadRect (harg12.unread xs2)) (RA3 arg11.view (arg11.view.writes (Elt F) arg11.view.junk (LB11 c i arg2 harg2 arg3 harg3 arg4 harg4 arg5 harg5 arg6 harg6 arg7 harg7 arg8 harg8 arg9 harg9 arg10 harg10 arg11 harg11 arg12 harg12 hc1 x0 x1 x3 x4 xs2))) := by
  rw [← rowB_M3, ← rowB_A3]
  exact readAt_same arg11.view _ _ _ _ _
end CaseB
end Cert.KernelIdeal.Attn
-- ==== Proof.Attn.Keys.lean ====
module
public import proofs.«01_k».proof.Proof.Attn.LastA
public import proofs.«01_k».proof.Proof.Attn.LastB
@[expose] public section
set_option maxRecDepth 16384
noncomputable section
namespace Cert.KernelIdeal.Attn
open Cert.KernelIdeal Cert.KernelIdeal.Gen Cert.Attn
open Idealize.ShloMosaic Idealize.ShloMosaic.TcCoe Idealize.ShloMosaic.Tactic

/-! ## All the keys of one grid point: the far ones by the loops, the near ones by the last step -/

/-- The keys of the block before the query block and of the query block itself, their biases added, have the weights `w`. -/
structure Near (b : ℕ) (xq : Vec Ideal S512x512 .bf16) (xk : Vec Ideal S8192x512 .bf16) (x3 x4 : Vec Ideal S2x512x512 .f32)
    (w : Fin 4 → Fin 512 → ℕ → ℝ) : Prop where
  prev : 0 < b → ∀ (hh : Fin 2) (c : Fin 4) (κ : Fin 8192) (r x : Fin 512), c.val / 2 = hh.val → κ.val = 512 * (b - 1) + r.val →
    Wt (((∑ e : Fin 128, xk (ix2 κ (col c e)) * xq (ix2 (col c e) x)) + x4 (ix3 hh r x)) * L2E) (w c x κ.val)
  self : ∀ (hh : Fin 2) (c : Fin 4) (κ : Fin 8192) (r x : Fin 512), c.val / 2 = hh.val → κ.val = 512 * b + r.val →
    Wt (((∑ e : Fin 128, xk (ix2 κ (col c e)) * xq (ix2 (col c e) x)) + x3 (ix3 hh r x)) * L2E) (w c x κ.val)

theorem ldD {F : FTy → Type} [FloatOps F] [Named F] (v : View sig .tc .vmem S2x512x512 .f32) (X : v.ty.Contents (Elt F)) {o : ℕ}
    (inb : ∀ a, (![o, 0, 0] : Fin 3 → ℕ) a + S1x512x512.size a ≤ S2x512x512.size a) (r x : Fin 512) (ho : o < 2) :
    View.readAt (Elt F) v (Rect.unit (s := S2x512x512) ![o, 0, 0] S1x512x512.size inb).toLoadRect X (ix3 0 r x)
      = v.read (Elt F) X (ix3 ⟨o, ho⟩ r x) := by
  refine congrArg (v.read (Elt F) X) (funext fun a => ?_)
  match a with
  | 0 => exact Fin.ext rfl
  | 1 => exact Fin.ext ((Nat.zero_add _).trans (Nat.one_mul _))
  | 2 => exact Fin.ext ((Nat.zero_add _).trans (Nat.one_mul _))

theorem pay272_apply (y : S4x1x512.Idx) : (k0_pay272 (F := Ideal)) y = Ideal.ofBits .f32 0xF149F2CA#32 := rfl
theorem pay273_apply (y : S4x272x512.Idx) : (k0_pay273 (F := Ideal)) y = Ideal.ofBits .f32 0x00000000#32 := rfl
theorem low_real : ∃ μ : ℝ, Ideal.ofBits .f32 0xF149F2CA#32 = (μ : EReal) :=
  ⟨_, by simp [Ideal.ofBits, Ideal.ieee, -EReal.coe_mul]; rfl⟩

theorem St.cast {w : Fin 4 → Fin 512 → ℕ → ℝ} {v : Fin 2 → Fin 272 → ℕ → ℝ} {J J' : ℕ} {v10 : View sig .tc .vmem S4x1x512 .f32}
    {v11 : View sig .tc .vmem S4x272x512 .f32} {f10 : v10.ty.Contents (Elt Ideal)} {f11 : v11.ty.Contents (Elt Ideal)}
    (h : St w v J v10 v11 f10 f11) (e : J = J') : St w v J' v10 v11 f10 f11 := e ▸ h

theorem whole10 (v : View sig .tc .vmem S4x1x512 .f32) (f : v.ty.Contents (Elt Ideal))
    (inb : ∀ a, (![0, 0, 0] : Fin 3 → ℕ) a + S4x1x512.size a ≤ S4x1x512.size a) (p : Vec Ideal S4x1x512 .f32) :
    v.read (Elt Ideal) (v.writes (Elt Ideal) f [⟨Rect.unit (s := S4x1x512) ![0, 0, 0] S4x1x512.size inb, p⟩]) = p :=
  View.read_writes_full v f inb p []
theorem whole11 (v : View sig .tc .vmem S4x272x512 .f32) (f : v.ty.Contents (Elt Ideal))
    (inb : ∀ a, (![0, 0, 0] : Fin 3 → ℕ) a + S4x272x512.size a ≤ S4x272x512.size a) (p : Vec Ideal S4x272x512 .f32) :
    v.read (Elt Ideal) (v.writes (Elt Ideal) f [⟨Rect.unit (s := S4x272x512) ![0, 0, 0] S4x272x512.size inb, p⟩]) = p :=
  View.read_writes_full v f inb p []

/-- Before the first key: the maxima at their lower bound, the accumulators zero. -/
theorem St.start (w : Fin 4 → Fin 512 → ℕ → ℝ) (v : Fin 2 → Fin 272 → ℕ → ℝ) (v10 : View sig .tc .vmem S4x1x512 .f32)
    (v11 : View sig .tc .vmem S4x272x512 .f32) (f10 : v10.ty.Contents (Elt Ideal)) (f11 : v11.ty.Contents (Elt Ideal)) (inb : ∀ a, (![0, 0, 0] : Fin 3 → ℕ) a + S4x1x512.size a ≤ S4x1x512.size a) (inb' : ∀ a, (![0, 0, 0] : Fin 3 → ℕ) a + S4x272x512.size a ≤ S4x272x512.size a) :
    St w v 0 v10 v11 (v10.writes (Elt Ideal) f10 [⟨Rect.unit (s := S4x1x512) ![0, 0, 0] S4x1x512.size inb, k0_pay272 (F := Ideal)⟩])
      (v11.writes (Elt Ideal) f11 [⟨Rect.unit (s := S4x272x512) ![0, 0, 0] S4x272x512.size inb', k0_pay273 (F := Ideal)⟩]) := by
  obtain ⟨μ, hμ⟩ := low_real
  have hm := whole10 v10 f10 inb (k0_pay272 (F := Ideal))
  have ha := whole11 v11 f11 inb' (k0_pay273 (F := Ideal))
  have hz (y) : v11.read (Elt Ideal) (v11.writes (Elt Ideal) f11 [⟨Rect.unit (s := S4x272x512) ![0, 0, 0] S4x272x512.size inb', k0_pay273 (F := Ideal)⟩]) y
      = ((0 : ℝ) : EReal) := by
    rw [ha]; exact (pay273_apply y).trans (by simp [Ideal.ofBits, Ideal.ieee])
  refine ⟨fun x => ⟨μ, ?_, fun d => ?_⟩, fun x => ⟨μ, ?_, fun d => ?_⟩, fun x => ⟨μ, ?_, fun d => ?_⟩, fun x => ⟨μ, ?_, fun d => ?_⟩⟩
  · exact (congrFun hm _).trans hμ
  · rw [run_zero]; exact hz _
  · exact (congrFun hm _).trans hμ
  · rw [run_zero]; exact hz _
  · exact (congrFun hm _).trans hμ
  · rw [run_zero]; exact hz _
  · exact (congrFun hm _).trans hμ
  · rw [run_zero]; exact hz _

/-- The accumulators of the four head maps after `J` keys. -/
def Done (w : Fin 4 → Fin 512 → ℕ → ℝ) (v : Fin 2 → Fin 272 → ℕ → ℝ) (J : ℕ) (v11 : View sig .tc .vmem S4x272x512 .f32)
    (f11 : v11.ty.Contents (Elt Ideal)) : Prop :=
  (∃ M, InvC (w 0) (v 0) J M (RA0 v11 f11)) ∧ (∃ M, InvC (w 1) (v 0) J M (RA1 v11 f11))
    ∧ (∃ M, InvC (w 2) (v 1) J M (RA2 v11 f11)) ∧ (∃ M, InvC (w 3) (v 1) J M (RA3 v11 f11))

theorem inbK {c b : ℕ} {off : Fin 2 → ℕ} (h : off = ![512 * (b - 1), c]) (hb : b < 16) (hc : c + 128 ≤ 512 := by decide) :
    ∀ a, off a + S1024x128.size a ≤ S8192x512.size a := by
  subst h
  intro a
  match a with
  | 0 => show 512 * (b - 1) + 1024 ≤ 8192; omega
  | 1 => exact hc
theorem inbV {o u : ℕ} {off : Fin 4 → ℕ} (h : off = ![o, u, 0, 0]) (hu : u < 16) (ho : o < 2 := by decide) :
    ∀ a, off a + S1x1x272x512.size a ≤ S2x16x272x512.size a := by
  subst h
  intro a
  match a with
  | 0 => exact ho
  | 1 => exact hu
  | 2 => exact (by decide : 0 + 272 ≤ 272)
  | 3 => exact (by decide : 0 + 512 ≤ 512)
theorem rows1024 {w : Fin 512 → ℕ → ℝ} (J : ℕ) (S : FVec Ideal S1024x512 .f32)
    (h : ∀ (r x : Fin 512), Wt (S (ix2 ⟨r.val, by omega⟩ x)) (w x (J + r.val)) ∧ Wt (S (ix2 ⟨512 + r.val, by omega⟩ x)) (w x (J + (512 + r.val)))) :
    ∀ (r : Fin 1024) (x : Fin 512), Wt (S (ix2 r x)) (w x (J + r.val)) := by
  intro r x
  by_cases hr : r.val < 512
  · exact (h ⟨r.val, hr⟩ x).1
  · have := (h ⟨r.val - 512, by omega⟩ x).2
    have e : 512 + (r.val - 512) = r.val := by omega
    simp only [e] at this
    exact this

section Near
variable {b : ℕ} {xq : Vec Ideal S512x512 .bf16} {xk : Vec Ideal S8192x512 .bf16} {x3 x4 : Vec Ideal S2x512x512 .f32}
  {w : Fin 4 → Fin 512 → ℕ → ℝ} (N : Near b xq xk x3 x4 w)
include N

/-- The scores of the last step of a later point. -/
theorem Near.scoreB (hi : 0 < b) (hb : b < 16) (hh : Fin 2) (c : Fin 4) (hc : c.val / 2 = hh.val) (K : Vec Ideal S1024x128 .bf16)
    (Q : Vec Ideal S128x512 .bf16) (B1 B0 : Vec Ideal S1x512x512 .f32)
    (hK : ∀ (r : Fin 1024) (e : Fin 128), K (ix2 r e) = xk (ix2 ⟨512 * (b - 1) + r.val, by omega⟩ (col c e)))
    (hQ : ∀ (e : Fin 128) (x : Fin 512), Q (ix2 e x) = xq (ix2 (col c e) x))
    (h1 : ∀ r x : Fin 512, B1 (ix3 0 r x) = x4 (ix3 hh r x)) (h0 : ∀ r x : Fin 512, B0 (ix3 0 r x) = x3 (ix3 hh r x)) :
    ∀ (r : Fin 1024) (x : Fin 512), Wt (k0_pay218 K Q B1 B0 (ix2 r x)) (w c x (512 * (b - 1) + r.val)) := by
  refine rows1024 _ _ fun r x => ⟨?_, ?_⟩
  · rw [pay218_apply_lo]
    simp only [hK, hQ, h1]
    exact N.prev hi hh c ⟨512 * (b - 1) + r.val, by omega⟩ r x hc rfl
  · rw [pay218_apply_hi]
    simp only [hK, hQ, h0]
    have e : 512 * (b - 1) + (512 + r.val) = 512 * b + r.val := by omega
    simp only [e]
    exact N.self hh c ⟨512 * b + r.val, by omega⟩ r x hc rfl

/-- The scores of the last step of a head's first point. -/
theorem Near.scoreA (hb : b = 0) (hh : Fin 2) (c : Fin 4) (hc : c.val / 2 = hh.val) (K : Vec Ideal S512x128 .bf16)
    (Q : Vec Ideal S128x512 .bf16) (B0 : Vec Ideal S1x512x512 .f32)
    (hK : ∀ (r : Fin 512) (e : Fin 128), K (ix2 r e) = xk (ix2 ⟨0 + r.val, by omega⟩ (col c e)))
    (hQ : ∀ (e : Fin 128) (x : Fin 512), Q (ix2 e x) = xq (ix2 (col c e) x))
    (h0 : ∀ r x : Fin 512, B0 (ix3 0 r x) = x3 (ix3 hh r x)) :
    ∀ (r : Fin 512) (x : Fin 512), Wt (k0_pay246 K Q B0 (ix2 r x)) (w c x (512 * (b - 1) + r.val)) := by
  intro r x
  subst hb
  rw [pay246_apply]
  simp only [hK, hQ, h0]
  exact N.self hh c ⟨0 + r.val, by omega⟩ r x hc (by simp)
end Near

section CaseB
variable (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x8192 .bf16) (harg4 : arg4.IsWhole) (arg5 : Memref sig .tc .vmem S2x512x512 .f32) (harg5 : arg5.IsWhole) (arg6 : Memref sig .tc .vmem S2x512x512 .f32) (harg6 : arg6.IsWhole) (arg7 : Memref sig .tc .vmem S1x1 .f32) (harg7 : arg7.IsWhole) (arg8 : Memref sig .tc .vmem S1x256 .f32) (harg8 : arg8.IsWhole) (arg9 : Memref sig .tc .vmem S512x512 .bf16) (harg9 : arg9.IsWhole) (arg10 : Memref sig .tc .vmem S4x1x512 .f32) (harg10 : arg10.IsWhole) (arg11 : Memref sig .tc .vmem S4x272x512 .f32) (harg11 : arg11.IsWhole) (arg12 : Memref sig .tc .vmem S2x16x272x512 .bf16) (harg12 : arg12.IsWhole)  (hc1 : cond0_1 i) (x0 : Vec Ideal S512x512 .bf16) (x1 : Vec Ideal S8192x512 .bf16) (x3 : Vec Ideal S2x512x512 .f32) (x4 : Vec Ideal S2x512x512 .f32) (xs2 : Vec Ideal S2x16x272x512 .bf16)
variable {w : Fin 4 → Fin 512 → ℕ → ℝ} {v : Fin 2 → Fin 272 → ℕ → ℝ}

theorem loopsB (D : Data (i 1).val x0 x1 xs2 w v) :
    St w v (512 * ((i 1).val - 1)) arg10.view arg11.view (arg10.view.writes (Elt Ideal) arg10.view.junk (LB10 c i arg2 harg2 arg3 harg3 arg4 harg4 arg5 harg5 arg6 harg6 arg7 harg7 arg8 harg8 arg9 harg9 arg10 harg10 arg11 harg11 arg12 harg12 hc1 x0 x1 x3 x4 xs2))
      (arg11.view.writes (Elt Ideal) arg11.view.junk (LB11 c i arg2 harg2 arg3 harg3 arg4 harg4 arg5 harg5 arg6 harg6 arg7 harg7 arg8 harg8 arg9 harg9 arg10 harg10 arg11 harg11 arg12 harg12 hc1 x0 x1 x3 x4 xs2)) := by
  have e1 : n1 (i 1).val = ((i 1).val - 1) / 4 := rfl
  have e3 : n3 (i 1).val = ((i 1).val - 1) % 4 / 2 := rfl
  have e5 : n5 (i 1).val = ((i 1).val - 1) % 4 % 2 := rfl
  rw [← harg2.read_unread x0, ← harg3.read_unread x1, ← harg12.read_unread xs2] at D
  have h := St.start w v arg10.view arg11.view arg10.view.junk arg11.view.junk inb_S4x1x512_S4x1x512_0_0_0 inb_S4x272x512_S4x272x512_0_0_0
  replace h := t1_list Variants.none c none i arg2 harg2 arg3 harg3 arg4 harg4 arg5 harg5 arg6 harg6 arg7 harg7 arg8 harg8 arg9 harg9 arg10 harg10 arg11 harg11 arg12 harg12 (harg2.unread x0) (harg3.unread x1) (harg12.unread xs2) arg10.view.junk arg11.view.junk D (kernelRun0_B.sl.v12 i) (kernelRun0_B.sl.v30 i) 0#32 (kernelRun0_B.sl.v31 i) _ _ h
  replace h := t2_list Variants.none c none i arg2 harg2 arg3 harg3 arg4 harg4 arg5 harg5 arg6 harg6 arg7 harg7 arg8 harg8 arg9 harg9 arg10 harg10 arg11 harg11 arg12 harg12 (harg2.unread x0) (harg3.unread x1) (harg12.unread xs2) arg10.view.junk arg11.view.junk  (kernelRun0_B.sl.v12 i) (kernelRun0_B.sl.v30 i) 0#32 (kernelRun0_B.sl.v31 i) (kernelRun0_B.sl.v35 i) _ _ _ h
  replace h := h.cast (J' := 512 * (4 * n1 (i 1).val + 2 * 0)) (by omega)
  replace h := t3_list Variants.none c none i arg2 harg2 arg3 harg3 arg4 harg4 arg5 harg5 arg6 harg6 arg7 harg7 arg8 harg8 arg9 harg9 arg10 harg10 arg11 harg11 arg12 harg12 (harg2.unread x0) (harg3.unread x1) (harg12.unread xs2) arg10.view.junk arg11.view.junk D (kernelRun0_B.sl.v12 i) (kernelRun0_B.sl.v30 i) 0#32 (kernelRun0_B.sl.v31 i) (kernelRun0_B.sl.v37 i) _ _ h
  replace h := t4_list Variants.none c none i arg2 harg2 arg3 harg3 arg4 harg4 arg5 harg5 arg6 harg6 arg7 harg7 arg8 harg8 arg9 harg9 arg10 harg10 arg11 harg11 arg12 harg12 (harg2.unread x0) (harg3.unread x1) (harg12.unread xs2) arg10.view.junk arg11.view.junk  (kernelRun0_B.sl.v12 i) (kernelRun0_B.sl.v30 i) 0#32 (kernelRun0_B.sl.v31 i) (kernelRun0_B.sl.v37 i) (kernelRun0_B.sl.v60 i) _ _ _ h
  replace h := h.cast (J' := 512 * (4 * n1 (i 1).val + 2 * n3 (i 1).val + 0)) (by omega)
  replace h := t5_list Variants.none c none i arg2 harg2 arg3 harg3 arg4 harg4 arg5 harg5 arg6 harg6 arg7 harg7 arg8 harg8 arg9 harg9 arg10 harg10 arg11 harg11 arg12 harg12 (harg2.unread x0) (harg3.unread x1) (harg12.unread xs2) arg10.view.junk arg11.view.junk D (BitVec.ofNat 32 (i 1).val) (kernelRun0_B.sl.v62 i) (kernelRun0_B.sl.v63 i) 1#32 (kernelRun0_B.sl.v64 i) (kernelRun0_B.sl.v66 i) (kernelRun0_B.sl.v67 i) _ _ h
  replace h := t6_list Variants.none c none i arg2 harg2 arg3 harg3 arg4 harg4 arg5 harg5 arg6 harg6 arg7 harg7 arg8 harg8 arg9 harg9 arg10 harg10 arg11 harg11 arg12 harg12 (harg2.unread x0) (harg3.unread x1) (harg12.unread xs2) arg10.view.junk arg11.view.junk  (BitVec.ofNat 32 (i 1).val) (kernelRun0_B.sl.v62 i) (kernelRun0_B.sl.v63 i) 1#32 (kernelRun0_B.sl.v64 i) (kernelRun0_B.sl.v66 i) (kernelRun0_B.sl.v67 i) (kernelRun0_B.sl.v85 i) _ _ _ h
  have e : 512 * (4 * n1 (i 1).val + 2 * n3 (i 1).val + n5 (i 1).val) = 512 * ((i 1).val - 1) := by omega
  rw [← e]
  exact h

theorem headB0 (hi : 0 < (i 1).val) (D : Data (i 1).val x0 x1 xs2 w v) (N : Near (i 1).val x0 x1 x3 x4 w) :
    ∃ M, InvC (w 0) (v 0) (512 * ((i 1).val - 1) + 1024) M (RA0 arg11.view (arg11.view.writes (Elt Ideal) arg11.view.junk (kernelRun0_B.sl.HS1_4 c i arg2 harg2 arg3 harg3 arg4 harg4 arg5 harg5 arg6 harg6 arg7 harg7 arg8 harg8 arg9 harg9 arg10 harg10 arg11 harg11 arg12 harg12 hc1 x0 x1 x3 x4 xs2))) := by
  have hb : (i 1).val < 16 := (i 1).isLt
  have s0 := (loopsB c i arg2 harg2 arg3 harg3 arg4 harg4 arg5 harg5 arg6 harg6 arg7 harg7 arg8 harg8 arg9 harg9 arg10 harg10 arg11 harg11 arg12 harg12 hc1 x0 x1 x3 x4 xs2 D).1
  obtain ⟨o0, o1, o2, o3, p0, p1, p2, p3⟩ := offB i hi
  rw [lastB0 c i arg2 harg2 arg3 harg3 arg4 harg4 arg5 harg5 arg6 harg6 arg7 harg7 arg8 harg8 arg9 harg9 arg10 harg10 arg11 harg11 arg12 harg12 hc1 x0 x1 x3 x4 xs2 (inbK o0 hb) (inbK o1 hb) (inbK o2 hb) (inbK o3 hb) (inbV p0 (by omega)) (inbV p1 hb) (inbV p2 (by omega)) (inbV p3 hb)]
  rw [← harg2.read_unread x0, ← harg3.read_unread x1, ← harg12.read_unread xs2] at D
  rw [← harg2.read_unread x0, ← harg3.read_unread x1, ← harg5.read_unread x3, ← harg6.read_unread x4] at N
  refine ⟨_, step1024 s0 _ _ _
    (N.scoreB hi hb 0 0 rfl _ _ _ _ (fun r e => ldK arg3.view _ _ o0 r e _ _) (fun e x => ldQ arg2.view _ _ rfl e x _)
      (fun r x => ldD arg6.view _ _ r x (by decide)) (fun r x => ldD arg5.view _ _ r x (by decide)))
    (D.val 0 ⟨(i 1).val - 1, by omega⟩ _ rfl _ fun d k => ldV arg12.view _ _ p0 d k (by decide) (by omega))
    (D.val 0 ⟨(i 1).val, hb⟩ _ (by show _ = 512 * (i 1).val; omega) _ fun d k => ldV arg12.view _ _ p1 d k (by decide) hb)⟩

theorem headB1 (hi : 0 < (i 1).val) (D : Data (i 1).val x0 x1 xs2 w v) (N : Near (i 1).val x0 x1 x3 x4 w) :
    ∃ M, InvC (w 1) (v 0) (512 * ((i 1).val - 1) + 1024) M (RA1 arg11.view (arg11.view.writes (Elt Ideal) arg11.view.junk (kernelRun0_B.sl.HS1_4 c i arg2 harg2 arg3 harg3 arg4 harg4 arg5 harg5 arg6 harg6 arg7 harg7 arg8 harg8 arg9 harg9 arg10 harg10 arg11 harg11 arg12 harg12 hc1 x0 x1 x3 x4 xs2))) := by
  have hb : (i 1).val < 16 := (i 1).isLt
  have s1 := (loopsB c i arg2 harg2 arg3 harg3 arg4 harg4 arg5 harg5 arg6 harg6 arg7 harg7 arg8 harg8 arg9 harg9 arg10 harg10 arg11 harg11 arg12 harg12 hc1 x0 x1 x3 x4 xs2 D).2.1
  obtain ⟨o0, o1, o2, o3, p0, p1, p2, p3⟩ := offB i hi
  rw [lastB1 c i arg2 harg2 arg3 harg3 arg4 harg4 arg5 harg5 arg6 harg6 arg7 harg7 arg8 harg8 arg9 harg9 arg10 harg10 arg11 harg11 arg12 harg12 hc1 x0 x1 x3 x4 xs2 (inbK o0 hb) (inbK o1 hb) (inbK o2 hb) (inbK o3 hb) (inbV p0 (by omega)) (inbV p1 hb) (inbV p2 (by omega)) (inbV p3 hb)]
  rw [← harg2.read_unread x0, ← harg3.read_unread x1, ← harg12.read_unread xs2] at D
  rw [← harg2.read_unread x0, ← harg3.read_unread x1, ← harg5.read_unread x3, ← harg6.read_unread x4] at N
  refine ⟨_, step1024 s1 _ _ _
    (N.scoreB hi hb 0 1 rfl _ _ _ _ (fun r e => ldK arg3.view _ _ o1 r e _ _) (fun e x => ldQ arg2.view _ _ rfl e x _)
      (fun r x => ldD arg6.view _ _ r x (by decide)) (fun r x => ldD arg5.view _ _ r x (by decide)))
    (D.val 0 ⟨(i 1).val - 1, by omega⟩ _ rfl _ fun d k => ldV arg12.view _ _ p0 d k (by decide) (by omega))
    (D.val 0 ⟨(i 1).val, hb⟩ _ (by show _ = 512 * (i 1).val; omega) _ fun d k => ldV arg12.view _ _ p1 d k (by decide) hb)⟩

theorem headB2 (hi : 0 < (i 1).val) (D : Data (i 1).val x0 x1 xs2 w v) (N : Near (i 1).val x0 x1 x3 x4 w) :
    ∃ M, InvC (w 2) (v 1) (512 * ((i 1).val - 1) + 1024) M (RA2 arg11.view (arg11.view.writes (Elt Ideal) arg11.view.junk (kernelRun0_B.sl.HS1_4 c i arg2 harg2 arg3 harg3 arg4 harg4 arg5 harg5 arg6 harg6 arg7 harg7 arg8 harg8 arg9 harg9 arg10 harg10 arg11 harg11 arg12 harg12 hc1 x0 x1 x3 x4 xs2))) := by
  have hb : (i 1).val < 16 := (i 1).isLt
  have s2 := (loopsB c i arg2 harg2 arg3 harg3 arg4 harg4 arg5 harg5 arg6 harg6 arg7 harg7 arg8 harg8 arg9 harg9 arg10 harg10 arg11 harg11 arg12 harg12 hc1 x0 x1 x3 x4 xs2 D).2.2.1
  obtain ⟨o0, o1, o2, o3, p0, p1, p2, p3⟩ := offB i hi
  rw [lastB2 c i arg2 harg2 arg3 harg3 arg4 harg4 arg5 harg5 arg6 harg6 arg7 harg7 arg8 harg8 arg9 harg9 arg10 harg10 arg11 harg11 arg12 harg12 hc1 x0 x1 x3 x4 xs2 (inbK o0 hb) (inbK o1 hb) (inbK o2 hb) (inbK o3 hb) (inbV p0 (by omega)) (inbV p1 hb) (inbV p2 (by omega)) (inbV p3 hb)]
  rw [← harg2.read_unread x0, ← harg3.read_unread x1, ← harg12.read_unread xs2] at D
  rw [← harg2.read_unread x0, ← harg3.read_unread x1, ← harg5.read_unread x3, ← harg6.read_unread x4] at N
  refine ⟨_, step1024 s2 _ _ _
    (N.scoreB hi hb 1 2 rfl _ _ _ _ (fun r e => ldK arg3.view _ _ o2 r e _ _) (fun e x => ldQ arg2.view _ _ rfl e x _)
      (fun r x => ldD arg6.view _ _ r x (by decide)) (fun r x => ldD arg5.view _ _ r x (by decide)))
    (D.val 1 ⟨(i 1).val - 1, by omega⟩ _ rfl _ fun d k => ldV arg12.view _ _ p2 d k (by decide) (by omega))
    (D.val 1 ⟨(i 1).val, hb⟩ _ (by show _ = 512 * (i 1).val; omega) _ fun d k => ldV arg12.view _ _ p3 d k (by decide) hb)⟩

theorem headB3 (hi : 0 < (i 1).val) (D : Data (i 1).val x0 x1 xs2 w v) (N : Near (i 1).val x0 x1 x3 x4 w) :
    ∃ M, InvC (w 3) (v 1) (512 * ((i 1).val - 1) + 1024) M (RA3 arg11.view (arg11.view.writes (Elt Ideal) arg11.view.junk (kernelRun0_B.sl.HS1_4 c i arg2 harg2 arg3 harg3 arg4 harg4 arg5 harg5 arg6 harg6 arg7 harg7 arg8 harg8 arg9 harg9 arg10 harg10 arg11 harg11 arg12 harg12 hc1 x0 x1 x3 x4 xs2))) := by
  have hb : (i 1).val < 16 := (i 1).isLt
  have s3 := (loopsB c i arg2 harg2 arg3 harg3 arg4 harg4 arg5 harg5 arg6 harg6 arg7 harg7 arg8 harg8 arg9 harg9 arg10 harg10 arg11 harg11 arg12 harg12 hc1 x0 x1 x3 x4 xs2 D).2.2.2
  obtain ⟨o0, o1, o2, o3, p0, p1, p2, p3⟩ := offB i hi
  rw [lastB3 c i arg2 harg2 arg3 harg3 arg4 harg4 arg5 harg5 arg6 harg6 arg7 harg7 arg8 harg8 arg9 harg9 arg10 harg10 arg11 harg11 arg12 harg12 hc1 x0 x1 x3 x4 xs2 (inbK o0 hb) (inbK o1 hb) (inbK o2 hb) (inbK o3 hb) (inbV p0 (by omega)) (inbV p1 hb) (inbV p2 (by omega)) (inbV p3 hb)]
  rw [← harg2.read_unread x0, ← harg3.read_unread x1, ← harg12.read_unread xs2] at D
  rw [← harg2.read_unread x0, ← harg3.read_unread x1, ← harg5.read_unread x3, ← harg6.read_unread x4] at N
  refine ⟨_, step1024 s3 _ _ _
    (N.scoreB hi hb 1 3 rfl _ _ _ _ (fun r e => ldK arg3.view _ _ o3 r e _ _) (fun e x => ldQ arg2.view _ _ rfl e x _)
      (fun r x => ldD arg6.view _ _ r x (by decide)) (fun r x => ldD arg5.view _ _ r x (by decide)))
    (D.val 1 ⟨(i 1).val - 1, by omega⟩ _ rfl _ fun d k => ldV arg12.view _ _ p2 d k (by decide) (by omega))
    (D.val 1 ⟨(i 1).val, hb⟩ _ (by show _ = 512 * (i 1).val; omega) _ fun d k => ldV arg12.view _ _ p3 d k (by decide) hb)⟩

/-- A later point: after its last step the accumulators hold the running sums over all its keys. -/
theorem doneB (hi : 0 < (i 1).val) (D : Data (i 1).val x0 x1 xs2 w v) (N : Near (i 1).val x0 x1 x3 x4 w) :
    Done w v (512 * ((i 1).val + 1)) arg11.view (arg11.view.writes (Elt Ideal) arg11.view.junk (kernelRun0_B.sl.HS1_4 c i arg2 harg2 arg3 harg3 arg4 harg4 arg5 harg5 arg6 harg6 arg7 harg7 arg8 harg8 arg9 harg9 arg10 harg10 arg11 harg11 arg12 harg12 hc1 x0 x1 x3 x4 xs2)) := by
  have eJ : 512 * ((i 1).val + 1) = 512 * ((i 1).val - 1) + 1024 := by omega
  rw [eJ]
  exact ⟨headB0 c i arg2 harg2 arg3 harg3 arg4 harg4 arg5 harg5 arg6 harg6 arg7 harg7 arg8 harg8 arg9 harg9 arg10 harg10 arg11 harg11 arg12 harg12 hc1 x0 x1 x3 x4 xs2 hi D N, headB1 c i arg2 harg2 arg3 harg3 arg4 harg4 arg5 harg5 arg6 harg6 arg7 harg7 arg8 harg8 arg9 harg9 arg10 harg10 arg11 harg11 arg12 harg12 hc1 x0 x1 x3 x4 xs2 hi D N, headB2 c i arg2 harg2 arg3 harg3 arg4 harg4 arg5 harg5 arg6 harg6 arg7 harg7 arg8 harg8 arg9 harg9 arg10 harg10 arg11 harg11 arg12 harg12 hc1 x0 x1 x3 x4 xs2 hi D N, headB3 c i arg2 harg2 arg3 harg3 arg4 harg4 arg5 harg5 arg6 harg6 arg7 harg7 arg8 harg8 arg9 harg9 arg10 harg10 arg11 harg11 arg12 harg12 hc1 x0 x1 x3 x4 xs2 hi D N⟩
end CaseB

section CaseA
variable (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x8192 .bf16) (harg4 : arg4.IsWhole) (arg5 : Memref sig .tc .vmem S2x512x512 .f32) (harg5 : arg5.IsWhole) (arg6 : Memref sig .tc .vmem S2x512x512 .f32) (harg6 : arg6.IsWhole) (arg7 : Memref sig .tc .vmem S1x1 .f32) (harg7 : arg7.IsWhole) (arg8 : Memref sig .tc .vmem S1x256 .f32) (harg8 : arg8.IsWhole) (arg9 : Memref sig .tc .vmem S512x512 .bf16) (harg9 : arg9.IsWhole) (arg10 : Memref sig .tc .vmem S4x1x512 .f32) (harg10 : arg10.IsWhole) (arg11 : Memref sig .tc .vmem S4x272x512 .f32) (harg11 : arg11.IsWhole) (arg12 : Memref sig .tc .vmem S2x16x272x512 .bf16) (harg12 : arg12.IsWhole)  (x0 : Vec Ideal S512x512 .bf16) (x1 : Vec Ideal S8192x512 .bf16) (x2 : Vec Ideal S512x8192 .bf16) (x3 : Vec Ideal S2x512x512 .f32)
variable {w : Fin 4 → Fin 512 → ℕ → ℝ} {v : Fin 2 → Fin 272 → ℕ → ℝ}

theorem loopsA (D : Data (i 1).val x0 x1 (arg12.view.read (Elt Ideal) (arg12.view.writes (Elt Ideal) arg12.view.junk (kernelRun0_A.sl.HS2_64 c arg4 harg4 x2))) w v) :
    St w v (512 * ((i 1).val - 1)) arg10.view arg11.view (arg10.view.writes (Elt Ideal) arg10.view.junk (LA10 c i arg2 harg2 arg3 harg3 arg4 harg4 arg5 harg5 arg6 harg6 arg7 harg7 arg8 harg8 arg9 harg9 arg10 harg10 arg11 harg11 arg12 harg12 x0 x1 x2 x3))
      (arg11.view.writes (Elt Ideal) arg11.view.junk (LA11 c i arg2 harg2 arg3 harg3 arg4 harg4 arg5 harg5 arg6 harg6 arg7 harg7 arg8 harg8 arg9 harg9 arg10 harg10 arg11 harg11 arg12 harg12 x0 x1 x2 x3)) := by
  have e1 : n1 (i 1).val = ((i 1).val - 1) / 4 := rfl
  have e3 : n3 (i 1).val = ((i 1).val - 1) % 4 / 2 := rfl
  have e5 : n5 (i 1).val = ((i 1).val - 1) % 4 % 2 := rfl
  rw [← harg2.read_unread x0, ← harg3.read_unread x1] at D
  have h := St.start w v arg10.view arg11.view arg10.view.junk arg11.view.junk inb_S4x1x512_S4x1x512_0_0_0 inb_S4x272x512_S4x272x512_0_0_0
  replace h := t1_list Variants.none c none i arg2 harg2 arg3 harg3 arg4 harg4 arg5 harg5 arg6 harg6 arg7 harg7 arg8 harg8 arg9 harg9 arg10 harg10 arg11 harg11 arg12 harg12 (harg2.unread x0) (harg3.unread x1) (arg12.view.writes (Elt Ideal) arg12.view.junk (kernelRun0_A.sl.HS2_64 c arg4 harg4 x2)) arg10.view.junk arg11.view.junk D (kernelRun0_A.sl.v12 i) (kernelRun0_A.sl.v30 i) 0#32 (kernelRun0_A.sl.v31 i) _ _ h
  replace h := t2_list Variants.none c none i arg2 harg2 arg3 harg3 arg4 harg4 arg5 harg5 arg6 harg6 arg7 harg7 arg8 harg8 arg9 harg9 arg10 harg10 arg11 harg11 arg12 harg12 (harg2.unread x0) (harg3.unread x1) (arg12.view.writes (Elt Ideal) arg12.view.junk (kernelRun0_A.sl.HS2_64 c arg4 harg4 x2)) arg10.view.junk arg11.view.junk  (kernelRun0_A.sl.v12 i) (kernelRun0_A.sl.v30 i) 0#32 (kernelRun0_A.sl.v31 i) (kernelRun0_A.sl.v35 i) _ _ _ h
  replace h := h.cast (J' := 512 * (4 * n1 (i 1).val + 2 * 0)) (by omega)
  replace h := t3_list Variants.none c none i arg2 harg2 arg3 harg3 arg4 harg4 arg5 harg5 arg6 harg6 arg7 harg7 arg8 harg8 arg9 harg9 arg10 harg10 arg11 harg11 arg12 harg12 (harg2.unread x0) (harg3.unread x1) (arg12.view.writes (Elt Ideal) arg12.view.junk (kernelRun0_A.sl.HS2_64 c arg4 harg4 x2)) arg10.view.junk arg11.view.junk D (kernelRun0_A.sl.v12 i) (kernelRun0_A.sl.v30 i) 0#32 (kernelRun0_A.sl.v31 i) (kernelRun0_A.sl.v37 i) _ _ h
  replace h := t4_list Variants.none c none i arg2 harg2 arg3 harg3 arg4 harg4 arg5 harg5 arg6 harg6 arg7 harg7 arg8 harg8 arg9 harg9 arg10 harg10 arg11 harg11 arg12 harg12 (harg2.unread x0) (harg3.unread x1) (arg12.view.writes (Elt Ideal) arg12.view.junk (kernelRun0_A.sl.HS2_64 c arg4 harg4 x2)) arg10.view.junk arg11.view.junk  (kernelRun0_A.sl.v12 i) (kernelRun0_A.sl.v30 i) 0#32 (kernelRun0_A.sl.v31 i) (kernelRun0_A.sl.v37 i) (kernelRun0_A.sl.v60 i) _ _ _ h
  replace h := h.cast (J' := 512 * (4 * n1 (i 1).val + 2 * n3 (i 1).val + 0)) (by omega)
  replace h := t5_list Variants.none c none i arg2 harg2 arg3 harg3 arg4 harg4 arg5 harg5 arg6 harg6 arg7 harg7 arg8 harg8 arg9 harg9 arg10 harg10 arg11 harg11 arg12 harg12 (harg2.unread x0) (harg3.unread x1) (arg12.view.writes (Elt Ideal) arg12.view.junk (kernelRun0_A.sl.HS2_64 c arg4 harg4 x2)) arg10.view.junk arg11.view.junk D (BitVec.ofNat 32 (i 1).val) (kernelRun0_A.sl.v62 i) (kernelRun0_A.sl.v63 i) 1#32 (kernelRun0_A.sl.v64 i) (kernelRun0_A.sl.v66 i) (kernelRun0_A.sl.v67 i) _ _ h
  replace h := t6_list Variants.none c none i arg2 harg2 arg3 harg3 arg4 harg4 arg5 harg5 arg6 harg6 arg7 harg7 arg8 harg8 arg9 harg9 arg10 harg10 arg11 harg11 arg12 harg12 (harg2.unread x0) (harg3.unread x1) (arg12.view.writes (Elt Ideal) arg12.view.junk (kernelRun0_A.sl.HS2_64 c arg4 harg4 x2)) arg10.view.junk arg11.view.junk  (BitVec.ofNat 32 (i 1).val) (kernelRun0_A.sl.v62 i) (kernelRun0_A.sl.v63 i) 1#32 (kernelRun0_A.sl.v64 i) (kernelRun0_A.sl.v66 i) (kernelRun0_A.sl.v67 i) (kernelRun0_A.sl.v85 i) _ _ _ h
  have e : 512 * (4 * n1 (i 1).val + 2 * n3 (i 1).val + n5 (i 1).val) = 512 * ((i 1).val - 1) := by omega
  rw [← e]
  exact h

theorem headA0 (hi : (i 1).val = 0) {x4 : Vec Ideal S2x512x512 .f32} (D : Data (i 1).val x0 x1 (arg12.view.read (Elt Ideal) (arg12.view.writes (Elt Ideal) arg12.view.junk (kernelRun0_A.sl.HS2_64 c arg4 harg4 x2))) w v) (N : Near (i 1).val x0 x1 x3 x4 w) :
    ∃ M, InvC (w 0) (v 0) (512 * ((i 1).val - 1) + 512) M (RA0 arg11.view (arg11.view.writes (Elt Ideal) arg11.view.junk (kernelRun0_A.sl.HS1_4 c i arg2 harg2 arg3 harg3 arg4 harg4 arg5 harg5 arg6 harg6 arg7 harg7 arg8 harg8 arg9 harg9 arg10 harg10 arg11 harg11 arg12 harg12 x0 x1 x2 x3))) := by
  have s0 := (loopsA c i arg2 harg2 arg3 harg3 arg4 harg4 arg5 harg5 arg6 harg6 arg7 harg7 arg8 harg8 arg9 harg9 arg10 harg10 arg11 harg11 arg12 harg12 x0 x1 x2 x3 D).1
  rw [lastA0 c i arg2 harg2 arg3 harg3 arg4 harg4 arg5 harg5 arg6 harg6 arg7 harg7 arg8 harg8 arg9 harg9 arg10 harg10 arg11 harg11 arg12 harg12 x0 x1 x2 x3]
  rw [← harg2.read_unread x0, ← harg3.read_unread x1] at D
  rw [← harg2.read_unread x0, ← harg3.read_unread x1, ← harg5.read_unread x3] at N
  refine ⟨_, step512 s0 _ _
    (N.scoreA hi 0 0 rfl _ _ _ (fun r e => ldK arg3.view _ _ rfl r e _ _) (fun e x => ldQ arg2.view _ _ rfl e x _)
      (fun r x => ldD arg5.view _ _ r x (by decide)))
    (D.val 0 ⟨0, by decide⟩ _ (by show _ = 512 * 0; omega) _ fun d k => ldV arg12.view _ _ rfl d k (by decide) (by decide))⟩

theorem headA1 (hi : (i 1).val = 0) {x4 : Vec Ideal S2x512x512 .f32} (D : Data (i 1).val x0 x1 (arg12.view.read (Elt Ideal) (arg12.view.writes (Elt Ideal) arg12.view.junk (kernelRun0_A.sl.HS2_64 c arg4 harg4 x2))) w v) (N : Near (i 1).val x0 x1 x3 x4 w) :
    ∃ M, InvC (w 1) (v 0) (512 * ((i 1).val - 1) + 512) M (RA1 arg11.view (arg11.view.writes (Elt Ideal) arg11.view.junk (kernelRun0_A.sl.HS1_4 c i arg2 harg2 arg3 harg3 arg4 harg4 arg5 harg5 arg6 harg6 arg7 harg7 arg8 harg8 arg9 harg9 arg10 harg10 arg11 harg11 arg12 harg12 x0 x1 x2 x3))) := by
  have s1 := (loopsA c i arg2 harg2 arg3 harg3 arg4 harg4 arg5 harg5 arg6 harg6 arg7 harg7 arg8 harg8 arg9 harg9 arg10 harg10 arg11 harg11 arg12 harg12 x0 x1 x2 x3 D).2.1
  rw [lastA1 c i arg2 harg2 arg3 harg3 arg4 harg4 arg5 harg5 arg6 harg6 arg7 harg7 arg8 harg8 arg9 harg9 arg10 harg10 arg11 harg11 arg12 harg12 x0 x1 x2 x3]
  rw [← harg2.read_unread x0, ← harg3.read_unread x1] at D
  rw [← harg2.read_unread x0, ← harg3.read_unread x1, ← harg5.read_unread x3] at N
  refine ⟨_, step512 s1 _ _
    (N.scoreA hi 0 1 rfl _ _ _ (fun r e => ldK arg3.view _ _ rfl r e _ _) (fun e x => ldQ arg2.view _ _ rfl e x _)
      (fun r x => ldD arg5.view _ _ r x (by decide)))
    (D.val 0 ⟨0, by decide⟩ _ (by show _ = 512 * 0; omega) _ fun d k => ldV arg12.view _ _ rfl d k (by decide) (by decide))⟩

theorem headA2 (hi : (i 1).val = 0) {x4 : Vec Ideal S2x512x512 .f32} (D : Data (i 1).val x0 x1 (arg12.view.read (Elt Ideal) (arg12.view.writes (Elt Ideal) arg12.view.junk (kernelRun0_A.sl.HS2_64 c arg4 harg4 x2))) w v) (N : Near (i 1).val x0 x1 x3 x4 w) :
    ∃ M, InvC (w 2) (v 1) (512 * ((i 1).val - 1) + 512) M (RA2 arg11.view (arg11.view.writes (Elt Ideal) arg11.view.junk (kernelRun0_A.sl.HS1_4 c i arg2 harg2 arg3 harg3 arg4 harg4 arg5 harg5 arg6 harg6 arg7 harg7 arg8 harg8 arg9 harg9 arg10 harg10 arg11 harg11 arg12 harg12 x0 x1 x2 x3))) := by
  have s2 := (loopsA c i arg2 harg2 arg3 harg3 arg4 harg4 arg5 harg5 arg6 harg6 arg7 harg7 arg8 harg8 arg9 harg9 arg10 harg10 arg11 harg11 arg12 harg12 x0 x1 x2 x3 D).2.2.1
  rw [lastA2 c i arg2 harg2 arg3 harg3 arg4 harg4 arg5 harg5 arg6 harg6 arg7 harg7 arg8 harg8 arg9 harg9 arg10 harg10 arg11 harg11 arg12 harg12 x0 x1 x2 x3]
  rw [← harg2.read_unread x0, ← harg3.read_unread x1] at D
  rw [← harg2.read_unread x0, ← harg3.read_unread x1, ← harg5.read_unread x3] at N
  refine ⟨_, step512 s2 _ _
    (N.scoreA hi 1 2 rfl _ _ _ (fun r e => ldK arg3.view _ _ rfl r e _ _) (fun e x => ldQ arg2.view _ _ rfl e x _)
      (fun r x => ldD arg5.view _ _ r x (by decide)))
    (D.val 1 ⟨0, by decide⟩ _ (by show _ = 512 * 0; omega) _ fun d k => ldV arg12.view _ _ rfl d k (by decide) (by decide))⟩

theorem headA3 (hi : (i 1).val = 0) {x4 : Vec Ideal S2x512x512 .f32} (D : Data (i 1).val x0 x1 (arg12.view.read (Elt Ideal) (arg12.view.writes (Elt Ideal) arg12.view.junk (kernelRun0_A.sl.HS2_64 c arg4 harg4 x2))) w v) (N : Near (i 1).val x0 x1 x3 x4 w) :
    ∃ M, InvC (w 3) (v 1) (512 * ((i 1).val - 1) + 512) M (RA3 arg11.view (arg11.view.writes (Elt Ideal) arg11.view.junk (kernelRun0_A.sl.HS1_4 c i arg2 harg2 arg3 harg3 arg4 harg4 arg5 harg5 arg6 harg6 arg7 harg7 arg8 harg8 arg9 harg9 arg10 harg10 arg11 harg11 arg12 harg12 x0 x1 x2 x3))) := by
  have s3 := (loopsA c i arg2 harg2 arg3 harg3 arg4 harg4 arg5 harg5 arg6 harg6 arg7 harg7 arg8 harg8 arg9 harg9 arg10 harg10 arg11 harg11 arg12 harg12 x0 x1 x2 x3 D).2.2.2
  rw [lastA3 c i arg2 harg2 arg3 harg3 arg4 harg4 arg5 harg5 arg6 harg6 arg7 harg7 arg8 harg8 arg9 harg9 arg10 harg10 arg11 harg11 arg12 harg12 x0 x1 x2 x3]
  rw [← harg2.read_unread x0, ← harg3.read_unread x1] at D
  rw [← harg2.read_unread x0, ← harg3.read_unread x1, ← harg5.read_unread x3] at N
  refine ⟨_, step512 s3 _ _
    (N.scoreA hi 1 3 rfl _ _ _ (fun r e => ldK arg3.view _ _ rfl r e _ _) (fun e x => ldQ arg2.view _ _ rfl e x _)
      (fun r x => ldD arg5.view _ _ r x (by decide)))
    (D.val 1 ⟨0, by decide⟩ _ (by show _ = 512 * 0; omega) _ fun d k => ldV arg12.view _ _ rfl d k (by decide) (by decide))⟩

/-- A head's first point: after its last step the accumulators hold the running sums over all its keys. -/
theorem doneA (hi : (i 1).val = 0) {x4 : Vec Ideal S2x512x512 .f32} (D : Data (i 1).val x0 x1 (arg12.view.read (Elt Ideal) (arg12.view.writes (Elt Ideal) arg12.view.junk (kernelRun0_A.sl.HS2_64 c arg4 harg4 x2))) w v) (N : Near (i 1).val x0 x1 x3 x4 w) :
    Done w v (512 * ((i 1).val + 1)) arg11.view (arg11.view.writes (Elt Ideal) arg11.view.junk (kernelRun0_A.sl.HS1_4 c i arg2 harg2 arg3 harg3 arg4 harg4 arg5 harg5 arg6 harg6 arg7 harg7 arg8 harg8 arg9 harg9 arg10 harg10 arg11 harg11 arg12 harg12 x0 x1 x2 x3)) := by
  have eJ : 512 * ((i 1).val + 1) = 512 * ((i 1).val - 1) + 512 := by omega
  rw [eJ]
  exact ⟨headA0 c i arg2 harg2 arg3 harg3 arg4 harg4 arg5 harg5 arg6 harg6 arg7 harg7 arg8 harg8 arg9 harg9 arg10 harg10 arg11 harg11 arg12 harg12 x0 x1 x2 x3 hi D N, headA1 c i arg2 harg2 arg3 harg3 arg4 harg4 arg5 harg5 arg6 harg6 arg7 harg7 arg8 harg8 arg9 harg9 arg10 harg10 arg11 harg11 arg12 harg12 x0 x1 x2 x3 hi D N, headA2 c i arg2 harg2 arg3 harg3 arg4 harg4 arg5 harg5 arg6 harg6 arg7 harg7 arg8 harg8 arg9 harg9 arg10 harg10 arg11 harg11 arg12 harg12 x0 x1 x2 x3 hi D N, headA3 c i arg2 harg2 arg3 harg3 arg4 harg4 arg5 harg5 arg6 harg6 arg7 harg7 arg8 harg8 arg9 harg9 arg10 harg10 arg11 harg11 arg12 harg12 x0 x1 x2 x3 hi D N⟩
end CaseA
end Cert.KernelIdeal.Attn
-- ==== Proof.Attn.Kept.lean ====
module
public import proofs.«01_k».proof.Proof.Attn.Keys
public import Idealize.ShloMosaic.Lib.Pipeline.ValueKit.Tiles
@[expose] public section
set_option maxRecDepth 16384
noncomputable section
namespace Cert.KernelIdeal.Attn
open Cert.KernelIdeal Cert.KernelIdeal.Gen Cert.Attn
open Idealize.ShloMosaic Idealize.ShloMosaic.TcCoe Idealize.ShloMosaic.Tactic

/-! ## The values a head's first point keeps for all its points -/

/-- What is kept: per head and block of keys the 256 rows of values, then 16 rows of ones. -/
def vaG (x2 : Vec Ideal S512x8192 .bf16) (y : S2x16x272x512.Idx) : Ideal .bf16 :=
  if h : (y 2).val < 256 then
    x2 (ix2 ⟨256 * (y 0).val + (y 2).val, by have : (y 0).val < 2 := (y 0).isLt; omega⟩
      ⟨512 * (y 1).val + (y 3).val, by have : (y 1).val < 16 := (y 1).isLt; have : (y 3).val < 512 := (y 3).isLt; omega⟩)
  else Ideal.ofBits .bf16 0x3F80#16

theorem pay271_apply (y : S1x1x16x512.Idx) : k0_pay271 (F := Ideal) y = Ideal.ofBits .bf16 0x3F80#16 := rfl
theorem pay270_apply (p : Vec Ideal S256x512 .bf16) (d : Fin 256) (k : Fin 512) : k0_pay270 p (ix4 0 0 d k) = p (ix2 d k) := by
  pointwise [k0_pay270]

/-- One head and block of keys more. -/
theorem vaG_pair (arg4 : Memref sig .tc .vmem S512x8192 .bf16) (X : arg4.view.ty.Contents (Elt Ideal)) (y : S2x16x272x512.Idx)
    {hh u o1 o2 : ℕ} (h1 : o1 = 256 * hh) (h2 : o2 = 512 * u)
    (inb : ∀ a, (![hh, u, 256, 0] : Fin 4 → ℕ) a + S1x1x16x512.size a ≤ S2x16x272x512.size a)
    (inb' : ∀ a, (![hh, u, 0, 0] : Fin 4 → ℕ) a + S1x1x256x512.size a ≤ S2x16x272x512.size a)
    (inb'' : ∀ a, (![o1, o2] : Fin 2 → ℕ) a + S256x512.size a ≤ S512x8192.size a)
    (L : List (View.Piece (Elt Ideal) S2x16x272x512 .bf16)) (hL : View.AllAt L y (vaG (arg4.view.read (Elt Ideal) X) y)) :
    View.AllAt ((⟨Rect.unit (s := S2x16x272x512) ![hh, u, 256, 0] S1x1x16x512.size inb, k0_pay271 (F := Ideal)⟩ : View.Piece (Elt Ideal) S2x16x272x512 .bf16)
      :: (⟨Rect.unit (s := S2x16x272x512) ![hh, u, 0, 0] S1x1x256x512.size inb',
        k0_pay270 (View.readAt (Elt Ideal) arg4.view (Rect.unit (s := S512x8192) ![o1, o2] S256x512.size inb'').toLoadRect X)⟩ : View.Piece (Elt Ideal) S2x16x272x512 .bf16) :: L) y
      (vaG (arg4.view.read (Elt Ideal) X) y) := by
  refine View.allAt_cons_unit _ _ _ _ _ ?_ (View.allAt_cons_unit _ _ _ _ _ ?_ hL)
  · intro x hx
    have := hx 2
    have : (y 2).val = 256 + (x 2).val := this
    rw [vaG, dif_neg (by omega)]
    exact pay271_apply x
  · intro x hx
    have e0 : (y 0).val = hh + (x 0).val := hx 0
    have e1 : (y 1).val = u + (x 1).val := hx 1
    have e2 : (y 2).val = 0 + (x 2).val := hx 2
    have e3 : (y 3).val = 0 + (x 3).val := hx 3
    have l0 : (x 0).val < 1 := (x 0).isLt
    have l1 : (x 1).val < 1 := (x 1).isLt
    have l2 : (x 2).val < 256 := (x 2).isLt
    rw [vaG, dif_pos (by omega)]
    have ex : x = ix4 0 0 (x 2) (x 3) := by
      funext a
      match a with
      | 0 => exact Fin.ext (by show (x 0).val = 0; omega)
      | 1 => exact Fin.ext (by show (x 1).val = 0; omega)
      | 2 => rfl
      | 3 => rfl
    refine ((congrArg _ ex).trans (pay270_apply _ _ _)).trans (congrArg (arg4.view.read (Elt Ideal) X) (funext fun a => ?_))
    match a with
    | 0 => exact Fin.ext (by show o1 + 1 * (x 2).val = 256 * (y 0).val + (y 2).val; rw [e0, e2, h1, Nat.lt_one_iff.mp l0]; omega)
    | 1 => exact Fin.ext (by show o2 + 1 * (x 3).val = 512 * (y 1).val + (y 3).val; rw [e1, e3, h2, Nat.lt_one_iff.mp l1]; omega)

theorem va_all (c : Dev nD) (arg4 : Memref sig .tc .vmem S512x8192 .bf16) (harg4 : arg4.IsWhole) (x2 : Vec Ideal S512x8192 .bf16)
    (y : S2x16x272x512.Idx) : View.AllAt (kernelRun0_A.sl.HS2_64 c arg4 harg4 x2) y (vaG (arg4.view.read (Elt Ideal) (harg4.unread x2)) y) := by
  unfold kernelRun0_A.sl.HS2_64
  iterate 32 refine vaG_pair arg4 (harg4.unread x2) y (by rfl) (by rfl) _ _ _ _ ?_
  exact View.allAt_nil _ _

theorem va_cover (c : Dev nD) (arg4 : Memref sig .tc .vmem S512x8192 .bf16) (harg4 : arg4.IsWhole) (x2 : Vec Ideal S512x8192 .bf16)
    (y : S2x16x272x512.Idx) : ∃ pc ∈ kernelRun0_A.sl.HS2_64 c arg4 harg4 x2, y ∈ pc.1.set :=
  View.cover_of_tiledBy (kernelRun0_A.sl.HS2_64 c arg4 harg4 x2) ![1, 1, 16, 512] (by sl_kernel_rfl) y

/-- What the first point leaves. -/
theorem va_read (c : Dev nD) (arg4 : Memref sig .tc .vmem S512x8192 .bf16) (harg4 : arg4.IsWhole) (x2 : Vec Ideal S512x8192 .bf16)
    (v : View sig .tc .vmem S2x16x272x512 .bf16) (f : v.ty.Contents (Elt Ideal)) :
    v.read (Elt Ideal) (v.writes (Elt Ideal) f (kernelRun0_A.sl.HS2_64 c arg4 harg4 x2)) = vaG x2 := by
  funext y
  rw [View.read_writes_eq_canon _ _ _ (va_cover c arg4 harg4 x2)]
  have := va_all c arg4 harg4 x2 y
  rw [harg4.read_unread] at this
  exact View.canon_eq_of_allAt _ y _ (va_cover c arg4 harg4 x2 y) this
end Cert.KernelIdeal.Attn
-- ==== Proof.Attn.Out.lean ====
module
public import proofs.«01_k».proof.Proof.Attn.Kept
public import Idealize.ShloMosaic.Lib.Pointwise
@[expose] public section
set_option maxRecDepth 16384
noncomputable section
namespace Cert.KernelIdeal.Attn
open Cert.KernelIdeal Cert.KernelIdeal.Gen Cert.Attn
open Idealize.ShloMosaic Idealize.ShloMosaic.TcCoe Idealize.ShloMosaic.Tactic

/-! ## A head's output rows -/

/-- A row normalised, weighed and scaled. -/
def rowOut (o g : Fin 256 → Ideal .f32) (d : Fin 256) : Ideal .f32 :=
  o d * Ideal.rsqrt (Ideal.div (∑ e, o e * o e) (Ideal.ofBits .f32 0x43800000#32) + Ideal.ofBits .f32 0x358637BD#32) * g d
    * Ideal.ofBits .f32 0x3F24FD5C#32

/-- The difference of the two quotients. -/
def diffO (a0 a1 : Vec Ideal S1x272x512 .f32) (lam : Ideal .f32) (x : Fin 512) (d : Fin 256) : Ideal .f32 :=
  Ideal.div (a0 (ix3 0 ⟨d.val, by omega⟩ x)) (a0 (ix3 0 256 x)) - lam * Ideal.div (a1 (ix3 0 ⟨d.val, by omega⟩ x)) (a1 (ix3 0 256 x))

theorem pay295_apply (a0 a1 : Vec Ideal S1x272x512 .f32) (lam : Vec Ideal S1x1 .f32) (x : Fin 512) (d : Fin 256) :
    k0_pay295 a0 a1 lam (ix2 x d) = diffO a0 a1 (lam (ix2 0 0)) x d := by
  pointwise [k0_pay295, diffO]
  all_goals rfl

theorem pay1_apply (o : Vec Ideal S512x256 .f32) (g : Vec Ideal S1x256 .f32) (x : Fin 512) (d : Fin 256) :
    k0_pay1 o g (ix2 x d) = rowOut (fun e => o (ix2 x e)) (fun e => g (ix2 0 e)) d := by
  pointwise [k0_pay1, rowOut]
  all_goals rfl

theorem pay294_apply (a0 a1 : Vec Ideal S1x272x512 .f32) (lam : Vec Ideal S1x1 .f32) (g : Vec Ideal S1x256 .f32) (x : Fin 512) (d : Fin 256) :
    k0_pay294 (k0_pay290 a1) (k0_pay291 a0) (k0_pay292 lam) (k0_pay293 a1) g (ix2 x d)
      = rowOut (fun e => diffO a0 a1 (lam (ix2 0 0)) x e) (fun e => g (ix2 0 e)) d := by
  pointwise [k0_pay290, k0_pay291, k0_pay292, k0_pay293, k0_pay294, rowOut, diffO]
  all_goals rfl
end Cert.KernelIdeal.Attn
-- ==== Proof.Attn.Block.lean ====
module
public import proofs.«01_k».proof.Proof.Attn.Out
public import Idealize.ShloMosaic.Lib.Pipeline.ValueKit.Tiles
@[expose] public section
set_option maxRecDepth 16384
noncomputable section
namespace Cert.KernelIdeal.Attn
open Cert.KernelIdeal Cert.KernelIdeal.Gen Cert.Attn
open Idealize.ShloMosaic Idealize.ShloMosaic.TcCoe Idealize.ShloMosaic.Tactic

/-! ## The block a grid point writes -/

/-- The two heads' halves of a block. -/
theorem halves (P0 P1 : Vec Ideal S512x256 .bf16) (inb1 : ∀ a, (![0, 256] : Fin 2 → ℕ) a + S512x256.size a ≤ S512x512.size a)
    (inb0 : ∀ a, (![0, 0] : Fin 2 → ℕ) a + S512x256.size a ≤ S512x512.size a) (x : Fin 512) (d : Fin 256) :
    let L : List (View.Piece (Elt Ideal) S512x512 .bf16) := [⟨Rect.unit (s := S512x512) ![0, 256] S512x256.size inb1, P1⟩, ⟨Rect.unit (s := S512x512) ![0, 0] S512x256.size inb0, P0⟩]
    View.canon L (ix2 x ⟨d.val, by omega⟩) = P0 (ix2 x d) ∧ View.canon L (ix2 x ⟨256 + d.val, by omega⟩) = P1 (ix2 x d) := by
  intro L
  have hc : ∀ y : S512x512.Idx, ∃ pc ∈ L, y ∈ pc.1.set := fun y => View.cover_of_tiledBy L ![512, 256] (by sl_kernel_rfl) y
  constructor
  · refine View.canon_eq_of_allAt _ _ _ (hc _) (View.allAt_cons_unit _ _ _ _ _ ?_ (View.allAt_cons_unit _ _ _ _ _ ?_ (View.allAt_nil _ _)))
    · intro z hz
      have h1 : d.val = 256 + (z 1).val := hz 1
      omega
    · intro z hz
      have h0 : x.val = 0 + (z 0).val := hz 0
      have h1 : d.val = 0 + (z 1).val := hz 1
      refine congrArg P0 (funext fun a => ?_)
      match a with
      | 0 => exact Fin.ext (by show (z 0).val = x.val; omega)
      | 1 => exact Fin.ext (by show (z 1).val = d.val; omega)
  · refine View.canon_eq_of_allAt _ _ _ (hc _) (View.allAt_cons_unit _ _ _ _ _ ?_ (View.allAt_cons_unit _ _ _ _ _ ?_ (View.allAt_nil _ _)))
    · intro z hz
      have h0 : x.val = 0 + (z 0).val := hz 0
      have h1 : 256 + d.val = 256 + (z 1).val := hz 1
      refine congrArg P1 (funext fun a => ?_)
      match a with
      | 0 => exact Fin.ext (by show (z 0).val = x.val; omega)
      | 1 => exact Fin.ext (by show (z 1).val = d.val; omega)
    · intro z hz
      have h1 : 256 + d.val = 0 + (z 1).val := hz 1
      have h2 : (z 1).val < 256 := (z 1).isLt
      omega

theorem outB (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x8192 .bf16) (harg4 : arg4.IsWhole) (arg5 : Memref sig .tc .vmem S2x512x512 .f32) (harg5 : arg5.IsWhole) (arg6 : Memref sig .tc .vmem S2x512x512 .f32) (harg6 : arg6.IsWhole) (arg7 : Memref sig .tc .vmem S1x1 .f32) (harg7 : arg7.IsWhole) (arg8 : Memref sig .tc .vmem S1x256 .f32) (harg8 : arg8.IsWhole) (arg9 : Memref sig .tc .vmem S512x512 .bf16) (harg9 : arg9.IsWhole) (arg10 : Memref sig .tc .vmem S4x1x512 .f32) (harg10 : arg10.IsWhole) (arg11 : Memref sig .tc .vmem S4x272x512 .f32) (harg11 : arg11.IsWhole) (arg12 : Memref sig .tc .vmem S2x16x272x512 .bf16) (harg12 : arg12.IsWhole) (hc0 : ¬cond0_0 i) (hc1 : cond0_1 i) (hc2 : ¬cond0_2 i)
    (x0 : Vec Ideal S512x512 .bf16) (x1 : Vec Ideal S8192x512 .bf16) (x2 : Vec Ideal S512x8192 .bf16) (x3 : Vec Ideal S2x512x512 .f32) (x4 : Vec Ideal S2x512x512 .f32) (x5 : Vec Ideal S1x1 .f32) (x6 : Vec Ideal S1x256 .f32) (xs2 : Vec Ideal S2x16x272x512 .bf16)  (x : Fin 512) (d : Fin 256) :
    out0_B_7 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs2 (ix2 x ⟨d.val, by omega⟩) = rowOut (fun e => diffO (RA0 arg11.view (arg11.view.writes (Elt Ideal) arg11.view.junk (kernelRun0_B.sl.HS1_4 c i arg2 harg2 arg3 harg3 arg4 harg4 arg5 harg5 arg6 harg6 arg7 harg7 arg8 harg8 arg9 harg9 arg10 harg10 arg11 harg11 arg12 harg12 hc1 x0 x1 x3 x4 xs2))) (RA1 arg11.view (arg11.view.writes (Elt Ideal) arg11.view.junk (kernelRun0_B.sl.HS1_4 c i arg2 harg2 arg3 harg3 arg4 harg4 arg5 harg5 arg6 harg6 arg7 harg7 arg8 harg8 arg9 harg9 arg10 harg10 arg11 harg11 arg12 harg12 hc1 x0 x1 x3 x4 xs2))) (x5 (ix2 0 0)) x e) (fun e => x6 (ix2 0 e)) d
    ∧ out0_B_7 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs2 (ix2 x ⟨256 + d.val, by omega⟩) = rowOut (fun e => diffO (RA2 arg11.view (arg11.view.writes (Elt Ideal) arg11.view.junk (kernelRun0_B.sl.HS1_4 c i arg2 harg2 arg3 harg3 arg4 harg4 arg5 harg5 arg6 harg6 arg7 harg7 arg8 harg8 arg9 harg9 arg10 harg10 arg11 harg11 arg12 harg12 hc1 x0 x1 x3 x4 xs2))) (RA3 arg11.view (arg11.view.writes (Elt Ideal) arg11.view.junk (kernelRun0_B.sl.HS1_4 c i arg2 harg2 arg3 harg3 arg4 harg4 arg5 harg5 arg6 harg6 arg7 harg7 arg8 harg8 arg9 harg9 arg10 harg10 arg11 harg11 arg12 harg12 hc1 x0 x1 x3 x4 xs2))) (x5 (ix2 0 0)) x e) (fun e => x6 (ix2 0 e)) d := by
  have e5 : x5 (ix2 0 0) = View.readAt (Elt Ideal) arg7.view (Rect.unit (s := S1x1) ![0, 0] S1x1.size inb_S1x1_S1x1_0_0).toLoadRect (harg7.unread x5) (ix2 0 0) := by
    rw [View.readAt_full, harg7.read_unread]
  have e6 : (fun e : Fin 256 => x6 (ix2 0 e)) = fun e => View.readAt (Elt Ideal) arg8.view (Rect.unit (s := S1x256) ![0, 0] S1x256.size inb_S1x256_S1x256_0_0).toLoadRect (harg8.unread x6) (ix2 0 e) := by
    rw [View.readAt_full, harg8.read_unread]
  rw [e5, e6]
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs2)]
  unfold kernelRun0_B
  dsimp only
  constructor
  · refine (halves _ _ _ _ x d).1.trans ?_
    exact pay294_apply _ _ _ _ _ _
  · refine (halves _ _ _ _ x d).2.trans ?_
    refine (pay1_apply _ _ _ _).trans (congrArg (fun o => rowOut o _ d) (funext fun e => ?_))
    exact pay295_apply _ _ _ _ _

theorem outA (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x8192 .bf16) (harg4 : arg4.IsWhole) (arg5 : Memref sig .tc .vmem S2x512x512 .f32) (harg5 : arg5.IsWhole) (arg6 : Memref sig .tc .vmem S2x512x512 .f32) (harg6 : arg6.IsWhole) (arg7 : Memref sig .tc .vmem S1x1 .f32) (harg7 : arg7.IsWhole) (arg8 : Memref sig .tc .vmem S1x256 .f32) (harg8 : arg8.IsWhole) (arg9 : Memref sig .tc .vmem S512x512 .bf16) (harg9 : arg9.IsWhole) (arg10 : Memref sig .tc .vmem S4x1x512 .f32) (harg10 : arg10.IsWhole) (arg11 : Memref sig .tc .vmem S4x272x512 .f32) (harg11 : arg11.IsWhole) (arg12 : Memref sig .tc .vmem S2x16x272x512 .bf16) (harg12 : arg12.IsWhole) (hc0 : cond0_0 i) (hc1 : ¬cond0_1 i) (hc2 : cond0_2 i)
    (x0 : Vec Ideal S512x512 .bf16) (x1 : Vec Ideal S8192x512 .bf16) (x2 : Vec Ideal S512x8192 .bf16) (x3 : Vec Ideal S2x512x512 .f32) (x4 : Vec Ideal S2x512x512 .f32) (x5 : Vec Ideal S1x1 .f32) (x6 : Vec Ideal S1x256 .f32)  (x : Fin 512) (d : Fin 256) :
    out0_A_7 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 (ix2 x ⟨d.val, by omega⟩) = rowOut (fun e => diffO (RA0 arg11.view (arg11.view.writes (Elt Ideal) arg11.view.junk (kernelRun0_A.sl.HS1_4 c i arg2 harg2 arg3 harg3 arg4 harg4 arg5 harg5 arg6 harg6 arg7 harg7 arg8 harg8 arg9 harg9 arg10 harg10 arg11 harg11 arg12 harg12 x0 x1 x2 x3))) (RA1 arg11.view (arg11.view.writes (Elt Ideal) arg11.view.junk (kernelRun0_A.sl.HS1_4 c i arg2 harg2 arg3 harg3 arg4 harg4 arg5 harg5 arg6 harg6 arg7 harg7 arg8 harg8 arg9 harg9 arg10 harg10 arg11 harg11 arg12 harg12 x0 x1 x2 x3))) (x5 (ix2 0 0)) x e) (fun e => x6 (ix2 0 e)) d
    ∧ out0_A_7 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 (ix2 x ⟨256 + d.val, by omega⟩) = rowOut (fun e => diffO (RA2 arg11.view (arg11.view.writes (Elt Ideal) arg11.view.junk (kernelRun0_A.sl.HS1_4 c i arg2 harg2 arg3 harg3 arg4 harg4 arg5 harg5 arg6 harg6 arg7 harg7 arg8 harg8 arg9 harg9 arg10 harg10 arg11 harg11 arg12 harg12 x0 x1 x2 x3))) (RA3 arg11.view (arg11.view.writes (Elt Ideal) arg11.view.junk (kernelRun0_A.sl.HS1_4 c i arg2 harg2 arg3 harg3 arg4 harg4 arg5 harg5 arg6 harg6 arg7 harg7 arg8 harg8 arg9 harg9 arg10 harg10 arg11 harg11 arg12 harg12 x0 x1 x2 x3))) (x5 (ix2 0 0)) x e) (fun e => x6 (ix2 0 e)) d := by
  have e5 : x5 (ix2 0 0) = View.readAt (Elt Ideal) arg7.view (Rect.unit (s := S1x1) ![0, 0] S1x1.size inb_S1x1_S1x1_0_0).toLoadRect (harg7.unread x5) (ix2 0 0) := by
    rw [View.readAt_full, harg7.read_unread]
  have e6 : (fun e : Fin 256 => x6 (ix2 0 e)) = fun e => View.readAt (Elt Ideal) arg8.view (Rect.unit (s := S1x256) ![0, 0] S1x256.size inb_S1x256_S1x256_0_0).toLoadRect (harg8.unread x6) (ix2 0 e) := by
    rw [View.readAt_full, harg8.read_unread]
  rw [e5, e6]
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 hc1 hc2 x0 x1 x2 x3 x4 x5 x6)]
  unfold kernelRun0_A
  dsimp only
  constructor
  · refine (halves _ _ _ _ x d).1.trans ?_
    exact pay294_apply _ _ _ _ _ _
  · refine (halves _ _ _ _ x d).2.trans ?_
    refine (pay1_apply _ _ _ _).trans (congrArg (fun o => rowOut o _ d) (funext fun e => ?_))
    exact pay295_apply _ _ _ _ _
end Cert.KernelIdeal.Attn
-- ==== Proof.Attn.Gather.lean ====
module
public import proofs.«01_k».proof.Proof.Attn.Model
public import proofs.«01_k».proof.Proof.Attn.Block
@[expose] public section
set_option maxRecDepth 16384
noncomputable section
namespace Cert.KernelIdeal.Attn
open Cert.KernelIdeal Cert.KernelIdeal.Gen Cert.Attn
open Idealize.ShloMosaic Idealize.ShloMosaic.TcCoe Idealize.ShloMosaic.Tactic

/-- The rows of the bias table that an array of indices names. -/
theorem gather_row (tab : Vec Ideal S32x16 .f32) (idx : IVec S512x512x1 32) (r x : Fin 512) (h : Fin 16) :
    Host.gather gather_S32x16_S512x512x1_S512x512x16_2_0_n_n_0_2_116 tab idx (ix3 r x h) = tab (ix2 (clampRow (idx (ix3 r x 0))) h) := by
  have hsi : gather_S32x16_S512x512x1_S512x512x16_2_0_n_n_0_2_116.siIdx (ix3 r x h) ⟨0, Nat.one_pos⟩ = ix3 r x 0 := by
    funext b
    match b with
    | 0 => rfl
    | 1 => rfl
    | 2 => rfl
  unfold Host.gather
  refine congrArg tab (funext fun a => Fin.ext ?_)
  match a with
  | 0 => exact congrArg (fun j => min (idx j).toInt.toNat 31) hsi
  | 1 => exact Nat.zero_add _
end Cert.KernelIdeal.Attn
-- ==== Proof.Attn.Host.lean ====
module
public import proofs.«01_k».proof.Proof.Attn.Gather
public import proofs.«01_k».proof.Proof.Gen.KernelIdeal.Value
public import Idealize.ShloMosaic.Lib.StableHlo.RunRead
public import Idealize.ShloMosaic.Lib.Pointwise
@[expose] public section
set_option maxRecDepth 16384
noncomputable section
namespace Cert.KernelIdeal.Attn
open Cert.KernelIdeal Cert.KernelIdeal.Gen Cert.Attn
open Idealize.ShloMosaic Idealize.ShloMosaic.TcCoe Idealize.ShloMosaic.Tactic

/-! ## The arrays the launch finds -/

/-- The relative positions inside a block: the query's place less the key's. -/
def relT : IVec S512x512 32 :=
  subi (broadcastInDim S512x512 ![0, 1] bcast_S1x512_S512x512_0_1 (broadcastInDim S1x512 ![1] bcast_S512_S1x512_1 (iotaInDim S512 32 0)))
    (broadcastInDim S512x512 ![0, 1] bcast_S512x1_S512x512_0_1 (broadcastInDim S512x1 ![0] bcast_S512_S512x1_0 (iotaInDim S512 32 0)))

/-- The same number everywhere in a block. -/
abbrev allI (b : BitVec 32) : IVec S512x512 32 := broadcastInDim S512x512 ![] bcast_S_S512x512 (constantI S_ 32 b)
abbrev allF (b : BitVec 32) : FVec Ideal S512x512 .f32 := broadcastInDim S512x512 ![] bcast_S_S512x512 (constant S_ .f32 b)

/-- The buckets of a block of relative positions. -/
def tileB (rel : IVec S512x512 32) : IVec S512x512 32 :=
  select (cmpi .slt (maxsi rel (allI 0#32)) (allI 16#32)) (maxsi rel (allI 0#32))
    (minsi (addi (allI 16#32) (fptosi 32 (mulf (Host.divf (Host.log (Host.divf (sitofp .f32 (maxsi (maxsi rel (allI 0#32)) (allI 1#32)))
      (allF 0x41800000#32))) (allF 0x40051592#32)) (allF 0x41800000#32)))) (allI 31#32))

/-- The buckets as indices counted from either end. -/
def tileI (rel : IVec S512x512 32) : IVec S512x512 32 :=
  select (cmpi .slt (tileB rel) (allI 0#32)) (addi (tileB rel) (allI 32#32)) (tileB rel)

/-- The biases less the last row's. -/
def tileG (rel : IVec S512x512 32) (tab : FVec Ideal S32x16 .f32) : FVec Ideal S16x512x512 .f32 :=
  transpose S16x512x512 [2, 0, 1]
    (subf (Host.gather gather_S32x16_S512x512x1_S512x512x16_2_0_n_n_0_2_116 tab
        (broadcastInDim S512x512x1 ![0, 1] bcast_S512x512_S512x512x1_0_1 (tileI rel)))
      (broadcastInDim S512x512x16 ![0, 1, 2] bcast_S1x1x16_S512x512x16_0_1_2 (broadcastInDim S1x1x16 ![2] bcast_S16_S1x1x16_2
        (shapeCast S16 (extractStridedSlice S1x16 ![31, 0] tab slices_S32x16_S1x16_31_0) shapeCasts_S1x16_S16))))
    transposes_S512x512x16_S16x512x512_2_0_1

theorem tileI_apply (rel : IVec S512x512 32) (r x : Fin 512) : tileI rel (ix2 r x) = widx (rel (ix2 r x)) := rfl

theorem relT_apply (r x : Fin 512) : relT (ix2 r x) = BitVec.ofNat 32 x.val - BitVec.ofNat 32 r.val := rfl

theorem tileG_apply (rel : IVec S512x512 32) (tab : FVec Ideal S32x16 .f32) (h : Fin 16) (r x : Fin 512) :
    tileG rel tab (ix3 h r x) = tab (ix2 (rowI (rel (ix2 r x))) h) - tab (ix2 31 h) := by
  have hg := gather_row tab (broadcastInDim S512x512x1 ![0, 1] bcast_S512x512_S512x512x1_0_1 (tileI rel)) r x h
  have hi : (broadcastInDim S512x512x1 ![0, 1] bcast_S512x512_S512x512x1_0_1 (tileI rel)) (ix3 r x 0) = widx (rel (ix2 r x)) := by
    rw [← tileI_apply]
    pointwise []
  rw [hi] at hg
  unfold rowI
  rw [← hg]
  generalize hw : (broadcastInDim S512x512x1 ![0, 1] bcast_S512x512_S512x512x1_0_1 (tileI rel)) = w
  unfold tileG
  rw [hw]
  pointwise []

variable (m : (ℓ : Loc nD τ sig) → Buf (Elt Ideal) ℓ) (c : Dev nD)

theorem host_q (t : Fin 8192) (x : Fin 4096) : V m c main_v9 (ix2 x t) = m (c, Proc.tc.devRef main_arg0) (ix2 t x) := by
  unfold_abbrev_sides
  after_reads_simp
  pointwise []
theorem host_k (t : Fin 8192) (x : Fin 4096) : V m c main_v10 (ix2 t x) = m (c, Proc.tc.devRef main_arg1) (ix2 t x) := by
  unfold_abbrev_sides
  after_reads_simp
  pointwise []
theorem host_v (t : Fin 8192) (x : Fin 4096) : V m c main_v12 (ix2 x t) = m (c, Proc.tc.devRef main_arg2) (ix2 t x) := by
  unfold_abbrev_sides
  after_reads_simp
  pointwise []

theorem host_self : V m c main_v55 = select (broadcastInDim S16x512x512 ![0, 1, 2] bcast_S1x512x512_S16x512x512_0_1_2
      (broadcastInDim S1x512x512 ![1, 2] bcast_S512x512_S1x512x512_1_2 (cmpi .sge relT (allI 0#32))))
    (tileG relT (m (c, Proc.tc.devRef main_arg3)))
    (broadcastInDim S16x512x512 ![] bcast_S_S16x512x512 (constant S_ .f32 0xFF800000#32)) := by
  unfold_abbrev_sides
  after_reads_simp
  simp only [StableHlo.TRef.ofBuf, StableHlo.TRef.toBuf, StableHlo.TRef.of, cast_eq, id]
  rfl
theorem host_prev : V m c main_v88 = tileG (addi relT (allI 512#32)) (m (c, Proc.tc.devRef main_arg3)) := by
  unfold_abbrev_sides
  after_reads_simp
  simp only [StableHlo.TRef.ofBuf, StableHlo.TRef.toBuf, StableHlo.TRef.of, cast_eq, id]
  rfl

theorem host_self_apply (h : Fin 16) (r x : Fin 512) : V m c main_v55 (ix3 h r x)
    = Scalar.select (IntOp.cmpi .sge (relT (ix2 r x)) 0#32) (tileG relT (m (c, Proc.tc.devRef main_arg3)) (ix3 h r x))
        (Ideal.ofBits .f32 0xFF800000#32) := by
  rw [host_self]
  generalize tileG relT (m (c, Proc.tc.devRef main_arg3)) = g
  generalize relT = rel
  pointwise []

/-- The factor of the second map. -/
def lamE (a4 a5 a6 a7 : FVec Ideal S128 .f32) : Ideal .f32 :=
  (Ideal.exp (Ideal.ofBits .f32 0x00000000#32 + ∑ k : Fin 128, a4 (ix1 k) * a5 (ix1 k))
    - Ideal.exp (Ideal.ofBits .f32 0x00000000#32 + ∑ k : Fin 128, a6 (ix1 k) * a7 (ix1 k))) + Ideal.ofBits .f32 0x3EB60549#32

theorem host_lam : V m c main_v89 (ix2 0 0) = lamE (m (c, Proc.tc.devRef main_arg4)) (m (c, Proc.tc.devRef main_arg5))
    (m (c, Proc.tc.devRef main_arg6)) (m (c, Proc.tc.devRef main_arg7)) := by
  unfold_abbrev_sides
  after_reads_simp
  pointwise [lamE]
  all_goals rfl
theorem host_g (e : Fin 256) : V m c main_v90 (ix2 0 e) = m (c, Proc.tc.devRef main_arg8) (ix1 e) := by
  unfold_abbrev_sides
  after_reads_simp
  pointwise []
end Cert.KernelIdeal.Attn
-- ==== Proof.Attn.Blocks.lean ====
module
public import proofs.«01_k».proof.Proof.Attn.Host
@[expose] public section
set_option maxRecDepth 16384
noncomputable section
namespace Cert.KernelIdeal.Attn
open Cert.KernelIdeal Cert.KernelIdeal.Gen Cert.Attn
open Idealize.ShloMosaic Idealize.ShloMosaic.TcCoe Idealize.ShloMosaic.Tactic

variable (m : (ℓ : Loc nD τ sig) → Buf (Elt Ideal) ℓ) (c : Dev nD)

/-! ## What the blocks of a grid point hold -/

/-- Where the windows' blocks lie. -/
theorem place : ∀ t : Fin cfg0.N,
    (win0_0.index t (0 : Fin 2) = t.val / 16 ∧ win0_0.index t (1 : Fin 2) = t.val % 16)
    ∧ (win0_1.index t (0 : Fin 2) = 0 ∧ win0_1.index t (1 : Fin 2) = t.val / 16)
    ∧ (win0_2.index t (0 : Fin 2) = t.val / 16 ∧ win0_2.index t (1 : Fin 2) = 0)
    ∧ (win0_3.index t (0 : Fin 3) = t.val / 16 ∧ win0_3.index t (1 : Fin 3) = 0 ∧ win0_3.index t (2 : Fin 3) = 0)
    ∧ (win0_4.index t (0 : Fin 3) = t.val / 16 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

theorem coord1 : ∀ t : Fin cfg0.N, (grid0.coords t 1).val = t.val % 16 :=
  (by decide +kernel : ∀ t : Fin grid0.N, _)
theorem N128 (t : Fin cfg0.N) : t.val < 128 := lt_of_lt_of_eq t.isLt N_0

theorem blk_q (t : Fin cfg0.N) (y0 : Fin 512) (y1 : Fin 512) (z0 : Fin 4096) (z1 : Fin 8192) (h0 : z0.val = 512 * (t.val / 16) + y0.val) (h1 : z1.val = 512 * (t.val % 16) + y1.val) :
    iblk m c 0 t (ix2 y0 y1) = V m c main_v9 (ix2 z0 z1) := by
  have p := place t
  show V m c main_v9 (((cfg0.win 0).blk t).view.emb (ix2 y0 y1)) = _
  refine congrArg _ (funext fun a => Fin.ext ?_)
  match a with
  | 0 => show win0_0.index t (0 : Fin 2) * 512 + 1 * y0.val = z0.val; omega
  | 1 => show win0_0.index t (1 : Fin 2) * 512 + 1 * y1.val = z1.val; omega
theorem blk_k (t : Fin cfg0.N) (y0 : Fin 8192) (y1 : Fin 512) (z0 : Fin 8192) (z1 : Fin 4096) (h0 : z0.val = 0 + y0.val) (h1 : z1.val = 512 * (t.val / 16) + y1.val) :
    iblk m c 1 t (ix2 y0 y1) = V m c main_v10 (ix2 z0 z1) := by
  have p := place t
  show V m c main_v10 (((cfg0.win 1).blk t).view.emb (ix2 y0 y1)) = _
  refine congrArg _ (funext fun a => Fin.ext ?_)
  match a with
  | 0 => show win0_1.index t (0 : Fin 2) * 8192 + 1 * y0.val = z0.val; omega
  | 1 => show win0_1.index t (1 : Fin 2) * 512 + 1 * y1.val = z1.val; omega
theorem blk_v (t : Fin cfg0.N) (y0 : Fin 512) (y1 : Fin 8192) (z0 : Fin 4096) (z1 : Fin 8192) (h0 : z0.val = 512 * (t.val / 16) + y0.val) (h1 : z1.val = 0 + y1.val) :
    iblk m c 2 t (ix2 y0 y1) = V m c main_v12 (ix2 z0 z1) := by
  have p := place t
  show V m c main_v12 (((cfg0.win 2).blk t).view.emb (ix2 y0 y1)) = _
  refine congrArg _ (funext fun a => Fin.ext ?_)
  match a with
  | 0 => show win0_2.index t (0 : Fin 2) * 512 + 1 * y0.val = z0.val; omega
  | 1 => show win0_2.index t (1 : Fin 2) * 8192 + 1 * y1.val = z1.val; omega
theorem blk_self (t : Fin cfg0.N) (y0 : Fin 2) (y1 y2 : Fin 512) (z0 : Fin 16) (h0 : z0.val = 2 * (t.val / 16) + y0.val) :
    iblk m c 3 t (ix3 y0 y1 y2) = V m c main_v55 (ix3 z0 y1 y2) := by
  have p := place t
  show V m c main_v55 (((cfg0.win 3).blk t).view.emb (ix3 y0 y1 y2)) = _
  refine congrArg _ (funext fun a => Fin.ext ?_)
  match a with
  | 0 => show win0_3.index t (0 : Fin 3) * 2 + 1 * y0.val = z0.val; omega
  | 1 => show win0_3.index t (1 : Fin 3) * 512 + 1 * y1.val = y1.val; omega
  | 2 => show win0_3.index t (2 : Fin 3) * 512 + 1 * y2.val = y2.val; omega
theorem blk_prev (t : Fin cfg0.N) (y0 : Fin 2) (y1 y2 : Fin 512) (z0 : Fin 16) (h0 : z0.val = 2 * (t.val / 16) + y0.val) :
    iblk m c 4 t (ix3 y0 y1 y2) = V m c main_v88 (ix3 z0 y1 y2) := by
  have p := place t
  show V m c main_v88 (((cfg0.win 4).blk t).view.emb (ix3 y0 y1 y2)) = _
  refine congrArg _ (funext fun a => Fin.ext ?_)
  match a with
  | 0 => show win0_4.index t (0 : Fin 3) * 2 + 1 * y0.val = z0.val; omega
  | 1 => show win0_4.index t (1 : Fin 3) * 512 + 1 * y1.val = y1.val; omega
  | 2 => show win0_4.index t (2 : Fin 3) * 512 + 1 * y2.val = y2.val; omega
theorem blk_lam (t : Fin cfg0.N) (y0 : Fin 1) (y1 : Fin 1) (z0 : Fin 1) (z1 : Fin 1) (h0 : z0.val = 0 + y0.val) (h1 : z1.val = 0 + y1.val) :
    iblk m c 5 t (ix2 y0 y1) = V m c main_v89 (ix2 z0 z1) := by
  have p := place t
  show V m c main_v89 (((cfg0.win 5).blk t).view.emb (ix2 y0 y1)) = _
  refine congrArg _ (funext fun a => Fin.ext ?_)
  match a with
  | 0 => show win0_5.index t (0 : Fin 2) * 1 + 1 * y0.val = z0.val; omega
  | 1 => show win0_5.index t (1 : Fin 2) * 1 + 1 * y1.val = z1.val; omega
theorem blk_g (t : Fin cfg0.N) (y0 : Fin 1) (y1 : Fin 256) (z0 : Fin 1) (z1 : Fin 256) (h0 : z0.val = 0 + y0.val) (h1 : z1.val = 0 + y1.val) :
    iblk m c 6 t (ix2 y0 y1) = V m c main_v90 (ix2 z0 z1) := by
  have p := place t
  show V m c main_v90 (((cfg0.win 6).blk t).view.emb (ix2 y0 y1)) = _
  refine congrArg _ (funext fun a => Fin.ext ?_)
  match a with
  | 0 => show win0_6.index t (0 : Fin 2) * 1 + 1 * y0.val = z0.val; omega
  | 1 => show win0_6.index t (1 : Fin 2) * 256 + 1 * y1.val = z1.val; omega

end Cert.KernelIdeal.Attn
-- ==== Proof.Attn.Point.lean ====
module
public import proofs.«01_k».proof.Proof.Attn.Blocks
@[expose] public section
set_option maxRecDepth 16384
noncomputable section
namespace Cert.KernelIdeal.Attn
open Cert.KernelIdeal Cert.KernelIdeal.Gen Cert.Attn
open Idealize.ShloMosaic Idealize.ShloMosaic.TcCoe Idealize.ShloMosaic.Tactic

/-! ## The keys, the biases and the values of a grid point, over the reals -/

theorem sub_small {a b : ℕ} (h : b ≤ a) (ha : a < 2 ^ 32) : BitVec.ofNat 32 a - BitVec.ofNat 32 b = BitVec.ofNat 32 (a - b) := by
  apply BitVec.eq_of_toNat_eq
  simp only [BitVec.toNat_sub, BitVec.toNat_ofNat]
  omega

theorem sub_add_small {a b : ℕ} (ha : a < 512) (hb : b < 512) :
    BitVec.ofNat 32 a - BitVec.ofNat 32 b + 512#32 = BitVec.ofNat 32 (512 + a - b) := by
  apply BitVec.eq_of_toNat_eq
  simp only [BitVec.toNat_add, BitVec.toNat_sub, BitVec.toNat_ofNat]
  omega

theorem sge_pos {a b : ℕ} (h : b ≤ a) (ha : a < 512) : IntOp.cmpi .sge (BitVec.ofNat 32 a - BitVec.ofNat 32 b) 0#32 = 1 := by
  rw [sub_small h (by omega)]
  show BitVec.ofBool ((BitVec.ofNat 32 0).sle (BitVec.ofNat 32 (a - b))) = 1
  rw [BitVec.sle_eq_decide, toInt_small (by omega), toInt_small (by omega), decide_eq_true (by omega)]
  rfl

theorem sge_neg {a b : ℕ} (h : a < b) (hb : b < 8192) : IntOp.cmpi .sge (BitVec.ofNat 32 a - BitVec.ofNat 32 b) 0#32 = 0 := by
  show BitVec.ofBool ((BitVec.ofNat 32 0).sle (BitVec.ofNat 32 a - BitVec.ofNat 32 b)) = 0
  rw [BitVec.sle_eq_decide, toInt_small (by omega), BitVec.toInt_sub, toInt_small (by omega), toInt_small (by omega),
    decide_eq_false]
  · rfl
  · simp only [Int.bmod_def]; omega

/-- The head of a group, its map, and the query of a column. -/
def hd (t : Fin cfg0.N) (u : Fin 4) : Fin 16 := ⟨2 * (t.val / 16) + u.val / 2, by have := N128 t; omega⟩
def mp (u : Fin 4) : Fin 2 := ⟨u.val % 2, by omega⟩
def qq (t : Fin cfg0.N) (x : Fin 512) : Fin 8192 := ⟨512 * (t.val % 16) + x.val, by omega⟩
def hv (t : Fin cfg0.N) (hh : Fin 2) : Fin 16 := ⟨2 * (t.val / 16) + hh.val, by have := N128 t; omega⟩

variable (m : (ℓ : Loc nD τ sig) → Buf (Elt Ideal) ℓ) (c : Dev nD)
variable (Q K Vv : Fin 8192 → Fin 4096 → ℝ) (T : Fin 32 → Fin 16 → ℝ)

def wP (t : Fin cfg0.N) (u : Fin 4) (x : Fin 512) (k : ℕ) : ℝ := wt Q K T (hd t u) (mp u) (qq t x) k
def vP (t : Fin cfg0.N) (hh : Fin 2) (d : Fin 272) (k : ℕ) : ℝ :=
  if h : d.val < 256 ∧ k < 8192 then Vv ⟨k, h.2⟩ (vcol (hv t hh) ⟨d.val, h.1⟩) else 1

/-- The arrays hold real numbers. -/
structure Reals : Prop where
  q : ∀ a b, m (c, Proc.tc.devRef main_arg0) (ix2 a b) = (Q a b : EReal)
  k : ∀ a b, m (c, Proc.tc.devRef main_arg1) (ix2 a b) = (K a b : EReal)
  v : ∀ a b, m (c, Proc.tc.devRef main_arg2) (ix2 a b) = (Vv a b : EReal)
  t : ∀ a b, m (c, Proc.tc.devRef main_arg3) (ix2 a b) = (T a b : EReal)

variable {m c Q K Vv T}

theorem dot_real (R : Reals m c Q K Vv T) (t : Fin cfg0.N) (u : Fin 4) (κ : Fin 8192) (x : Fin 512)
    (xk : Vec Ideal S8192x512 .bf16) (xq : Vec Ideal S512x512 .bf16) (hk : xk = iblk m c 1 t) (hq : xq = iblk m c 0 t) :
    (∑ e : Fin 128, xk (ix2 κ (col u e)) * xq (ix2 (col u e) x))
      = ((dotp Q K (hd t u) (mp u) (qq t x) κ : ℝ) : EReal) := by
  subst hk hq
  unfold dotp
  rw [coe_sum]
  refine Finset.sum_congr rfl fun e _ => ?_
  have he : (hcol (hd t u) (mp u) e).val = 512 * (t.val / 16) + (128 * u.val + e.val) := by
    show 256 * (2 * (t.val / 16) + u.val / 2) + 128 * (u.val % 2) + e.val = _
    omega
  rw [blk_k m c t κ (col u e) κ (hcol (hd t u) (mp u) e) (by omega) he, host_k, R.k,
    blk_q m c t (col u e) x (hcol (hd t u) (mp u) e) (qq t x) he rfl, host_q, R.q, EReal.coe_mul]

theorem wt_le {t : Fin cfg0.N} {u : Fin 4} {x : Fin 512} {κ : Fin 8192} (h : κ.val ≤ (qq t x).val) :
    wP Q K T t u x κ.val = Real.exp (dotp Q K (hd t u) (mp u) (qq t x) κ
      + (T (rowI (BitVec.ofNat 32 ((qq t x).val - κ.val))) (hd t u) - T 31 (hd t u))) := dif_pos h

theorem ones : (Ideal.ofBits .bf16 0x3F80#16 : EReal) = ((1 : ℝ) : EReal) := by
  simp [Ideal.ofBits, Ideal.ieee, -EReal.coe_mul]
  norm_num

theorem data (R : Reals m c Q K Vv T) (t t' : Fin cfg0.N) (ht : t'.val / 16 = t.val / 16) (va : Vec Ideal S2x16x272x512 .bf16)
    (hva : va = vaG (iblk m c 2 t')) :
    Data (grid0.coords t 1).val (iblk m c 0 t) (iblk m c 1 t) va (wP Q K T t) (vP Vv t) where
  far u κ x h := by
    rw [coord1] at h
    have hq : (qq t x).val = 512 * (t.val % 16) + x.val := rfl
    rw [dot_real R t u κ x _ _ rfl rfl, wt_le (by omega), rowI_far (by omega) (by omega), sub_self, add_zero]
    exact Wt_exp _
  va hh u d k := by
    subst hva
    show (if h : d.val < 256 then iblk m c 2 t' (ix2 _ _) else Ideal.ofBits .bf16 0x3F80#16) = _
    by_cases h : d.val < 256
    · rw [dif_pos h]
      have e : vP Vv t hh d (512 * u.val + k.val) = Vv ⟨512 * u.val + k.val, by omega⟩ (vcol (hv t hh) ⟨d.val, h⟩) :=
        dif_pos ⟨h, by omega⟩
      rw [e, blk_v m c t' _ _ (vcol (hv t hh) ⟨d.val, h⟩) ⟨512 * u.val + k.val, by omega⟩ ?_ ?_, host_v, R.v]
      · show 256 * (2 * (t.val / 16) + hh.val) + d.val = 512 * (t'.val / 16) + (256 * hh.val + d.val)
        omega
      · exact (Nat.zero_add _).symm
    · rw [dif_neg h, ones]
      have e : vP Vv t hh d (512 * u.val + k.val) = 1 := dif_neg fun h' => h h'.1
      rw [e]

theorem near (R : Reals m c Q K Vv T) (t : Fin cfg0.N) :
    Near (grid0.coords t 1).val (iblk m c 0 t) (iblk m c 1 t) (iblk m c 3 t) (iblk m c 4 t) (wP Q K T t) where
  prev hb hh u κ r x hu hκ := by
    rw [coord1] at hb hκ
    have hq : (qq t x).val = 512 * (t.val % 16) + x.val := rfl
    have e : (qq t x).val - κ.val = 512 + x.val - r.val := by omega
    have hs : addi relT (allI 512#32) (ix2 r x) = BitVec.ofNat 32 ((qq t x).val - κ.val) := by
      rw [e, ← sub_add_small x.isLt r.isLt]; rfl
    rw [dot_real R t u κ x _ _ rfl rfl, blk_prev m c t hh r x (hd t u) (by show 2 * (t.val / 16) + u.val / 2 = _; omega), host_prev, tileG_apply, hs, R.t, R.t,
      wt_le (by omega), ← EReal.coe_sub, ← EReal.coe_add]
    exact Wt_exp _
  self hh u κ r x hu hκ := by
    rw [coord1] at hκ
    have hq : (qq t x).val = 512 * (t.val % 16) + x.val := rfl
    rw [dot_real R t u κ x _ _ rfl rfl, blk_self m c t hh r x (hd t u) (by show 2 * (t.val / 16) + u.val / 2 = _; omega), host_self_apply, relT_apply]
    by_cases hr : r.val ≤ x.val
    · have e : (qq t x).val - κ.val = x.val - r.val := by omega
      rw [sge_pos hr x.isLt]
      show Wt ((_ + tileG relT _ (ix3 (hd t u) r x)) * L2E) _
      rw [tileG_apply, relT_apply, sub_small hr (by omega), R.t, R.t, wt_le (by omega), e, ← EReal.coe_sub, ← EReal.coe_add]
      exact Wt_exp _
    · rw [sge_neg (by omega) (by omega)]
      show Wt ((_ + Ideal.ofBits .f32 0xFF800000#32) * L2E) _
      have e : wP Q K T t u x κ.val = 0 := wt_zero _ _ _ _ _ _ _ (by omega)
      rw [neg_inf, EReal.add_bot, e]
      exact Wt_bot
end Cert.KernelIdeal.Attn
-- ==== Proof.Attn.Result.lean ====
module
public import proofs.«01_k».proof.Proof.Attn.Point
@[expose] public section
set_option maxRecDepth 16384
noncomputable section
namespace Cert.KernelIdeal.Attn
open Cert.KernelIdeal Cert.KernelIdeal.Gen Cert.Attn
open Idealize.ShloMosaic Idealize.ShloMosaic.TcCoe Idealize.ShloMosaic.Tactic

/-! ## The kernel's result, over the reals -/

/-- A head's values. -/
def vv (Vv : Fin 8192 → Fin 4096 → ℝ) (h : Fin 16) (d : Fin 256) (k : ℕ) : ℝ := if hk : k < 8192 then Vv ⟨k, hk⟩ (vcol h d) else 1

/-- A head's output row: the difference of the two maps' means, normalised, weighed and scaled. -/
def headRow (lam : Ideal .f32) (g : Fin 256 → Ideal .f32) (Q K Vv : Fin 8192 → Fin 4096 → ℝ) (T : Fin 32 → Fin 16 → ℝ) (h : Fin 16)
    (q : Fin 8192) (d : Fin 256) : Ideal .f32 :=
  rowOut (fun e => ((soft (wt Q K T h 0 q) (vv Vv h e) 8192 : ℝ) : EReal) - lam * ((soft (wt Q K T h 1 q) (vv Vv h e) 8192 : ℝ) : EReal)) g d

section
variable (Q K Vv : Fin 8192 → Fin 4096 → ℝ) (T : Fin 32 → Fin 16 → ℝ)

/-- A map's quotient once the keys up to the query block are done. -/
theorem quot_soft (t : Fin cfg0.N) (u : Fin 4) (hh : Fin 2) (x : Fin 512) {m : EReal} {a : Fin 272 → EReal}
    (h : Inv (wP Q K T t u x) (vP Vv t hh) (512 * ((grid0.coords t 1).val + 1)) m a) (e : Fin 256) :
    Ideal.div (a ⟨e.val, by omega⟩) (a 256) = ((soft (wt Q K T (hd t u) (mp u) (qq t x)) (vv Vv (hv t hh) e) 8192 : ℝ) : EReal) := by
  rw [coord1] at h
  have hq : (qq t x).val = 512 * (t.val % 16) + x.val := rfl
  rw [Inv_soft h (fun k => dif_neg fun h' => absurd h'.1 (by decide)) (wt_sum_pos _ _ _ _ _ _ _ (by omega)) ⟨e.val, by omega⟩,
    soft_cut (wt Q K T (hd t u) (mp u) (qq t x)) (vv Vv (hv t hh) e) (J := 512 * (t.val % 16 + 1)) (J' := 8192) (by omega)
      (fun k hk => wt_zero _ _ _ _ _ _ _ (by omega))]
  have ev : vP Vv t hh ⟨e.val, by omega⟩ = vv Vv (hv t hh) e := by
    funext k
    unfold vP vv
    by_cases hk : k < 8192
    · rw [dif_pos ⟨e.isLt, hk⟩, dif_pos hk]
    · rw [dif_neg fun h' => hk h'.2, dif_neg hk]
  rw [ev]
  rfl

theorem done_out (t : Fin cfg0.N) (v11 : View sig .tc .vmem S4x272x512 .f32) (f11 : v11.ty.Contents (Elt Ideal))
    (D : Done (wP Q K T t) (vP Vv t) (512 * ((grid0.coords t 1).val + 1)) v11 f11) (lam : Ideal .f32) (g : Fin 256 → Ideal .f32)
    (x : Fin 512) (d : Fin 256) :
    rowOut (fun e => diffO (RA0 v11 f11) (RA1 v11 f11) lam x e) g d = headRow lam g Q K Vv T (hv t 0) (qq t x) d
    ∧ rowOut (fun e => diffO (RA2 v11 f11) (RA3 v11 f11) lam x e) g d = headRow lam g Q K Vv T (hv t 1) (qq t x) d := by
  obtain ⟨⟨_, h0⟩, ⟨_, h1⟩, ⟨_, h2⟩, ⟨_, h3⟩⟩ := D
  have e0 : hd t 0 = hv t 0 := rfl
  have e1 : hd t 1 = hv t 0 := rfl
  have e2 : hd t 2 = hv t 1 := rfl
  have e3 : hd t 3 = hv t 1 := rfl
  constructor
  · refine congrArg (fun f => rowOut f g d) (funext fun e => ?_)
    have q0 := quot_soft Q K Vv T t 0 0 x (h0 x) e
    have q1 := quot_soft Q K Vv T t 1 0 x (h1 x) e
    rw [e0] at q0
    rw [e1] at q1
    exact congr (congrArg (fun a b => a - lam * b) q0) q1
  · refine congrArg (fun f => rowOut f g d) (funext fun e => ?_)
    have q2 := quot_soft Q K Vv T t 2 1 x (h2 x) e
    have q3 := quot_soft Q K Vv T t 3 1 x (h3 x) e
    rw [e2] at q2
    rw [e3] at q3
    exact congr (congrArg (fun a b => a - lam * b) q2) q3
end

/-! ## One grid point: its block from its keys -/

theorem blockA (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x8192 .bf16) (harg4 : arg4.IsWhole) (arg5 : Memref sig .tc .vmem S2x512x512 .f32) (harg5 : arg5.IsWhole) (arg6 : Memref sig .tc .vmem S2x512x512 .f32) (harg6 : arg6.IsWhole) (arg7 : Memref sig .tc .vmem S1x1 .f32) (harg7 : arg7.IsWhole) (arg8 : Memref sig .tc .vmem S1x256 .f32) (harg8 : arg8.IsWhole) (arg9 : Memref sig .tc .vmem S512x512 .bf16) (harg9 : arg9.IsWhole) (arg10 : Memref sig .tc .vmem S4x1x512 .f32) (harg10 : arg10.IsWhole) (arg11 : Memref sig .tc .vmem S4x272x512 .f32) (harg11 : arg11.IsWhole) (arg12 : Memref sig .tc .vmem S2x16x272x512 .bf16) (harg12 : arg12.IsWhole) (hc0 : cond0_0 i) (hc1 : ¬cond0_1 i) (hc2 : cond0_2 i)
    (x0 : Vec Ideal S512x512 .bf16) (x1 : Vec Ideal S8192x512 .bf16) (x2 : Vec Ideal S512x8192 .bf16) (x3 : Vec Ideal S2x512x512 .f32) (x4 : Vec Ideal S2x512x512 .f32) (x5 : Vec Ideal S1x1 .f32) (x6 : Vec Ideal S1x256 .f32) {w : Fin 4 → Fin 512 → ℕ → ℝ} {v : Fin 2 → Fin 272 → ℕ → ℝ} (hi : (i 1).val = 0)
    (D : Data (i 1).val x0 x1 (vaG x2) w v) (N : Near (i 1).val x0 x1 x3 x4 w) :
    ∃ f : arg11.view.ty.Contents (Elt Ideal), Done w v (512 * ((i 1).val + 1)) arg11.view f ∧ ∀ (x : Fin 512) (d : Fin 256),
      out0_A_7 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 (ix2 x ⟨d.val, by omega⟩)
        = rowOut (fun e => diffO (RA0 arg11.view f) (RA1 arg11.view f) (x5 (ix2 0 0)) x e) (fun e => x6 (ix2 0 e)) d
      ∧ out0_A_7 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 (ix2 x ⟨256 + d.val, by omega⟩)
        = rowOut (fun e => diffO (RA2 arg11.view f) (RA3 arg11.view f) (x5 (ix2 0 0)) x e) (fun e => x6 (ix2 0 e)) d :=
  ⟨_, doneA c i arg2 harg2 arg3 harg3 arg4 harg4 arg5 harg5 arg6 harg6 arg7 harg7 arg8 harg8 arg9 harg9 arg10 harg10 arg11 harg11 arg12 harg12 x0 x1 x2 x3 hi (x4 := x4) (by rw [va_read]; exact D) N, fun x d => outA c i arg2 harg2 arg3 harg3 arg4 harg4 arg5 harg5 arg6 harg6 arg7 harg7 arg8 harg8 arg9 harg9 arg10 harg10 arg11 harg11 arg12 harg12 hc0 hc1 hc2 x0 x1 x2 x3 x4 x5 x6 x d⟩

theorem blockB (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x8192 .bf16) (harg4 : arg4.IsWhole) (arg5 : Memref sig .tc .vmem S2x512x512 .f32) (harg5 : arg5.IsWhole) (arg6 : Memref sig .tc .vmem S2x512x512 .f32) (harg6 : arg6.IsWhole) (arg7 : Memref sig .tc .vmem S1x1 .f32) (harg7 : arg7.IsWhole) (arg8 : Memref sig .tc .vmem S1x256 .f32) (harg8 : arg8.IsWhole) (arg9 : Memref sig .tc .vmem S512x512 .bf16) (harg9 : arg9.IsWhole) (arg10 : Memref sig .tc .vmem S4x1x512 .f32) (harg10 : arg10.IsWhole) (arg11 : Memref sig .tc .vmem S4x272x512 .f32) (harg11 : arg11.IsWhole) (arg12 : Memref sig .tc .vmem S2x16x272x512 .bf16) (harg12 : arg12.IsWhole) (hc0 : ¬cond0_0 i) (hc1 : cond0_1 i) (hc2 : ¬cond0_2 i)
    (x0 : Vec Ideal S512x512 .bf16) (x1 : Vec Ideal S8192x512 .bf16) (x2 : Vec Ideal S512x8192 .bf16) (x3 : Vec Ideal S2x512x512 .f32) (x4 : Vec Ideal S2x512x512 .f32) (x5 : Vec Ideal S1x1 .f32) (x6 : Vec Ideal S1x256 .f32) (xs2 : Vec Ideal S2x16x272x512 .bf16) {w : Fin 4 → Fin 512 → ℕ → ℝ} {v : Fin 2 → Fin 272 → ℕ → ℝ} (hi : 0 < (i 1).val)
    (D : Data (i 1).val x0 x1 xs2 w v) (N : Near (i 1).val x0 x1 x3 x4 w) :
    ∃ f : arg11.view.ty.Contents (Elt Ideal), Done w v (512 * ((i 1).val + 1)) arg11.view f ∧ ∀ (x : Fin 512) (d : Fin 256),
      out0_B_7 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs2 (ix2 x ⟨d.val, by omega⟩)
        = rowOut (fun e => diffO (RA0 arg11.view f) (RA1 arg11.view f) (x5 (ix2 0 0)) x e) (fun e => x6 (ix2 0 e)) d
      ∧ out0_B_7 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs2 (ix2 x ⟨256 + d.val, by omega⟩)
        = rowOut (fun e => diffO (RA2 arg11.view f) (RA3 arg11.view f) (x5 (ix2 0 0)) x e) (fun e => x6 (ix2 0 e)) d :=
  ⟨_, doneB c i arg2 harg2 arg3 harg3 arg4 harg4 arg5 harg5 arg6 harg6 arg7 harg7 arg8 harg8 arg9 harg9 arg10 harg10 arg11 harg11 arg12 harg12 hc1 x0 x1 x3 x4 xs2 hi D N, fun x d => outB c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs2 x d⟩

theorem soutA (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x8192 .bf16) (harg4 : arg4.IsWhole) (arg5 : Memref sig .tc .vmem S2x512x512 .f32) (harg5 : arg5.IsWhole) (arg6 : Memref sig .tc .vmem S2x512x512 .f32) (harg6 : arg6.IsWhole) (arg7 : Memref sig .tc .vmem S1x1 .f32) (harg7 : arg7.IsWhole) (arg8 : Memref sig .tc .vmem S1x256 .f32) (harg8 : arg8.IsWhole) (arg9 : Memref sig .tc .vmem S512x512 .bf16) (harg9 : arg9.IsWhole) (arg10 : Memref sig .tc .vmem S4x1x512 .f32) (harg10 : arg10.IsWhole) (arg11 : Memref sig .tc .vmem S4x272x512 .f32) (harg11 : arg11.IsWhole) (arg12 : Memref sig .tc .vmem S2x16x272x512 .bf16) (harg12 : arg12.IsWhole) (hc0 : cond0_0 i) (hc1 : ¬cond0_1 i) (hc2 : cond0_2 i)
    (x0 : Vec Ideal S512x512 .bf16) (x1 : Vec Ideal S8192x512 .bf16) (x2 : Vec Ideal S512x8192 .bf16) (x3 : Vec Ideal S2x512x512 .f32) (x4 : Vec Ideal S2x512x512 .f32) (x5 : Vec Ideal S1x1 .f32) (x6 : Vec Ideal S1x256 .f32) : sout0_A_2 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 = vaG x2 := by
  unfold sout0_A_2 kernelRun0_A
  exact va_read c arg4 harg4 x2 _ _

variable (m : (ℓ : Loc nD τ sig) → Buf (Elt Ideal) ℓ) (c : Dev nD)

/-- The values a head pair's first point lays out are still there at each of its points. -/
theorem fst_of {α β : Type} {p : α × β} {a : α} {b : β} (h : p = (a, b)) : p.1 = a := by rw [h]

theorem kept_A (t : Fin cfg0.N) (h0 : t.val % 16 = 0) : (outsAt0 m c t.val t.isLt).2 = vaG (iblk m c 2 t) := by
  have h1 : ¬1 ≤ t.val % 16 := by omega
  have e := congrArg Prod.snd (outsAt0_A m c t h0 h1 h0)
  exact e.trans (soutA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) ((hcond0_2 t).mpr h0) (iblk m c 0 t) (iblk m c 1 t) (iblk m c 2 t) (iblk m c 3 t) (iblk m c 4 t) (iblk m c 5 t) (iblk m c 6 t))

theorem kept_B (t : Fin cfg0.N) (h0 : ¬t.val % 16 = 0) :
    (outsAt0 m c t.val t.isLt).2 = (outsAt0 m c (t.val - 1) (Nat.lt_of_le_of_lt (Nat.sub_le _ _) t.isLt)).2 := by
  have e := congrArg Prod.snd (outsAt0_B m c t h0 (by omega) h0)
  exact e

theorem first_A (t : Fin cfg0.N) (h0 : t.val % 16 = 0) (h1 : ¬1 ≤ t.val % 16) : (outsAt0 m c t.val t.isLt).1
    = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) ((hcond0_2 t).mpr h0) (iblk m c 0 t) (iblk m c 1 t) (iblk m c 2 t) (iblk m c 3 t) (iblk m c 4 t) (iblk m c 5 t) (iblk m c 6 t) := by
  exact fst_of (outsAt0_A m c t h0 h1 h0)

theorem first_B (t : Fin cfg0.N) (h0 : ¬t.val % 16 = 0) (h1 : 1 ≤ t.val % 16) : (outsAt0 m c t.val t.isLt).1
    = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (fun h => h0 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 := by
  exact fst_of (outsAt0_B m c t h0 h1 h0)

theorem kept (n : ℕ) (hn : n < cfg0.N) : ∃ t' : Fin cfg0.N, t'.val / 16 = n / 16 ∧ (outsAt0 m c n hn).2 = vaG (iblk m c 2 t') := by
  induction n with
  | zero => exact ⟨⟨0, hn⟩, rfl, kept_A m c ⟨0, hn⟩ rfl⟩
  | succ n ih =>
    by_cases h0 : (n + 1) % 16 = 0
    · exact ⟨⟨n + 1, hn⟩, rfl, kept_A m c ⟨n + 1, hn⟩ h0⟩
    · obtain ⟨t', ht, e⟩ := ih (Nat.lt_of_succ_lt hn)
      exact ⟨t', by omega, (kept_B m c ⟨n + 1, hn⟩ h0).trans e⟩

variable {m c}
variable {Q K Vv : Fin 8192 → Fin 4096 → ℝ} {T : Fin 32 → Fin 16 → ℝ}

/-- The factor and the weights a grid point takes. -/
def lamM (m : (ℓ : Loc nD τ sig) → Buf (Elt Ideal) ℓ) (c : Dev nD) : Ideal .f32 :=
  lamE (m (c, Proc.tc.devRef main_arg4)) (m (c, Proc.tc.devRef main_arg5)) (m (c, Proc.tc.devRef main_arg6)) (m (c, Proc.tc.devRef main_arg7))
def gM (m : (ℓ : Loc nD τ sig) → Buf (Elt Ideal) ℓ) (c : Dev nD) (e : Fin 256) : Ideal .f32 := m (c, Proc.tc.devRef main_arg8) (ix1 e)

theorem lam_eq (t : Fin cfg0.N) : iblk m c 5 t (ix2 0 0) = lamM m c := (blk_lam m c t 0 0 0 0 rfl rfl).trans (host_lam m c)
theorem g_eq (t : Fin cfg0.N) : (fun e : Fin 256 => iblk m c 6 t (ix2 0 e)) = gM m c :=
  funext fun e => (blk_g m c t 0 e 0 e rfl (Nat.zero_add _).symm).trans (host_g m c e)

/-- The two halves of the block a point writes. -/
theorem point_out (R : Reals m c Q K Vv T) (t : Fin cfg0.N) (x : Fin 512) (d : Fin 256) :
    (outsAt0 m c t.val t.isLt).1 (ix2 x ⟨d.val, by omega⟩) = headRow (lamM m c) (gM m c) Q K Vv T (hv t 0) (qq t x) d
    ∧ (outsAt0 m c t.val t.isLt).1 (ix2 x ⟨256 + d.val, by omega⟩) = headRow (lamM m c) (gM m c) Q K Vv T (hv t 1) (qq t x) d := by
  rw [← lam_eq t, ← g_eq t]
  by_cases h0 : t.val % 16 = 0
  · have h1 : ¬1 ≤ t.val % 16 := by omega
    obtain ⟨f, D, o⟩ := blockA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) ((hcond0_2 t).mpr h0) (iblk m c 0 t) (iblk m c 1 t) (iblk m c 2 t) (iblk m c 3 t) (iblk m c 4 t) (iblk m c 5 t) (iblk m c 6 t)
      ((coord1 t).trans h0) (data R t t rfl _ rfl) (near R t)
    have q := done_out Q K Vv T t _ f D (iblk m c 5 t (ix2 0 0)) (fun e => iblk m c 6 t (ix2 0 e)) x d
    rw [first_A m c t h0 h1, (o x d).1, (o x d).2]
    exact q
  · have h1 : 1 ≤ t.val % 16 := by omega
    obtain ⟨t', ht, ek⟩ := kept m c (t.val - 1) (Nat.lt_of_le_of_lt (Nat.sub_le _ _) t.isLt)
    obtain ⟨f, D, o⟩ := blockB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (fun h => h0 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2
      (by rw [coord1]; omega) (data R t t' (by omega) _ ek) (near R t)
    have q := done_out Q K Vv T t _ f D (iblk m c 5 t (ix2 0 0)) (fun e => iblk m c 6 t (ix2 0 e)) x d
    rw [first_B m c t h0 h1, (o x d).1, (o x d).2]
    exact q
end Cert.KernelIdeal.Attn
-- ==== Proof.Attn.Final.lean ====
module
public import proofs.«01_k».proof.Proof.Attn.Result
public import proofs.«01_k».proof.Proof.Gen.KernelIdeal.Value
@[expose] public section
set_option maxRecDepth 16384
noncomputable section
namespace Cert.KernelIdeal.Attn
open Cert.KernelIdeal Cert.KernelIdeal.Gen Cert.Attn
open Idealize.ShloMosaic Idealize.ShloMosaic.TcCoe Idealize.ShloMosaic.Tactic

variable {m : (ℓ : Loc nD τ sig) → Buf (Elt Ideal) ℓ} {c : Dev nD}
variable {Q K Vv : Fin 8192 → Fin 4096 → ℝ} {T : Fin 32 → Fin 16 → ℝ}

theorem G7_point (i : S8192x4096.Idx) (t : Fin cfg0.N) (ht : Value.pt7Of i = t.val) :
    Value.G7 m c i = (outsAt0 m c t.val t.isLt).1 (Value.loc7Of i) := by
  obtain ⟨n, hn⟩ := t
  have ht' : Value.pt7Of i = n := ht
  subst ht'
  unfold Value.G7
  rw [dif_pos hn]
  exact congrFun (congrArg Prod.fst (Value.outsAt0_sweep m c _ hn).symm) _

/-- The kernel's result at an entry. -/
theorem kernel_entry (R : Reals m c Q K Vv T) (q : Fin 8192) (h : Fin 16) (d : Fin 256) :
    Value.G7 m c (ix2 q (vcol h d)) = headRow (lamM m c) (gM m c) Q K Vv T h q d := by
  have hc : (vcol h d).val = 256 * h.val + d.val := rfl
  have hN : q.val / 512 + 16 * (h.val / 2) < cfg0.N := lt_of_lt_of_eq (by omega) N_0.symm
  let t : Fin cfg0.N := ⟨q.val / 512 + 16 * (h.val / 2), hN⟩
  have ht : t.val = q.val / 512 + 16 * (h.val / 2) := rfl
  have e := G7_point (m := m) (c := c) (ix2 q (vcol h d)) t
    (by show 1 * (q.val / 512 - 0) + 16 * ((vcol h d).val / 512 - 0) = _; omega)
  have o := point_out R t ⟨q.val % 512, Nat.mod_lt _ (by decide)⟩ d
  have hq : qq t ⟨q.val % 512, Nat.mod_lt _ (by decide)⟩ = q := Fin.ext (by show 512 * (t.val % 16) + q.val % 512 = q.val; omega)
  rw [hq] at o
  rw [e]
  have hmod : h.val % 2 = 0 ∨ h.val % 2 = 1 := by omega
  rcases hmod with h0 | h0
  · have hh : hv t 0 = h := Fin.ext (by show 2 * (t.val / 16) + 0 = h.val; omega)
    rw [hh] at o
    refine Eq.trans (congrArg _ (funext fun a => Fin.ext ?_)) o.1
    match a with
    | 0 => rfl
    | 1 => show (vcol h d).val % 512 = d.val; omega
  · have hh : hv t 1 = h := Fin.ext (by show 2 * (t.val / 16) + 1 = h.val; omega)
    rw [hh] at o
    refine Eq.trans (congrArg _ (funext fun a => Fin.ext ?_)) o.2
    match a with
    | 0 => rfl
    | 1 => show (vcol h d).val % 512 = 256 + d.val; omega
end Cert.KernelIdeal.Attn
-- ==== Proof.Attn.RefScore.lean ====
module
public import proofs.«01_k».proof.Proof.Attn.Final
public import proofs.«01_k».proof.Proof.Gen.ReferenceIdeal.Read
@[expose] public section
set_option maxRecDepth 16384
noncomputable section
namespace Cert.ReferenceIdeal.Attn
open Cert.ReferenceIdeal Cert.ReferenceIdeal.Gen Cert.ReferenceIdeal.Read Cert.Attn
open Cert.KernelIdeal.Attn (sub_small sge_neg vv headRow)
open Idealize.ShloMosaic Idealize.ShloMosaic.TcCoe Idealize.ShloMosaic.Tactic

/-! ## The reference's scores -/

variable {x0 x1 : Vec Ideal S8192x4096 .f32} {x3 : Vec Ideal S32x16 .f32}
variable {Q K Vv : Fin 8192 → Fin 4096 → ℝ} {T : Fin 32 → Fin 16 → ℝ}

/-- The relative position of a query and a key. -/
theorem rel_apply (q κ : Fin 8192) :
    val_main_v16 (F := Ideal) (ix2 q κ) = BitVec.ofNat 32 q.val - BitVec.ofNat 32 κ.val := by
  rw [val_main_v16_apply, val_main_v14_apply, val_main_v12_apply, val_main_v11_apply, val_main_v15_apply, val_main_v13_apply, val_main_v11_apply]
  rfl

/-- The row of the table the reference names. -/
theorem widx_apply (i : S8192x8192.Idx) : val_main_v41 (F := Ideal) i = widx (val_main_v16 (F := Ideal) i) := by
  rw [val_main_v41_apply, val_main_v40_apply, val_main_v38_apply, val_main_v39_apply, val_main_v37_apply,
    val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_v24_apply, val_main_v23_apply, val_main_v22_apply, val_main_v21_apply, val_main_v20_apply, val_main_v19_apply,
    val_main_v18_apply, val_main_v17_apply]
  rfl

theorem gather_row (tab : Vec Ideal S32x16 .f32) (idx : IVec S8192x8192x1 32) (r x : Fin 8192) (h : Fin 16) :
    Host.gather gather_S32x16_S8192x8192x1_S8192x8192x16_2_0_n_n_0_2_116 tab idx (ix3 r x h) = tab (ix2 (clampRow (idx (ix3 r x 0))) h) := by
  have hsi : gather_S32x16_S8192x8192x1_S8192x8192x16_2_0_n_n_0_2_116.siIdx (ix3 r x h) ⟨0, Nat.one_pos⟩ = ix3 r x 0 := by
    funext b
    match b with
    | 0 => rfl
    | 1 => rfl
    | 2 => rfl
  unfold Host.gather
  refine congrArg tab (funext fun a => Fin.ext ?_)
  match a with
  | 0 => exact congrArg (fun j => min (idx j).toInt.toNat 31) hsi
  | 1 => exact Nat.zero_add _

/-- The bias. -/
theorem bias_apply (h : Fin 16) (m : Fin 2) (q κ : Fin 8192) :
    val_main_v47 (F := Ideal) x3 (ix4 h m q κ) = x3 (ix2 (rowI (BitVec.ofNat 32 q.val - BitVec.ofNat 32 κ.val)) h) := by
  rw [val_main_v47_apply, val_main_v46_apply, val_main_v44_apply]
  have e : idx_main_v44 (idx_main_v46 (idx_main_v47 (ix4 h m q κ))) = ix3 q κ h := by
    funext a
    match a with
    | 0 => rfl
    | 1 => rfl
    | 2 => rfl
  rw [e]
  unfold val_main_v43
  rw [gather_row, val_main_v42_apply, widx_apply]
  have e : idx_main_v42 (ix3 q κ 0) = ix2 q κ := by
    funext a
    match a with
    | 0 => rfl
    | 1 => rfl
  rw [e, rel_apply]
  rfl

/-- The products. -/
theorem dot_apply (h0 : ∀ a b, x0 (ix2 a b) = (Q a b : EReal)) (h1 : ∀ a b, x1 (ix2 a b) = (K a b : EReal))
    (h : Fin 16) (m : Fin 2) (q κ : Fin 8192) :
    val_main_v45 (F := Ideal) x0 x1 (ix4 h m q κ) = ((dotp Q K h m q κ : ℝ) : EReal) := by
  rw [val_main_v45_apply]
  unfold dotp
  rw [coe_sum]
  refine Finset.sum_congr rfl fun e _ => ?_
  rw [val_main_v8_apply, val_main_v9_apply]
  have hh := h.isLt; have hm := m.isLt; have hq := q.isLt; have hκ := κ.isLt; have he := e.isLt
  have e0 : idx_main_v8 (lidx_main_v45 (ix4 h m q κ) e) = ix2 q (hcol h m e) := by
    funext a
    match a with
    | 0 => exact Fin.ext (by show (((q.val * 16 + h.val) * 2 + m.val) * 128 + e.val) / 4096 = q.val; omega)
    | 1 => exact Fin.ext (by show (((q.val * 16 + h.val) * 2 + m.val) * 128 + e.val) % 4096 = 256 * h.val + 128 * m.val + e.val; omega)
  have e1 : idx_main_v9 (ridx_main_v45 (ix4 h m q κ) e) = ix2 κ (hcol h m e) := by
    funext a
    match a with
    | 0 => exact Fin.ext (by show (((κ.val * 16 + h.val) * 2 + m.val) * 128 + e.val) / 4096 = κ.val; omega)
    | 1 => exact Fin.ext (by show (((κ.val * 16 + h.val) * 2 + m.val) * 128 + e.val) % 4096 = 256 * h.val + 128 * m.val + e.val; omega)
  rw [e0, e1, h0, h1, ← EReal.coe_mul, mul_comm]

theorem sge_ge {a b : ℕ} (h : b ≤ a) (ha : a < 8192) : IntOp.cmpi .sge (BitVec.ofNat 32 a - BitVec.ofNat 32 b) 0#32 = 1 := by
  rw [sub_small h (by omega)]
  show BitVec.ofBool ((BitVec.ofNat 32 0).sle (BitVec.ofNat 32 (a - b))) = 1
  rw [BitVec.sle_eq_decide, toInt_small (by omega), toInt_small (by omega)]
  simp

/-- The masked score. -/
def sc (Q K : Fin 8192 → Fin 4096 → ℝ) (T : Fin 32 → Fin 16 → ℝ) (h : Fin 16) (m : Fin 2) (q κ : Fin 8192) : EReal :=
  if κ.val ≤ q.val then ((dotp Q K h m q κ + T (rowI (BitVec.ofNat 32 (q.val - κ.val))) h : ℝ) : EReal) else ⊥

theorem minf : Ideal.ofBits .f32 0xFF800000#32 = (⊥ : EReal) := by simp [Ideal.ofBits, Ideal.ieee]

theorem score_apply (h0 : ∀ a b, x0 (ix2 a b) = (Q a b : EReal)) (h1 : ∀ a b, x1 (ix2 a b) = (K a b : EReal))
    (h3 : ∀ a b, x3 (ix2 a b) = (T a b : EReal)) (h : Fin 16) (m : Fin 2) (q κ : Fin 8192) :
    val_main_v51 (F := Ideal) x0 x1 x3 (ix4 h m q κ) = sc Q K T h m q κ := by
  rw [val_main_v51_apply, val_main_v48_apply, dot_apply h0 h1, bias_apply, h3, val_main_call1_v1_apply, val_main_v50_apply,
    val_main_call1_v2_apply, val_main_v49_apply]
  have e : idx_main_call1_v1 (ix4 h m q κ) = ix2 q κ := by
    funext a
    match a with
    | 0 => rfl
    | 1 => rfl
  rw [e, rel_apply]
  unfold sc
  by_cases hk : κ.val ≤ q.val
  · have : IntOp.cmpi .sge (BitVec.ofNat 32 q.val - BitVec.ofNat 32 κ.val) (val_main_c_11 (F := Ideal) (idx_main_v49 (ix2 q κ))) = 1 := sge_ge hk q.isLt
    rw [this, if_pos hk, sub_small hk (by omega)]
    exact (EReal.coe_add _ _).symm
  · have : IntOp.cmpi .sge (BitVec.ofNat 32 q.val - BitVec.ofNat 32 κ.val) (val_main_c_11 (F := Ideal) (idx_main_v49 (ix2 q κ))) = 0 := sge_neg (by omega) κ.isLt
    rw [this, if_neg hk]
    exact minf

theorem sc_ne_top (Q K : Fin 8192 → Fin 4096 → ℝ) (T : Fin 32 → Fin 16 → ℝ) (h : Fin 16) (m : Fin 2) (q κ : Fin 8192) : sc Q K T h m q κ ≠ ⊤ := by
  unfold sc; split
  · exact EReal.coe_ne_top _
  · exact bot_ne_top

/-- The row's maximum is a real number: no score is plus infinity, the query's own is real. -/
theorem max_apply (h0 : ∀ a b, x0 (ix2 a b) = (Q a b : EReal)) (h1 : ∀ a b, x1 (ix2 a b) = (K a b : EReal))
    (h3 : ∀ a b, x3 (ix2 a b) = (T a b : EReal)) (h : Fin 16) (m : Fin 2) (q : Fin 8192) :
    ∃ M : ℝ, val_main_v54 (F := Ideal) x0 x1 x3 (ix3 h m q) = (M : EReal) := by
  have e : val_main_v52 (F := Ideal) x0 x1 x3 (ix3 h m q) = Finset.univ.fold max (⊥ : EReal) (fun κ : Fin 8192 => sc Q K T h m q κ) := by
    unfold val_main_v52
    rw [Host.reduce_eq_fold_single (α := Ideal .f32) FloatOps.maximumf _ _ reducesTo_S16x2x8192x8192_S16x2x8192_d3 (by decide) h_S_]
    have hf : (val_main_v51 (F := Ideal) x0 x1 x3 ∘ Shape.Reduces.lift (by decide : S16x2x8192x8192.Reduces [3] S16x2x8192) (ix3 h m q))
        = fun κ : Fin 8192 => sc Q K T h m q κ := funext fun κ => by
      refine Eq.trans (congrArg (val_main_v51 (F := Ideal) x0 x1 x3) (funext fun a => Fin.ext ?_)) (score_apply h0 h1 h3 h m q κ)
      match a with
      | 0 => rfl
      | 1 => rfl
      | 2 => rfl
      | 3 => rfl
    refine Eq.trans (congrArg (fun f => Finset.fold max (Ideal.ofBits .f32 0xFF800000#32) f (Finset.univ : Finset (Fin 8192))) hf) ?_
    rw [minf]
  have e2 : val_main_v54 (F := Ideal) x0 x1 x3 (ix3 h m q) = max (Ideal.ofBits .f32 0xFF800000#32) (val_main_v52 (F := Ideal) x0 x1 x3 (ix3 h m q)) := by
    rw [val_main_v54_apply, val_main_v53_apply]; rfl
  rw [e2, e, minf, max_eq_right bot_le]
  have ht := fold_max_ne_top Finset.univ (fun κ : Fin 8192 => sc Q K T h m q κ) fun κ _ => sc_ne_top Q K T h m q κ
  have hb : (Finset.univ.fold max (⊥ : EReal) (fun κ : Fin 8192 => sc Q K T h m q κ)) ≠ ⊥ := by
    intro e
    have h := (Finset.fold_max_le (b := (⊥ : EReal)) (f := fun κ : Fin 8192 => sc Q K T h m q κ) (s := Finset.univ) ⊥).1 e.le
    have h := h.2 q (Finset.mem_univ _)
    unfold sc at h
    rw [if_pos le_rfl] at h
    exact EReal.coe_ne_bot _ (le_bot_iff.1 h)
  exact ⟨_, (EReal.coe_toReal ht hb).symm⟩

end Cert.ReferenceIdeal.Attn
-- ==== Proof.Attn.RefValue.lean ====
module
public import proofs.«01_k».proof.Proof.Attn.RefScore
public import Idealize.ShloMosaic.Lib.Pointwise
@[expose] public section
set_option maxRecDepth 16384
noncomputable section
namespace Cert.ReferenceIdeal.Attn
open Cert.ReferenceIdeal Cert.ReferenceIdeal.Gen Cert.ReferenceIdeal.Read Cert.Attn
open Cert.KernelIdeal.Attn (vv headRow rowOut lamE)
open Idealize.ShloMosaic Idealize.ShloMosaic.TcCoe Idealize.ShloMosaic.Tactic

/-! ## The reference's weights and means -/

variable {x0 x1 x2 : Vec Ideal S8192x4096 .f32} {x3 : Vec Ideal S32x16 .f32} {x4 x5 x6 x7 : Vec Ideal S128 .f32} {x8 : Vec Ideal S256 .f32}
variable {Q K Vv : Fin 8192 → Fin 4096 → ℝ} {T : Fin 32 → Fin 16 → ℝ}

theorem zero_bits : Ideal.ofBits .f32 0x00000000#32 = (0 : EReal) := by simp [Ideal.ofBits, Ideal.ieee]

/-- A score's exponential against a real maximum: the weight, scaled. -/
theorem exp_sc (h : Fin 16) (m : Fin 2) (q κ : Fin 8192) (M : ℝ) :
    Ideal.exp (sc Q K T h m q κ - (M : EReal)) = ((wt Q K T h m q κ.val * Real.exp (T 31 h - M) : ℝ) : EReal) := by
  unfold sc wt
  by_cases hk : κ.val ≤ q.val
  · rw [if_pos hk, dif_pos hk, ← EReal.coe_sub, Ideal.exp_coe, ← Real.exp_add]
    congr 2
    ring
  · rw [if_neg hk, dif_neg hk, EReal.bot_sub, zero_mul]
    rfl

/-- The reference's weights: each scaled by one positive factor, over their sum. -/
theorem soft_apply (h0 : ∀ a b, x0 (ix2 a b) = (Q a b : EReal)) (h1 : ∀ a b, x1 (ix2 a b) = (K a b : EReal))
    (h3 : ∀ a b, x3 (ix2 a b) = (T a b : EReal)) (h : Fin 16) (m : Fin 2) (q : Fin 8192) :
    ∃ c : ℝ, 0 < c ∧ ∀ κ : Fin 8192, val_main_v62 (F := Ideal) x0 x1 x3 (ix4 h m q κ)
      = ((wt Q K T h m q κ.val * c * (1 / ∑ k : Fin 8192, wt Q K T h m q k.val * c) : ℝ) : EReal) := by
  obtain ⟨M, hM⟩ := max_apply h0 h1 h3 h m q
  refine ⟨Real.exp (T 31 h - M), Real.exp_pos _, fun κ => ?_⟩
  have e58 : ∀ κ : Fin 8192, val_main_v58 (F := Ideal) x0 x1 x3 (ix4 h m q κ)
      = ((wt Q K T h m q κ.val * Real.exp (T 31 h - M) : ℝ) : EReal) := fun κ => by
    rw [val_main_v58_apply, val_main_v57_apply, score_apply h0 h1 h3, val_main_v56_apply, val_main_v55_apply]
    have e : idx_main_v55 (idx_main_v56 (ix4 h m q κ)) = ix3 h m q := by
      funext a
      match a with
      | 0 => rfl
      | 1 => rfl
      | 2 => rfl
    rw [e, hM]
    exact exp_sc h m q κ M
  have e59 : val_main_v59 (F := Ideal) x0 x1 x3 (ix3 h m q)
      = ((∑ k : Fin 8192, wt Q K T h m q k.val * Real.exp (T 31 h - M) : ℝ) : EReal) := by
    rw [val_main_v59_apply, coe_sum]
    refine Eq.trans (congrArg (· + _) (show val_main_cst_15 (F := Ideal) (Shape.Idx.first h_S_) = (0 : EReal) from zero_bits)) ?_
    rw [zero_add]
    refine Finset.sum_congr rfl fun k _ => ?_
    rw [← e58 k]
    refine congrArg _ (funext fun a => ?_)
    match a with
    | 0 => rfl
    | 1 => rfl
    | 2 => rfl
    | 3 => rfl
  rw [val_main_v62_apply, val_main_v61_apply, val_main_v60_apply, e58]
  have e : idx_main_v60 (idx_main_v61 (ix4 h m q κ)) = ix3 h m q := by
    funext a
    match a with
    | 0 => rfl
    | 1 => rfl
    | 2 => rfl
  rw [e, e59]
  have hp : 0 < ∑ k : Fin 8192, wt Q K T h m q k.val * Real.exp (T 31 h - M) := by
    rw [← Finset.sum_mul]
    refine mul_pos ?_ (Real.exp_pos _)
    rw [← Finset.sum_range (fun k => wt Q K T h m q k)]
    exact wt_sum_pos _ _ _ _ _ _ _ q.isLt
  refine (Ideal.div_coe hp.ne' _).trans ?_
  rw [← EReal.coe_mul]

theorem p0_apply (h : Fin 16) (q κ : Fin 8192) :
    val_main_v64 (F := Ideal) x0 x1 x3 (ix3 h q κ) = val_main_v62 (F := Ideal) x0 x1 x3 (ix4 h 0 q κ) := by
  rw [val_main_v64_apply, val_main_v63_apply]
  have hh := h.isLt; have hq := q.isLt; have hκ := κ.isLt
  refine congrArg _ (funext fun a => Fin.ext ?_)
  match a with
  | 0 => show ((h.val * 8192 + q.val) * 8192 + κ.val) / 67108864 = h.val; omega
  | 1 => rfl
  | 2 => show ((h.val * 8192 + q.val) * 8192 + κ.val) / 8192 % 8192 = q.val; omega
  | 3 => show ((h.val * 8192 + q.val) * 8192 + κ.val) % 8192 = κ.val; omega

theorem p1_apply (h : Fin 16) (q κ : Fin 8192) :
    val_main_v66 (F := Ideal) x0 x1 x3 (ix3 h q κ) = val_main_v62 (F := Ideal) x0 x1 x3 (ix4 h 1 q κ) := by
  rw [val_main_v66_apply, val_main_v65_apply]
  have hh := h.isLt; have hq := q.isLt; have hκ := κ.isLt
  refine congrArg _ (funext fun a => Fin.ext ?_)
  match a with
  | 0 => show ((h.val * 8192 + q.val) * 8192 + κ.val) / 67108864 = h.val; omega
  | 1 => rfl
  | 2 => show ((h.val * 8192 + q.val) * 8192 + κ.val) / 8192 % 8192 = q.val; omega
  | 3 => show ((h.val * 8192 + q.val) * 8192 + κ.val) % 8192 = κ.val; omega

theorem lam_apply (i : S_.Idx) : val_main_v7 (F := Ideal) x4 x5 x6 x7 i = lamE x4 x5 x6 x7 := by
  rw [val_main_v7_apply, val_main_v6_apply, val_main_v5_apply, val_main_v2_apply, val_main_v1_apply, val_main_v4_apply,
    sum_idx1, sum_idx1]
  rfl

/-- The values' means under the difference of the maps. -/
theorem mean_apply (h0 : ∀ a b, x0 (ix2 a b) = (Q a b : EReal)) (h1 : ∀ a b, x1 (ix2 a b) = (K a b : EReal))
    (h2 : ∀ a b, x2 (ix2 a b) = (Vv a b : EReal)) (h3 : ∀ a b, x3 (ix2 a b) = (T a b : EReal))
    (lam : ℝ) (hl : lamE x4 x5 x6 x7 = (lam : EReal)) (h : Fin 16) (q : Fin 8192) (d : Fin 256) :
    val_main_v71 (F := Ideal) x0 x1 x2 x3 x4 x5 x6 x7 (ix3 q h d)
      = ((soft (wt Q K T h 0 q) (vv Vv h d) 8192 : ℝ) : EReal) - lamE x4 x5 x6 x7 * ((soft (wt Q K T h 1 q) (vv Vv h d) 8192 : ℝ) : EReal) := by
  obtain ⟨c0, hc0, e0⟩ := soft_apply h0 h1 h3 h 0 q
  obtain ⟨c1, hc1, e1⟩ := soft_apply h0 h1 h3 h 1 q
  rw [val_main_v71_apply, val_main_v70_apply, hl, ← soft_scaled (wt Q K T h 0 q) (vv Vv h d) 8192 c0 hc0,
    ← soft_scaled (wt Q K T h 1 q) (vv Vv h d) 8192 c1 hc1, ← EReal.coe_mul, ← EReal.coe_sub, Finset.mul_sum, ← Finset.sum_sub_distrib, coe_sum]
  refine Finset.sum_congr rfl fun κ _ => ?_
  have hv : val_main_v10 (F := Ideal) x2 (lidx_main_v70 (idx_main_v71 (ix3 q h d)) κ) = ((vv Vv h d κ.val : ℝ) : EReal) := by
    rw [val_main_v10_apply]
    have hh := h.isLt; have hd := d.isLt; have hκ := κ.isLt
    have e : idx_main_v10 (lidx_main_v70 (idx_main_v71 (ix3 q h d)) κ) = ix2 κ (vcol h d) := by
      funext a
      match a with
      | 0 => exact Fin.ext (by show ((κ.val * 16 + h.val) * 256 + d.val) / 4096 = κ.val; omega)
      | 1 => exact Fin.ext (by show ((κ.val * 16 + h.val) * 256 + d.val) % 4096 = 256 * h.val + d.val; omega)
    rw [e, h2]
    unfold vv
    rw [dif_pos κ.isLt]
  have hp : val_main_v69 (F := Ideal) x0 x1 x3 x4 x5 x6 x7 (ridx_main_v70 (idx_main_v71 (ix3 q h d)) κ)
      = ((wt Q K T h 0 q κ.val * c0 * (1 / ∑ k : Fin 8192, wt Q K T h 0 q k.val * c0)
          - lam * (wt Q K T h 1 q κ.val * c1 * (1 / ∑ k : Fin 8192, wt Q K T h 1 q k.val * c1)) : ℝ) : EReal) := by
    have e : ridx_main_v70 (idx_main_v71 (ix3 q h d)) κ = ix3 h q κ := by
      funext a
      match a with
      | 0 => rfl
      | 1 => rfl
      | 2 => rfl
    rw [e, val_main_v69_apply, val_main_v68_apply, val_main_v67_apply, lam_apply, hl, p0_apply, p1_apply, e0, e1, EReal.coe_sub, EReal.coe_mul lam]
    rfl
  rw [hv, hp, ← EReal.coe_mul]
  congr 1
  ring

/-- The reference's result at an entry. -/
theorem ref_entry (h0 : ∀ a b, x0 (ix2 a b) = (Q a b : EReal)) (h1 : ∀ a b, x1 (ix2 a b) = (K a b : EReal))
    (h2 : ∀ a b, x2 (ix2 a b) = (Vv a b : EReal)) (h3 : ∀ a b, x3 (ix2 a b) = (T a b : EReal))
    (lam : ℝ) (hl : lamE x4 x5 x6 x7 = (lam : EReal)) (h : Fin 16) (q : Fin 8192) (d : Fin 256) :
    val_main_v88 (F := Ideal) x0 x1 x2 x3 x4 x5 x6 x7 x8 (ix2 q (vcol h d))
      = headRow (lamE x4 x5 x6 x7) (fun e => x8 (ix1 e)) Q K Vv T h q d := by
  have hm := mean_apply h0 h1 h2 h3 lam hl h q
  have hh := h.isLt; have hd := d.isLt; have hq := q.isLt
  rw [val_main_v88_apply, val_main_v87_apply]
  have e : idx_main_v87 (ix2 q (vcol h d)) = ix3 q h d := by
    funext a
    match a with
    | 0 => exact Fin.ext (by show (q.val * 4096 + (256 * h.val + d.val)) / 4096 = q.val; omega)
    | 1 => exact Fin.ext (by show (q.val * 4096 + (256 * h.val + d.val)) / 256 % 16 = h.val; omega)
    | 2 => exact Fin.ext (by show (q.val * 4096 + (256 * h.val + d.val)) % 256 = d.val; omega)
  rw [e, val_main_v86_apply, val_main_v84_apply, val_main_v81_apply, val_main_v80_apply, val_main_v79_apply, val_main_v78_apply,
    val_main_v76_apply, val_main_v74_apply, val_main_v73_apply, val_main_v75_apply, val_main_v77_apply, val_main_v83_apply,
    val_main_v82_apply, val_main_v85_apply]
  have es : ∑ k : Fin 256, val_main_v72 (F := Ideal) x0 x1 x2 x3 x4 x5 x6 x7 (idx_main_v73 (idx_main_v74 (idx_main_v80 (ix3 q h d))) k)
      = ∑ k : Fin 256, val_main_v71 (F := Ideal) x0 x1 x2 x3 x4 x5 x6 x7 (ix3 q h k) * val_main_v71 (F := Ideal) x0 x1 x2 x3 x4 x5 x6 x7 (ix3 q h k) := by
    refine Finset.sum_congr rfl fun k _ => ?_
    rw [val_main_v72_apply]
    have e : idx_main_v73 (idx_main_v74 (idx_main_v80 (ix3 q h d))) k = ix3 q h k := by
      funext a
      match a with
      | 0 => rfl
      | 1 => rfl
      | 2 => rfl
    rw [e]
    rfl
  have ez : val_main_cst_16 (F := Ideal) (Shape.Idx.first h_S_) = (0 : EReal) := zero_bits
  have eg : x8 (idx_main_v82 (idx_main_v83 (ix3 q h d))) = x8 (ix1 d) := congrArg x8 (by
    funext a
    match a with
    | 0 => rfl)
  rw [es, ez, zero_add, eg]
  unfold headRow rowOut
  rw [hm d, Finset.sum_congr rfl fun k _ => by rw [hm k]]
  rfl

end Cert.ReferenceIdeal.Attn
-- ==== Proof.Attn.Finite.lean ====
module
public import proofs.«01_k».proof.Defs
public import proofs.«01_k».proof.Proof.Attn.RefValue
public import Idealize.ShloMosaic.Lib.ReduceAll
@[expose] public section
set_option maxRecDepth 16384
noncomputable section
namespace Cert.Pre_finite
open Idealize.ShloMosaic

/-! ## What the precondition says -/

/-- The predicate's side conditions. -/
theorem side : Facts where
  bcast_S_S8192x4096 := by decide
  reducesTo_S8192x4096_S_d0_1 := by decide
  h_S_ := by decide
  bcast_S_S32x16 := by decide
  reducesTo_S32x16_S_d0_1 := by decide
  bcast_S_S128 := by decide
  reducesTo_S128_S_d0 := by decide

/-- A value whose magnitude lies below plus infinity is a real number. -/
theorem real_of_abs {x : EReal} (h : Ideal.cmp .olt (max x (-x)) (Ideal.ofBits .f32 0x7F800000#32) = 1#1) : ∃ r : ℝ, x = (r : EReal) := by
  have e : Ideal.ofBits .f32 0x7F800000#32 = (⊤ : EReal) := by simp [Ideal.ofBits, Ideal.ieee]
  rw [e] at h
  have h : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  have h1 : x ≠ ⊤ := fun e => by rw [e] at h; simp at h
  have h2 : x ≠ ⊥ := fun e => by rw [e] at h; simp at h
  exact ⟨_, (EReal.coe_toReal h1 h2).symm⟩

instance : Subsingleton S_.Idx := ⟨fun a b => funext fun i => i.elim0⟩

theorem and_left {a b : BitVec 1} (h : IntOp.andi a b = 1#1) : a = 1#1 := by revert a b; decide
theorem and_right {a b : BitVec 1} (h : IntOp.andi a b = 1#1) : b = 1#1 := by revert a b; decide

/-- One array's test: every entry is real. -/
theorem real_of_test {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : ∃ r : ℝ, x i = (r : EReal) :=
  real_of_abs (Host.reduce_andi_all _ _ hr hu j h i)

variable [Facts]

theorem reals (a0 a1 a2 : FVec Ideal S8192x4096 .f32) (a3 : FVec Ideal S32x16 .f32) (a4 a5 a6 a7 : FVec Ideal S128 .f32) (a8 : FVec Ideal S256 .f32)
    (h : fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal)) := by
  have h := congrFun h (fun a => a.elim0)
  have h6 := and_left h
  have h5 := and_left h6
  have h4 := and_left h5
  have h3 := and_left h4
  have h2 := and_left h3
  have h1 := and_left h2
  have h0 := and_left h1
  exact ⟨real_of_test a0 _ _ _ _ h0, real_of_test a1 _ _ _ _ (and_right h1), real_of_test a2 _ _ _ _ (and_right h2),
    real_of_test a3 _ _ _ _ (and_right h3), real_of_test a4 _ _ _ _ (and_right h4), real_of_test a5 _ _ _ _ (and_right h5),
    real_of_test a6 _ _ _ _ (and_right h6), real_of_test a7 _ _ _ _ (and_right h)⟩

end Cert.Pre_finite

namespace Cert.Attn
open Idealize.ShloMosaic Idealize.ShloMosaic.TcCoe
open Cert.KernelIdeal (S128)
open Cert.KernelIdeal.Attn (lamE)

/-- Where the four vectors are real, so is the factor of the second map. -/
theorem lam_real (a4 a5 a6 a7 : FVec Ideal S128 .f32) (h4 : ∀ i, ∃ r : ℝ, a4 i = (r : EReal)) (h5 : ∀ i, ∃ r : ℝ, a5 i = (r : EReal))
    (h6 : ∀ i, ∃ r : ℝ, a6 i = (r : EReal)) (h7 : ∀ i, ∃ r : ℝ, a7 i = (r : EReal)) : ∃ r : ℝ, lamE a4 a5 a6 a7 = (r : EReal) := by
  choose r4 e4 using h4
  choose r5 e5 using h5
  choose r6 e6 using h6
  choose r7 e7 using h7
  have e : ∃ c : ℝ, Ideal.ofBits .f32 0x3EB60549#32 = (c : EReal) := ⟨_, by simp [Ideal.ofBits, Ideal.ieee, -EReal.coe_mul]; rfl⟩
  obtain ⟨c, hc⟩ := e
  unfold lamE
  refine ⟨Real.exp (∑ k : Fin 128, r4 (ix1 k) * r5 (ix1 k)) - Real.exp (∑ k : Fin 128, r6 (ix1 k) * r7 (ix1 k)) + c, ?_⟩
  have s1 : ∑ k : Fin 128, a4 (ix1 k) * a5 (ix1 k) = ((∑ k : Fin 128, r4 (ix1 k) * r5 (ix1 k) : ℝ) : EReal) := by
    rw [coe_sum]; exact Finset.sum_congr rfl fun k _ => by rw [e4, e5, ← EReal.coe_mul]
  have s2 : ∑ k : Fin 128, a6 (ix1 k) * a7 (ix1 k) = ((∑ k : Fin 128, r6 (ix1 k) * r7 (ix1 k) : ℝ) : EReal) := by
    rw [coe_sum]; exact Finset.sum_congr rfl fun k _ => by rw [e6, e7, ← EReal.coe_mul]
  rw [s1, s2, hc, Cert.ReferenceIdeal.Attn.zero_bits, zero_add, zero_add, Ideal.exp_coe, Ideal.exp_coe, ← EReal.coe_sub, ← EReal.coe_add]

end Cert.Attn
-- ==== Proof.Proj.OdInQk.lean ====
module
public import proofs.«01_k».proof.Proof.Gen.Kernel2Ideal.Value
public import proofs.«01_k».proof.Proof.Gen.Reference2Ideal.Read
public import Idealize.ShloMosaic.Lib.Pointwise
public import Idealize.ShloMosaic.Lib.StableHlo.RunRead
@[expose] public section
set_option maxRecDepth 16384
noncomputable section

/-! # The odd layer's queries and keys, one product by blocks of 512 rows and 1024 columns -/

namespace Cert.Kernel2Ideal.Proj
open Cert.Kernel2Ideal Cert.Kernel2Ideal.Gen
open Idealize.ShloMosaic Idealize.ShloMosaic.TcCoe Idealize.ShloMosaic.Tactic

/-- A block of the product. -/
theorem pay (A : Vec Ideal S512x4096 .bf16) (B : Vec Ideal S4096x1024 .bf16) (a : Fin 512) (b : Fin 1024) :
    k0_pay1 A B (ix2 a b) = ∑ k : Fin 4096, A (ix2 a k) * B (ix2 k b) := by
  pointwise [k0_pay1]
  first | done | simp [Ideal.ofBits_zero_f32]

/-- What a grid point stores. -/
theorem stored (A : Vec Ideal S512x4096 .bf16) (B : Vec Ideal S4096x1024 .bf16) (a : Fin 512) (b : Fin 1024) :
    out0_2 A B (ix2 a b) = ∑ k : Fin 4096, A (ix2 a k) * B (ix2 k b) := by
  have z : (![0, 0] : Fin 2 → ℕ) = fun _ => 0 := by decide
  unfold out0_2
  rw [View.canon_unit_zero z, View.ld_unit_zero z, View.ld_unit_zero z]
  exact pay A B a b

variable (m : (ℓ : Loc nD τ sig) → Buf (Elt Ideal) ℓ) (c : Dev nD)

/-- Where the windows' blocks lie. -/
theorem place : ∀ t : Fin cfg0.N,
    (win0_0.index t (0 : Fin 2) = t.val / 8 ∧ win0_0.index t (1 : Fin 2) = 0)
    ∧ (win0_1.index t (0 : Fin 2) = 0 ∧ win0_1.index t (1 : Fin 2) = t.val % 8)
    ∧ (win0_2.index t (0 : Fin 2) = t.val / 8 ∧ win0_2.index t (1 : Fin 2) = t.val % 8) :=
  (by decide +kernel : ∀ t : Fin grid0.N, _)

/-- The activations. -/
abbrev xs : FVec Ideal S8192x4096 .f32 := m (c, Proc.tc.devRef main_arg0)
/-- The weights. -/
abbrev ws : FVec Ideal S4096x12288 .f32 := m (c, Proc.tc.devRef main_arg1)

theorem left (i : Fin 8192) (k : Fin 4096) : V m c main_v0 (ix2 i k) = xs m c (ix2 i k) := by
  unfold_abbrev_sides
  after_reads_simp
  pointwise []

theorem right (k : Fin 4096) (j : Fin 8192) :
    V m c main_v2 (ix2 k j) = ws m c (ix2 k ⟨j.val, by omega⟩) := by
  unfold_abbrev_sides
  after_reads_simp
  pointwise []

/-- An entry of the product. -/
theorem entry (i : Fin 8192) (j : Fin 8192) : (dats m 0 c).arrAt 2 cfg0.N (ix2 i j)
    = (∑ k : Fin 4096, xs m c (ix2 i k) * ws m c (ix2 k ⟨j.val, by omega⟩) : Ideal .f32) := by
  have hN : 8 * (i.val / 512) + j.val / 1024 < cfg0.N := lt_of_lt_of_eq (by omega) N_0.symm
  let t : Fin cfg0.N := ⟨8 * (i.val / 512) + j.val / 1024, hN⟩
  have ht : t.val = 8 * (i.val / 512) + j.val / 1024 := rfl
  have p := place t
  let a : Fin 512 := ⟨i.val % 512, by omega⟩
  let b : Fin 1024 := ⟨j.val % 1024, by omega⟩
  have e := congrFun ((Value.blocks2 m c t (flush0_2 t)).trans (Value.flushed2 m c t)) (ix2 a b)
  have hi : ((cfg0.win 2).blk t).view.emb (ix2 a b) = ix2 i j := by
    funext x
    refine Fin.ext ?_
    match x with
    | 0 => show win0_2.index t (0 : Fin 2) * 512 + 1 * (i.val % 512) = i.val; omega
    | 1 => show win0_2.index t (1 : Fin 2) * 1024 + 1 * (j.val % 1024) = j.val; omega
  have el : (dats m 0 c).arrAt 2 cfg0.N (ix2 i j) = out0_2 (iblk m c 0 t) (iblk m c 1 t) (ix2 a b) := by
    rw [← hi]
    exact e
  rw [el]
  refine (stored _ _ a b).trans (Finset.sum_congr rfl fun k _ => ?_)
  have h0 : iblk m c 0 t (ix2 a k) = V m c main_v0 (ix2 i k) := by
    show V m c main_v0 (((cfg0.win 0).blk t).view.emb (ix2 a k)) = _
    refine congrArg _ (funext fun x => Fin.ext ?_)
    match x with
    | 0 => show win0_0.index t (0 : Fin 2) * 512 + 1 * (i.val % 512) = i.val; omega
    | 1 => show win0_0.index t (1 : Fin 2) * 4096 + 1 * k.val = k.val; omega
  have h1 : iblk m c 1 t (ix2 k b) = V m c main_v2 (ix2 k j) := by
    show V m c main_v2 (((cfg0.win 1).blk t).view.emb (ix2 k b)) = _
    refine congrArg _ (funext fun x => Fin.ext ?_)
    match x with
    | 0 => show win0_1.index t (0 : Fin 2) * 4096 + 1 * k.val = k.val; omega
    | 1 => show win0_1.index t (1 : Fin 2) * 1024 + 1 * (j.val % 1024) = j.val; omega
  rw [h0, h1, left, right]

end Cert.Kernel2Ideal.Proj

namespace Cert.Reference2Ideal.Proj
open Cert.Reference2Ideal Cert.Reference2Ideal.Read
open Idealize.ShloMosaic Idealize.ShloMosaic.TcCoe Idealize.ShloMosaic.Tactic

/-- The reference's entry. -/
theorem entry (x0 : (⟨S8192x4096, .f32⟩ : BufTy).Contents (Elt Ideal)) (x1 : (⟨S4096x12288, .f32⟩ : BufTy).Contents (Elt Ideal))
    (i : Fin 8192) (j : Fin 8192) :
    val_main_v5 x0 x1 (ix2 i j) = ∑ k : Fin 4096, x0 (ix2 i k) * x1 (ix2 k ⟨j.val, by omega⟩) := by
  pointwise [val_main_v5, val_main_v4, val_main_v1, val_main_v2, val_main_v0]
  split
  · rfl
  · refine Finset.sum_congr rfl fun k _ => congrArg _ (congrArg x1 (congrArg (ix2 k) (Fin.ext ?_)))
    show 4096 + (j.val - 4096) = j.val
    omega
end Cert.Reference2Ideal.Proj
-- ==== Proof.Proj.EvInRet.lean ====
module
public import proofs.«01_k».proof.Proof.Gen.Kernel3Ideal.Value
public import proofs.«01_k».proof.Proof.Gen.Reference3Ideal.Read
public import Idealize.ShloMosaic.Lib.Pointwise
public import Idealize.ShloMosaic.Lib.StableHlo.RunRead
@[expose] public section
set_option maxRecDepth 16384
noncomputable section

/-! # The even layer's queries, keys, values and gates of the retention, by blocks of 512 rows and 1024 columns -/

namespace Cert.Kernel3Ideal.Proj
open Cert.Kernel3Ideal Cert.Kernel3Ideal.Gen
open Idealize.ShloMosaic Idealize.ShloMosaic.TcCoe Idealize.ShloMosaic.Tactic

/-- A block of the product. -/
theorem pay (A : Vec Ideal S512x4096 .bf16) (B : Vec Ideal S4096x1024 .bf16) (a : Fin 512) (b : Fin 1024) :
    k0_pay1 A B (ix2 a b) = ∑ k : Fin 4096, A (ix2 a k) * B (ix2 k b) := by
  pointwise [k0_pay1]
  first | done | simp [Ideal.ofBits_zero_f32]

/-- What a grid point stores. -/
theorem stored (A : Vec Ideal S512x4096 .bf16) (B : Vec Ideal S4096x1024 .bf16) (a : Fin 512) (b : Fin 1024) :
    out0_2 A B (ix2 a b) = ∑ k : Fin 4096, A (ix2 a k) * B (ix2 k b) := by
  have z : (![0, 0] : Fin 2 → ℕ) = fun _ => 0 := by decide
  unfold out0_2
  rw [View.canon_unit_zero z, View.ld_unit_zero z, View.ld_unit_zero z]
  exact pay A B a b

variable (m : (ℓ : Loc nD τ sig) → Buf (Elt Ideal) ℓ) (c : Dev nD)

/-- Where the windows' blocks lie. -/
theorem place : ∀ t : Fin cfg0.N,
    (win0_0.index t (0 : Fin 2) = t.val / 8 ∧ win0_0.index t (1 : Fin 2) = 0)
    ∧ (win0_1.index t (0 : Fin 2) = 0 ∧ win0_1.index t (1 : Fin 2) = t.val % 8)
    ∧ (win0_2.index t (0 : Fin 2) = t.val / 8 ∧ win0_2.index t (1 : Fin 2) = t.val % 8) :=
  (by decide +kernel : ∀ t : Fin grid0.N, _)

/-- The activations. -/
abbrev xs : FVec Ideal S8192x4096 .f32 := m (c, Proc.tc.devRef main_arg0)
/-- The weights. -/
abbrev ws : FVec Ideal S4096x10240 .f32 := m (c, Proc.tc.devRef main_arg1)

theorem left (i : Fin 8192) (k : Fin 4096) : V m c main_v0 (ix2 i k) = xs m c (ix2 i k) := by
  unfold_abbrev_sides
  after_reads_simp
  pointwise []

theorem right (k : Fin 4096) (j : Fin 8192) :
    V m c main_v2 (ix2 k j) = ws m c (ix2 k ⟨2048 + j.val, by omega⟩) := by
  unfold_abbrev_sides
  after_reads_simp
  pointwise []

/-- An entry of the product. -/
theorem entry (i : Fin 8192) (j : Fin 8192) : (dats m 0 c).arrAt 2 cfg0.N (ix2 i j)
    = (∑ k : Fin 4096, xs m c (ix2 i k) * ws m c (ix2 k ⟨2048 + j.val, by omega⟩) : Ideal .f32) := by
  have hN : 8 * (i.val / 512) + j.val / 1024 < cfg0.N := lt_of_lt_of_eq (by omega) N_0.symm
  let t : Fin cfg0.N := ⟨8 * (i.val / 512) + j.val / 1024, hN⟩
  have ht : t.val = 8 * (i.val / 512) + j.val / 1024 := rfl
  have p := place t
  let a : Fin 512 := ⟨i.val % 512, by omega⟩
  let b : Fin 1024 := ⟨j.val % 1024, by omega⟩
  have e := congrFun ((Value.blocks2 m c t (flush0_2 t)).trans (Value.flushed2 m c t)) (ix2 a b)
  have hi : ((cfg0.win 2).blk t).view.emb (ix2 a b) = ix2 i j := by
    funext x
    refine Fin.ext ?_
    match x with
    | 0 => show win0_2.index t (0 : Fin 2) * 512 + 1 * (i.val % 512) = i.val; omega
    | 1 => show win0_2.index t (1 : Fin 2) * 1024 + 1 * (j.val % 1024) = j.val; omega
  have el : (dats m 0 c).arrAt 2 cfg0.N (ix2 i j) = out0_2 (iblk m c 0 t) (iblk m c 1 t) (ix2 a b) := by
    rw [← hi]
    exact e
  rw [el]
  refine (stored _ _ a b).trans (Finset.sum_congr rfl fun k _ => ?_)
  have h0 : iblk m c 0 t (ix2 a k) = V m c main_v0 (ix2 i k) := by
    show V m c main_v0 (((cfg0.win 0).blk t).view.emb (ix2 a k)) = _
    refine congrArg _ (funext fun x => Fin.ext ?_)
    match x with
    | 0 => show win0_0.index t (0 : Fin 2) * 512 + 1 * (i.val % 512) = i.val; omega
    | 1 => show win0_0.index t (1 : Fin 2) * 4096 + 1 * k.val = k.val; omega
  have h1 : iblk m c 1 t (ix2 k b) = V m c main_v2 (ix2 k j) := by
    show V m c main_v2 (((cfg0.win 1).blk t).view.emb (ix2 k b)) = _
    refine congrArg _ (funext fun x => Fin.ext ?_)
    match x with
    | 0 => show win0_1.index t (0 : Fin 2) * 4096 + 1 * k.val = k.val; omega
    | 1 => show win0_1.index t (1 : Fin 2) * 1024 + 1 * (j.val % 1024) = j.val; omega
  rw [h0, h1, left, right]

end Cert.Kernel3Ideal.Proj

namespace Cert.Reference3Ideal.Proj
open Cert.Reference3Ideal Cert.Reference3Ideal.Read
open Idealize.ShloMosaic Idealize.ShloMosaic.TcCoe Idealize.ShloMosaic.Tactic

/-- The reference's entry. -/
theorem entry (x0 : (⟨S8192x4096, .f32⟩ : BufTy).Contents (Elt Ideal)) (x1 : (⟨S4096x10240, .f32⟩ : BufTy).Contents (Elt Ideal))
    (i : Fin 8192) (j : Fin 8192) :
    val_main_v7 x0 x1 (ix2 i j) = ∑ k : Fin 4096, x0 (ix2 i k) * x1 (ix2 k ⟨2048 + j.val, by omega⟩) := by
  pointwise [val_main_v7, val_main_v6, val_main_v5, val_main_v4, val_main_v3, val_main_v2, val_main_v0]
  have same : ∀ n (h : n < 10240), n = 2048 + j.val →
      (∑ k : Fin 4096, x0 (ix2 i k) * x1 (ix2 k ⟨n, h⟩)) = ∑ k : Fin 4096, x0 (ix2 i k) * x1 (ix2 k ⟨2048 + j.val, by omega⟩) := by
    intro n h e
    subst e
    rfl
  repeat' split
  all_goals exact same _ _ (by omega)
end Cert.Reference3Ideal.Proj
-- ==== Proof.Proj.OdInVt.lean ====
module
public import proofs.«01_k».proof.Proof.Gen.Kernel4Ideal.Value
public import proofs.«01_k».proof.Proof.Gen.Reference4Ideal.Read
public import Idealize.ShloMosaic.Lib.Pointwise
public import Idealize.ShloMosaic.Lib.StableHlo.RunRead
@[expose] public section
set_option maxRecDepth 16384
noncomputable section

/-! # The odd layer's values, transposed, by blocks of 1024 columns and 512 rows of the activations -/

namespace Cert.Kernel4Ideal.Proj
open Cert.Kernel4Ideal Cert.Kernel4Ideal.Gen
open Idealize.ShloMosaic Idealize.ShloMosaic.TcCoe Idealize.ShloMosaic.Tactic

/-- A block of the product. -/
theorem pay (A : Vec Ideal S1024x4096 .bf16) (B : Vec Ideal S512x4096 .bf16) (a : Fin 1024) (b : Fin 512) :
    k0_pay1 A B (ix2 a b) = ∑ k : Fin 4096, A (ix2 a k) * B (ix2 b k) := by
  pointwise [k0_pay1]
  first | done | simp [Ideal.ofBits_zero_f32]

/-- What a grid point stores. -/
theorem stored (A : Vec Ideal S1024x4096 .bf16) (B : Vec Ideal S512x4096 .bf16) (a : Fin 1024) (b : Fin 512) :
    out0_2 A B (ix2 a b) = ∑ k : Fin 4096, A (ix2 a k) * B (ix2 b k) := by
  have z : (![0, 0] : Fin 2 → ℕ) = fun _ => 0 := by decide
  unfold out0_2
  rw [View.canon_unit_zero z, View.ld_unit_zero z, View.ld_unit_zero z]
  exact pay A B a b

variable (m : (ℓ : Loc nD τ sig) → Buf (Elt Ideal) ℓ) (c : Dev nD)

/-- Where the windows' blocks lie. -/
theorem place : ∀ t : Fin cfg0.N,
    (win0_0.index t (0 : Fin 2) = t.val % 4 ∧ win0_0.index t (1 : Fin 2) = 0)
    ∧ (win0_1.index t (0 : Fin 2) = t.val / 4 ∧ win0_1.index t (1 : Fin 2) = 0)
    ∧ (win0_2.index t (0 : Fin 2) = t.val % 4 ∧ win0_2.index t (1 : Fin 2) = t.val / 4) :=
  (by decide +kernel : ∀ t : Fin grid0.N, _)

/-- The activations. -/
abbrev xs : FVec Ideal S8192x4096 .f32 := m (c, Proc.tc.devRef main_arg0)
/-- The weights. -/
abbrev ws : FVec Ideal S4096x12288 .f32 := m (c, Proc.tc.devRef main_arg1)

theorem left (j : Fin 4096) (k : Fin 4096) :
    V m c main_v2 (ix2 j k) = ws m c (ix2 k ⟨8192 + j.val, by omega⟩) := by
  unfold_abbrev_sides
  after_reads_simp
  pointwise []

theorem right (i : Fin 8192) (k : Fin 4096) : V m c main_v3 (ix2 i k) = xs m c (ix2 i k) := by
  unfold_abbrev_sides
  after_reads_simp
  pointwise []

/-- An entry of the product. -/
theorem entry (j : Fin 4096) (i : Fin 8192) : (dats m 0 c).arrAt 2 cfg0.N (ix2 j i)
    = (∑ k : Fin 4096, xs m c (ix2 i k) * ws m c (ix2 k ⟨8192 + j.val, by omega⟩) : Ideal .f32) := by
  have hN : 4 * (i.val / 512) + j.val / 1024 < cfg0.N := lt_of_lt_of_eq (by omega) N_0.symm
  let t : Fin cfg0.N := ⟨4 * (i.val / 512) + j.val / 1024, hN⟩
  have ht : t.val = 4 * (i.val / 512) + j.val / 1024 := rfl
  have p := place t
  let a : Fin 1024 := ⟨j.val % 1024, by omega⟩
  let b : Fin 512 := ⟨i.val % 512, by omega⟩
  have e := congrFun ((Value.blocks2 m c t (flush0_2 t)).trans (Value.flushed2 m c t)) (ix2 a b)
  have hi : ((cfg0.win 2).blk t).view.emb (ix2 a b) = ix2 j i := by
    funext x
    refine Fin.ext ?_
    match x with
    | 0 => show win0_2.index t (0 : Fin 2) * 1024 + 1 * (j.val % 1024) = j.val; omega
    | 1 => show win0_2.index t (1 : Fin 2) * 512 + 1 * (i.val % 512) = i.val; omega
  have el : (dats m 0 c).arrAt 2 cfg0.N (ix2 j i) = out0_2 (iblk m c 0 t) (iblk m c 1 t) (ix2 a b) := by
    rw [← hi]
    exact e
  rw [el]
  refine (stored _ _ a b).trans (Finset.sum_congr rfl fun k _ => ?_)
  have h0 : iblk m c 0 t (ix2 a k) = V m c main_v2 (ix2 j k) := by
    show V m c main_v2 (((cfg0.win 0).blk t).view.emb (ix2 a k)) = _
    refine congrArg _ (funext fun x => Fin.ext ?_)
    match x with
    | 0 => show win0_0.index t (0 : Fin 2) * 1024 + 1 * (j.val % 1024) = j.val; omega
    | 1 => show win0_0.index t (1 : Fin 2) * 4096 + 1 * k.val = k.val; omega
  have h1 : iblk m c 1 t (ix2 b k) = V m c main_v3 (ix2 i k) := by
    show V m c main_v3 (((cfg0.win 1).blk t).view.emb (ix2 b k)) = _
    refine congrArg _ (funext fun x => Fin.ext ?_)
    match x with
    | 0 => show win0_1.index t (0 : Fin 2) * 512 + 1 * (i.val % 512) = i.val; omega
    | 1 => show win0_1.index t (1 : Fin 2) * 4096 + 1 * k.val = k.val; omega
  rw [h0, h1, left, right]
  exact mul_comm (G := EReal) _ _

end Cert.Kernel4Ideal.Proj

namespace Cert.Reference4Ideal.Proj
open Cert.Reference4Ideal Cert.Reference4Ideal.Read
open Idealize.ShloMosaic Idealize.ShloMosaic.TcCoe Idealize.ShloMosaic.Tactic

/-- The reference's entry. -/
theorem entry (x0 : (⟨S8192x4096, .f32⟩ : BufTy).Contents (Elt Ideal)) (x1 : (⟨S4096x12288, .f32⟩ : BufTy).Contents (Elt Ideal))
    (j : Fin 4096) (i : Fin 8192) :
    val_main_v5 x0 x1 (ix2 j i) = ∑ k : Fin 4096, x0 (ix2 i k) * x1 (ix2 k ⟨8192 + j.val, by omega⟩) := by
  pointwise [val_main_v5, val_main_v4, val_main_v3, val_main_v0]
end Cert.Reference4Ideal.Proj
-- ==== Proof.Proj.OdOut.lean ====
module
public import proofs.«01_k».proof.Proof.Gen.Kernel5Ideal.Value
public import proofs.«01_k».proof.Proof.Gen.Reference5Ideal.Read
public import Idealize.ShloMosaic.Lib.Pointwise
public import Idealize.ShloMosaic.Lib.StableHlo.RunRead
@[expose] public section
set_option maxRecDepth 16384
noncomputable section

/-! # The odd layer's output projection onto the residual, by blocks of 512 rows and 1024 columns -/

namespace Cert.Kernel5Ideal.Proj
open Cert.Kernel5Ideal Cert.Kernel5Ideal.Gen
open Idealize.ShloMosaic Idealize.ShloMosaic.TcCoe Idealize.ShloMosaic.Tactic

/-- A block of the product, added to the residual. -/
theorem pay (A : Vec Ideal S512x4096 .bf16) (B : Vec Ideal S4096x1024 .bf16) (X : Vec Ideal S512x1024 .f32) (a : Fin 512) (b : Fin 1024) :
    k0_pay1 A B X (ix2 a b) = (∑ k : Fin 4096, A (ix2 a k) * B (ix2 k b)) + X (ix2 a b) := by
  pointwise [k0_pay1]
  first | done | simp [Ideal.ofBits_zero_f32]

/-- What a grid point stores. -/
theorem stored (A : Vec Ideal S512x4096 .bf16) (B : Vec Ideal S4096x1024 .bf16) (X : Vec Ideal S512x1024 .f32) (a : Fin 512) (b : Fin 1024) :
    out0_3 A B X (ix2 a b) = (∑ k : Fin 4096, A (ix2 a k) * B (ix2 k b)) + X (ix2 a b) := by
  have z : (![0, 0] : Fin 2 → ℕ) = fun _ => 0 := by decide
  unfold out0_3
  rw [View.canon_unit_zero z, View.ld_unit_zero z, View.ld_unit_zero z, View.ld_unit_zero z]
  exact pay A B X a b

variable (m : (ℓ : Loc nD τ sig) → Buf (Elt Ideal) ℓ) (c : Dev nD)

/-- Where the windows' blocks lie. -/
theorem place : ∀ t : Fin cfg0.N,
    (win0_0.index t (0 : Fin 2) = t.val / 4 ∧ win0_0.index t (1 : Fin 2) = 0)
    ∧ (win0_1.index t (0 : Fin 2) = 0 ∧ win0_1.index t (1 : Fin 2) = t.val % 4)
    ∧ (win0_2.index t (0 : Fin 2) = t.val / 4 ∧ win0_2.index t (1 : Fin 2) = t.val % 4)
    ∧ (win0_3.index t (0 : Fin 2) = t.val / 4 ∧ win0_3.index t (1 : Fin 2) = t.val % 4) :=
  (by decide +kernel : ∀ t : Fin grid0.N, _)

/-- The residual. -/
abbrev xs : FVec Ideal S8192x4096 .f32 := m (c, Proc.tc.devRef main_arg0)
/-- The attention's output. -/
abbrev os : FVec Ideal S8192x4096 .f32 := m (c, Proc.tc.devRef main_arg1)
/-- The weights. -/
abbrev ws : FVec Ideal S4096x4096 .f32 := m (c, Proc.tc.devRef main_arg2)

theorem left (i : Fin 8192) (k : Fin 4096) : V m c main_v0 (ix2 i k) = os m c (ix2 i k) := by
  unfold_abbrev_sides
  after_reads_simp
  pointwise []

theorem right (k : Fin 4096) (j : Fin 4096) : V m c main_v1 (ix2 k j) = ws m c (ix2 k j) := by
  unfold_abbrev_sides
  after_reads_simp
  pointwise []

/-- An entry of the result. -/
theorem entry (i : Fin 8192) (j : Fin 4096) : (dats m 0 c).arrAt 3 cfg0.N (ix2 i j)
    = (xs m c (ix2 i j) + ∑ k : Fin 4096, os m c (ix2 i k) * ws m c (ix2 k j) : Ideal .f32) := by
  have hN : 4 * (i.val / 512) + j.val / 1024 < cfg0.N := lt_of_lt_of_eq (by omega) N_0.symm
  let t : Fin cfg0.N := ⟨4 * (i.val / 512) + j.val / 1024, hN⟩
  have ht : t.val = 4 * (i.val / 512) + j.val / 1024 := rfl
  have p := place t
  let a : Fin 512 := ⟨i.val % 512, by omega⟩
  let b : Fin 1024 := ⟨j.val % 1024, by omega⟩
  have e := congrFun ((Value.blocks3 m c t (flush0_3 t)).trans (Value.flushed3 m c t)) (ix2 a b)
  have hi : ((cfg0.win 3).blk t).view.emb (ix2 a b) = ix2 i j := by
    funext x
    refine Fin.ext ?_
    match x with
    | 0 => show win0_3.index t (0 : Fin 2) * 512 + 1 * (i.val % 512) = i.val; omega
    | 1 => show win0_3.index t (1 : Fin 2) * 1024 + 1 * (j.val % 1024) = j.val; omega
  have el : (dats m 0 c).arrAt 3 cfg0.N (ix2 i j) = out0_3 (iblk m c 0 t) (iblk m c 1 t) (iblk m c 2 t) (ix2 a b) := by
    rw [← hi]
    exact e
  have h2 : iblk m c 2 t (ix2 a b) = xs m c (ix2 i j) := by
    refine Eq.trans ?_ (congrFun (V_main_arg0 m c) (ix2 i j))
    show V m c main_arg0 (((cfg0.win 2).blk t).view.emb (ix2 a b)) = _
    refine congrArg _ (funext fun x => Fin.ext ?_)
    match x with
    | 0 => show win0_2.index t (0 : Fin 2) * 512 + 1 * (i.val % 512) = i.val; omega
    | 1 => show win0_2.index t (1 : Fin 2) * 1024 + 1 * (j.val % 1024) = j.val; omega
  rw [el]
  refine (stored _ _ _ a b).trans ?_
  rw [h2]
  refine (add_comm (G := EReal) _ _).trans (congrArg _ (Finset.sum_congr rfl fun k _ => ?_))
  have h0 : iblk m c 0 t (ix2 a k) = V m c main_v0 (ix2 i k) := by
    show V m c main_v0 (((cfg0.win 0).blk t).view.emb (ix2 a k)) = _
    refine congrArg _ (funext fun x => Fin.ext ?_)
    match x with
    | 0 => show win0_0.index t (0 : Fin 2) * 512 + 1 * (i.val % 512) = i.val; omega
    | 1 => show win0_0.index t (1 : Fin 2) * 4096 + 1 * k.val = k.val; omega
  have h1 : iblk m c 1 t (ix2 k b) = V m c main_v1 (ix2 k j) := by
    show V m c main_v1 (((cfg0.win 1).blk t).view.emb (ix2 k b)) = _
    refine congrArg _ (funext fun x => Fin.ext ?_)
    match x with
    | 0 => show win0_1.index t (0 : Fin 2) * 4096 + 1 * k.val = k.val; omega
    | 1 => show win0_1.index t (1 : Fin 2) * 1024 + 1 * (j.val % 1024) = j.val; omega
  rw [h0, h1, left, right]

end Cert.Kernel5Ideal.Proj

namespace Cert.Reference5Ideal.Proj
open Cert.Reference5Ideal Cert.Reference5Ideal.Read
open Idealize.ShloMosaic Idealize.ShloMosaic.TcCoe Idealize.ShloMosaic.Tactic

/-- The reference's entry. -/
theorem entry (x0 x1 : (⟨S8192x4096, .f32⟩ : BufTy).Contents (Elt Ideal)) (x2 : (⟨S4096x4096, .f32⟩ : BufTy).Contents (Elt Ideal))
    (i : Fin 8192) (j : Fin 4096) :
    val_main_v1 x0 x1 x2 (ix2 i j) = x0 (ix2 i j) + ∑ k : Fin 4096, x1 (ix2 i k) * x2 (ix2 k j) := by
  pointwise [val_main_v1, val_main_v0]
end Cert.Reference5Ideal.Proj
-- ==== Proof.Proj.EvOut.lean ====
module
public import proofs.«01_k».proof.Proof.Gen.Kernel6Ideal.Value
public import proofs.«01_k».proof.Proof.Gen.Reference6Ideal.Read
public import Idealize.ShloMosaic.Lib.Pointwise
public import Idealize.ShloMosaic.Lib.StableHlo.RunRead
@[expose] public section
set_option maxRecDepth 16384
noncomputable section

/-! # The even layer's output projection onto the residual, from its two halves, by blocks of 512 rows and 1024 columns -/

namespace Cert.Kernel6Ideal.Proj
open Cert.Kernel6Ideal Cert.Kernel6Ideal.Gen
open Idealize.ShloMosaic Idealize.ShloMosaic.TcCoe Idealize.ShloMosaic.Tactic

/-- The two halves' products, added to the residual. -/
theorem pay (A : Vec Ideal S512x2048 .bf16) (A' : Vec Ideal S512x2048 .bf16) (B : Vec Ideal S2048x1024 .bf16)
    (B' : Vec Ideal S2048x1024 .bf16) (X : Vec Ideal S512x1024 .f32) (a : Fin 512) (b : Fin 1024) :
    k0_pay1 A B A' B' X (ix2 a b) = ((∑ k : Fin 2048, A (ix2 a k) * B (ix2 k b)) + ∑ k : Fin 2048, A' (ix2 a k) * B' (ix2 k b)) + X (ix2 a b) := by
  pointwise [k0_pay1]
  first | done | simp [Ideal.ofBits_zero_f32]

/-- What a grid point stores. -/
theorem stored (A : Vec Ideal S512x2048 .bf16) (A' : Vec Ideal S512x2048 .bf16) (B : Vec Ideal S2048x1024 .bf16)
    (B' : Vec Ideal S2048x1024 .bf16) (X : Vec Ideal S512x1024 .f32) (a : Fin 512) (b : Fin 1024) :
    out0_5 A A' B B' X (ix2 a b) = ((∑ k : Fin 2048, A (ix2 a k) * B (ix2 k b)) + ∑ k : Fin 2048, A' (ix2 a k) * B' (ix2 k b)) + X (ix2 a b) := by
  have z : (![0, 0] : Fin 2 → ℕ) = fun _ => 0 := by decide
  unfold out0_5
  rw [View.canon_unit_zero z]
  iterate 5 rw [View.ld_unit_zero z]
  exact pay A A' B B' X a b

variable (m : (ℓ : Loc nD τ sig) → Buf (Elt Ideal) ℓ) (c : Dev nD)

/-- Where the windows' blocks lie. -/
theorem place : ∀ t : Fin cfg0.N,
    (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 2) = 0 ∧ win0_2.index t (1 : Fin 2) = t.val % 4)
    ∧ (win0_3.index t (0 : Fin 2) = 0 ∧ win0_3.index t (1 : Fin 2) = t.val % 4)
    ∧ (win0_4.index t (0 : Fin 2) = t.val / 4 ∧ win0_4.index t (1 : Fin 2) = t.val % 4)
    ∧ (win0_5.index t (0 : Fin 2) = t.val / 4 ∧ win0_5.index t (1 : Fin 2) = t.val % 4) :=
  (by decide +kernel : ∀ t : Fin grid0.N, _)

/-- The residual. -/
abbrev xs : FVec Ideal S8192x4096 .f32 := m (c, Proc.tc.devRef main_arg0)
/-- The state space's output. -/
abbrev hs : FVec Ideal S8192x2048 .f32 := m (c, Proc.tc.devRef main_arg1)
/-- The retention's output. -/
abbrev bs : FVec Ideal S8192x2048 .f32 := m (c, Proc.tc.devRef main_arg2)
/-- The weights. -/
abbrev ws : FVec Ideal S4096x4096 .f32 := m (c, Proc.tc.devRef main_arg3)

theorem leftA (i : Fin 8192) (k : Fin 2048) : V m c main_v1 (ix2 i k) = hs m c (ix2 i k) := by
  unfold_abbrev_sides
  after_reads_simp
  pointwise []

theorem leftB (i : Fin 8192) (k : Fin 2048) : V m c main_v2 (ix2 i k) = bs m c (ix2 i k) := by
  unfold_abbrev_sides
  after_reads_simp
  pointwise []

theorem rightA (k : Fin 2048) (j : Fin 4096) : V m c main_v3 (ix2 k j) = ws m c (ix2 (⟨k.val, by omega⟩ : Fin 4096) j) := by
  unfold_abbrev_sides
  after_reads_simp
  pointwise []

theorem rightB (k : Fin 2048) (j : Fin 4096) : V m c main_v4 (ix2 k j) = ws m c (ix2 (⟨2048 + k.val, by omega⟩ : Fin 4096) j) := by
  unfold_abbrev_sides
  after_reads_simp
  pointwise []

/-- An entry of the result. -/
theorem entry (i : Fin 8192) (j : Fin 4096) : (dats m 0 c).arrAt 5 cfg0.N (ix2 i j)
    = (xs m c (ix2 i j) + ((∑ k : Fin 2048, hs m c (ix2 i k) * ws m c (ix2 (⟨k.val, by omega⟩ : Fin 4096) j))
        + ∑ k : Fin 2048, bs m c (ix2 i k) * ws m c (ix2 (⟨2048 + k.val, by omega⟩ : Fin 4096) j)) : Ideal .f32) := by
  have hN : 4 * (i.val / 512) + j.val / 1024 < cfg0.N := lt_of_lt_of_eq (by omega) N_0.symm
  let t : Fin cfg0.N := ⟨4 * (i.val / 512) + j.val / 1024, hN⟩
  have ht : t.val = 4 * (i.val / 512) + j.val / 1024 := rfl
  have p := place t
  let a : Fin 512 := ⟨i.val % 512, by omega⟩
  let b : Fin 1024 := ⟨j.val % 1024, by omega⟩
  have e := congrFun ((Value.blocks5 m c t (flush0_5 t)).trans (Value.flushed5 m c t)) (ix2 a b)
  have hi : ((cfg0.win 5).blk t).view.emb (ix2 a b) = ix2 i j := by
    funext x
    refine Fin.ext ?_
    match x with
    | 0 => show win0_5.index t (0 : Fin 2) * 512 + 1 * (i.val % 512) = i.val; omega
    | 1 => show win0_5.index t (1 : Fin 2) * 1024 + 1 * (j.val % 1024) = j.val; omega
  have el : (dats m 0 c).arrAt 5 cfg0.N (ix2 i j)
      = out0_5 (iblk m c 0 t) (iblk m c 1 t) (iblk m c 2 t) (iblk m c 3 t) (iblk m c 4 t) (ix2 a b) := by
    rw [← hi]
    exact e
  have h4 : iblk m c 4 t (ix2 a b) = V m c main_arg0 (ix2 i j) := by
    show V m c main_arg0 (((cfg0.win 4).blk t).view.emb (ix2 a b)) = _
    refine congrArg _ (funext fun x => Fin.ext ?_)
    match x with
    | 0 => show win0_4.index t (0 : Fin 2) * 512 + 1 * (i.val % 512) = i.val; omega
    | 1 => show win0_4.index t (1 : Fin 2) * 1024 + 1 * (j.val % 1024) = j.val; omega
  have hx : iblk m c 4 t (ix2 a b) = xs m c (ix2 i j) := h4.trans (congrFun (V_main_arg0 m c) (ix2 i j))
  rw [el]
  refine (stored _ _ _ _ _ a b).trans ?_
  rw [hx]
  refine (add_comm (G := EReal) _ _).trans (congrArg _ (congrArg₂ (fun u v : EReal => u + v)
    (Finset.sum_congr rfl fun k _ => ?_) (Finset.sum_congr rfl fun k _ => ?_)))
  · have h0 : iblk m c 0 t (ix2 a k) = V m c main_v1 (ix2 i k) := by
      show V m c main_v1 (((cfg0.win 0).blk t).view.emb (ix2 a k)) = _
      refine congrArg _ (funext fun x => Fin.ext ?_)
      match x with
      | 0 => show win0_0.index t (0 : Fin 2) * 512 + 1 * (i.val % 512) = i.val; omega
      | 1 => show win0_0.index t (1 : Fin 2) * 2048 + 1 * (k.val) = k.val; omega
    have h2 : iblk m c 2 t (ix2 k b) = V m c main_v3 (ix2 k j) := by
      show V m c main_v3 (((cfg0.win 2).blk t).view.emb (ix2 k b)) = _
      refine congrArg _ (funext fun x => Fin.ext ?_)
      match x with
      | 0 => show win0_2.index t (0 : Fin 2) * 2048 + 1 * (k.val) = k.val; omega
      | 1 => show win0_2.index t (1 : Fin 2) * 1024 + 1 * (j.val % 1024) = j.val; omega
    rw [h0, h2, leftA, rightA]
  · have h1 : iblk m c 1 t (ix2 a k) = V m c main_v2 (ix2 i k) := by
      show V m c main_v2 (((cfg0.win 1).blk t).view.emb (ix2 a k)) = _
      refine congrArg _ (funext fun x => Fin.ext ?_)
      match x with
      | 0 => show win0_1.index t (0 : Fin 2) * 512 + 1 * (i.val % 512) = i.val; omega
      | 1 => show win0_1.index t (1 : Fin 2) * 2048 + 1 * (k.val) = k.val; omega
    have h3 : iblk m c 3 t (ix2 k b) = V m c main_v4 (ix2 k j) := by
      show V m c main_v4 (((cfg0.win 3).blk t).view.emb (ix2 k b)) = _
      refine congrArg _ (funext fun x => Fin.ext ?_)
      match x with
      | 0 => show win0_3.index t (0 : Fin 2) * 2048 + 1 * (k.val) = k.val; omega
      | 1 => show win0_3.index t (1 : Fin 2) * 1024 + 1 * (j.val % 1024) = j.val; omega
    rw [h1, h3, leftB, rightB]

end Cert.Kernel6Ideal.Proj

namespace Cert.Reference6Ideal.Proj
open Cert.Reference6Ideal Cert.Reference6Ideal.Read
open Idealize.ShloMosaic Idealize.ShloMosaic.TcCoe Idealize.ShloMosaic.Tactic

/-- A sum over the joined columns is the sum over the first half and the sum over the second. -/
theorem halves (f : Fin 4096 → EReal) :
    (∑ k : Fin 4096, f k) = (∑ k : Fin 2048, f ⟨k.val, by omega⟩) + ∑ k : Fin 2048, f ⟨2048 + k.val, by omega⟩ :=
  Fin.sum_univ_add (a := 2048) (b := 2048) f

section
variable (x1 x2 : (⟨S8192x2048, .f32⟩ : BufTy).Contents (Elt Ideal)) (i : Fin 8192) (k : Fin 2048)

theorem joinedA : val_main_v0 x1 x2 (ix2 i (⟨k.val, by omega⟩ : Fin 4096)) = x1 (ix2 i k) := by
  pointwise [val_main_v0]

theorem joinedB : val_main_v0 x1 x2 (ix2 i (⟨2048 + k.val, by omega⟩ : Fin 4096)) = x2 (ix2 i k) := by
  pointwise [val_main_v0]
end

/-- The reference's entry. -/
theorem entry (x0 : (⟨S8192x4096, .f32⟩ : BufTy).Contents (Elt Ideal)) (x1 x2 : (⟨S8192x2048, .f32⟩ : BufTy).Contents (Elt Ideal))
    (x3 : (⟨S4096x4096, .f32⟩ : BufTy).Contents (Elt Ideal)) (i : Fin 8192) (j : Fin 4096) :
    val_main_v2 x0 x1 x2 x3 (ix2 i j)
      = x0 (ix2 i j) + ((∑ k : Fin 2048, x1 (ix2 i k) * x3 (ix2 (⟨k.val, by omega⟩ : Fin 4096) j))
        + ∑ k : Fin 2048, x2 (ix2 i k) * x3 (ix2 (⟨2048 + k.val, by omega⟩ : Fin 4096) j)) := by
  have whole : val_main_v2 x0 x1 x2 x3 (ix2 i j)
      = x0 (ix2 i j) + ∑ k : Fin 4096, val_main_v0 x1 x2 (ix2 i k) * x3 (ix2 k j) := by
    pointwise [val_main_v2, val_main_v1]
  rw [whole, halves]
  simp only [joinedA, joinedB]
end Cert.Reference6Ideal.Proj
-- ==== Proof.Proj.EvInS5.lean ====
module
public import proofs.«01_k».proof.Proof.Gen.Kernel7Ideal.Value
public import proofs.«01_k».proof.Proof.Gen.Reference7Ideal.Read
public import Idealize.ShloMosaic.Lib.Pointwise
public import Idealize.ShloMosaic.Lib.StableHlo.RunRead
@[expose] public section
set_option maxRecDepth 16384
noncomputable section

/-! # The even layer's state-space input by tiles of 128 columns, 512 rows and 8 tiles at a time -/

namespace Cert.Kernel7Ideal.Proj
open Cert.Kernel7Ideal Cert.Kernel7Ideal.Gen
open Idealize.ShloMosaic Idealize.ShloMosaic.TcCoe Idealize.ShloMosaic.Tactic

/-- A block of the product. -/
theorem pay (A : Vec Ideal S512x4096 .bf16) (B : Vec Ideal S4096x1024 .bf16) (a : Fin 512) (b : Fin 1024) :
    k0_pay4 A B (ix2 a b) = ∑ k : Fin 4096, A (ix2 a k) * B (ix2 k b) := by
  pointwise [k0_pay4]
  first | done | simp [Ideal.ofBits_zero_f32]

/-- What a grid point stores: tile `g`'s column `b` is the product's column `128 g + b`. -/
theorem stored (A : Vec Ideal S512x4096 .bf16) (B : Vec Ideal S4096x1024 .bf16) (g : Fin 8) (a : Fin 512) (b : Fin 128) :
    out0_2 A B (ix3 g a b) = ∑ k : Fin 4096, A (ix2 a k) * B (ix2 k (⟨g.val * 128 + b.val, by omega⟩ : Fin 1024)) := by
  have z : (![0, 0] : Fin 2 → ℕ) = fun _ => 0 := by decide
  unfold out0_2 k0_pay11
  rw [View.ld_unit_zero z, View.ld_unit_zero z]
  refine (Value.canon2_eq A B (ix3 g a b)).trans ?_
  refine Eq.trans ?_ (pay A B a ⟨g.val * 128 + b.val, by omega⟩)
  show k0_pay4 A B (Value.ix2_0 (ix3 g a b)) = _
  refine congrArg _ (funext fun x => ?_)
  match x with
  | 0 => rfl
  | 1 => rfl

variable (m : (ℓ : Loc nD τ sig) → Buf (Elt Ideal) ℓ) (c : Dev nD)

/-- Where the windows' blocks lie. -/
theorem place : ∀ t : Fin cfg0.N,
    (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 3) = t.val % 2 ∧ win0_2.index t (1 : Fin 3) = t.val / 2 ∧ win0_2.index t (2 : Fin 3) = 0) :=
  (by decide +kernel : ∀ t : Fin grid0.N, _)

/-- The activations. -/
abbrev xs : FVec Ideal S8192x4096 .f32 := m (c, Proc.tc.devRef main_arg0)
/-- The weights. -/
abbrev ws : FVec Ideal S4096x10240 .f32 := m (c, Proc.tc.devRef main_arg1)

theorem left (i : Fin 8192) (k : Fin 4096) : V m c main_v0 (ix2 i k) = xs m c (ix2 i k) := by
  unfold_abbrev_sides
  after_reads_simp
  pointwise []

theorem right (k : Fin 4096) (j : Fin 2048) :
    V m c main_v2 (ix2 k j) = ws m c (ix2 k ⟨j.val, by omega⟩) := by
  unfold_abbrev_sides
  after_reads_simp
  pointwise []

/-- An entry of the product. -/
theorem entry (g : Fin 16) (i : Fin 8192) (l : Fin 128) : (dats m 0 c).arrAt 2 cfg0.N (ix3 g i l)
    = (∑ k : Fin 4096, xs m c (ix2 i k) * ws m c (ix2 k (⟨g.val * 128 + l.val, by omega⟩ : Fin 10240)) : Ideal .f32) := by
  have hN : 2 * (i.val / 512) + g.val / 8 < cfg0.N := lt_of_lt_of_eq (by omega) N_0.symm
  let t : Fin cfg0.N := ⟨2 * (i.val / 512) + g.val / 8, hN⟩
  have ht : t.val = 2 * (i.val / 512) + g.val / 8 := rfl
  have p := place t
  let a : Fin 512 := ⟨i.val % 512, by omega⟩
  let h : Fin 8 := ⟨g.val % 8, by omega⟩
  have e := congrFun ((Value.blocks2 m c t (flush0_2 t)).trans (Value.flushed2 m c t)) (ix3 h a l)
  have hi : ((cfg0.win 2).blk t).view.emb (ix3 h a l) = ix3 g i l := by
    funext x
    refine Fin.ext ?_
    match x with
    | 0 => show win0_2.index t (0 : Fin 3) * 8 + 1 * (g.val % 8) = g.val; omega
    | 1 => show win0_2.index t (1 : Fin 3) * 512 + 1 * (i.val % 512) = i.val; omega
    | 2 => show win0_2.index t (2 : Fin 3) * 128 + 1 * l.val = l.val; omega
  have el : (dats m 0 c).arrAt 2 cfg0.N (ix3 g i l) = out0_2 (iblk m c 0 t) (iblk m c 1 t) (ix3 h a l) := by
    rw [← hi]
    exact e
  rw [el]
  refine (stored _ _ h a l).trans (Finset.sum_congr rfl fun k _ => ?_)
  have h0 : iblk m c 0 t (ix2 a k) = V m c main_v0 (ix2 i k) := by
    show V m c main_v0 (((cfg0.win 0).blk t).view.emb (ix2 a k)) = _
    refine congrArg _ (funext fun x => Fin.ext ?_)
    match x with
    | 0 => show win0_0.index t (0 : Fin 2) * 512 + 1 * (i.val % 512) = i.val; omega
    | 1 => show win0_0.index t (1 : Fin 2) * 4096 + 1 * k.val = k.val; omega
  have h1 : iblk m c 1 t (ix2 k (⟨h.val * 128 + l.val, by omega⟩ : Fin 1024))
      = V m c main_v2 (ix2 k (⟨g.val * 128 + l.val, by omega⟩ : Fin 2048)) := by
    show V m c main_v2 (((cfg0.win 1).blk t).view.emb (ix2 k (⟨h.val * 128 + l.val, by omega⟩ : Fin 1024))) = _
    refine congrArg _ (funext fun x => Fin.ext ?_)
    match x with
    | 0 => show win0_1.index t (0 : Fin 2) * 4096 + 1 * k.val = k.val; omega
    | 1 => show win0_1.index t (1 : Fin 2) * 1024 + 1 * (g.val % 8 * 128 + l.val) = g.val * 128 + l.val; omega
  rw [h0, h1, left, right]

end Cert.Kernel7Ideal.Proj

namespace Cert.Reference7Ideal.Proj
open Cert.Reference7Ideal Cert.Reference7Ideal.Read
open Idealize.ShloMosaic Idealize.ShloMosaic.TcCoe Idealize.ShloMosaic.Tactic

/-- The reference's entry. -/
theorem entry (x0 : (⟨S8192x4096, .f32⟩ : BufTy).Contents (Elt Ideal)) (x1 : (⟨S4096x10240, .f32⟩ : BufTy).Contents (Elt Ideal))
    (g : Fin 16) (i : Fin 8192) (l : Fin 128) :
    val_main_v8 x0 x1 (ix3 g i l) = ∑ k : Fin 4096, x0 (ix2 i k) * x1 (ix2 k (⟨g.val * 128 + l.val, by omega⟩ : Fin 10240)) := by
  pointwise [val_main_v8, val_main_v7, val_main_v6, val_main_v1, val_main_v0]
end Cert.Reference7Ideal.Proj
-- ==== Proof.Proj.S5Glu.lean ====
module
public import proofs.«01_k».proof.Proof.Gen.Kernel8Ideal.Value
public import proofs.«01_k».proof.Proof.Gen.Reference8Ideal.Read
public import Idealize.ShloMosaic.Lib.Pointwise
public import Idealize.ShloMosaic.Lib.StableHlo.RunRead
@[expose] public section
set_option maxRecDepth 16384
noncomputable section

/-! # The state-space mixer's gate: a block of 512 rows, put together from tiles of 128 columns, times the logistic
    function of its own projection -/

namespace Cert.Kernel8Ideal.Proj
open Cert.Kernel8Ideal Cert.Kernel8Ideal.Gen
open Idealize.ShloMosaic Idealize.ShloMosaic.TcCoe Idealize.ShloMosaic.Tactic

/-- The tiles side by side. -/
def joined (x : Vec Ideal S16x512x128 .bf16) : FVec Ideal S512x2048 .bf16 :=
  k0_pay1 (k0_pay3 (View.ld x r0_0)) (k0_pay4 (View.ld x r0_1)) (k0_pay5 (View.ld x r0_2)) (k0_pay6 (View.ld x r0_3))
    (k0_pay7 (View.ld x r0_4)) (k0_pay8 (View.ld x r0_5)) (k0_pay9 (View.ld x r0_6)) (k0_pay10 (View.ld x r0_7))
    (k0_pay11 (View.ld x r0_8)) (k0_pay12 (View.ld x r0_9)) (k0_pay13 (View.ld x r0_10)) (View.ld x r0_11)
    (View.ld x r0_12) (View.ld x r0_13) (View.ld x r0_14) (View.ld x r0_15)

/-- Tile `n` lies in the block. -/
theorem inside (n : Fin 16) : ∀ a : Fin 3, (![n.val, 0, 0] : Fin 3 → ℕ) a + S1x512x128.size a ≤ S16x512x128.size a := by
  revert n
  decide

/-- Tile `n`. -/
def tile (x : Vec Ideal S16x512x128 .bf16) (n : Fin 16) : FVec Ideal S512x128 .bf16 :=
  shapeCast S512x128 (View.ld x (Rect.unit (s := S16x512x128) ![n.val, 0, 0] S1x512x128.size (inside n)))
    shapeCasts_S1x512x128_S512x128

/-- A row of one tile without the leading axis. -/
theorem flat (v : Vec Ideal S1x512x128 .bf16) (a : Fin 512) (l : Fin 128) :
    shapeCast S512x128 v shapeCasts_S1x512x128_S512x128 (ix2 a l) = v (ix3 (0 : Fin 1) a l) := by
  pointwise []

theorem tile_entry (x : Vec Ideal S16x512x128 .bf16) (n : Fin 16) (a : Fin 512) (l : Fin 128) :
    tile x n (ix2 a l) = x (ix3 n a l) := by
  unfold tile
  refine (flat _ a l).trans (congrArg x (funext fun b => Fin.ext ?_))
  match b with
  | 0 => show n.val + 1 * 0 = n.val; omega
  | 1 => show 0 + 1 * a.val = a.val; omega
  | 2 => show 0 + 1 * l.val = l.val; omega

/-- Column `k` is column `k % 128` of tile `k / 128`. -/
theorem joined_entry (x : Vec Ideal S16x512x128 .bf16) (a : Fin 512) (k : Fin 2048) :
    joined x (ix2 a k) = x (ix3 (⟨k.val / 128, by omega⟩ : Fin 16) a (⟨k.val % 128, by omega⟩ : Fin 128)) := by
  refine Eq.trans ?_ (tile_entry x _ _ _)
  refine concatenate_ofFn_apply (1 : Fin S512x2048.rank) (tile x)
    concatenates_S512x128_S512x128_S512x128_S512x128_S512x128_S512x128_S512x128_S512x128_S512x128_S512x128_S512x128_S512x128_S512x128_S512x128_S512x128_S512x128_S512x2048_d1
    rfl 128 rfl (ix2 a k) (⟨k.val / 128, by omega⟩ : Fin 16) rfl (ix2 a (⟨k.val % 128, by omega⟩ : Fin 128)) rfl ?_
  intro b hb
  match b with
  | 0 => rfl
  | 1 => exact absurd rfl hb

/-- A gated block. -/
theorem pay (Y : Vec Ideal S512x2048 .bf16) (W : Vec Ideal S2048x2048 .bf16) (B : Vec Ideal S1x2048 .f32)
    (a : Fin 512) (b : Fin 2048) :
    k0_pay2 Y W B (ix2 a b) = Y (ix2 a b)
      * Ideal.logistic ((∑ k : Fin 2048, Y (ix2 a k) * W (ix2 k b)) + B (ix2 (0 : Fin 1) b)) := by
  pointwise [k0_pay2]

/-- What a grid point stores: the activations' column `k` is tile `k / 128`'s column `k % 128`. -/
theorem stored (x : Vec Ideal S16x512x128 .bf16) (W : Vec Ideal S2048x2048 .bf16) (B : Vec Ideal S1x2048 .f32)
    (Y : Fin 512 → Fin 2048 → Ideal .f32)
    (hY : ∀ a k, x (ix3 (⟨k.val / 128, by omega⟩ : Fin 16) a (⟨k.val % 128, by omega⟩ : Fin 128)) = Y a k)
    (a : Fin 512) (b : Fin 2048) :
    out0_3 x W B (ix2 a b) = Y a b * Ideal.logistic ((∑ k : Fin 2048, Y a k * W (ix2 k b)) + B (ix2 (0 : Fin 1) b)) := by
  have z : (![0, 0] : Fin 2 → ℕ) = fun _ => 0 := by decide
  unfold out0_3
  rw [View.canon_unit_zero z, View.ld_unit_zero z, View.ld_unit_zero z]
  refine (pay (joined x) W B a b).trans ?_
  have h : ∀ k, joined x (ix2 a k) = Y a k := fun k => (joined_entry x a k).trans (hY a k)
  simp only [h]

variable (m : (ℓ : Loc nD τ sig) → Buf (Elt Ideal) ℓ) (c : Dev nD)

/-- Where the windows' blocks lie. -/
theorem place : ∀ t : Fin cfg0.N,
    (win0_0.index t (0 : Fin 3) = 0 ∧ win0_0.index t (1 : Fin 3) = t.val ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

/-- The activations. -/
abbrev ys : FVec Ideal S8192x2048 .f32 := m (c, Proc.tc.devRef main_arg0)
/-- The gate's weights. -/
abbrev ws : FVec Ideal S2048x2048 .f32 := m (c, Proc.tc.devRef main_arg1)
/-- The gate's bias. -/
abbrev bs : FVec Ideal S2048 .f32 := m (c, Proc.tc.devRef main_arg2)

theorem left (g : Fin 16) (i : Fin 8192) (l : Fin 128) :
    V m c main_v2 (ix3 g i l) = ys m c (ix2 i (⟨g.val * 128 + l.val, by omega⟩ : Fin 2048)) := by
  unfold_abbrev_sides
  after_reads_simp
  pointwise []

theorem right (k j : Fin 2048) : V m c main_v3 (ix2 k j) = ws m c (ix2 k j) := by
  unfold_abbrev_sides
  after_reads_simp
  pointwise []

theorem bias (j : Fin 2048) : V m c main_v4 (ix2 (0 : Fin 1) j) = bs m c (ix1 j) := by
  unfold_abbrev_sides
  after_reads_simp
  pointwise []

/-- A gated entry. -/
theorem entry (i : Fin 8192) (j : Fin 2048) : (dats m 0 c).arrAt 3 cfg0.N (ix2 i j)
    = (ys m c (ix2 i j) * Ideal.logistic ((∑ k : Fin 2048, ys m c (ix2 i k) * ws m c (ix2 k j)) + bs m c (ix1 j)) : Ideal .f32) := by
  have hN : i.val / 512 < cfg0.N := lt_of_lt_of_eq (by omega) N_0.symm
  let t : Fin cfg0.N := ⟨i.val / 512, hN⟩
  have ht : t.val = i.val / 512 := rfl
  have p := place t
  let a : Fin 512 := ⟨i.val % 512, by omega⟩
  have e := congrFun ((Value.blocks3 m c t (flush0_3 t)).trans (Value.flushed3 m c t)) (ix2 a j)
  have hi : ((cfg0.win 3).blk t).view.emb (ix2 a j) = ix2 i j := by
    funext x
    refine Fin.ext ?_
    match x with
    | 0 => show win0_3.index t (0 : Fin 2) * 512 + 1 * (i.val % 512) = i.val; omega
    | 1 => show win0_3.index t (1 : Fin 2) * 2048 + 1 * j.val = j.val; omega
  have el : (dats m 0 c).arrAt 3 cfg0.N (ix2 i j) = out0_3 (iblk m c 0 t) (iblk m c 1 t) (iblk m c 2 t) (ix2 a j) := by
    rw [← hi]
    exact e
  rw [el]
  have h0 : ∀ (b : Fin 512) (k : Fin 2048),
      iblk m c 0 t (ix3 (⟨k.val / 128, by omega⟩ : Fin 16) b (⟨k.val % 128, by omega⟩ : Fin 128))
        = ys m c (ix2 (⟨i.val / 512 * 512 + b.val, by omega⟩ : Fin 8192) k) := by
    intro b k
    refine Eq.trans ?_ ((left m c ⟨k.val / 128, by omega⟩ ⟨i.val / 512 * 512 + b.val, by omega⟩ ⟨k.val % 128, by omega⟩).trans ?_)
    · show V m c main_v2 (((cfg0.win 0).blk t).view.emb (ix3 (⟨k.val / 128, by omega⟩ : Fin 16) b (⟨k.val % 128, by omega⟩ : Fin 128))) = _
      refine congrArg _ (funext fun x => Fin.ext ?_)
      match x with
      | 0 => show win0_0.index t (0 : Fin 3) * 16 + 1 * (k.val / 128) = k.val / 128; omega
      | 1 => show win0_0.index t (1 : Fin 3) * 512 + 1 * b.val = i.val / 512 * 512 + b.val; omega
      | 2 => show win0_0.index t (2 : Fin 3) * 128 + 1 * (k.val % 128) = k.val % 128; omega
    · refine congrArg _ (funext fun x => Fin.ext ?_)
      match x with
      | 0 => rfl
      | 1 => show k.val / 128 * 128 + k.val % 128 = k.val; omega
  have h1 : ∀ k : Fin 2048, iblk m c 1 t (ix2 k j) = ws m c (ix2 k j) := by
    intro k
    refine Eq.trans ?_ (right m c k j)
    show V m c main_v3 (((cfg0.win 1).blk t).view.emb (ix2 k j)) = _
    refine congrArg _ (funext fun x => Fin.ext ?_)
    match x with
    | 0 => show win0_1.index t (0 : Fin 2) * 2048 + 1 * k.val = k.val; omega
    | 1 => show win0_1.index t (1 : Fin 2) * 2048 + 1 * j.val = j.val; omega
  have h2 : iblk m c 2 t (ix2 (0 : Fin 1) j) = bs m c (ix1 j) := by
    refine Eq.trans ?_ (bias m c j)
    show V m c main_v4 (((cfg0.win 2).blk t).view.emb (ix2 (0 : Fin 1) j)) = _
    refine congrArg _ (funext fun x => Fin.ext ?_)
    match x with
    | 0 => show win0_2.index t (0 : Fin 2) * 1 + 1 * 0 = 0; omega
    | 1 => show win0_2.index t (1 : Fin 2) * 2048 + 1 * j.val = j.val; omega
  have hr : (⟨i.val / 512 * 512 + a.val, by omega⟩ : Fin 8192) = i := Fin.ext (by show i.val / 512 * 512 + i.val % 512 = i.val; omega)
  refine (stored _ _ _ (fun b k => ys m c (ix2 (⟨i.val / 512 * 512 + b.val, by omega⟩ : Fin 8192) k)) h0 a j).trans ?_
  simp only [hr]
  rw [h2]
  simp only [h1]

end Cert.Kernel8Ideal.Proj

namespace Cert.Reference8Ideal.Proj
open Cert.Reference8Ideal Cert.Reference8Ideal.Read
open Idealize.ShloMosaic Idealize.ShloMosaic.TcCoe Idealize.ShloMosaic.Tactic

/-- The reference's entry. -/
theorem entry (x0 : (⟨S8192x2048, .f32⟩ : BufTy).Contents (Elt Ideal)) (x1 : (⟨S2048x2048, .f32⟩ : BufTy).Contents (Elt Ideal))
    (x2 : (⟨S2048, .f32⟩ : BufTy).Contents (Elt Ideal)) (i : Fin 8192) (j : Fin 2048) :
    val_main_v11 x0 x1 x2 (ix2 i j) = x0 (ix2 i j)
      * Ideal.logistic ((∑ k : Fin 2048, x0 (ix2 i k) * x1 (ix2 k j)) + x2 (ix1 j)) := by
  pointwise [val_main_v11, val_main_v10, val_main_v9, val_main_v8, val_main_v7, val_main_v6, val_main_v5, val_main_v4,
    val_main_v3, val_main_v2, val_main_v1, val_main_v0, val_main_cst, val_main_cst_0]
  rfl
end Cert.Reference8Ideal.Proj
-- ==== Proof.Peer.Fold.lean ====
module
public import proofs.«01_k».proof.Proof.Gen.Kernel9Ideal.Frame
public import Idealize.ShloMosaic.Lib.Pointwise
public import Idealize.ShloMosaic.Lib.Claim
public import Idealize.ShloMosaic.Lib.StableHlo.RunRead
@[expose] public section
set_option maxRecDepth 16384
noncomputable section

/-! # The product keys folded into the query weights, four heads' halves and 1024 rows of the weights at a time -/

namespace Cert.Kernel9Ideal.Peer
open Cert.Kernel9Ideal Cert.Kernel9Ideal.Gen
open Idealize.ShloMosaic Idealize.ShloMosaic.TcCoe Idealize.ShloMosaic.Tactic

/-- One half's keys against its 128 columns of the weights, for each of the four halves of a block. -/
theorem half0 (W : Vec Ideal S1x1024x512 .f32) (K : Vec Ideal S1x128x128 .f32) (e : Fin 128) (d : Fin 1024) :
    k0_pay2 W K (ix2 e d) = ∑ k : Fin 128, K (ix3 (0 : Fin 1) e k) * W (ix3 (0 : Fin 1) d ⟨0 + k.val, by omega⟩) := by
  simp only [Nat.zero_add]
  pointwise [k0_pay2, k0_pay1]
  first | done | simp [Ideal.ofBits_zero_f32]
theorem half1 (W : Vec Ideal S1x1024x512 .f32) (K : Vec Ideal S1x128x128 .f32) (e : Fin 128) (d : Fin 1024) :
    k0_pay3 W K (ix2 e d) = ∑ k : Fin 128, K (ix3 (0 : Fin 1) e k) * W (ix3 (0 : Fin 1) d ⟨128 + k.val, by omega⟩) := by
  pointwise [k0_pay3, k0_pay1]
  first | done | simp [Ideal.ofBits_zero_f32]
theorem half2 (W : Vec Ideal S1x1024x512 .f32) (K : Vec Ideal S1x128x128 .f32) (e : Fin 128) (d : Fin 1024) :
    k0_pay4 W K (ix2 e d) = ∑ k : Fin 128, K (ix3 (0 : Fin 1) e k) * W (ix3 (0 : Fin 1) d ⟨256 + k.val, by omega⟩) := by
  pointwise [k0_pay4, k0_pay1]
  first | done | simp [Ideal.ofBits_zero_f32]
theorem half3 (W : Vec Ideal S1x1024x512 .f32) (K : Vec Ideal S1x128x128 .f32) (e : Fin 128) (d : Fin 1024) :
    k0_pay5 W K (ix2 e d) = ∑ k : Fin 128, K (ix3 (0 : Fin 1) e k) * W (ix3 (0 : Fin 1) d ⟨384 + k.val, by omega⟩) := by
  pointwise [k0_pay5, k0_pay1]
  first | done | simp [Ideal.ofBits_zero_f32]

/-- A folded block: row `y` belongs to half `y / 128` and its key `y % 128`. -/
def folded (x0 : Vec Ideal S4x128x128 .f32) (x1 : Vec Ideal S1x1024x512 .f32) (y : Fin 512) (d : Fin 1024) : EReal :=
  ∑ k : Fin 128, x0 (ix3 (⟨y.val / 128, by omega⟩ : Fin 4) (⟨y.val % 128, by omega⟩ : Fin 128) k)
    * x1 (ix3 (0 : Fin 1) d (⟨y.val / 128 * 128 + k.val, by omega⟩ : Fin 512))

/-- A load of the weights' whole block and of half `b`'s keys, inside one product. -/
theorem term (x0 : Vec Ideal S4x128x128 .f32) (x1 : Vec Ideal S1x1024x512 .f32) (b : Fin 4) (e : Fin 128) (d : Fin 1024)
    (y : Fin 512) (hy : y.val = b.val * 128 + e.val) (K : Vec Ideal S1x128x128 .f32) (W : Vec Ideal S1x1024x512 .f32)
    (hK : ∀ k : Fin 128, K (ix3 (0 : Fin 1) e k) = x0 (ix3 b e k)) (hW : ∀ k : Fin 512, W (ix3 (0 : Fin 1) d k) = x1 (ix3 (0 : Fin 1) d k)) :
    ∑ k : Fin 128, K (ix3 (0 : Fin 1) e k) * W (ix3 (0 : Fin 1) d (⟨b.val * 128 + k.val, by omega⟩ : Fin 512)) = folded x0 x1 y d := by
  refine Finset.sum_congr rfl fun k _ => ?_
  rw [hK, hW]
  have h1 : (⟨y.val / 128, by omega⟩ : Fin 4) = b := Fin.ext (by show y.val / 128 = b.val; omega)
  have h2 : (⟨y.val % 128, by omega⟩ : Fin 128) = e := Fin.ext (by show y.val % 128 = e.val; omega)
  have h3 : (⟨y.val / 128 * 128 + k.val, by omega⟩ : Fin 512) = ⟨b.val * 128 + k.val, by omega⟩ :=
    Fin.ext (by show y.val / 128 * 128 + k.val = b.val * 128 + k.val; omega)
  rw [h1, h2, h3]

theorem whole (x1 : Vec Ideal S1x1024x512 .f32) (d : Fin 1024) (k : Fin 512) :
    View.ld x1 r0_0 (ix3 (0 : Fin 1) d k) = x1 (ix3 (0 : Fin 1) d k) := by
  refine congrArg x1 (funext fun a => Fin.ext ?_)
  match a with
  | 0 => rfl
  | 1 => show 0 + 1 * d.val = d.val; omega
  | 2 => show 0 + 1 * k.val = k.val; omega

/-- A load of half `b`'s keys. -/
theorem keys (x0 : Vec Ideal S4x128x128 .f32) (b : Fin 4) (inb) (e k : Fin 128) :
    View.ld x0 (Rect.unit (s := S4x128x128) ![b.val, 0, 0] S1x128x128.size inb) (ix3 (0 : Fin 1) e k) = x0 (ix3 b e k) := by
  refine congrArg x0 (funext fun a => Fin.ext ?_)
  match a with
  | 0 => show b.val + 1 * 0 = b.val; omega
  | 1 => show 0 + 1 * e.val = e.val; omega
  | 2 => show 0 + 1 * k.val = k.val; omega

/-- One store of a block: half `b`'s rows. -/
theorem rows_of_half (x0 : Vec Ideal S4x128x128 .f32) (x1 : Vec Ideal S1x1024x512 .f32) (b : Fin 4) (inb) (o : ℕ)
    (inb2 : ∀ a : Fin 2, (![o, 0] : Fin 2 → ℕ) a + S128x1024.size a ≤ S512x1024.size a)
    (P : Vec Ideal S1x1024x512 .f32 → Vec Ideal S1x128x128 .f32 → FVec Ideal S128x1024 .bf16)
    (hP : ∀ (W : Vec Ideal S1x1024x512 .f32) (K : Vec Ideal S1x128x128 .f32) (e : Fin 128) (d : Fin 1024),
      P W K (ix2 e d) = ∑ k : Fin 128, K (ix3 (0 : Fin 1) e k) * W (ix3 (0 : Fin 1) d (⟨b.val * 128 + k.val, by omega⟩ : Fin 512)))
    (ho : o = b.val * 128) (x : S128x1024.Idx) :
    P (View.ld x1 r0_0) (View.ld x0 (Rect.unit (s := S4x128x128) ![b.val, 0, 0] S1x128x128.size inb)) x
      = (fun i : S512x1024.Idx => folded x0 x1 (i 0) (i 1)) ((Rect.unit (s := S512x1024) ![o, 0] S128x1024.size inb2).emb x) := by
  have hx : x = ix2 (x 0) (x 1) := by funext a; match a with | 0 => rfl | 1 => rfl
  refine (congrArg _ hx).trans ((hP _ _ (x 0) (x 1)).trans ?_)
  have hr : ((Rect.unit (s := S512x1024) ![o, 0] S128x1024.size inb2).emb x 0).val = b.val * 128 + (x 0).val := by
    show o + 1 * (x 0).val = _
    omega
  have hc : (Rect.unit (s := S512x1024) ![o, 0] S128x1024.size inb2).emb x 1 = (x 1 : Fin 1024) :=
    Fin.ext (by show 0 + 1 * (x 1).val = (x 1).val; omega)
  refine (term x0 x1 b (x 0) (x 1) _ hr _ _ (fun k => keys x0 b _ (x 0) k) (fun k => whole x1 (x 1) k)).trans ?_
  exact congrArg (folded x0 x1 _) hc.symm

/-- What a grid point stores. -/
theorem stored (x0 : Vec Ideal S4x128x128 .f32) (x1 : Vec Ideal S1x1024x512 .f32) (y : Fin 512) (d : Fin 1024) :
    out0_2 x0 x1 (ix2 y d) = folded x0 x1 y d := by
  unfold out0_2
  refine View.canon_apply_of_pieces (Val := Elt Ideal) (fun i : S512x1024.Idx => folded x0 x1 (i 0) (i 1)) _ ?_ (ix2 y d)
    (cover0_2 _ _ _ _ _)
  intro pc hpc
  rcases List.mem_cons.mp hpc with rfl | hpc
  · exact rows_of_half x0 x1 3 inb_S4x128x128_S1x128x128_3_0_0 384 inb_S512x1024_S128x1024_384_0 k0_pay5 half3 rfl
  rcases List.mem_cons.mp hpc with rfl | hpc
  · exact rows_of_half x0 x1 2 inb_S4x128x128_S1x128x128_2_0_0 256 inb_S512x1024_S128x1024_256_0 k0_pay4 half2 rfl
  rcases List.mem_cons.mp hpc with rfl | hpc
  · exact rows_of_half x0 x1 1 inb_S4x128x128_S1x128x128_1_0_0 128 inb_S512x1024_S128x1024_128_0 k0_pay3 half1 rfl
  rcases List.mem_cons.mp hpc with rfl | hpc
  · exact rows_of_half x0 x1 0 inb_S4x128x128_S1x128x128_0_0_0 0 inb_S512x1024_S128x1024_0_0 k0_pay2 half0 rfl
  · exact absurd hpc List.not_mem_nil

variable (m : (ℓ : Loc nD τ sig) → Buf (Elt Ideal) ℓ) (ρ : Dev nD → PrngReg) (c : Dev nD)

/-- Where the windows' blocks lie. -/
theorem place0 : ∀ t : Fin cfg0.N,
    (win0_0.index t (0 : Fin 3) = t.val % 4 ∧ win0_0.index t (1 : Fin 3) = 0 ∧ win0_0.index t (2 : Fin 3) = 0)
    ∧ (win0_1.index t (0 : Fin 3) = 0 ∧ win0_1.index t (1 : Fin 3) = t.val / 4 ∧ win0_1.index t (2 : Fin 3) = t.val % 4)
    ∧ (win0_2.index t (0 : Fin 2) = t.val % 4 ∧ win0_2.index t (1 : Fin 2) = t.val / 4) :=
  (by decide +kernel : ∀ t : Fin grid0.N, _)

/-- Different grid points write different blocks. -/
theorem apart0 : ∀ t t' : Fin cfg0.N, (cfg0.win 2).flush t = true → (cfg0.win 2).flush t' = true → t ≠ t' →
    Disjoint ((cfg0.win 2).blk t).view.set ((cfg0.win 2).blk t').view.set := by
  intro t t' _ _ hne
  refine (cfg0.win 2).disjoint_blk fun h => hne (Fin.ext ?_)
  have e0 : win0_2.index t (0 : Fin 2) = win0_2.index t' (0 : Fin 2) := congrFun h (0 : Fin 2)
  have e1 : win0_2.index t (1 : Fin 2) = win0_2.index t' (1 : Fin 2) := congrFun h (1 : Fin 2)
  have p := place0 t
  have p' := place0 t'
  omega

/-- A grid point's block of the folded keys, at the end of the first region. -/
theorem block0 (t : Fin cfg0.N) (y : Fin 512) (d : Fin 1024) :
    (dat0 (V1 m ρ) c).arrAt 2 cfg0.N (((cfg0.win 2).blk t).view.emb (ix2 y d))
      = out0_2 (iblk0 (V1 m ρ) c 0 t) (iblk0 (V1 m ρ) c 1 t) (ix2 y d) := by
  have e : (dat0 (V1 m ρ) c).flushed 2 t
      = (cfg0.win 2).cut (grid0.coords t) (out0_2 (iblk0 (V1 m ρ) c 0 t) (iblk0 (V1 m ρ) c 1 t)) := by
    show (cfg0.win 2).cut (grid0.coords t) ((dat0 (V1 m ρ) c).after 2 t) = _
    rw [after0_2]
  exact congrFun (((dat0 (V1 m ρ) c).read_blk_arrAt_eq_flushed 2 apart0 cfg0.N t t.isLt (flush0_2 t)).trans e) (ix2 y d)

/-- The activations. -/
abbrev hs : FVec Ideal S8192x4096 .f32 := m (c, Proc.tc.devRef main_arg0)
/-- The query weights. -/
abbrev ws : FVec Ideal S4096x2048 .f32 := m (c, Proc.tc.devRef main_arg1)
/-- The product keys. -/
abbrev ks : FVec Ideal S8x2x128x128 .f32 := m (c, Proc.tc.devRef main_arg2)

theorem weights (d : Fin 4096) (j : Fin 2048) : V1 m ρ c main_v0 (ix3 (0 : Fin 1) d j) = ws m c (ix2 d j) := by
  unfold_abbrev_sides
  after_reads_simp
  pointwise []

theorem halves (g : Fin 16) (e k : Fin 128) :
    V1 m ρ c main_v1 (ix3 g e k) = ks m c (ix4 (⟨g.val / 2, by omega⟩ : Fin 8) (⟨g.val % 2, by omega⟩ : Fin 2) e k) := by
  unfold_abbrev_sides
  after_reads_simp
  pointwise []

/-- An entry of the folded keys: row `r` belongs to half `r / 128` and its key `r % 128`. -/
theorem fold_entry (r : Fin 2048) (d : Fin 4096) : (dat0 (V1 m ρ) c).arrAt 2 cfg0.N (ix2 r d)
    = (∑ k : Fin 128, ks m c (ix4 (⟨r.val / 256, by omega⟩ : Fin 8) (⟨r.val / 128 % 2, by omega⟩ : Fin 2) (⟨r.val % 128, by omega⟩ : Fin 128) k)
        * ws m c (ix2 d (⟨r.val / 128 * 128 + k.val, by omega⟩ : Fin 2048)) : Ideal .f32) := by
  have hN : 4 * (d.val / 1024) + r.val / 512 < cfg0.N := lt_of_lt_of_eq (by omega) N_0.symm
  let t : Fin cfg0.N := ⟨4 * (d.val / 1024) + r.val / 512, hN⟩
  have ht : t.val = 4 * (d.val / 1024) + r.val / 512 := rfl
  have p := place0 t
  let y : Fin 512 := ⟨r.val % 512, by omega⟩
  let x : Fin 1024 := ⟨d.val % 1024, by omega⟩
  have e := block0 m ρ c t y x
  have hi : ((cfg0.win 2).blk t).view.emb (ix2 y x) = ix2 r d := by
    funext a
    refine Fin.ext ?_
    match a with
    | 0 => show win0_2.index t (0 : Fin 2) * 512 + 1 * (r.val % 512) = r.val; omega
    | 1 => show win0_2.index t (1 : Fin 2) * 1024 + 1 * (d.val % 1024) = d.val; omega
  rw [hi] at e
  refine e.trans ((stored _ _ y x).trans (Finset.sum_congr rfl fun k _ => ?_))
  have h0 : iblk0 (V1 m ρ) c 0 t (ix3 (⟨y.val / 128, by omega⟩ : Fin 4) (⟨y.val % 128, by omega⟩ : Fin 128) k)
      = ks m c (ix4 (⟨r.val / 256, by omega⟩ : Fin 8) (⟨r.val / 128 % 2, by omega⟩ : Fin 2) (⟨r.val % 128, by omega⟩ : Fin 128) k) := by
    refine Eq.trans ?_ ((halves m ρ c ⟨r.val / 128, by omega⟩ ⟨r.val % 128, by omega⟩ k).trans ?_)
    · show V1 m ρ c main_v1 (((cfg0.win 0).blk t).view.emb (ix3 (⟨r.val % 512 / 128, by omega⟩ : Fin 4) (⟨r.val % 512 % 128, by omega⟩ : Fin 128) k)) = _
      refine congrArg _ (funext fun a => Fin.ext ?_)
      match a with
      | 0 => show win0_0.index t (0 : Fin 3) * 4 + 1 * (r.val % 512 / 128) = r.val / 128; omega
      | 1 => show win0_0.index t (1 : Fin 3) * 128 + 1 * (r.val % 512 % 128) = r.val % 128; omega
      | 2 => show win0_0.index t (2 : Fin 3) * 128 + 1 * k.val = k.val; omega
    · refine congrArg _ (funext fun a => Fin.ext ?_)
      match a with
      | 0 => show r.val / 128 / 2 = r.val / 256; omega
      | 1 => rfl
      | 2 => rfl
      | 3 => rfl
  have h1 : iblk0 (V1 m ρ) c 1 t (ix3 (0 : Fin 1) x (⟨y.val / 128 * 128 + k.val, by omega⟩ : Fin 512))
      = ws m c (ix2 d (⟨r.val / 128 * 128 + k.val, by omega⟩ : Fin 2048)) := by
    refine Eq.trans ?_ (weights m ρ c d ⟨r.val / 128 * 128 + k.val, by omega⟩)
    show V1 m ρ c main_v0 (((cfg0.win 1).blk t).view.emb (ix3 (0 : Fin 1) x (⟨r.val % 512 / 128 * 128 + k.val, by omega⟩ : Fin 512))) = _
    refine congrArg _ (funext fun a => Fin.ext ?_)
    match a with
    | 0 => show win0_1.index t (0 : Fin 3) * 1 + 1 * 0 = 0; omega
    | 1 => show win0_1.index t (1 : Fin 3) * 1024 + 1 * (d.val % 1024) = d.val; omega
    | 2 => show win0_1.index t (2 : Fin 3) * 512 + 1 * (r.val % 512 / 128 * 128 + k.val) = r.val / 128 * 128 + k.val; omega
  rw [h0, h1]

end Cert.Kernel9Ideal.Peer
-- ==== Proof.Peer.Scores.lean ====
module
public import proofs.«01_k».proof.Proof.Peer.Fold
@[expose] public section
set_option maxRecDepth 16384
noncomputable section

/-! # The scores: the folded keys against the activations, 1024 keys and 512 tokens at a time -/

namespace Cert.Kernel9Ideal.Peer
open Cert.Kernel9Ideal Cert.Kernel9Ideal.Gen
open Idealize.ShloMosaic Idealize.ShloMosaic.TcCoe Idealize.ShloMosaic.Tactic

/-- A block of the product. -/
theorem pay1 (A : Vec Ideal S1024x4096 .bf16) (B : Vec Ideal S512x4096 .bf16) (a : Fin 1024) (b : Fin 512) :
    k1_pay1 A B (ix2 a b) = ∑ d : Fin 4096, A (ix2 a d) * B (ix2 b d) := by
  pointwise [k1_pay1]
  first | done | simp [Ideal.ofBits_zero_f32]

/-- What a grid point stores. -/
theorem stored1 (A : Vec Ideal S1024x4096 .bf16) (B : Vec Ideal S512x4096 .bf16) (a : Fin 1024) (b : Fin 512) :
    out1_2 A B (ix2 a b) = ∑ d : Fin 4096, A (ix2 a d) * B (ix2 b d) := by
  have z : (![0, 0] : Fin 2 → ℕ) = fun _ => 0 := by decide
  unfold out1_2
  rw [View.canon_unit_zero z, View.ld_unit_zero z, View.ld_unit_zero z]
  exact pay1 A B a b

variable (m : (ℓ : Loc nD τ sig) → Buf (Elt Ideal) ℓ) (ρ : Dev nD → PrngReg) (c : Dev nD)

/-- Where the windows' blocks lie. -/
theorem place1 : ∀ t : Fin cfg1.N,
    (win1_0.index t (0 : Fin 2) = t.val % 2 ∧ win1_0.index t (1 : Fin 2) = 0)
    ∧ (win1_1.index t (0 : Fin 2) = t.val / 2 ∧ win1_1.index t (1 : Fin 2) = 0)
    ∧ (win1_2.index t (0 : Fin 2) = t.val % 2 ∧ win1_2.index t (1 : Fin 2) = t.val / 2) :=
  (by decide +kernel : ∀ t : Fin grid1.N, _)

/-- Different grid points write different blocks. -/
theorem apart1 : ∀ t t' : Fin cfg1.N, (cfg1.win 2).flush t = true → (cfg1.win 2).flush t' = true → t ≠ t' →
    Disjoint ((cfg1.win 2).blk t).view.set ((cfg1.win 2).blk t').view.set := by
  intro t t' _ _ hne
  refine (cfg1.win 2).disjoint_blk fun h => hne (Fin.ext ?_)
  have e0 : win1_2.index t (0 : Fin 2) = win1_2.index t' (0 : Fin 2) := congrFun h (0 : Fin 2)
  have e1 : win1_2.index t (1 : Fin 2) = win1_2.index t' (1 : Fin 2) := congrFun h (1 : Fin 2)
  have p := place1 t
  have p' := place1 t'
  omega

/-- A grid point's block of the scores, at the end of the second region. -/
theorem block1 (t : Fin cfg1.N) (a : Fin 1024) (b : Fin 512) :
    (dat1 (V3 m ρ) c).arrAt 2 cfg1.N (((cfg1.win 2).blk t).view.emb (ix2 a b))
      = out1_2 (iblk1 (V3 m ρ) c 0 t) (iblk1 (V3 m ρ) c 1 t) (ix2 a b) := by
  have e : (dat1 (V3 m ρ) c).flushed 2 t
      = (cfg1.win 2).cut (grid1.coords t) (out1_2 (iblk1 (V3 m ρ) c 0 t) (iblk1 (V3 m ρ) c 1 t)) := by
    show (cfg1.win 2).cut (grid1.coords t) ((dat1 (V3 m ρ) c).after 2 t) = _
    rw [after1_2]
  exact congrFun (((dat1 (V3 m ρ) c).read_blk_arrAt_eq_flushed 2 apart1 cfg1.N t t.isLt (flush1_2 t)).trans e) (ix2 a b)

/-- The second region finds the folded keys the first one left. -/
theorem keys_in : V3 m ρ c main_v2 = (dat0 (V1 m ρ) c).arrAt 2 cfg0.N :=
  (W3_of m ρ c main_v2 (by decide)).trans (W2_arr m ρ c 2)

/-- And the activations as launched. -/
theorem tokens_in (n : Fin 8192) (d : Fin 4096) : V3 m ρ c main_v3 (ix2 n d) = hs m c (ix2 n d) := by
  have e : V3 m ρ c main_v3 (ix2 n d) = W2 m ρ c (Proc.devRef .tc main_arg0) (ix2 n d) := by
    unfold_abbrev_sides
    after_reads_simp
    rfl
  exact e.trans (congrFun (W2_args m ρ c main_arg0 (by decide)) (ix2 n d))

/-- An entry of the scores. -/
theorem entry (r : Fin 2048) (n : Fin 8192) : (dat1 (V3 m ρ) c).arrAt 2 cfg1.N (ix2 r n)
    = (∑ d : Fin 4096, (∑ k : Fin 128,
          ks m c (ix4 (⟨r.val / 256, by omega⟩ : Fin 8) (⟨r.val / 128 % 2, by omega⟩ : Fin 2) (⟨r.val % 128, by omega⟩ : Fin 128) k)
          * ws m c (ix2 d (⟨r.val / 128 * 128 + k.val, by omega⟩ : Fin 2048))) * hs m c (ix2 n d) : Ideal .f32) := by
  have hN : 2 * (n.val / 512) + r.val / 1024 < cfg1.N := lt_of_lt_of_eq (by omega) N_1.symm
  let t : Fin cfg1.N := ⟨2 * (n.val / 512) + r.val / 1024, hN⟩
  have ht : t.val = 2 * (n.val / 512) + r.val / 1024 := rfl
  have p := place1 t
  let a : Fin 1024 := ⟨r.val % 1024, by omega⟩
  let b : Fin 512 := ⟨n.val % 512, by omega⟩
  have e := block1 m ρ c t a b
  have hi : ((cfg1.win 2).blk t).view.emb (ix2 a b) = ix2 r n := by
    funext x
    refine Fin.ext ?_
    match x with
    | 0 => show win1_2.index t (0 : Fin 2) * 1024 + 1 * (r.val % 1024) = r.val; omega
    | 1 => show win1_2.index t (1 : Fin 2) * 512 + 1 * (n.val % 512) = n.val; omega
  rw [hi] at e
  refine e.trans ((stored1 _ _ a b).trans (Finset.sum_congr rfl fun d _ => ?_))
  have h0 : iblk1 (V3 m ρ) c 0 t (ix2 a d) = (dat0 (V1 m ρ) c).arrAt 2 cfg0.N (ix2 r d) := by
    refine Eq.trans ?_ (congrFun (keys_in m ρ c) (ix2 r d))
    show V3 m ρ c main_v2 (((cfg1.win 0).blk t).view.emb (ix2 a d)) = _
    refine congrArg _ (funext fun x => Fin.ext ?_)
    match x with
    | 0 => show win1_0.index t (0 : Fin 2) * 1024 + 1 * (r.val % 1024) = r.val; omega
    | 1 => show win1_0.index t (1 : Fin 2) * 4096 + 1 * d.val = d.val; omega
  have h1 : iblk1 (V3 m ρ) c 1 t (ix2 b d) = hs m c (ix2 n d) := by
    refine Eq.trans ?_ (tokens_in m ρ c n d)
    show V3 m ρ c main_v3 (((cfg1.win 1).blk t).view.emb (ix2 b d)) = _
    refine congrArg _ (funext fun x => Fin.ext ?_)
    match x with
    | 0 => show win1_1.index t (0 : Fin 2) * 512 + 1 * (n.val % 512) = n.val; omega
    | 1 => show win1_1.index t (1 : Fin 2) * 4096 + 1 * d.val = d.val; omega
  rw [h0, h1, fold_entry]

open Idealize.SL Idealize.SL.RA Idealize.SL.BI
open scoped Idealize.SL.BI
open Idealize.SL.BI.BIBase Idealize.SL.BI.Laws Idealize.SL.ProofMode Idealize.SL.Sem
open Idealize.ShloMosaic.Rounds

set_option backward.isDefEq.respectTransparency.types false in
/-- The run: the result array ends at what the second region's write-backs leave, and the arguments as launched. The
    thread state after the last segment holds every buffer at the last boundary's contents. -/
theorem run : θ_run defs (onTc (τ := τ) (main (F := Ideal))) ⟨m, fun _ => 0, ρ⟩ (fun r => ∀ c : Dev nD,
      r.2.mem ((c.tc : Thread nD τ).loc main_v4) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?launch)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩) (hinit := ?first)
    (QY := fun c s => ∀ b ∈ Pipeline.ucRefs τ sig, s.mem (((c : Thread nD τ)).1, b) = W4 m ρ c b)
    (hfin := ?last)
    (hQ := fun s h _ c => ⟨(h c _ (mem_uc main_v4 (by decide))).trans (W4_arr m ρ c 2),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c)⟩)
  case launch =>
    iintro Hu
    imodintro
    isplitl [Hu]
    · iapply (show (ownU (initOf (Pipeline.cells cfgs cellOf_inj) (Pipeline.launchToks cfgs cellOf_inj)) : sProp (MT nD τ sig Unit (Elt Ideal) ℕ (UR sig nD τ) ℕ))
          ⊢ BI.own (emb₁ (initOf (Pipeline.cells cfgs cellOf_inj) (Pipeline.launchToks cfgs cellOf_inj))) from .rfl)
      iexact Hu
    · iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro
  case first =>
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hbufs, -, Howes, -, Hreg, -⟩, -⟩
    imodintro
    isplitl [Hbufs]; · iexact Hbufs
    isplitl [Hreg]; · iexists _; iexact Hreg
    iexists ∅
    iexact Howes
  case last =>
    intro c s
    iintro ⟨⟨Hbufs, -⟩, Hstate⟩
    unfold StableHlo.held
    imodintro
    iapply (pointsTo_read_all (Pipeline.ucRefs τ sig) (fun b => (((c : Thread nD τ)).1, b)) (W4 m ρ c) s)
    isplitl [Hbufs] <;> iassumption

end Cert.Kernel9Ideal.Peer
-- ==== Proof.Peer.Equal.lean ====
module
public import proofs.«01_k».proof.Proof.Peer.Scores
public import proofs.«01_k».proof.Proof.Gen.Reference9Ideal.Read
public import proofs.«01_k».proof.Proof.Attn.Finite
public import Idealize.ShloMosaic.Lib.ReduceAll
@[expose] public section
set_option maxRecDepth 16384
noncomputable section

/-! # The scores of the plain reference, and their equality with the folded ones over finite arrays -/

namespace Cert.Pre_finite_scores
open Idealize.ShloMosaic

/-- The predicate's side conditions. -/
theorem side : Facts where
  bcast_S_S8192x4096 := by decide
  reducesTo_S8192x4096_S_d0_1 := by decide
  h_S_ := by decide
  bcast_S_S4096x2048 := by decide
  reducesTo_S4096x2048_S_d0_1 := by decide
  bcast_S_S8x2x128x128 := by decide
  reducesTo_S8x2x128x128_S_d0_1_2_3 := by decide

variable [Facts]

/-- Where the predicate holds, every entry of the three arrays is real. -/
theorem reals (a0 : FVec Ideal S8192x4096 .f32) (a1 : FVec Ideal S4096x2048 .f32) (a2 : FVec Ideal S8x2x128x128 .f32)
    (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h := congrFun h (fun a => a.elim0)
  have h1 := Cert.Pre_finite.and_left h
  exact ⟨Cert.Pre_finite.real_of_test a0 _ _ _ _ (Cert.Pre_finite.and_left h1),
    Cert.Pre_finite.real_of_test a1 _ _ _ _ (Cert.Pre_finite.and_right h1),
    Cert.Pre_finite.real_of_test a2 _ _ _ _ (Cert.Pre_finite.and_right h)⟩

end Cert.Pre_finite_scores

namespace Cert.Reference9Ideal.Peer
open Cert.Reference9Ideal Cert.Reference9Ideal.Read
open Idealize.ShloMosaic Idealize.ShloMosaic.TcCoe Idealize.ShloMosaic.Tactic

/-- The reference's entry: token `n`'s query of half `r / 128` against that half's key `r % 128`. -/
theorem entry (x0 : (⟨S8192x4096, .f32⟩ : BufTy).Contents (Elt Ideal)) (x1 : (⟨S4096x2048, .f32⟩ : BufTy).Contents (Elt Ideal))
    (x2 : (⟨S8x2x128x128, .f32⟩ : BufTy).Contents (Elt Ideal)) (r : Fin 2048) (n : Fin 8192) :
    val_main_v5 x0 x1 x2 (ix2 r n) = ∑ k : Fin 128,
      x2 (ix4 (⟨r.val / 256, by omega⟩ : Fin 8) (⟨r.val / 128 % 2, by omega⟩ : Fin 2) (⟨r.val % 128, by omega⟩ : Fin 128) k)
      * ∑ d : Fin 4096, x0 (ix2 n d) * x1 (ix2 d (⟨r.val / 128 * 128 + k.val, by omega⟩ : Fin 2048)) := by
  pointwise [val_main_v5, val_main_v4, val_main_v3, val_main_v2, val_main_v1, val_main_v0]
  refine Finset.sum_congr rfl fun k _ => congrArg _ (Finset.sum_congr rfl fun d _ => congrArg _ (congrArg x1 (congrArg (ix2 d) (Fin.ext ?_))))
  show r.val / 256 * 256 + r.val / 128 % 2 * 128 + k.val = r.val / 128 * 128 + k.val
  omega

end Cert.Reference9Ideal.Peer

namespace Cert.Peer

/-- Folding the keys into the weights first, or scoring the queries: the same over the reals. -/
theorem fold_eq {ι κ : Type} [Fintype ι] [Fintype κ] (K : κ → EReal) (W : ι → κ → EReal) (h : ι → EReal)
    (hK : ∀ k, ∃ r : ℝ, K k = (r : EReal)) (hW : ∀ d k, ∃ r : ℝ, W d k = (r : EReal)) (hh : ∀ d, ∃ r : ℝ, h d = (r : EReal)) :
    ∑ k, K k * ∑ d, h d * W d k = ∑ d, (∑ k, K k * W d k) * h d := by
  choose K' eK using hK
  choose W' eW using hW
  choose h' eh using hh
  have l : ∑ k, K k * ∑ d, h d * W d k = ((∑ k, K' k * ∑ d, h' d * W' d k : ℝ) : EReal) := by
    rw [Cert.Attn.coe_sum]
    refine Finset.sum_congr rfl fun k _ => ?_
    rw [EReal.coe_mul, Cert.Attn.coe_sum, eK]
    refine congrArg _ (Finset.sum_congr rfl fun d _ => ?_)
    rw [eh, eW, EReal.coe_mul]
  have r : ∑ d, (∑ k, K k * W d k) * h d = ((∑ d, (∑ k, K' k * W' d k) * h' d : ℝ) : EReal) := by
    rw [Cert.Attn.coe_sum]
    refine Finset.sum_congr rfl fun d _ => ?_
    rw [EReal.coe_mul, Cert.Attn.coe_sum, eh]
    refine congrArg (· * _) (Finset.sum_congr rfl fun k _ => ?_)
    rw [eK, eW, EReal.coe_mul]
  rw [l, r]
  refine congrArg _ ?_
  simp only [Finset.mul_sum, Finset.sum_mul]
  rw [Finset.sum_comm]
  exact Finset.sum_congr rfl fun d _ => Finset.sum_congr rfl fun k _ => by ring

end Cert.Peer
-- ==== Proof.Peer.Gelu.lean ====
module
public import proofs.«01_k».proof.Proof.Gen.Kernel15Ideal.Skeleton
public import Idealize.ShloMosaic.Lib.Pointwise
@[expose] public section
set_option maxRecDepth 16384
noncomputable section

/-! # What one slab of 128 experts is weighted with: its gates and the gelu of its products -/

namespace Cert.Kernel15Ideal.Peer
open Cert.Kernel15Ideal Cert.Kernel15Ideal.Gen
open Idealize.ShloMosaic Idealize.ShloMosaic.TcCoe Idealize.ShloMosaic.Tactic

/-- One head's gate of an expert: the product of its factors where that reaches the threshold. -/
def gate (p q t : EReal) : EReal := if t ≤ p * q then p * q else 0

/-- The gelu by the hyperbolic tangent, with the two constants as the kernel writes them. -/
def gelu (x : EReal) : EReal :=
  Ideal.ofBits .bf16 0x3F00#16 * x * (1 + Ideal.tanh (((6693141 / 8388608 : ℝ) : EReal) * (x + ((12003091 / 268435456 : ℝ) : EReal) * (x * x * x))))

theorem slab0 (A : FVec Ideal S512x512 .f32) (P : Fin 8 → Vec Ideal S1x128x512 .bf16) (Q : Fin 8 → Vec Ideal S1x1x512 .f32)
    (T : Fin 8 → Vec Ideal S1x512 .f32) (a : Fin 128) (b : Fin 512) :
    k0_pay15 (k0_pay12 (k0_pay8 (k0_pay6 (k0_pay4 (P 0) (Q 0) (T 0)) (k0_pay5 (P 1)) (Q 1) (T 1) (P 2) (Q 2) (T 2)) (k0_pay7 (P 3) (Q 3)) (T 3) (P 4) (Q 4) (T 4))
        (k0_pay9 (P 5) (Q 5)) (k0_pay10 (P 5) (Q 5) (T 5)) k0_pay11 (P 6) (Q 6) (T 6) (P 7) (Q 7) (T 7)) (k0_pay13 A) k0_pay14 (ix2 a b)
      = (∑ h, gate (P h (ix3 0 a b)) (Q h (ix3 0 0 b)) (T h (ix2 0 b))) * gelu (A (ix2 (⟨a.val, by omega⟩ : Fin 512) b)) := by
  rw [Fin.sum_univ_eight]
  pointwise [k0_pay15, k0_pay12, k0_pay8, k0_pay6, k0_pay4, k0_pay5, k0_pay7, k0_pay9, k0_pay10, k0_pay11, k0_pay13, k0_pay14]
  rfl

theorem slab1 (A : FVec Ideal S512x512 .f32) (P : Fin 8 → Vec Ideal S1x128x512 .bf16) (Q : Fin 8 → Vec Ideal S1x1x512 .f32)
    (T : Fin 8 → Vec Ideal S1x512 .f32) (a : Fin 128) (b : Fin 512) :
    k0_pay25 A (k0_pay24 (k0_pay21 (k0_pay18 (k0_pay16 (P 0) (Q 0) (T 0)) (k0_pay17 (P 1)) (Q 1) (T 1) (P 2) (Q 2) (T 2)) (k0_pay19 (P 3)) (k0_pay20 (Q 3)) (T 3) (P 4) (Q 4) (T 4))
        (k0_pay22 (P 5) (Q 5)) (k0_pay23 (T 5)) (P 6) (Q 6) (T 6) (P 7) (Q 7) (T 7)) (ix2 a b)
      = (∑ h, gate (P h (ix3 0 a b)) (Q h (ix3 0 0 b)) (T h (ix2 0 b))) * gelu (A (ix2 (⟨128 + a.val, by omega⟩ : Fin 512) b)) := by
  rw [Fin.sum_univ_eight]
  pointwise [k0_pay25, k0_pay24, k0_pay21, k0_pay18, k0_pay16, k0_pay17, k0_pay19, k0_pay20, k0_pay22, k0_pay23]
  rfl

theorem slab2 (A : FVec Ideal S512x512 .f32) (P : Fin 8 → Vec Ideal S1x128x512 .bf16) (Q : Fin 8 → Vec Ideal S1x1x512 .f32)
    (T : Fin 8 → Vec Ideal S1x512 .f32) (a : Fin 128) (b : Fin 512) :
    k0_pay35 A (k0_pay32 (k0_pay30 (k0_pay28 (k0_pay26 (P 0) (Q 0) (T 0)) (k0_pay27 (P 1)) (Q 1) (T 1) (P 2) (Q 2) (T 2)) (k0_pay29 (P 3)) (Q 3) (T 3) (P 4) (Q 4) (T 4))
        (k0_pay31 (P 5) (Q 5)) (T 5) (P 6) (Q 6) (T 6)) (k0_pay33 (P 7) (Q 7)) (k0_pay34 (P 7) (Q 7) (T 7)) (ix2 a b)
      = (∑ h, gate (P h (ix3 0 a b)) (Q h (ix3 0 0 b)) (T h (ix2 0 b))) * gelu (A (ix2 (⟨256 + a.val, by omega⟩ : Fin 512) b)) := by
  rw [Fin.sum_univ_eight]
  pointwise [k0_pay35, k0_pay32, k0_pay30, k0_pay28, k0_pay26, k0_pay27, k0_pay29, k0_pay31, k0_pay33, k0_pay34]
  rfl

theorem slab3 (A : FVec Ideal S512x512 .f32) (P : Fin 8 → Vec Ideal S1x128x512 .bf16) (Q : Fin 8 → Vec Ideal S1x1x512 .f32)
    (T : Fin 8 → Vec Ideal S1x512 .f32) (a : Fin 128) (b : Fin 512) :
    k0_pay43 A (k0_pay41 (k0_pay39 (k0_pay37 (k0_pay36 (P 0) (Q 0) (T 0)) (P 1) (Q 1) (T 1) (P 2) (Q 2) (T 2)) (k0_pay38 (P 3)) (Q 3) (T 3) (P 4) (Q 4) (T 4))
        (k0_pay40 (P 5)) (Q 5) (T 5) (P 6) (Q 6) (T 6)) (k0_pay42 (P 7) (Q 7)) (T 7) (ix2 a b)
      = (∑ h, gate (P h (ix3 0 a b)) (Q h (ix3 0 0 b)) (T h (ix2 0 b))) * gelu (A (ix2 (⟨384 + a.val, by omega⟩ : Fin 512) b)) := by
  rw [Fin.sum_univ_eight]
  pointwise [k0_pay43, k0_pay41, k0_pay39, k0_pay37, k0_pay36, k0_pay38, k0_pay40, k0_pay42]
  rfl

/-- The products of the experts' rows of u with the tokens. -/
theorem pay3_read (u h : Vec Ideal S512x4096 .bf16) (r n : Fin 512) :
    k0_pay3 u h (ix2 r n) = ∑ k : Fin 4096, u (ix2 r k) * h (ix2 n k) := by
  pointwise [k0_pay3]

/-- The block of the result after a point: what it held and the point's own products. -/
theorem pay1_read (o : Vec Ideal S4096x512 .f32) (vt : Vec Ideal S4096x512 .bf16) (w : Vec Ideal S512x512 .bf16) (d : Fin 4096) (n : Fin 512) :
    k0_pay1 (k0_pay44 o) (k0_pay45 vt) w (ix2 d n) = o (ix2 d n) + ∑ r : Fin 512, vt (ix2 d r) * w (ix2 r n) := by
  pointwise [k0_pay1, k0_pay44, k0_pay45]

theorem pay2_read (d : Fin 4096) (n : Fin 512) : k0_pay2 (F := Ideal) (ix2 d n) = 0 := by
  pointwise [k0_pay2]

end Cert.Kernel15Ideal.Peer
-- ==== Proof.Peer.Slab.lean ====
module
public import proofs.«01_k».proof.Proof.Gen.Kernel15Ideal.Value
public import proofs.«01_k».proof.Proof.Peer.Gelu
public import Idealize.ShloMosaic.Lib.Claim
@[expose] public section
set_option maxRecDepth 16384
noncomputable section

/-! # What a grid point adds to its block of the result -/

namespace Cert.Kernel15Ideal.Peer
open Cert.Kernel15Ideal Cert.Kernel15Ideal.Gen
open Idealize.ShloMosaic Idealize.ShloMosaic.TcCoe Idealize.ShloMosaic.Tactic

theorem hz : (![0, 0] : Fin 2 → ℕ) = fun _ => 0 := by funext a; match a with | 0 => rfl | 1 => rfl

/-- Where the row of head `h`'s first factors that belongs to slab `s` starts. -/
def off (i : grid0.Coords) (s : Fin 4) (h : Fin 8) : Fin 3 → ℕ :=
  match h with
  | 0 => k0_off1 i (BitVec.ofNat 32 s.val)
  | 1 => k0_off2 i (BitVec.ofNat 32 s.val)
  | 2 => k0_off3 i (BitVec.ofNat 32 s.val)
  | 3 => k0_off4 i (BitVec.ofNat 32 s.val)
  | 4 => k0_off5 i (BitVec.ofNat 32 s.val)
  | 5 => k0_off6 i (BitVec.ofNat 32 s.val)
  | 6 => k0_off7 i (BitVec.ofNat 32 s.val)
  | 7 => k0_off8 i (BitVec.ofNat 32 s.val)
theorem offInb (i : grid0.Coords) (s : Fin 4) (h : Fin 8) : ∀ a, off i s h a + S1x1x512.size a ≤ S8x128x512.size a :=
  match h with
  | 0 => k0_off1_inb i s
  | 1 => k0_off2_inb i s
  | 2 => k0_off3_inb i s
  | 3 => k0_off4_inb i s
  | 4 => k0_off5_inb i s
  | 5 => k0_off6_inb i s
  | 6 => k0_off7_inb i s
  | 7 => k0_off8_inb i s
theorem headInb (h : Fin 8) : ∀ a : Fin 3, (![h.val, 0, 0] : Fin 3 → ℕ) a + S1x128x512.size a ≤ S8x128x512.size a := by revert h; decide
theorem thrInb (h : Fin 8) : ∀ a : Fin 2, (![h.val, 0] : Fin 2 → ℕ) a + S1x512.size a ≤ S8x512.size a := by revert h; decide

/-- The weights a point stores, slab by slab, the last one first. -/
abbrev pieces (A : FVec Ideal S512x512 .f32) (P : Fin 8 → Vec Ideal S1x128x512 .bf16) (Q : Fin 4 → Fin 8 → Vec Ideal S1x1x512 .f32) (T : Fin 8 → Vec Ideal S1x512 .f32) : List (View.Piece (Elt Ideal) S512x512 .bf16) :=
  [ ⟨Rect.unit (s := S512x512) ![384, 0] S128x512.size inb_S512x512_S128x512_384_0, k0_pay43 A (k0_pay41 (k0_pay39 (k0_pay37 (k0_pay36 (P 0) (Q 3 0) (T 0)) (P 1) (Q 3 1) (T 1) (P 2) (Q 3 2) (T 2)) (k0_pay38 (P 3)) (Q 3 3) (T 3) (P 4) (Q 3 4) (T 4))
      (k0_pay40 (P 5)) (Q 3 5) (T 5) (P 6) (Q 3 6) (T 6)) (k0_pay42 (P 7) (Q 3 7)) (T 7)⟩,
    ⟨Rect.unit (s := S512x512) ![256, 0] S128x512.size inb_S512x512_S128x512_256_0, k0_pay35 A (k0_pay32 (k0_pay30 (k0_pay28 (k0_pay26 (P 0) (Q 2 0) (T 0)) (k0_pay27 (P 1)) (Q 2 1) (T 1) (P 2) (Q 2 2) (T 2)) (k0_pay29 (P 3)) (Q 2 3) (T 3) (P 4) (Q 2 4) (T 4))
      (k0_pay31 (P 5) (Q 2 5)) (T 5) (P 6) (Q 2 6) (T 6)) (k0_pay33 (P 7) (Q 2 7)) (k0_pay34 (P 7) (Q 2 7) (T 7))⟩,
    ⟨Rect.unit (s := S512x512) ![128, 0] S128x512.size inb_S512x512_S128x512_128_0, k0_pay25 A (k0_pay24 (k0_pay21 (k0_pay18 (k0_pay16 (P 0) (Q 1 0) (T 0)) (k0_pay17 (P 1)) (Q 1 1) (T 1) (P 2) (Q 1 2) (T 2)) (k0_pay19 (P 3)) (k0_pay20 (Q 1 3)) (T 3) (P 4) (Q 1 4) (T 4))
      (k0_pay22 (P 5) (Q 1 5)) (k0_pay23 (T 5)) (P 6) (Q 1 6) (T 6) (P 7) (Q 1 7) (T 7))⟩,
    ⟨Rect.unit (s := S512x512) ![0, 0] S128x512.size inb_S512x512_S128x512_0_0, k0_pay15 (k0_pay12 (k0_pay8 (k0_pay6 (k0_pay4 (P 0) (Q 0 0) (T 0)) (k0_pay5 (P 1)) (Q 0 1) (T 1) (P 2) (Q 0 2) (T 2)) (k0_pay7 (P 3) (Q 0 3)) (T 3) (P 4) (Q 0 4) (T 4))
      (k0_pay9 (P 5) (Q 0 5)) (k0_pay10 (P 5) (Q 0 5) (T 5)) k0_pay11 (P 6) (Q 0 6) (T 6) (P 7) (Q 0 7) (T 7)) (k0_pay13 A) k0_pay14⟩]

/-- What the weights are: row `r` is expert `r % 128` of slab `r / 128`. -/
def wt (A : FVec Ideal S512x512 .f32) (P : Fin 8 → Vec Ideal S1x128x512 .bf16) (Q : Fin 4 → Fin 8 → Vec Ideal S1x1x512 .f32) (T : Fin 8 → Vec Ideal S1x512 .f32) (r n : Fin 512) : EReal :=
  (∑ h, gate (P h (ix3 0 (⟨r.val % 128, by omega⟩ : Fin 128) n)) (Q (⟨r.val / 128, by omega⟩ : Fin 4) h (ix3 0 0 n)) (T h (ix2 0 n))) * gelu (A (ix2 r n))

theorem piece_read (A : FVec Ideal S512x512 .f32) (P : Fin 8 → Vec Ideal S1x128x512 .bf16) (Q : Fin 4 → Fin 8 → Vec Ideal S1x1x512 .f32) (T : Fin 8 → Vec Ideal S1x512 .f32) (s : Fin 4) (o : ℕ) (inb : ∀ a : Fin 2, (![o, 0] : Fin 2 → ℕ) a + S128x512.size a ≤ S512x512.size a)
    (ho : o = s.val * 128) (w : FVec Ideal S128x512 .bf16)
    (hw : ∀ (a : Fin 128) (b : Fin 512), w (ix2 a b) = (∑ h, gate (P h (ix3 0 a b)) (Q s h (ix3 0 0 b)) (T h (ix2 0 b))) * gelu (A (ix2 (⟨s.val * 128 + a.val, by omega⟩ : Fin 512) b)))
    (x : S128x512.Idx) :
    w x = (fun j : S512x512.Idx => wt A P Q T (j 0) (j 1)) ((Rect.unit (s := S512x512) ![o, 0] S128x512.size inb).emb x) := by
  have hx : x = ix2 (x 0) (x 1) := by funext a; match a with | 0 => rfl | 1 => rfl
  refine (congrArg _ hx).trans ((hw (x 0) (x 1)).trans ?_)
  have ha : (x 0).val < 128 := (x 0).isLt
  have e0 : (Rect.unit (s := S512x512) ![o, 0] S128x512.size inb).emb x 0 = (⟨s.val * 128 + (x 0).val, by omega⟩ : Fin 512) :=
    Fin.ext (by show o + 1 * (x 0).val = s.val * 128 + (x 0).val; omega)
  have e1 : (Rect.unit (s := S512x512) ![o, 0] S128x512.size inb).emb x 1 = (x 1 : Fin 512) :=
    Fin.ext (by show 0 + 1 * (x 1).val = (x 1).val; omega)
  show _ = wt A P Q T _ _
  rw [e0, e1]
  have h1 : (⟨(s.val * 128 + (x 0).val) % 128, by omega⟩ : Fin 128) = (x 0 : Fin 128) := Fin.ext (by show (s.val * 128 + (x 0).val) % 128 = (x 0).val; omega)
  have h2 : (⟨(s.val * 128 + (x 0).val) / 128, by omega⟩ : Fin 4) = s := Fin.ext (by show (s.val * 128 + (x 0).val) / 128 = s.val; omega)
  unfold wt
  rw [h1, h2]

/-- The weights read back whole. -/
theorem word_read (v : View sig .tc .vmem S512x512 .bf16) (A : FVec Ideal S512x512 .f32) (P : Fin 8 → Vec Ideal S1x128x512 .bf16) (Q : Fin 4 → Fin 8 → Vec Ideal S1x1x512 .f32) (T : Fin 8 → Vec Ideal S1x512 .f32) (r n : Fin 512) :
    v.readCov (pieces A P Q T) (Rect.unit (s := S512x512) ![0, 0] S512x512.size inb_S512x512_S512x512_0_0).toLoadRect (ix2 r n) = wt A P Q T r n := by
  rw [View.readCov_eq_canon']
  have e : ((Rect.unit (s := S512x512) ![0, 0] S512x512.size inb_S512x512_S512x512_0_0).toLoadRect).idx (ix2 r n) = ix2 r n := by
    funext a; apply Fin.ext
    match a with
    | 0 => show 0 + 1 * r.val = r.val; omega
    | 1 => show 0 + 1 * n.val = n.val; omega
  refine (congrArg (View.canon (pieces A P Q T)) e).trans ?_
  refine View.canon_apply_of_pieces (Val := Elt Ideal) (fun j : S512x512.Idx => wt A P Q T (j 0) (j 1)) _ ?_ (ix2 r n)
    (View.cover_of_tiledL (pieces A P Q T) S128x512.size (by sl_kernel_rfl) _)
  intro pc hpc
  rcases List.mem_cons.mp hpc with rfl | hpc
  · exact piece_read A P Q T 3 384 inb_S512x512_S128x512_384_0 rfl _ (slab3 A P (Q 3) T)
  rcases List.mem_cons.mp hpc with rfl | hpc
  · exact piece_read A P Q T 2 256 inb_S512x512_S128x512_256_0 rfl _ (slab2 A P (Q 2) T)
  rcases List.mem_cons.mp hpc with rfl | hpc
  · exact piece_read A P Q T 1 128 inb_S512x512_S128x512_128_0 rfl _ (slab1 A P (Q 1) T)
  rcases List.mem_cons.mp hpc with rfl | hpc
  · exact piece_read A P Q T 0 0 inb_S512x512_S128x512_0_0 rfl _ (fun a b => by
      refine (slab0 A P (Q 0) T a b).trans ?_
      have e0 : (⟨a.val, by omega⟩ : Fin 512) = ⟨(0 : Fin 4).val * 128 + a.val, by show 0 * 128 + a.val < 512; omega⟩ := Fin.ext (by show a.val = 0 * 128 + a.val; omega)
      rw [e0])
  · exact absurd hpc List.not_mem_nil

theorem wordB (c : Dev nD) (i : grid0.Coords) (arg2 : Memref sig .tc .vmem S512x4096 .bf16) (h2 : arg2.IsWhole) (arg3 : Memref sig .tc .vmem S512x4096 .bf16) (h3 : arg3.IsWhole) (arg4 : Memref sig .tc .vmem S4096x512 .bf16) (h4 : arg4.IsWhole) (arg5 : Memref sig .tc .vmem S8x128x512 .f32) (h5 : arg5.IsWhole) (arg6 : Memref sig .tc .vmem S8x128x512 .bf16) (h6 : arg6.IsWhole) (arg7 : Memref sig .tc .vmem S8x512 .f32) (h7 : arg7.IsWhole) (arg8 : Memref sig .tc .vmem S4096x512 .f32) (h8 : arg8.IsWhole) (arg9 : Memref sig .tc .vmem S512x512 .bf16) (h9 : arg9.IsWhole) (hc0 : ¬cond0_0 i)
    (x0 : Vec Ideal S512x4096 .bf16) (x1 : Vec Ideal S512x4096 .bf16) (x2 : Vec Ideal S4096x512 .bf16) (x3 : Vec Ideal S8x128x512 .f32) (x4 : Vec Ideal S8x128x512 .bf16) (x5 : Vec Ideal S8x512 .f32) (xo6 : Vec Ideal S4096x512 .f32) :
    out0_B_6 c i arg2 h2 arg3 h3 arg4 h4 arg5 h5 arg6 h6 arg7 h7 arg8 h8 arg9 h9 hc0 x0 x1 x2 x3 x4 x5 xo6
      = k0_pay1 (k0_pay44 xo6) (k0_pay45 x2)
          (arg9.view.readCov (pieces (k0_pay3 x1 x0)
        (fun h => View.ld x4 (Rect.unit (s := S8x128x512) ![h.val, 0, 0] S1x128x512.size (headInb h)))
        (fun s h => View.ld x3 (Rect.unit (s := S8x128x512) (off i s h) S1x1x512.size (offInb i s h)))
        (fun h => View.ld x5 (Rect.unit (s := S8x512) ![h.val, 0] S1x512.size (thrInb h)))) (Rect.unit (s := S512x512) ![0, 0] S512x512.size inb_S512x512_S512x512_0_0).toLoadRect) := by
  unfold out0_B_6
  rw [View.read_writes_eq_canon _ _ _ (cover0_B_6 c i arg2 h2 arg3 h3 arg4 h4 arg5 h5 arg6 h6 arg7 h7 arg8 h8 arg9 h9 hc0 x0 x1 x2 x3 x4 x5 xo6)]
  unfold kernelRun0_B
  dsimp only
  rw [View.canon_unit_zero hz]
  have e : ∀ X, X = k0_pay1 (k0_pay44 (View.readAt (Elt Ideal) arg8.view (Rect.unit (s := S4096x512) ![0, 0] S4096x512.size inb_S4096x512_S4096x512_0_0).toLoadRect (h8.unread xo6))) (k0_pay45 (View.readAt (Elt Ideal) arg4.view (Rect.unit (s := S4096x512) ![0, 0] S4096x512.size inb_S4096x512_S4096x512_0_0).toLoadRect (h4.unread x2)))
      (arg9.view.readCov (pieces (k0_pay3 (View.readAt (Elt Ideal) arg3.view (Rect.unit (s := S512x4096) ![0, 0] S512x4096.size inb_S512x4096_S512x4096_0_0).toLoadRect (h3.unread x1)) (View.readAt (Elt Ideal) arg2.view (Rect.unit (s := S512x4096) ![0, 0] S512x4096.size inb_S512x4096_S512x4096_0_0).toLoadRect (h2.unread x0)))
        (fun h => View.readAt (Elt Ideal) arg6.view (Rect.unit (s := S8x128x512) ![h.val, 0, 0] S1x128x512.size (headInb h)).toLoadRect (h6.unread x4))
        (fun s h => View.readAt (Elt Ideal) arg5.view (Rect.unit (s := S8x128x512) (off i s h) S1x1x512.size (offInb i s h)).toLoadRect (h5.unread x3))
        (fun h => View.readAt (Elt Ideal) arg7.view (Rect.unit (s := S8x512) ![h.val, 0] S1x512.size (thrInb h)).toLoadRect (h7.unread x5))) (Rect.unit (s := S512x512) ![0, 0] S512x512.size inb_S512x512_S512x512_0_0).toLoadRect) → X = k0_pay1 (k0_pay44 xo6) (k0_pay45 x2)
          (arg9.view.readCov (pieces (k0_pay3 x1 x0)
        (fun h => View.ld x4 (Rect.unit (s := S8x128x512) ![h.val, 0, 0] S1x128x512.size (headInb h)))
        (fun s h => View.ld x3 (Rect.unit (s := S8x128x512) (off i s h) S1x1x512.size (offInb i s h)))
        (fun h => View.ld x5 (Rect.unit (s := S8x512) ![h.val, 0] S1x512.size (thrInb h)))) (Rect.unit (s := S512x512) ![0, 0] S512x512.size inb_S512x512_S512x512_0_0).toLoadRect) := by
    intro X hX
    rw [hX]
    simp only [View.readAt_eq_ld, h2.read_unread, h3.read_unread, h4.read_unread, h5.read_unread, h6.read_unread, h7.read_unread, h8.read_unread, View.ld_unit_zero (S := S4096x512) hz, View.ld_unit_zero (S := S512x4096) hz]
  exact e _ rfl

theorem wordA (c : Dev nD) (i : grid0.Coords) (arg2 : Memref sig .tc .vmem S512x4096 .bf16) (h2 : arg2.IsWhole) (arg3 : Memref sig .tc .vmem S512x4096 .bf16) (h3 : arg3.IsWhole) (arg4 : Memref sig .tc .vmem S4096x512 .bf16) (h4 : arg4.IsWhole) (arg5 : Memref sig .tc .vmem S8x128x512 .f32) (h5 : arg5.IsWhole) (arg6 : Memref sig .tc .vmem S8x128x512 .bf16) (h6 : arg6.IsWhole) (arg7 : Memref sig .tc .vmem S8x512 .f32) (h7 : arg7.IsWhole) (arg8 : Memref sig .tc .vmem S4096x512 .f32) (h8 : arg8.IsWhole) (arg9 : Memref sig .tc .vmem S512x512 .bf16) (h9 : arg9.IsWhole) (hc0 : cond0_0 i)
    (x0 : Vec Ideal S512x4096 .bf16) (x1 : Vec Ideal S512x4096 .bf16) (x2 : Vec Ideal S4096x512 .bf16) (x3 : Vec Ideal S8x128x512 .f32) (x4 : Vec Ideal S8x128x512 .bf16) (x5 : Vec Ideal S8x512 .f32) :
    out0_A_6 c i arg2 h2 arg3 h3 arg4 h4 arg5 h5 arg6 h6 arg7 h7 arg8 h8 arg9 h9 hc0 x0 x1 x2 x3 x4 x5
      = k0_pay1 (k0_pay44 (k0_pay2 (F := Ideal))) (k0_pay45 x2)
          (arg9.view.readCov (pieces (k0_pay3 x1 x0)
        (fun h => View.ld x4 (Rect.unit (s := S8x128x512) ![h.val, 0, 0] S1x128x512.size (headInb h)))
        (fun s h => View.ld x3 (Rect.unit (s := S8x128x512) (off i s h) S1x1x512.size (offInb i s h)))
        (fun h => View.ld x5 (Rect.unit (s := S8x512) ![h.val, 0] S1x512.size (thrInb h)))) (Rect.unit (s := S512x512) ![0, 0] S512x512.size inb_S512x512_S512x512_0_0).toLoadRect) := by
  unfold out0_A_6
  rw [View.read_writes_eq_canon _ _ _ (cover0_A_6 c i arg2 h2 arg3 h3 arg4 h4 arg5 h5 arg6 h6 arg7 h7 arg8 h8 arg9 h9 hc0 x0 x1 x2 x3 x4 x5)]
  unfold kernelRun0_A
  dsimp only
  rw [View.canon_cons_unit_zero hz]
  have e : ∀ X, X = k0_pay1 (k0_pay44 (arg8.view.readCov [(⟨Rect.unit (s := S4096x512) ![0, 0] S4096x512.size inb_S4096x512_S4096x512_0_0, k0_pay2 (F := Ideal)⟩ : View.Piece (Elt Ideal) S4096x512 .f32)] (Rect.unit (s := S4096x512) ![0, 0] S4096x512.size inb_S4096x512_S4096x512_0_0).toLoadRect)) (k0_pay45 (View.readAt (Elt Ideal) arg4.view (Rect.unit (s := S4096x512) ![0, 0] S4096x512.size inb_S4096x512_S4096x512_0_0).toLoadRect (h4.unread x2)))
      (arg9.view.readCov (pieces (k0_pay3 (View.readAt (Elt Ideal) arg3.view (Rect.unit (s := S512x4096) ![0, 0] S512x4096.size inb_S512x4096_S512x4096_0_0).toLoadRect (h3.unread x1)) (View.readAt (Elt Ideal) arg2.view (Rect.unit (s := S512x4096) ![0, 0] S512x4096.size inb_S512x4096_S512x4096_0_0).toLoadRect (h2.unread x0)))
        (fun h => View.readAt (Elt Ideal) arg6.view (Rect.unit (s := S8x128x512) ![h.val, 0, 0] S1x128x512.size (headInb h)).toLoadRect (h6.unread x4))
        (fun s h => View.readAt (Elt Ideal) arg5.view (Rect.unit (s := S8x128x512) (off i s h) S1x1x512.size (offInb i s h)).toLoadRect (h5.unread x3))
        (fun h => View.readAt (Elt Ideal) arg7.view (Rect.unit (s := S8x512) ![h.val, 0] S1x512.size (thrInb h)).toLoadRect (h7.unread x5))) (Rect.unit (s := S512x512) ![0, 0] S512x512.size inb_S512x512_S512x512_0_0).toLoadRect) → X = k0_pay1 (k0_pay44 (k0_pay2 (F := Ideal))) (k0_pay45 x2)
          (arg9.view.readCov (pieces (k0_pay3 x1 x0)
        (fun h => View.ld x4 (Rect.unit (s := S8x128x512) ![h.val, 0, 0] S1x128x512.size (headInb h)))
        (fun s h => View.ld x3 (Rect.unit (s := S8x128x512) (off i s h) S1x1x512.size (offInb i s h)))
        (fun h => View.ld x5 (Rect.unit (s := S8x512) ![h.val, 0] S1x512.size (thrInb h)))) (Rect.unit (s := S512x512) ![0, 0] S512x512.size inb_S512x512_S512x512_0_0).toLoadRect) := by
    intro X hX
    rw [hX, View.readCov_unit_zero (S := S4096x512) _ hz]
    simp only [View.readAt_eq_ld, h2.read_unread, h3.read_unread, h4.read_unread, h5.read_unread, h6.read_unread, h7.read_unread, View.ld_unit_zero (S := S4096x512) hz, View.ld_unit_zero (S := S512x4096) hz]
  exact e _ rfl

/-- What a point adds at row `d`, token `n` of its block, off its operands' blocks. -/
def adds (i : grid0.Coords) (x0 : Vec Ideal S512x4096 .bf16) (x1 : Vec Ideal S512x4096 .bf16) (x2 : Vec Ideal S4096x512 .bf16) (x3 : Vec Ideal S8x128x512 .f32) (x4 : Vec Ideal S8x128x512 .bf16) (x5 : Vec Ideal S8x512 .f32) (d : Fin 4096) (n : Fin 512) : EReal :=
  ∑ r : Fin 512, x2 (ix2 d r) * ((∑ h : Fin 8, gate (x4 (ix3 h (⟨r.val % 128, by omega⟩ : Fin 128) n))
    (x3 (ix3 h (⟨4 * (i 1).val + r.val / 128, by have hi : (i 1).val < 32 := (i 1).isLt; omega⟩ : Fin 128) n)) (x5 (ix2 h n))) * gelu (∑ k : Fin 4096, x1 (ix2 r k) * x0 (ix2 n k)))

theorem off_val (i : grid0.Coords) (s : Fin 4) (h : Fin 8) : off i s h 0 = h.val ∧ off i s h 1 = 4 * (i 1).val + s.val ∧ off i s h 2 = 0 := by
  have hi : ∀ (e : Fin 32) (s : Fin 4), (BitVec.toNat (Scalar.indexCast (Scalar.addi (Scalar.muli (BitVec.ofNat 32 e.val) 4#32) (BitVec.ofNat 32 s.val)))) = 4 * e.val + s.val := by decide +kernel
  have h1 := hi ⟨(i 1).val, (i 1).isLt⟩ s
  match h with
  | 0 => exact ⟨rfl, h1, rfl⟩
  | 1 => exact ⟨rfl, h1, rfl⟩
  | 2 => exact ⟨rfl, h1, rfl⟩
  | 3 => exact ⟨rfl, h1, rfl⟩
  | 4 => exact ⟨rfl, h1, rfl⟩
  | 5 => exact ⟨rfl, h1, rfl⟩
  | 6 => exact ⟨rfl, h1, rfl⟩
  | 7 => exact ⟨rfl, h1, rfl⟩

theorem payload_read (v : View sig .tc .vmem S512x512 .bf16) (i : grid0.Coords) (x0 : Vec Ideal S512x4096 .bf16) (x1 : Vec Ideal S512x4096 .bf16) (x2 : Vec Ideal S4096x512 .bf16) (x3 : Vec Ideal S8x128x512 .f32) (x4 : Vec Ideal S8x128x512 .bf16) (x5 : Vec Ideal S8x512 .f32) (o : Vec Ideal S4096x512 .f32) (d : Fin 4096) (n : Fin 512) :
    k0_pay1 (k0_pay44 o) (k0_pay45 x2) (v.readCov (pieces (k0_pay3 x1 x0)
        (fun h => View.ld x4 (Rect.unit (s := S8x128x512) ![h.val, 0, 0] S1x128x512.size (headInb h)))
        (fun s h => View.ld x3 (Rect.unit (s := S8x128x512) (off i s h) S1x1x512.size (offInb i s h)))
        (fun h => View.ld x5 (Rect.unit (s := S8x512) ![h.val, 0] S1x512.size (thrInb h)))) (Rect.unit (s := S512x512) ![0, 0] S512x512.size inb_S512x512_S512x512_0_0).toLoadRect) (ix2 d n)
      = o (ix2 d n) + adds i x0 x1 x2 x3 x4 x5 d n := by
  refine (pay1_read _ _ _ d n).trans (congrArg (o (ix2 d n) + ·) (Finset.sum_congr rfl fun r _ => congrArg (x2 (ix2 d r) * ·) ?_))
  refine (word_read v _ _ _ _ r n).trans ?_
  unfold wt
  rw [pay3_read]
  refine congrArg (· * _) (Finset.sum_congr rfl fun h _ => ?_)
  have hP : View.ld x4 (Rect.unit (s := S8x128x512) ![h.val, 0, 0] S1x128x512.size (headInb h)) (ix3 0 (⟨r.val % 128, by omega⟩ : Fin 128) n) = x4 (ix3 h (⟨r.val % 128, by omega⟩ : Fin 128) n) := by
    refine congrArg x4 (funext fun a => Fin.ext ?_)
    match a with
    | 0 => show h.val + 1 * 0 = h.val; omega
    | 1 => show 0 + 1 * (r.val % 128) = r.val % 128; omega
    | 2 => show 0 + 1 * n.val = n.val; omega
  have hT : View.ld x5 (Rect.unit (s := S8x512) ![h.val, 0] S1x512.size (thrInb h)) (ix2 0 n) = x5 (ix2 h n) := by
    refine congrArg x5 (funext fun a => Fin.ext ?_)
    match a with
    | 0 => show h.val + 1 * 0 = h.val; omega
    | 1 => show 0 + 1 * n.val = n.val; omega
  have hv := off_val i (⟨r.val / 128, by omega⟩ : Fin 4) h
  have hi : (i 1).val < 32 := (i 1).isLt
  have hQ : View.ld x3 (Rect.unit (s := S8x128x512) (off i (⟨r.val / 128, by omega⟩ : Fin 4) h) S1x1x512.size (offInb i _ h)) (ix3 0 0 n) = x3 (ix3 h (⟨4 * (i 1).val + r.val / 128, by omega⟩ : Fin 128) n) := by
    refine congrArg x3 (funext fun a => Fin.ext ?_)
    match a with
    | 0 => show off i _ h 0 + 1 * 0 = h.val; omega
    | 1 => show off i _ h 1 + 1 * 0 = 4 * (i 1).val + r.val / 128; have := hv.2.1; omega
    | 2 => show off i _ h 2 + 1 * n.val = n.val; omega
  beta_reduce
  rw [hP, hT, hQ]

theorem outB (c : Dev nD) (i : grid0.Coords) (arg2 : Memref sig .tc .vmem S512x4096 .bf16) (h2 : arg2.IsWhole) (arg3 : Memref sig .tc .vmem S512x4096 .bf16) (h3 : arg3.IsWhole) (arg4 : Memref sig .tc .vmem S4096x512 .bf16) (h4 : arg4.IsWhole) (arg5 : Memref sig .tc .vmem S8x128x512 .f32) (h5 : arg5.IsWhole) (arg6 : Memref sig .tc .vmem S8x128x512 .bf16) (h6 : arg6.IsWhole) (arg7 : Memref sig .tc .vmem S8x512 .f32) (h7 : arg7.IsWhole) (arg8 : Memref sig .tc .vmem S4096x512 .f32) (h8 : arg8.IsWhole) (arg9 : Memref sig .tc .vmem S512x512 .bf16) (h9 : arg9.IsWhole) (hc0 : ¬cond0_0 i)
    (x0 : Vec Ideal S512x4096 .bf16) (x1 : Vec Ideal S512x4096 .bf16) (x2 : Vec Ideal S4096x512 .bf16) (x3 : Vec Ideal S8x128x512 .f32) (x4 : Vec Ideal S8x128x512 .bf16) (x5 : Vec Ideal S8x512 .f32) (xo6 : Vec Ideal S4096x512 .f32) (d : Fin 4096) (n : Fin 512) :
    out0_B_6 c i arg2 h2 arg3 h3 arg4 h4 arg5 h5 arg6 h6 arg7 h7 arg8 h8 arg9 h9 hc0 x0 x1 x2 x3 x4 x5 xo6 (ix2 d n) = xo6 (ix2 d n) + adds i x0 x1 x2 x3 x4 x5 d n := by
  rw [wordB]
  exact payload_read arg9.view i x0 x1 x2 x3 x4 x5 xo6 d n

theorem outA (c : Dev nD) (i : grid0.Coords) (arg2 : Memref sig .tc .vmem S512x4096 .bf16) (h2 : arg2.IsWhole) (arg3 : Memref sig .tc .vmem S512x4096 .bf16) (h3 : arg3.IsWhole) (arg4 : Memref sig .tc .vmem S4096x512 .bf16) (h4 : arg4.IsWhole) (arg5 : Memref sig .tc .vmem S8x128x512 .f32) (h5 : arg5.IsWhole) (arg6 : Memref sig .tc .vmem S8x128x512 .bf16) (h6 : arg6.IsWhole) (arg7 : Memref sig .tc .vmem S8x512 .f32) (h7 : arg7.IsWhole) (arg8 : Memref sig .tc .vmem S4096x512 .f32) (h8 : arg8.IsWhole) (arg9 : Memref sig .tc .vmem S512x512 .bf16) (h9 : arg9.IsWhole) (hc0 : cond0_0 i)
    (x0 : Vec Ideal S512x4096 .bf16) (x1 : Vec Ideal S512x4096 .bf16) (x2 : Vec Ideal S4096x512 .bf16) (x3 : Vec Ideal S8x128x512 .f32) (x4 : Vec Ideal S8x128x512 .bf16) (x5 : Vec Ideal S8x512 .f32) (d : Fin 4096) (n : Fin 512) :
    out0_A_6 c i arg2 h2 arg3 h3 arg4 h4 arg5 h5 arg6 h6 arg7 h7 arg8 h8 arg9 h9 hc0 x0 x1 x2 x3 x4 x5 (ix2 d n) = adds i x0 x1 x2 x3 x4 x5 d n := by
  rw [wordA]
  refine (payload_read arg9.view i x0 x1 x2 x3 x4 x5 _ d n).trans ?_
  rw [pay2_read, zero_add]

end Cert.Kernel15Ideal.Peer
-- ==== Proof.Peer.Experts.lean ====
module
public import proofs.«01_k».proof.Proof.Peer.Slab
public import Idealize.ShloMosaic.Lib.StableHlo.RunRead
@[expose] public section
set_option maxRecDepth 16384
noncomputable section

/-! # The experts' result: the 32 blocks of 512 experts added up, a block of 512 tokens at a time -/

namespace Cert.Kernel15Ideal.Peer
open Cert.Kernel15Ideal Cert.Kernel15Ideal.Gen
open Idealize.ShloMosaic Idealize.ShloMosaic.TcCoe Idealize.ShloMosaic.Tactic
open Idealize.ShloMosaic.Pipeline (Dat)

/-- What expert `e` gives to coordinate `d` of token `n`. -/
def expert (x0 : FVec Ideal S8192x4096 .f32) (x1 x2 : FVec Ideal S16384x4096 .f32) (x3 x4 : FVec Ideal S8x128x8192 .f32) (x5 : FVec Ideal S8x8192 .f32)
    (d : Fin 4096) (n : Fin 8192) (e : Fin 16384) : EReal :=
  x2 (ix2 e d) * ((∑ h : Fin 8, gate (x4 (ix3 h (⟨e.val % 128, by omega⟩ : Fin 128) n)) (x3 (ix3 h (⟨e.val / 128, by omega⟩ : Fin 128) n)) (x5 (ix2 h n)))
    * gelu (∑ k : Fin 4096, x1 (ix2 e k) * x0 (ix2 n k)))

/-- What the experts of block `q` give. -/
def tile (x0 : FVec Ideal S8192x4096 .f32) (x1 x2 : FVec Ideal S16384x4096 .f32) (x3 x4 : FVec Ideal S8x128x8192 .f32) (x5 : FVec Ideal S8x8192 .f32)
    (d : Fin 4096) (n : Fin 8192) (q : ℕ) : EReal :=
  if h : q < 32 then ∑ r : Fin 512, expert x0 x1 x2 x3 x4 x5 d n ⟨q * 512 + r.val, by omega⟩ else 0

theorem tiles (x0 : FVec Ideal S8192x4096 .f32) (x1 x2 : FVec Ideal S16384x4096 .f32) (x3 x4 : FVec Ideal S8x128x8192 .f32) (x5 : FVec Ideal S8x8192 .f32)
    (d : Fin 4096) (n : Fin 8192) :
    ∑ q ∈ Finset.range 32, tile x0 x1 x2 x3 x4 x5 d n q = ∑ e : Fin 16384, expert x0 x1 x2 x3 x4 x5 d n e := by
  rw [Fin.sum_univ_tiles 32 512 rfl, Finset.sum_range]
  refine Finset.sum_congr rfl fun j _ => ?_
  unfold tile
  rw [dif_pos j.isLt]

variable (m : (ℓ : Loc nD τ sig) → Buf (Elt Ideal) ℓ) (c : Dev nD)

/-- The tokens. -/
abbrev hs : FVec Ideal S8192x4096 .f32 := m (c, Proc.tc.devRef main_arg0)
/-- The experts' input rows. -/
abbrev us : FVec Ideal S16384x4096 .f32 := m (c, Proc.tc.devRef main_arg1)
/-- The experts' output rows. -/
abbrev vs : FVec Ideal S16384x4096 .f32 := m (c, Proc.tc.devRef main_arg2)
/-- The gates' first factors. -/
abbrev fs : FVec Ideal S8x128x8192 .f32 := m (c, Proc.tc.devRef main_arg3)
/-- The gates' second factors. -/
abbrev gs : FVec Ideal S8x128x8192 .f32 := m (c, Proc.tc.devRef main_arg4)
/-- The heads' thresholds. -/
abbrev cs : FVec Ideal S8x8192 .f32 := m (c, Proc.tc.devRef main_arg5)

theorem tokens (n : Fin 8192) (k : Fin 4096) : V m c main_v0 (ix2 n k) = hs m c (ix2 n k) := by
  unfold_abbrev_sides
  after_reads_simp
  pointwise []
theorem rowsIn (e : Fin 16384) (k : Fin 4096) : V m c main_v1 (ix2 e k) = us m c (ix2 e k) := by
  unfold_abbrev_sides
  after_reads_simp
  pointwise []
theorem rowsOut (d : Fin 4096) (e : Fin 16384) : V m c main_v3 (ix2 d e) = vs m c (ix2 e d) := by
  unfold_abbrev_sides
  after_reads_simp
  pointwise []
theorem second (h : Fin 8) (a : Fin 128) (n : Fin 8192) : V m c main_v4 (ix3 h a n) = gs m c (ix3 h a n) := by
  unfold_abbrev_sides
  after_reads_simp
  pointwise []

/-- Where the windows' blocks lie. -/
theorem place : ∀ t : Fin cfg0.N,
    (win0_0.index t (0 : Fin 2) = t.val / 32 ∧ win0_0.index t (1 : Fin 2) = 0)
    ∧ (win0_1.index t (0 : Fin 2) = t.val % 32 ∧ win0_1.index t (1 : Fin 2) = 0)
    ∧ (win0_2.index t (0 : Fin 2) = 0 ∧ win0_2.index t (1 : Fin 2) = t.val % 32)
    ∧ (win0_3.index t (0 : Fin 3) = 0 ∧ win0_3.index t (1 : Fin 3) = 0 ∧ win0_3.index t (2 : Fin 3) = t.val / 32)
    ∧ (win0_4.index t (0 : Fin 3) = 0 ∧ win0_4.index t (1 : Fin 3) = 0 ∧ win0_4.index t (2 : Fin 3) = t.val / 32)
    ∧ (win0_5.index t (0 : Fin 2) = 0 ∧ win0_5.index t (1 : Fin 2) = t.val / 32)
    ∧ (win0_6.index t (0 : Fin 2) = 0 ∧ win0_6.index t (1 : Fin 2) = t.val / 32)
    ∧ ((grid0.coords t) 1).val = t.val % 32 :=
  (by decide +kernel : ∀ t : Fin grid0.N, _)

theorem bound (t : Fin cfg0.N) : t.val < 512 := lt_of_lt_of_eq t.isLt N_0

/-- What a point adds is its block of experts' part. -/
theorem adds_eq (t : Fin cfg0.N) (d : Fin 4096) (b : Fin 512) (n : Fin 8192) (hn : n.val = t.val / 32 * 512 + b.val) :
    adds (grid0.coords t) (iblk m c 0 t) (iblk m c 1 t) (iblk m c 2 t) (iblk m c 3 t) (iblk m c 4 t) (iblk m c 5 t) d b
      = tile (hs m c) (us m c) (vs m c) (fs m c) (gs m c) (cs m c) d n (t.val % 32) := by
  have ht := bound t
  obtain ⟨p0, p1, p2, p3, p4, p5, p6, pc⟩ := place t
  unfold adds tile
  rw [dif_pos (by omega)]
  refine Finset.sum_congr rfl fun r _ => ?_
  unfold expert
  have h2 : iblk m c 2 t (ix2 d r) = vs m c (ix2 (⟨t.val % 32 * 512 + r.val, by omega⟩ : Fin 16384) d) := by
    refine Eq.trans ?_ (rowsOut m c d ⟨t.val % 32 * 512 + r.val, by omega⟩)
    show V m c main_v3 (((cfg0.win 2).blk t).view.emb (ix2 d r)) = _
    refine congrArg _ (funext fun a => Fin.ext ?_)
    match a with
    | 0 => show win0_2.index t (0 : Fin 2) * 4096 + 1 * d.val = d.val; omega
    | 1 => show win0_2.index t (1 : Fin 2) * 512 + 1 * r.val = t.val % 32 * 512 + r.val; omega
  have h4 : ∀ h : Fin 8, iblk m c 4 t (ix3 h (⟨r.val % 128, by omega⟩ : Fin 128) b)
      = gs m c (ix3 h (⟨(t.val % 32 * 512 + r.val) % 128, by omega⟩ : Fin 128) n) := by
    intro h
    refine Eq.trans ?_ (second m c h ⟨(t.val % 32 * 512 + r.val) % 128, by omega⟩ n)
    show V m c main_v4 (((cfg0.win 4).blk t).view.emb (ix3 h (⟨r.val % 128, by omega⟩ : Fin 128) b)) = _
    refine congrArg _ (funext fun a => Fin.ext ?_)
    match a with
    | 0 => show win0_4.index t (0 : Fin 3) * 8 + 1 * h.val = h.val; omega
    | 1 => show win0_4.index t (1 : Fin 3) * 128 + 1 * (r.val % 128) = (t.val % 32 * 512 + r.val) % 128; omega
    | 2 => show win0_4.index t (2 : Fin 3) * 512 + 1 * b.val = n.val; omega
  have h3 : ∀ (h : Fin 8) (a : Fin 128), a.val = 4 * ((grid0.coords t) 1).val + r.val / 128 → iblk m c 3 t (ix3 h a b)
      = fs m c (ix3 h (⟨(t.val % 32 * 512 + r.val) / 128, by omega⟩ : Fin 128) n) := by
    intro h a ha
    refine Eq.trans ?_ (congrFun (V_main_arg3 m c) (ix3 h (⟨(t.val % 32 * 512 + r.val) / 128, by omega⟩ : Fin 128) n))
    show V m c main_arg3 (((cfg0.win 3).blk t).view.emb (ix3 h a b)) = _
    refine congrArg _ (funext fun x => Fin.ext ?_)
    match x with
    | 0 => show win0_3.index t (0 : Fin 3) * 8 + 1 * h.val = h.val; omega
    | 1 => show win0_3.index t (1 : Fin 3) * 128 + 1 * a.val = (t.val % 32 * 512 + r.val) / 128; omega
    | 2 => show win0_3.index t (2 : Fin 3) * 512 + 1 * b.val = n.val; omega
  have h5 : ∀ h : Fin 8, iblk m c 5 t (ix2 h b) = cs m c (ix2 h n) := by
    intro h
    refine Eq.trans ?_ (congrFun (V_main_arg5 m c) (ix2 h n))
    show V m c main_arg5 (((cfg0.win 5).blk t).view.emb (ix2 h b)) = _
    refine congrArg _ (funext fun x => Fin.ext ?_)
    match x with
    | 0 => show win0_5.index t (0 : Fin 2) * 8 + 1 * h.val = h.val; omega
    | 1 => show win0_5.index t (1 : Fin 2) * 512 + 1 * b.val = n.val; omega
  have h1 : ∀ k : Fin 4096, iblk m c 1 t (ix2 r k) = us m c (ix2 (⟨t.val % 32 * 512 + r.val, by omega⟩ : Fin 16384) k) := by
    intro k
    refine Eq.trans ?_ (rowsIn m c ⟨t.val % 32 * 512 + r.val, by omega⟩ k)
    show V m c main_v1 (((cfg0.win 1).blk t).view.emb (ix2 r k)) = _
    refine congrArg _ (funext fun x => Fin.ext ?_)
    match x with
    | 0 => show win0_1.index t (0 : Fin 2) * 512 + 1 * r.val = t.val % 32 * 512 + r.val; omega
    | 1 => show win0_1.index t (1 : Fin 2) * 4096 + 1 * k.val = k.val; omega
  have h0 : ∀ k : Fin 4096, iblk m c 0 t (ix2 b k) = hs m c (ix2 n k) := by
    intro k
    refine Eq.trans ?_ (tokens m c n k)
    show V m c main_v0 (((cfg0.win 0).blk t).view.emb (ix2 b k)) = _
    refine congrArg _ (funext fun x => Fin.ext ?_)
    match x with
    | 0 => show win0_0.index t (0 : Fin 2) * 512 + 1 * b.val = n.val; omega
    | 1 => show win0_0.index t (1 : Fin 2) * 4096 + 1 * k.val = k.val; omega
  have hg : (∑ h : Fin 8, gate (iblk m c 4 t (ix3 h (⟨r.val % 128, by omega⟩ : Fin 128) b))
        (iblk m c 3 t (ix3 h (⟨4 * ((grid0.coords t) 1).val + r.val / 128, by omega⟩ : Fin 128) b)) (iblk m c 5 t (ix2 h b)) : EReal)
      = ∑ h : Fin 8, gate (gs m c (ix3 h (⟨(t.val % 32 * 512 + r.val) % 128, by omega⟩ : Fin 128) n))
        (fs m c (ix3 h (⟨(t.val % 32 * 512 + r.val) / 128, by omega⟩ : Fin 128) n)) (cs m c (ix2 h n)) := by
    refine Finset.sum_congr rfl fun h _ => ?_
    rw [h4, h3 h _ rfl, h5]
  exact congrArg₂ (fun x y : EReal => x * y) h2 (congrArg₂ (fun x y : EReal => x * y) hg (congrArg gelu (Finset.sum_congr rfl fun k _ => congrArg₂ (fun x y : EReal => x * y) (h1 k) (h0 k))))

/-- The block after a point: the experts' blocks so far. -/
theorem sofar : ∀ (k : ℕ) (t : Fin cfg0.N), t.val % 32 = k → ∀ (d : Fin 4096) (b : Fin 512) (n : Fin 8192), n.val = t.val / 32 * 512 + b.val →
    outsAt0 m c t.val t.isLt (ix2 d b) = ∑ q ∈ Finset.range (k + 1), tile (hs m c) (us m c) (vs m c) (fs m c) (gs m c) (cs m c) d n q := by
  intro k
  induction k with
  | zero =>
    intro t hk d b n hn
    rw [outsAt0_A m c t hk, outA, adds_eq m c t d b n hn, hk, Finset.sum_range_one]
  | succ k ih =>
    intro t hk d b n hn
    have ht := t.isLt
    rw [outsAt0_B m c t (by omega), outB, adds_eq m c t d b n hn, hk, Finset.sum_range_succ]
    refine congrArg (· + _) ?_
    exact ih ⟨t.val - 1, by omega⟩ (by show (t.val - 1) % 32 = k; omega) d b n (by show n.val = (t.val - 1) / 32 * 512 + b.val; omega)

/-- Different blocks of tokens are written to different places. -/
theorem apart : ∀ t t' : Fin cfg0.N, (cfg0.win 6).flush t = true → (cfg0.win 6).flush t' = true → t ≠ t' →
    Disjoint ((cfg0.win 6).blk t).view.set ((cfg0.win 6).blk t').view.set := by
  intro t t' hf hf' hne
  have f := (flush0_6 t).mp hf
  have f' := (flush0_6 t').mp hf'
  refine (cfg0.win 6).disjoint_blk fun h => hne (Fin.ext ?_)
  have e1 : win0_6.index t (1 : Fin 2) = win0_6.index t' (1 : Fin 2) := congrFun h (1 : Fin 2)
  have p := (place t).2.2.2.2.2.2.1.2
  have p' := (place t').2.2.2.2.2.2.1.2
  omega

/-- An entry of the result: all the experts' parts. -/
theorem entry (d : Fin 4096) (n : Fin 8192) : (dats m 0 c).arrAt 6 cfg0.N (ix2 d n)
    = (∑ e : Fin 16384, expert (hs m c) (us m c) (vs m c) (fs m c) (gs m c) (cs m c) d n e : Ideal .f32) := by
  have hN : n.val / 512 * 32 + 31 < cfg0.N := lt_of_lt_of_eq (by omega) N_0.symm
  let t : Fin cfg0.N := ⟨n.val / 512 * 32 + 31, hN⟩
  have ht : t.val = n.val / 512 * 32 + 31 := rfl
  have hk : t.val % 32 = 31 := by omega
  have p := (place t).2.2.2.2.2.2.1
  let b : Fin 512 := ⟨n.val % 512, by omega⟩
  have hi : ((cfg0.win 6).blk t).view.emb (ix2 d b) = ix2 d n := by
    funext a
    refine Fin.ext ?_
    match a with
    | 0 => show win0_6.index t (0 : Fin 2) * 4096 + 1 * d.val = d.val; omega
    | 1 => show win0_6.index t (1 : Fin 2) * 512 + 1 * (n.val % 512) = n.val; omega
  have e := congrFun (((dats m 0 c).read_blk_arrAt_eq_flushed 6 apart cfg0.N t t.isLt ((flush0_6 t).mpr hk)).trans (Value.flushed6 m c t)) (ix2 d b)
  have e' : (dats m 0 c).arrAt 6 cfg0.N (((cfg0.win 6).blk t).view.emb (ix2 d b)) = outsAt0 m c t.val t.isLt (ix2 d b) := e
  rw [hi] at e'
  refine e'.trans ?_
  rw [sofar m c 31 t hk d b n (by show n.val = t.val / 32 * 512 + n.val % 512; omega)]
  exact tiles _ _ _ _ _ _ d n

end Cert.Kernel15Ideal.Peer
-- ==== Proof.Peer.Plain.lean ====
module
public import proofs.«01_k».proof.Proof.Peer.Experts
public import proofs.«01_k».proof.Proof.Gen.Reference15Ideal.Read
@[expose] public section
set_option maxRecDepth 16384
noncomputable section

/-! # The experts in the plain mathematics -/

namespace Cert.Reference15Ideal.Peer
open Cert.Reference15Ideal Cert.Reference15Ideal.Read
open Idealize.ShloMosaic Idealize.ShloMosaic.TcCoe Idealize.ShloMosaic.Tactic
open Cert.Kernel15Ideal.Peer (gate gelu expert)

theorem half_eq : Ideal.ofBits .bf16 0x3F00#16 = Ideal.ofBits .f32 0x3F000000#32 := by
  simp [Ideal.ofBits, Ideal.ieee, -EReal.coe_mul]
  norm_num
theorem cubic_eq : Ideal.ofBits .f32 0x3D372713#32 = ((12003091 / 268435456 : ℝ) : EReal) := by
  simp [Ideal.ofBits, Ideal.ieee, -EReal.coe_mul]
  norm_num
theorem scale_eq : Ideal.ofBits .f32 0x3F4C422A#32 = ((6693141 / 8388608 : ℝ) : EReal) := by
  simp [Ideal.ofBits, Ideal.ieee, -EReal.coe_mul]
  norm_num

theorem entry (x0 : (⟨S8192x4096, .f32⟩ : BufTy).Contents (Elt Ideal)) (x1 x2 : (⟨S16384x4096, .f32⟩ : BufTy).Contents (Elt Ideal))
    (x3 x4 : (⟨S8x128x8192, .f32⟩ : BufTy).Contents (Elt Ideal)) (x5 : (⟨S8x8192, .f32⟩ : BufTy).Contents (Elt Ideal)) (d : Fin 4096) (n : Fin 8192) :
    val_main_v29 x0 x1 x2 x3 x4 x5 (ix2 d n) = ∑ e : Fin 16384, expert x0 x1 x2 x3 x4 x5 d n e := by
  unfold expert gate gelu
  rw [half_eq, ← cubic_eq, ← scale_eq]
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_call0_v0, val_main_call0_v1]
  have hp : ∀ (h : Fin 8) (a b : Fin 128), (x3 (ix3 h a n) : EReal) * x4 (ix3 h b n) = x4 (ix3 h b n) * x3 (ix3 h a n) := fun _ _ _ => mul_comm _ _
  have hx : ∀ e : Fin 16384, (∑ k : Fin 4096, (x0 (ix2 n k) : EReal) * x1 (ix2 e k)) = ∑ k : Fin 4096, x1 (ix2 e k) * x0 (ix2 n k) :=
    fun e => Finset.sum_congr rfl fun k _ => mul_comm _ _
  have hz : (id (constant S_ .f32 0#32 : FVec Ideal S_ .f32) ix0 : EReal) = 0 := by
    show Ideal.ofBits .f32 0#32 = 0
    simp [Ideal.ofBits, Ideal.ieee]
  refine Finset.sum_congr rfl fun e _ => ?_
  simp only [hp, hx]
  refine (mul_comm _ _).trans (congrArg _ ?_)
  refine congrArg₂ (· * ·) (Finset.sum_congr rfl fun h _ => congrArg _ hz) ?_
  rw [← mul_assoc, mul_comm (Ideal.ofBits .f32 0x3F000000#32)]

end Cert.Reference15Ideal.Peer
-- ==== Proof.Norm.Scale.lean ====
module
public import Idealize.ShloMosaic.Lib.Pointwise
@[expose] public section
noncomputable section

/-! # The factor that normalises a row -/

namespace Cert.Norm
open Idealize.ShloMosaic

/-- One over the root of a row's mean square, with the norm's small constant under the root. -/
def scaleOf (x : Fin 4096 → Ideal .f32) : Ideal .f32 :=
  Ideal.rsqrt (Ideal.div (∑ k : Fin 4096, x k * x k) (Ideal.ofBits .f32 0x45800000#32) + Ideal.ofBits .f32 0x358637BD#32)

end Cert.Norm
-- ==== Proof.Norm.Rms.lean ====
module
public import proofs.«01_k».proof.Proof.Gen.Kernel10Ideal.Value
public import proofs.«01_k».proof.Proof.Gen.Reference10Ideal.Read
public import Idealize.ShloMosaic.Lib.Pointwise
public import Idealize.ShloMosaic.Lib.StableHlo.RunRead
public import proofs.«01_k».proof.Proof.Norm.Scale
@[expose] public section
set_option maxRecDepth 16384
noncomputable section

/-! # The norm before a mixer: blocks of 256 whole rows, each divided by the root of its mean square -/

namespace Cert.Kernel10Ideal.Norm
open Cert.Kernel10Ideal Cert.Kernel10Ideal.Gen Cert.Norm
open Idealize.ShloMosaic Idealize.ShloMosaic.TcCoe Idealize.ShloMosaic.Tactic

/-- A normalised block. -/
theorem pay (X : Vec Ideal S256x4096 .f32) (G : Vec Ideal S1x4096 .f32) (a : Fin 256) (b : Fin 4096) :
    k0_pay1 X G (ix2 a b) = X (ix2 a b) * scaleOf (fun k => X (ix2 a k)) * G (ix2 (0 : Fin 1) b) := by
  unfold scaleOf
  pointwise [k0_pay1]

/-- What a grid point stores. -/
theorem stored (X : Vec Ideal S256x4096 .f32) (G : Vec Ideal S1x4096 .f32) (a : Fin 256) (b : Fin 4096) :
    out0_2 X G (ix2 a b) = X (ix2 a b) * scaleOf (fun k => X (ix2 a k)) * G (ix2 (0 : Fin 1) b) := by
  have z : (![0, 0] : Fin 2 → ℕ) = fun _ => 0 := by decide
  unfold out0_2
  rw [View.canon_unit_zero z, View.ld_unit_zero z, View.ld_unit_zero z]
  exact pay X G a b

variable (m : (ℓ : Loc nD τ sig) → Buf (Elt Ideal) ℓ) (c : Dev nD)

/-- Where the windows' blocks lie. -/
theorem place : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

/-- The rows. -/
abbrev xs : FVec Ideal S8192x4096 .f32 := m (c, Proc.tc.devRef main_arg0)
/-- The gain. -/
abbrev gs : FVec Ideal S4096 .f32 := m (c, Proc.tc.devRef main_arg1)

theorem row (i : Fin 8192) (j : Fin 4096) : V m c main_arg0 (ix2 i j) = xs m c (ix2 i j) := by
  unfold_abbrev_sides
  after_reads_simp

theorem gain (j : Fin 4096) : V m c main_v0 (ix2 (0 : Fin 1) j) = gs m c (ix1 j) := by
  unfold_abbrev_sides
  after_reads_simp
  pointwise []

/-- A normalised entry. -/
theorem entry (i : Fin 8192) (j : Fin 4096) : (dats m 0 c).arrAt 2 cfg0.N (ix2 i j)
    = (xs m c (ix2 i j) * scaleOf (fun k => xs m c (ix2 i k)) * gs m c (ix1 j) : Ideal .f32) := by
  have hN : i.val / 256 < cfg0.N := lt_of_lt_of_eq (by omega) N_0.symm
  let t : Fin cfg0.N := ⟨i.val / 256, hN⟩
  have ht : t.val = i.val / 256 := rfl
  have p := place t
  let a : Fin 256 := ⟨i.val % 256, by omega⟩
  have e := congrFun ((Value.blocks2 m c t (flush0_2 t)).trans (Value.flushed2 m c t)) (ix2 a j)
  have hi : ((cfg0.win 2).blk t).view.emb (ix2 a j) = ix2 i j := by
    funext x
    refine Fin.ext ?_
    match x with
    | 0 => show win0_2.index t (0 : Fin 2) * 256 + 1 * (i.val % 256) = i.val; omega
    | 1 => show win0_2.index t (1 : Fin 2) * 4096 + 1 * j.val = j.val; omega
  have el : (dats m 0 c).arrAt 2 cfg0.N (ix2 i j) = out0_2 (iblk m c 0 t) (iblk m c 1 t) (ix2 a j) := by
    rw [← hi]
    exact e
  rw [el]
  have h0 : ∀ k : Fin 4096, iblk m c 0 t (ix2 a k) = xs m c (ix2 i k) := by
    intro k
    refine Eq.trans ?_ (row m c i k)
    show V m c main_arg0 (((cfg0.win 0).blk t).view.emb (ix2 a k)) = _
    refine congrArg _ (funext fun x => Fin.ext ?_)
    match x with
    | 0 => show win0_0.index t (0 : Fin 2) * 256 + 1 * (i.val % 256) = i.val; omega
    | 1 => show win0_0.index t (1 : Fin 2) * 4096 + 1 * k.val = k.val; omega
  have h1 : iblk m c 1 t (ix2 (0 : Fin 1) j) = gs m c (ix1 j) := by
    refine Eq.trans ?_ (gain m c j)
    show V m c main_v0 (((cfg0.win 1).blk t).view.emb (ix2 (0 : Fin 1) j)) = _
    refine congrArg _ (funext fun x => Fin.ext ?_)
    match x with
    | 0 => show win0_1.index t (0 : Fin 2) * 1 + 1 * 0 = 0; omega
    | 1 => show win0_1.index t (1 : Fin 2) * 4096 + 1 * j.val = j.val; omega
  refine (stored _ _ a j).trans ?_
  simp only [h0]
  rw [h1]

end Cert.Kernel10Ideal.Norm

namespace Cert.Reference10Ideal.Norm
open Cert.Reference10Ideal Cert.Reference10Ideal.Read Cert.Norm
open Idealize.ShloMosaic Idealize.ShloMosaic.TcCoe Idealize.ShloMosaic.Tactic

/-- The reference's entry. -/
theorem entry (x0 : (⟨S8192x4096, .f32⟩ : BufTy).Contents (Elt Ideal)) (x1 : (⟨S4096, .f32⟩ : BufTy).Contents (Elt Ideal))
    (i : Fin 8192) (j : Fin 4096) :
    val_main_v13 x0 x1 (ix2 i j) = x0 (ix2 i j) * scaleOf (fun k => x0 (ix2 i k)) * x1 (ix1 j) := by
  unfold scaleOf
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
end Cert.Reference10Ideal.Norm
-- ==== Proof.Norm.Add.lean ====
module
public import proofs.«01_k».proof.Proof.Gen.Kernel11Ideal.Value
public import proofs.«01_k».proof.Proof.Gen.Reference11Ideal.Read
public import Idealize.ShloMosaic.Lib.Pointwise
public import Idealize.ShloMosaic.Lib.StableHlo.RunRead
public import proofs.«01_k».proof.Proof.Norm.Scale
@[expose] public section
set_option maxRecDepth 16384
noncomputable section

/-! # The residual sum after the experts and the norm of it: blocks of 256 whole rows, the experts' part transposed -/

namespace Cert.Kernel11Ideal.Norm
open Cert.Kernel11Ideal Cert.Kernel11Ideal.Gen Cert.Norm
open Idealize.ShloMosaic Idealize.ShloMosaic.TcCoe Idealize.ShloMosaic.Tactic

/-- A block of the sum. -/
theorem sumPay (X : Vec Ideal S256x4096 .f32) (P : Vec Ideal S4096x256 .f32) (a : Fin 256) (b : Fin 4096) :
    k0_pay1 X P (ix2 a b) = X (ix2 a b) + P (ix2 b a) := by
  pointwise [k0_pay1]

/-- A block of the sum's norm, from the sum's entries. -/
theorem normPay (X : Vec Ideal S256x4096 .f32) (P : Vec Ideal S4096x256 .f32) (G : Vec Ideal S1x4096 .f32) (a : Fin 256) (b : Fin 4096) :
    k0_pay2 X P G (ix2 a b)
      = (X (ix2 a b) + P (ix2 b a)) * scaleOf (fun k => X (ix2 a k) + P (ix2 k a)) * G (ix2 (0 : Fin 1) b) := by
  unfold scaleOf
  pointwise [k0_pay2, k0_pay1]

theorem sumStored (X : Vec Ideal S256x4096 .f32) (P : Vec Ideal S4096x256 .f32) (G : Vec Ideal S1x4096 .f32) (a : Fin 256) (b : Fin 4096) :
    out0_3 X P G (ix2 a b) = X (ix2 a b) + P (ix2 b a) := by
  have z : (![0, 0] : Fin 2 → ℕ) = fun _ => 0 := by decide
  unfold out0_3
  rw [View.canon_unit_zero z, View.ld_unit_zero z, View.ld_unit_zero z]
  exact sumPay X P a b

theorem normStored (X : Vec Ideal S256x4096 .f32) (P : Vec Ideal S4096x256 .f32) (G : Vec Ideal S1x4096 .f32) (a : Fin 256) (b : Fin 4096) :
    out0_4 X P G (ix2 a b)
      = (X (ix2 a b) + P (ix2 b a)) * scaleOf (fun k => X (ix2 a k) + P (ix2 k a)) * G (ix2 (0 : Fin 1) b) := by
  have z : (![0, 0] : Fin 2 → ℕ) = fun _ => 0 := by decide
  unfold out0_4
  rw [View.canon_unit_zero z, View.ld_unit_zero z, View.ld_unit_zero z, View.ld_unit_zero z]
  exact normPay X P G a b

variable (m : (ℓ : Loc nD τ sig) → Buf (Elt Ideal) ℓ) (c : Dev nD)

/-- Where the windows' blocks lie. -/
theorem place : ∀ t : Fin cfg0.N,
    (win0_0.index t (0 : Fin 2) = t.val ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-- The residual. -/
abbrev xs : FVec Ideal S8192x4096 .f32 := m (c, Proc.tc.devRef main_arg0)
/-- What is added to it. -/
abbrev ps : FVec Ideal S8192x4096 .f32 := m (c, Proc.tc.devRef main_arg1)
/-- The gain. -/
abbrev gs : FVec Ideal S4096 .f32 := m (c, Proc.tc.devRef main_arg2)

theorem row (i : Fin 8192) (j : Fin 4096) : V m c main_arg0 (ix2 i j) = xs m c (ix2 i j) := by
  unfold_abbrev_sides
  after_reads_simp

theorem col (j : Fin 4096) (i : Fin 8192) : V m c main_v0 (ix2 j i) = ps m c (ix2 i j) := by
  unfold_abbrev_sides
  after_reads_simp
  pointwise []

theorem gain (j : Fin 4096) : V m c main_v1 (ix2 (0 : Fin 1) j) = gs m c (ix1 j) := by
  unfold_abbrev_sides
  after_reads_simp
  pointwise []

/-- The grid point of row `i`. -/
def point (i : Fin 8192) : Fin cfg0.N := ⟨i.val / 256, lt_of_lt_of_eq (by omega) N_0.symm⟩
/-- The row's place in its block. -/
abbrev inBlock (i : Fin 8192) : Fin 256 := ⟨i.val % 256, by omega⟩

theorem block0 (i : Fin 8192) (k : Fin 4096) : iblk m c 0 (point i) (ix2 (inBlock i) k) = xs m c (ix2 i k) := by
  have p := place (point i)
  have ht : (point i).val = i.val / 256 := rfl
  refine Eq.trans ?_ (row m c i k)
  show V m c main_arg0 (((cfg0.win 0).blk (point i)).view.emb (ix2 (inBlock i) k)) = _
  refine congrArg _ (funext fun x => Fin.ext ?_)
  match x with
  | 0 => show win0_0.index (point i) (0 : Fin 2) * 256 + 1 * (i.val % 256) = i.val; omega
  | 1 => show win0_0.index (point i) (1 : Fin 2) * 4096 + 1 * k.val = k.val; omega

theorem block1 (i : Fin 8192) (k : Fin 4096) : iblk m c 1 (point i) (ix2 k (inBlock i)) = ps m c (ix2 i k) := by
  have p := place (point i)
  have ht : (point i).val = i.val / 256 := rfl
  refine Eq.trans ?_ (col m c k i)
  show V m c main_v0 (((cfg0.win 1).blk (point i)).view.emb (ix2 k (inBlock i))) = _
  refine congrArg _ (funext fun x => Fin.ext ?_)
  match x with
  | 0 => show win0_1.index (point i) (0 : Fin 2) * 4096 + 1 * k.val = k.val; omega
  | 1 => show win0_1.index (point i) (1 : Fin 2) * 256 + 1 * (i.val % 256) = i.val; omega

theorem block2 (i : Fin 8192) (j : Fin 4096) : iblk m c 2 (point i) (ix2 (0 : Fin 1) j) = gs m c (ix1 j) := by
  have p := place (point i)
  refine Eq.trans ?_ (gain m c j)
  show V m c main_v1 (((cfg0.win 2).blk (point i)).view.emb (ix2 (0 : Fin 1) j)) = _
  refine congrArg _ (funext fun x => Fin.ext ?_)
  match x with
  | 0 => show win0_2.index (point i) (0 : Fin 2) * 1 + 1 * 0 = 0; omega
  | 1 => show win0_2.index (point i) (1 : Fin 2) * 4096 + 1 * j.val = j.val; omega

/-- An entry of the sum. -/
theorem sumEntry (i : Fin 8192) (j : Fin 4096) : (dats m 0 c).arrAt 3 cfg0.N (ix2 i j)
    = (xs m c (ix2 i j) + ps m c (ix2 i j) : Ideal .f32) := by
  have p := place (point i)
  have ht : (point i).val = i.val / 256 := rfl
  have e := congrFun ((Value.blocks3 m c (point i) (flush0_3 (point i))).trans (Value.flushed3 m c (point i))) (ix2 (inBlock i) j)
  have hi : ((cfg0.win 3).blk (point i)).view.emb (ix2 (inBlock i) j) = ix2 i j := by
    funext x
    refine Fin.ext ?_
    match x with
    | 0 => show win0_3.index (point i) (0 : Fin 2) * 256 + 1 * (i.val % 256) = i.val; omega
    | 1 => show win0_3.index (point i) (1 : Fin 2) * 4096 + 1 * j.val = j.val; omega
  have el : (dats m 0 c).arrAt 3 cfg0.N (ix2 i j)
      = out0_3 (iblk m c 0 (point i)) (iblk m c 1 (point i)) (iblk m c 2 (point i)) (ix2 (inBlock i) j) := by
    rw [← hi]
    exact e
  rw [el]
  refine (sumStored _ _ _ (inBlock i) j).trans ?_
  rw [block0, block1]

/-- An entry of the sum's norm. -/
theorem normEntry (i : Fin 8192) (j : Fin 4096) : (dats m 0 c).arrAt 4 cfg0.N (ix2 i j)
    = ((xs m c (ix2 i j) + ps m c (ix2 i j)) * scaleOf (fun k => xs m c (ix2 i k) + ps m c (ix2 i k)) * gs m c (ix1 j) : Ideal .f32) := by
  have p := place (point i)
  have ht : (point i).val = i.val / 256 := rfl
  have e := congrFun ((Value.blocks4 m c (point i) (flush0_4 (point i))).trans (Value.flushed4 m c (point i))) (ix2 (inBlock i) j)
  have hi : ((cfg0.win 4).blk (point i)).view.emb (ix2 (inBlock i) j) = ix2 i j := by
    funext x
    refine Fin.ext ?_
    match x with
    | 0 => show win0_4.index (point i) (0 : Fin 2) * 256 + 1 * (i.val % 256) = i.val; omega
    | 1 => show win0_4.index (point i) (1 : Fin 2) * 4096 + 1 * j.val = j.val; omega
  have el : (dats m 0 c).arrAt 4 cfg0.N (ix2 i j)
      = out0_4 (iblk m c 0 (point i)) (iblk m c 1 (point i)) (iblk m c 2 (point i)) (ix2 (inBlock i) j) := by
    rw [← hi]
    exact e
  rw [el]
  refine (normStored _ _ _ (inBlock i) j).trans ?_
  simp only [block0, block1]
  rw [block2]

end Cert.Kernel11Ideal.Norm

namespace Cert.Reference11Ideal.Norm
open Cert.Reference11Ideal Cert.Reference11Ideal.Read Cert.Norm
open Idealize.ShloMosaic Idealize.ShloMosaic.TcCoe Idealize.ShloMosaic.Tactic

theorem sumEntry (x0 x1 : (⟨S8192x4096, .f32⟩ : BufTy).Contents (Elt Ideal)) (i : Fin 8192) (j : Fin 4096) :
    val_main_v0 x0 x1 (ix2 i j) = x0 (ix2 i j) + x1 (ix2 i j) := by
  pointwise [val_main_v0]

theorem normEntry (x0 x1 : (⟨S8192x4096, .f32⟩ : BufTy).Contents (Elt Ideal)) (x2 : (⟨S4096, .f32⟩ : BufTy).Contents (Elt Ideal))
    (i : Fin 8192) (j : Fin 4096) :
    val_main_v14 x0 x1 x2 (ix2 i j)
      = (x0 (ix2 i j) + x1 (ix2 i j)) * scaleOf (fun k => x0 (ix2 i k) + x1 (ix2 i k)) * x2 (ix1 j) := by
  unfold scaleOf
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]
end Cert.Reference11Ideal.Norm
-- ==== Proof.Norm.Update.lean ====
module
public import proofs.«01_k».proof.Proof.Gen.Kernel12Ideal.Value
public import proofs.«01_k».proof.Proof.Gen.Reference12Ideal.Read
public import Idealize.ShloMosaic.Lib.Pointwise
public import Idealize.ShloMosaic.Lib.StableHlo.RunRead
@[expose] public section
set_option maxRecDepth 16384
noncomputable section

/-! # The last residual sum, which is the layer's result: blocks of 256 whole rows, the experts' part transposed -/

namespace Cert.Kernel12Ideal.Norm
open Cert.Kernel12Ideal Cert.Kernel12Ideal.Gen
open Idealize.ShloMosaic Idealize.ShloMosaic.TcCoe Idealize.ShloMosaic.Tactic

/-- A block of the sum. -/
theorem sumPay (X : Vec Ideal S256x4096 .f32) (P : Vec Ideal S4096x256 .f32) (a : Fin 256) (b : Fin 4096) :
    k0_pay1 X P (ix2 a b) = X (ix2 a b) + P (ix2 b a) := by
  pointwise [k0_pay1]

theorem sumStored (X : Vec Ideal S256x4096 .f32) (P : Vec Ideal S4096x256 .f32) (G : Vec Ideal S1x4096 .f32) (a : Fin 256) (b : Fin 4096) :
    out0_3 X P G (ix2 a b) = X (ix2 a b) + P (ix2 b a) := by
  have z : (![0, 0] : Fin 2 → ℕ) = fun _ => 0 := by decide
  unfold out0_3
  rw [View.canon_unit_zero z, View.ld_unit_zero z, View.ld_unit_zero z]
  exact sumPay X P a b

variable (m : (ℓ : Loc nD τ sig) → Buf (Elt Ideal) ℓ) (c : Dev nD)

/-- Where the windows' blocks lie. -/
theorem place : ∀ t : Fin cfg0.N,
    (win0_0.index t (0 : Fin 2) = t.val ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

/-- The residual. -/
abbrev xs : FVec Ideal S8192x4096 .f32 := m (c, Proc.tc.devRef main_arg0)
/-- What is added to it. -/
abbrev ps : FVec Ideal S8192x4096 .f32 := m (c, Proc.tc.devRef main_arg1)
theorem row (i : Fin 8192) (j : Fin 4096) : V m c main_arg0 (ix2 i j) = xs m c (ix2 i j) := by
  unfold_abbrev_sides
  after_reads_simp

theorem col (j : Fin 4096) (i : Fin 8192) : V m c main_v0 (ix2 j i) = ps m c (ix2 i j) := by
  unfold_abbrev_sides
  after_reads_simp
  pointwise []

/-- The grid point of row `i`. -/
def point (i : Fin 8192) : Fin cfg0.N := ⟨i.val / 256, lt_of_lt_of_eq (by omega) N_0.symm⟩
/-- The row's place in its block. -/
abbrev inBlock (i : Fin 8192) : Fin 256 := ⟨i.val % 256, by omega⟩

theorem block0 (i : Fin 8192) (k : Fin 4096) : iblk m c 0 (point i) (ix2 (inBlock i) k) = xs m c (ix2 i k) := by
  have p := place (point i)
  have ht : (point i).val = i.val / 256 := rfl
  refine Eq.trans ?_ (row m c i k)
  show V m c main_arg0 (((cfg0.win 0).blk (point i)).view.emb (ix2 (inBlock i) k)) = _
  refine congrArg _ (funext fun x => Fin.ext ?_)
  match x with
  | 0 => show win0_0.index (point i) (0 : Fin 2) * 256 + 1 * (i.val % 256) = i.val; omega
  | 1 => show win0_0.index (point i) (1 : Fin 2) * 4096 + 1 * k.val = k.val; omega

theorem block1 (i : Fin 8192) (k : Fin 4096) : iblk m c 1 (point i) (ix2 k (inBlock i)) = ps m c (ix2 i k) := by
  have p := place (point i)
  have ht : (point i).val = i.val / 256 := rfl
  refine Eq.trans ?_ (col m c k i)
  show V m c main_v0 (((cfg0.win 1).blk (point i)).view.emb (ix2 k (inBlock i))) = _
  refine congrArg _ (funext fun x => Fin.ext ?_)
  match x with
  | 0 => show win0_1.index (point i) (0 : Fin 2) * 4096 + 1 * k.val = k.val; omega
  | 1 => show win0_1.index (point i) (1 : Fin 2) * 256 + 1 * (i.val % 256) = i.val; omega

/-- An entry of the sum. -/
theorem sumEntry (i : Fin 8192) (j : Fin 4096) : (dats m 0 c).arrAt 3 cfg0.N (ix2 i j)
    = (xs m c (ix2 i j) + ps m c (ix2 i j) : Ideal .f32) := by
  have p := place (point i)
  have ht : (point i).val = i.val / 256 := rfl
  have e := congrFun ((Value.blocks3 m c (point i) (flush0_3 (point i))).trans (Value.flushed3 m c (point i))) (ix2 (inBlock i) j)
  have hi : ((cfg0.win 3).blk (point i)).view.emb (ix2 (inBlock i) j) = ix2 i j := by
    funext x
    refine Fin.ext ?_
    match x with
    | 0 => show win0_3.index (point i) (0 : Fin 2) * 256 + 1 * (i.val % 256) = i.val; omega
    | 1 => show win0_3.index (point i) (1 : Fin 2) * 4096 + 1 * j.val = j.val; omega
  have el : (dats m 0 c).arrAt 3 cfg0.N (ix2 i j)
      = out0_3 (iblk m c 0 (point i)) (iblk m c 1 (point i)) (iblk m c 2 (point i)) (ix2 (inBlock i) j) := by
    rw [← hi]
    exact e
  rw [el]
  refine (sumStored _ _ _ (inBlock i) j).trans ?_
  rw [block0, block1]

end Cert.Kernel12Ideal.Norm

namespace Cert.Reference12Ideal.Norm
open Cert.Reference12Ideal Cert.Reference12Ideal.Read
open Idealize.ShloMosaic Idealize.ShloMosaic.TcCoe Idealize.ShloMosaic.Tactic

theorem sumEntry (x0 x1 : (⟨S8192x4096, .f32⟩ : BufTy).Contents (Elt Ideal)) (i : Fin 8192) (j : Fin 4096) :
    val_main_v0 x0 x1 (ix2 i j) = x0 (ix2 i j) + x1 (ix2 i j) := by
  pointwise [val_main_v0]

end Cert.Reference12Ideal.Norm
-- ==== Proof.Norm.Group.lean ====
module
public import Idealize.ShloMosaic.Lib.Pointwise
public import proofs.«01_k».proof.Proof.Attn.Finite
@[expose] public section
noncomputable section

/-! # The norm of one head's query or key: a sum over the 128 columns of a head by a product with zeros and ones -/

namespace Cert.Norm
open Idealize.ShloMosaic

/-- A column's head within a block, as the host computes it: the quotient by 128, rounded down. -/
def grp (n : BitVec 32) : BitVec 32 :=
  Scalar.select
    (IntOp.andi (IntOp.cmpi .ne (if n = 0 then 0 else if n.msb = true then -1 else 1 : BitVec 32)
        (if 128#32 = 0 then 0 else if (128#32).msb = true then -1 else 1 : BitVec 32))
      (IntOp.cmpi .ne (IntOp.remsi .host n 128#32) 0#32))
    (IntOp.subi (IntOp.divsi .host n 128#32) 1#32) (IntOp.divsi .host n 128#32)

theorem grp_small : ∀ a : Fin 256, grp (BitVec.ofNat 32 a.val) = BitVec.ofNat 32 (a.val / 128) := by
  decide +kernel

/-- One where two columns belong to one head. -/
def same (a b : Fin 256) : EReal := if a.val / 128 = b.val / 128 then 1 else 0

theorem same_word (a b : Fin 256) : (FloatOps.uitofp (F := Ideal) .bf16
    (IntOp.cmpi .eq (grp (BitVec.ofNat 32 a.val)) (grp (BitVec.ofNat 32 b.val))) : Ideal .bf16) = same a b := by
  rw [grp_small, grp_small]
  have hb : IntOp.cmpi .eq (BitVec.ofNat 32 (a.val / 128)) (BitVec.ofNat 32 (b.val / 128))
      = if a.val / 128 = b.val / 128 then 1#1 else 0#1 := by
    have ha' : a.val / 128 = 0 ∨ a.val / 128 = 1 := by omega
    have hb' : b.val / 128 = 0 ∨ b.val / 128 = 1 := by omega
    rcases ha' with h | h <;> rcases hb' with h' | h' <;> rw [h, h'] <;> decide
  rw [hb]
  unfold same
  split
  · show (((1#1 : BitVec 1).toNat : ℝ) : EReal) = 1
    simp
  · show (((0#1 : BitVec 1).toNat : ℝ) : EReal) = 0
    simp

/-- A sum against the zeros and ones runs over the column's head. -/
theorem sum_same (f : Fin 256 → EReal) (b : Fin 256) :
    ∑ x, f x * same x b = ∑ l : Fin 128, f (⟨b.val / 128 * 128 + l.val, by omega⟩ : Fin 256) := by
  have hb : b.val / 128 = 0 ∨ b.val / 128 = 1 := by omega
  refine (Fin.sum_univ_add (a := 128) (b := 128) fun x => f x * same x b).trans ?_
  have h1 : ∀ l : Fin 128, (Fin.castAdd 128 l).val / 128 = 0 := fun l => by simp only [Fin.val_castAdd]; omega
  have h2 : ∀ l : Fin 128, (Fin.natAdd 128 l).val / 128 = 1 := fun l => by simp only [Fin.val_natAdd]; omega
  rcases hb with h | h
  · have e1 : ∀ l : Fin 128, same (Fin.castAdd 128 l) b = 1 := fun l => if_pos ((h1 l).trans h.symm)
    have e2 : ∀ l : Fin 128, same (Fin.natAdd 128 l) b = 0 := fun l => if_neg (by rw [h2, h]; decide)
    simp only [e1, e2, mul_one, mul_zero, Finset.sum_const_zero, add_zero]
    refine Finset.sum_congr rfl fun l _ => congrArg f (Fin.ext ?_)
    show l.val = b.val / 128 * 128 + l.val
    omega
  · have e1 : ∀ l : Fin 128, same (Fin.castAdd 128 l) b = 0 := fun l => if_neg (by rw [h1, h]; decide)
    have e2 : ∀ l : Fin 128, same (Fin.natAdd 128 l) b = 1 := fun l => if_pos ((h2 l).trans h.symm)
    simp only [e1, e2, mul_one, mul_zero, Finset.sum_const_zero, zero_add]
    refine Finset.sum_congr rfl fun l _ => congrArg f (Fin.ext ?_)
    show 128 + l.val = b.val / 128 * 128 + l.val
    omega

/-- One over the root of a head's mean square, with the norm's small constant under the root. -/
def headScale (x : Fin 128 → EReal) : EReal :=
  Ideal.rsqrt (Ideal.div (∑ l : Fin 128, x l * x l) (Ideal.ofBits .f32 0x43000000#32) + Ideal.ofBits .f32 0x358637BD#32)

theorem width : (Ideal.ofBits .f32 0x43000000#32 : Ideal .f32) = ((128 : ℝ) : EReal) := by
  simp [Ideal.ofBits, Ideal.ieee, -EReal.coe_mul]
  norm_num

theorem widthInv : (Ideal.ofBits .f32 0x3C000000#32 : Ideal .f32) = ((1 / 128 : ℝ) : EReal) := by
  simp [Ideal.ofBits, Ideal.ieee, -EReal.coe_mul]
  norm_num

/-- The kernel's factor: the squares' rounding remainders, which are zero over the reals, add nothing. -/
theorem factor (x : Fin 256 → EReal) (hx : ∀ k, ∃ r : ℝ, x k = (r : EReal)) (b : Fin 256) :
    Ideal.rsqrt ((∑ k, x k * x k * same k b + ∑ k, (x k * x k - x k * x k) * same k b)
        * Ideal.ofBits .f32 0x3C000000#32 + Ideal.ofBits .f32 0x358637BD#32)
      = headScale fun l => x (⟨b.val / 128 * 128 + l.val, by omega⟩ : Fin 256) := by
  have h0 : ∀ k, x k * x k - x k * x k = 0 := fun k => by
    obtain ⟨r, hr⟩ := hx k
    rw [hr, ← EReal.coe_mul, ← EReal.coe_sub, sub_self, EReal.coe_zero]
  simp only [h0, zero_mul, Finset.sum_const_zero, add_zero]
  rw [sum_same (fun k => x k * x k) b]
  unfold headScale
  rw [width, widthInv, Ideal.div_coe (by norm_num)]

end Cert.Norm
-- ==== Proof.Norm.QNorm.lean ====
module
public import proofs.«01_k».proof.Proof.Gen.Kernel13Ideal.Value
public import proofs.«01_k».proof.Proof.Gen.Reference13Ideal.Read
public import Idealize.ShloMosaic.Lib.Pointwise
public import Idealize.ShloMosaic.Lib.StableHlo.RunRead
public import proofs.«01_k».proof.Proof.Norm.Group
@[expose] public section
set_option maxRecDepth 16384
noncomputable section

/-! # The queries' norm: blocks of 1024 rows and two heads, stored transposed -/

namespace Cert.Kernel13Ideal.Norm
open Cert.Kernel13Ideal Cert.Kernel13Ideal.Gen Cert.Norm
open Idealize.ShloMosaic Idealize.ShloMosaic.TcCoe Idealize.ShloMosaic.Tactic

/-- A block's entry from the zeros and ones that tell the heads apart. -/
theorem pay (X : Vec Ideal S1024x256 .bf16) (M : Vec Ideal S256x256 .bf16) (G : Vec Ideal S1x256 .f32) (a : Fin 1024) (b : Fin 256)
    (hX : ∀ k, ∃ r : ℝ, X (ix2 a k) = (r : EReal)) (hM : ∀ k, M (ix2 k b) = same k b) :
    k0_pay1 X M M G (ix2 b a) = X (ix2 a b)
      * headScale (fun l => X (ix2 a (⟨b.val / 128 * 128 + l.val, by omega⟩ : Fin 256))) * G (ix2 (0 : Fin 1) b) := by
  rw [← factor (fun k => X (ix2 a k)) hX b]
  simp only [← hM]
  pointwise [k0_pay1]

theorem stored (X : Vec Ideal S1024x256 .bf16) (G : Vec Ideal S1x256 .f32) (M : Vec Ideal S256x256 .bf16) (a : Fin 1024) (b : Fin 256)
    (hX : ∀ k, ∃ r : ℝ, X (ix2 a k) = (r : EReal)) (hM : ∀ k, M (ix2 k b) = same k b) :
    out0_3 X G M (ix2 b a) = X (ix2 a b)
      * headScale (fun l => X (ix2 a (⟨b.val / 128 * 128 + l.val, by omega⟩ : Fin 256))) * G (ix2 (0 : Fin 1) b) := by
  have z : (![0, 0] : Fin 2 → ℕ) = fun _ => 0 := by decide
  unfold out0_3
  rw [View.canon_unit_zero z, View.ld_unit_zero z, View.ld_unit_zero z, View.ld_unit_zero z]
  exact pay X M G a b hX hM

variable (m : (ℓ : Loc nD τ sig) → Buf (Elt Ideal) ℓ) (c : Dev nD)

/-- Where the windows' blocks lie. -/
theorem place : ∀ t : Fin cfg0.N,
    (win0_0.index t (0 : Fin 2) = t.val / 16 ∧ win0_0.index t (1 : Fin 2) = t.val % 16)
    ∧ (win0_1.index t (0 : Fin 2) = 0 ∧ win0_1.index t (1 : Fin 2) = t.val % 16)
    ∧ (win0_2.index t (0 : Fin 2) = 0 ∧ win0_2.index t (1 : Fin 2) = 0)
    ∧ (win0_3.index t (0 : Fin 2) = t.val % 16 ∧ win0_3.index t (1 : Fin 2) = t.val / 16) :=
  (by decide +kernel : ∀ t : Fin grid0.N, _)

/-- The earlier product, of which the queries are the first 4096 columns. -/
abbrev zs : FVec Ideal S8192x8192 .f32 := m (c, Proc.tc.devRef main_arg0)
/-- The gain of a head's columns. -/
abbrev gs : FVec Ideal S128 .f32 := m (c, Proc.tc.devRef main_arg1)

theorem row (i j : Fin 8192) : V m c main_v0 (ix2 i j) = (zs m c (ix2 i j) : EReal) := by
  unfold_abbrev_sides
  after_reads_simp
  pointwise []

theorem mask (a b : Fin 256) : V m c main_v13 (ix2 a b) = same a b := by
  refine Eq.trans ?_ (same_word a b)
  unfold grp
  unfold_abbrev_sides
  after_reads_simp
  simp only [StableHlo.TRef.ofBuf, StableHlo.TRef.toBuf, StableHlo.TRef.of, cast_eq, id]
  pointwise []
  rfl

theorem gain (j : Fin 4096) : V m c main_v14 (ix2 (0 : Fin 1) j)
    = (gs m c (ix1 (⟨j.val % 128, by omega⟩ : Fin 128)) * Ideal.ofBits .f32 0x3DB504F3#32 : Ideal .f32) := by
  unfold_abbrev_sides
  after_reads_simp
  pointwise []
  rfl

/-- The grid point of row `i` and column `j`. -/
def point (i : Fin 8192) (j : Fin 4096) : Fin cfg0.N := ⟨i.val / 1024 * 16 + j.val / 256, lt_of_lt_of_eq (by omega) N_0.symm⟩

/-- The row's place in its block. -/
abbrev rowIn (i : Fin 8192) : Fin 1024 := ⟨i.val % 1024, by omega⟩
/-- The column's place in its block. -/
abbrev colIn (j : Fin 4096) : Fin 256 := ⟨j.val % 256, by omega⟩

theorem block0 (i : Fin 8192) (j : Fin 4096) (k : Fin 256) : iblk m c 0 (point i j) (ix2 (rowIn i) k)
    = (zs m c (ix2 i (⟨j.val / 256 * 256 + k.val, by omega⟩ : Fin 8192)) : EReal) := by
  have p := place (point i j)
  have ht : (point i j).val = i.val / 1024 * 16 + j.val / 256 := rfl
  refine Eq.trans ?_ (row m c i _)
  show V m c main_v0 (((cfg0.win 0).blk (point i j)).view.emb (ix2 (rowIn i) k)) = _
  refine congrArg _ (funext fun x => Fin.ext ?_)
  match x with
  | 0 => show win0_0.index (point i j) (0 : Fin 2) * 1024 + 1 * (i.val % 1024) = i.val; omega
  | 1 => show win0_0.index (point i j) (1 : Fin 2) * 256 + 1 * k.val = j.val / 256 * 256 + k.val; omega

theorem block1 (i : Fin 8192) (j : Fin 4096) : iblk m c 1 (point i j) (ix2 (0 : Fin 1) (colIn j))
    = (gs m c (ix1 (⟨j.val % 128, by omega⟩ : Fin 128)) * Ideal.ofBits .f32 0x3DB504F3#32 : Ideal .f32) := by
  have p := place (point i j)
  have ht : (point i j).val = i.val / 1024 * 16 + j.val / 256 := rfl
  refine Eq.trans ?_ (gain m c j)
  show V m c main_v14 (((cfg0.win 1).blk (point i j)).view.emb (ix2 (0 : Fin 1) (colIn j))) = _
  refine congrArg _ (funext fun x => Fin.ext ?_)
  match x with
  | 0 => show win0_1.index (point i j) (0 : Fin 2) * 1 + 1 * 0 = 0; omega
  | 1 => show win0_1.index (point i j) (1 : Fin 2) * 256 + 1 * (j.val % 256) = j.val; omega

theorem block2 (i : Fin 8192) (j : Fin 4096) (a b : Fin 256) : iblk m c 2 (point i j) (ix2 a b) = same a b := by
  have p := place (point i j)
  refine Eq.trans ?_ (mask m c a b)
  show V m c main_v13 (((cfg0.win 2).blk (point i j)).view.emb (ix2 a b)) = _
  refine congrArg _ (funext fun x => Fin.ext ?_)
  match x with
  | 0 => show win0_2.index (point i j) (0 : Fin 2) * 256 + 1 * a.val = a.val; omega
  | 1 => show win0_2.index (point i j) (1 : Fin 2) * 256 + 1 * b.val = b.val; omega

/-- An entry of the kernel's result, for real arguments. -/
theorem entry (hz : ∀ i, ∃ r : ℝ, zs m c i = (r : EReal)) (i : Fin 8192) (j : Fin 4096) :
    (dats m 0 c).arrAt 3 cfg0.N (ix2 j i)
      = (zs m c (ix2 i (⟨j.val, by omega⟩ : Fin 8192))
        * headScale (fun l => zs m c (ix2 i (⟨j.val / 128 * 128 + l.val, by omega⟩ : Fin 8192)))
        * (gs m c (ix1 (⟨j.val % 128, by omega⟩ : Fin 128)) * Ideal.ofBits .f32 0x3DB504F3#32) : EReal) := by
  have p := place (point i j)
  have ht : (point i j).val = i.val / 1024 * 16 + j.val / 256 := rfl
  have e := congrFun ((Value.blocks3 m c (point i j) (flush0_3 (point i j))).trans (Value.flushed3 m c (point i j)))
    (ix2 (colIn j) (rowIn i))
  have hi : ((cfg0.win 3).blk (point i j)).view.emb (ix2 (colIn j) (rowIn i)) = ix2 j i := by
    funext x
    refine Fin.ext ?_
    match x with
    | 0 => show win0_3.index (point i j) (0 : Fin 2) * 256 + 1 * (j.val % 256) = j.val; omega
    | 1 => show win0_3.index (point i j) (1 : Fin 2) * 1024 + 1 * (i.val % 1024) = i.val; omega
  refine (congrArg ((dats m 0 c).arrAt 3 cfg0.N) hi).symm.trans ?_
  refine e.trans ?_
  refine (stored (iblk m c 0 (point i j)) (iblk m c 1 (point i j)) (iblk m c 2 (point i j)) (rowIn i) (colIn j)
    (fun k => by rw [block0]; exact hz _) (fun k => block2 m c i j k (colIn j))).trans ?_
  rw [block1]
  simp only [block0]
  have h1 : (⟨j.val / 256 * 256 + j.val % 256, by omega⟩ : Fin 8192) = ⟨j.val, by omega⟩ := Fin.ext (by
    show j.val / 256 * 256 + j.val % 256 = j.val; omega)
  have h2 : ∀ l : Fin 128, (⟨j.val / 256 * 256 + (j.val % 256 / 128 * 128 + l.val), by omega⟩ : Fin 8192)
      = ⟨j.val / 128 * 128 + l.val, by omega⟩ := fun l => Fin.ext (by
        show j.val / 256 * 256 + (j.val % 256 / 128 * 128 + l.val) = j.val / 128 * 128 + l.val; omega)
  simp only [h1, h2]
end Cert.Kernel13Ideal.Norm

namespace Cert.Reference13Ideal.Norm
open Cert.Reference13Ideal Cert.Reference13Ideal.Read Cert.Norm
open Idealize.ShloMosaic Idealize.ShloMosaic.TcCoe Idealize.ShloMosaic.Tactic

/-- The reference's entry. -/
theorem entry (x0 : (⟨S8192x8192, .f32⟩ : BufTy).Contents (Elt Ideal)) (x1 : (⟨S128, .f32⟩ : BufTy).Contents (Elt Ideal))
    (i : Fin 8192) (j : Fin 4096) :
    val_main_v19 x0 x1 (ix2 j i) = (x0 (ix2 i (⟨j.val, by omega⟩ : Fin 8192))
        * headScale (fun l => x0 (ix2 i (⟨j.val / 128 * 128 + l.val, by omega⟩ : Fin 8192)))
        * (x1 (ix1 (⟨j.val % 128, by omega⟩ : Fin 128)) * Ideal.ofBits .f32 0x3DB504F3#32) : EReal) := by
  have h : ∀ l : Fin 128, (⟨j.val / 128 * 128 + l.val, by omega⟩ : Fin 8192)
      = ⟨j.val / 256 * 256 + j.val / 128 % 2 * 128 + l.val, by omega⟩ := fun l => Fin.ext (by
        show j.val / 128 * 128 + l.val = j.val / 256 * 256 + j.val / 128 % 2 * 128 + l.val; omega)
  rw [← mul_assoc]
  simp only [h]
  unfold headScale
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1, val_main_cst_2]
end Cert.Reference13Ideal.Norm
-- ==== Proof.Norm.KNorm.lean ====
module
public import proofs.«01_k».proof.Proof.Gen.Kernel14Ideal.Value
public import proofs.«01_k».proof.Proof.Gen.Reference14Ideal.Read
public import Idealize.ShloMosaic.Lib.Pointwise
public import Idealize.ShloMosaic.Lib.StableHlo.RunRead
public import proofs.«01_k».proof.Proof.Norm.Group
@[expose] public section
set_option maxRecDepth 16384
noncomputable section

/-! # The keys' norm: blocks of 1024 rows and two heads -/

namespace Cert.Kernel14Ideal.Norm
open Cert.Kernel14Ideal Cert.Kernel14Ideal.Gen Cert.Norm
open Idealize.ShloMosaic Idealize.ShloMosaic.TcCoe Idealize.ShloMosaic.Tactic

/-- A block's entry from the zeros and ones that tell the heads apart. -/
theorem pay (X : Vec Ideal S1024x256 .bf16) (M : Vec Ideal S256x256 .bf16) (G : Vec Ideal S1x256 .f32) (a : Fin 1024) (b : Fin 256)
    (hX : ∀ k, ∃ r : ℝ, X (ix2 a k) = (r : EReal)) (hM : ∀ k, M (ix2 k b) = same k b) :
    k0_pay1 X M M G (ix2 a b) = X (ix2 a b)
      * headScale (fun l => X (ix2 a (⟨b.val / 128 * 128 + l.val, by omega⟩ : Fin 256))) * G (ix2 (0 : Fin 1) b) := by
  rw [← factor (fun k => X (ix2 a k)) hX b]
  simp only [← hM]
  pointwise [k0_pay1]

theorem stored (X : Vec Ideal S1024x256 .bf16) (G : Vec Ideal S1x256 .f32) (M : Vec Ideal S256x256 .bf16) (a : Fin 1024) (b : Fin 256)
    (hX : ∀ k, ∃ r : ℝ, X (ix2 a k) = (r : EReal)) (hM : ∀ k, M (ix2 k b) = same k b) :
    out0_3 X G M (ix2 a b) = X (ix2 a b)
      * headScale (fun l => X (ix2 a (⟨b.val / 128 * 128 + l.val, by omega⟩ : Fin 256))) * G (ix2 (0 : Fin 1) b) := by
  have z : (![0, 0] : Fin 2 → ℕ) = fun _ => 0 := by decide
  unfold out0_3
  rw [View.canon_unit_zero z, View.ld_unit_zero z, View.ld_unit_zero z, View.ld_unit_zero z]
  exact pay X M G a b hX hM

variable (m : (ℓ : Loc nD τ sig) → Buf (Elt Ideal) ℓ) (c : Dev nD)

/-- Where the windows' blocks lie. -/
theorem place : ∀ t : Fin cfg0.N,
    (win0_0.index t (0 : Fin 2) = t.val / 16 ∧ win0_0.index t (1 : Fin 2) = 16 + t.val % 16)
    ∧ (win0_1.index t (0 : Fin 2) = 0 ∧ win0_1.index t (1 : Fin 2) = t.val % 16)
    ∧ (win0_2.index t (0 : Fin 2) = 0 ∧ win0_2.index t (1 : Fin 2) = 0)
    ∧ (win0_3.index t (0 : Fin 2) = t.val / 16 ∧ win0_3.index t (1 : Fin 2) = t.val % 16) :=
  (by decide +kernel : ∀ t : Fin grid0.N, _)

/-- The earlier product, of which the keys are the columns from 4096 on. -/
abbrev zs : FVec Ideal S8192x8192 .f32 := m (c, Proc.tc.devRef main_arg0)
/-- The gain of a head's columns. -/
abbrev gs : FVec Ideal S128 .f32 := m (c, Proc.tc.devRef main_arg1)

theorem row (i j : Fin 8192) : V m c main_v0 (ix2 i j) = (zs m c (ix2 i j) : EReal) := by
  unfold_abbrev_sides
  after_reads_simp
  pointwise []

theorem mask (a b : Fin 256) : V m c main_v11 (ix2 a b) = same a b := by
  refine Eq.trans ?_ (same_word a b)
  unfold grp
  unfold_abbrev_sides
  after_reads_simp
  simp only [StableHlo.TRef.ofBuf, StableHlo.TRef.toBuf, StableHlo.TRef.of, cast_eq, id]
  pointwise []
  rfl

theorem gain (j : Fin 4096) : V m c main_v12 (ix2 (0 : Fin 1) j)
    = (gs m c (ix1 (⟨j.val % 128, by omega⟩ : Fin 128)) : Ideal .f32) := by
  unfold_abbrev_sides
  after_reads_simp
  pointwise []

/-- The grid point of row `i` and column `j`. -/
def point (i : Fin 8192) (j : Fin 4096) : Fin cfg0.N := ⟨i.val / 1024 * 16 + j.val / 256, lt_of_lt_of_eq (by omega) N_0.symm⟩

/-- The row's place in its block. -/
abbrev rowIn (i : Fin 8192) : Fin 1024 := ⟨i.val % 1024, by omega⟩
/-- The column's place in its block. -/
abbrev colIn (j : Fin 4096) : Fin 256 := ⟨j.val % 256, by omega⟩

theorem block0 (i : Fin 8192) (j : Fin 4096) (k : Fin 256) : iblk m c 0 (point i j) (ix2 (rowIn i) k)
    = (zs m c (ix2 i (⟨4096 + j.val / 256 * 256 + k.val, by omega⟩ : Fin 8192)) : EReal) := by
  have p := place (point i j)
  have ht : (point i j).val = i.val / 1024 * 16 + j.val / 256 := rfl
  refine Eq.trans ?_ (row m c i _)
  show V m c main_v0 (((cfg0.win 0).blk (point i j)).view.emb (ix2 (rowIn i) k)) = _
  refine congrArg _ (funext fun x => Fin.ext ?_)
  match x with
  | 0 => show win0_0.index (point i j) (0 : Fin 2) * 1024 + 1 * (i.val % 1024) = i.val; omega
  | 1 => show win0_0.index (point i j) (1 : Fin 2) * 256 + 1 * k.val = 4096 + j.val / 256 * 256 + k.val; omega

theorem block1 (i : Fin 8192) (j : Fin 4096) : iblk m c 1 (point i j) (ix2 (0 : Fin 1) (colIn j))
    = (gs m c (ix1 (⟨j.val % 128, by omega⟩ : Fin 128)) : Ideal .f32) := by
  have p := place (point i j)
  have ht : (point i j).val = i.val / 1024 * 16 + j.val / 256 := rfl
  refine Eq.trans ?_ (gain m c j)
  show V m c main_v12 (((cfg0.win 1).blk (point i j)).view.emb (ix2 (0 : Fin 1) (colIn j))) = _
  refine congrArg _ (funext fun x => Fin.ext ?_)
  match x with
  | 0 => show win0_1.index (point i j) (0 : Fin 2) * 1 + 1 * 0 = 0; omega
  | 1 => show win0_1.index (point i j) (1 : Fin 2) * 256 + 1 * (j.val % 256) = j.val; omega

theorem block2 (i : Fin 8192) (j : Fin 4096) (a b : Fin 256) : iblk m c 2 (point i j) (ix2 a b) = same a b := by
  have p := place (point i j)
  refine Eq.trans ?_ (mask m c a b)
  show V m c main_v11 (((cfg0.win 2).blk (point i j)).view.emb (ix2 a b)) = _
  refine congrArg _ (funext fun x => Fin.ext ?_)
  match x with
  | 0 => show win0_2.index (point i j) (0 : Fin 2) * 256 + 1 * a.val = a.val; omega
  | 1 => show win0_2.index (point i j) (1 : Fin 2) * 256 + 1 * b.val = b.val; omega

/-- An entry of the kernel's result, for real arguments. -/
theorem entry (hz : ∀ i, ∃ r : ℝ, zs m c i = (r : EReal)) (i : Fin 8192) (j : Fin 4096) :
    (dats m 0 c).arrAt 3 cfg0.N (ix2 i j)
      = (zs m c (ix2 i (⟨4096 + j.val, by omega⟩ : Fin 8192))
        * headScale (fun l => zs m c (ix2 i (⟨4096 + j.val / 128 * 128 + l.val, by omega⟩ : Fin 8192)))
        * gs m c (ix1 (⟨j.val % 128, by omega⟩ : Fin 128)) : EReal) := by
  have p := place (point i j)
  have ht : (point i j).val = i.val / 1024 * 16 + j.val / 256 := rfl
  have e := congrFun ((Value.blocks3 m c (point i j) (flush0_3 (point i j))).trans (Value.flushed3 m c (point i j)))
    (ix2 (rowIn i) (colIn j))
  have hi : ((cfg0.win 3).blk (point i j)).view.emb (ix2 (rowIn i) (colIn j)) = ix2 i j := by
    funext x
    refine Fin.ext ?_
    match x with
    | 0 => show win0_3.index (point i j) (0 : Fin 2) * 1024 + 1 * (i.val % 1024) = i.val; omega
    | 1 => show win0_3.index (point i j) (1 : Fin 2) * 256 + 1 * (j.val % 256) = j.val; omega
  refine (congrArg ((dats m 0 c).arrAt 3 cfg0.N) hi).symm.trans ?_
  refine e.trans ?_
  refine (stored (iblk m c 0 (point i j)) (iblk m c 1 (point i j)) (iblk m c 2 (point i j)) (rowIn i) (colIn j)
    (fun k => by rw [block0]; exact hz _) (fun k => block2 m c i j k (colIn j))).trans ?_
  rw [block1]
  simp only [block0]
  have h1 : (⟨4096 + j.val / 256 * 256 + j.val % 256, by omega⟩ : Fin 8192) = ⟨4096 + j.val, by omega⟩ := Fin.ext (by
    show 4096 + j.val / 256 * 256 + j.val % 256 = 4096 + j.val; omega)
  have h2 : ∀ l : Fin 128, (⟨4096 + j.val / 256 * 256 + (j.val % 256 / 128 * 128 + l.val), by omega⟩ : Fin 8192)
      = ⟨4096 + j.val / 128 * 128 + l.val, by omega⟩ := fun l => Fin.ext (by
        show 4096 + j.val / 256 * 256 + (j.val % 256 / 128 * 128 + l.val) = 4096 + j.val / 128 * 128 + l.val; omega)
  simp only [h1, h2]
end Cert.Kernel14Ideal.Norm

namespace Cert.Reference14Ideal.Norm
open Cert.Reference14Ideal Cert.Reference14Ideal.Read Cert.Norm
open Idealize.ShloMosaic Idealize.ShloMosaic.TcCoe Idealize.ShloMosaic.Tactic

/-- The reference's entry. -/
theorem entry (x0 : (⟨S8192x8192, .f32⟩ : BufTy).Contents (Elt Ideal)) (x1 : (⟨S128, .f32⟩ : BufTy).Contents (Elt Ideal))
    (i : Fin 8192) (j : Fin 4096) :
    val_main_v16 x0 x1 (ix2 i j) = (x0 (ix2 i (⟨4096 + j.val, by omega⟩ : Fin 8192))
        * headScale (fun l => x0 (ix2 i (⟨4096 + j.val / 128 * 128 + l.val, by omega⟩ : Fin 8192)))
        * x1 (ix1 (⟨j.val % 128, by omega⟩ : Fin 128)) : EReal) := by
  have h : ∀ l : Fin 128, (⟨4096 + j.val / 128 * 128 + l.val, by omega⟩ : Fin 8192)
      = ⟨4096 + (j.val / 256 * 256 + j.val / 128 % 2 * 128 + l.val), by omega⟩ := fun l => Fin.ext (by
        show 4096 + j.val / 128 * 128 + l.val = 4096 + (j.val / 256 * 256 + j.val / 128 % 2 * 128 + l.val); omega)
  simp only [h]
  unfold headScale
  pointwise [val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1]
end Cert.Reference14Ideal.Norm
-- ==== Proof.Norm.Finite.lean ====
module
public import proofs.«01_k».proof.Defs
public import proofs.«01_k».proof.Proof.Attn.Finite
@[expose] public section
set_option maxRecDepth 16384
noncomputable section

/-! # What the precondition of the queries' and keys' norms says -/

namespace Cert.Pre_finite_qk
open Idealize.ShloMosaic

/-- The predicate's side conditions. -/
theorem side : Facts where
  bcast_S_S8192x8192 := by decide
  reducesTo_S8192x8192_S_d0_1 := by decide
  h_S_ := by decide

variable [Facts]

/-- Where the predicate holds, every entry of the first array is real. -/
theorem reals (a0 : FVec Ideal S8192x8192 .f32) (a1 : FVec Ideal S128 .f32) (h : fn (F := Ideal) a0 a1 = fun _ => 1#1) :
    ∀ i, ∃ r : ℝ, a0 i = (r : EReal) := by
  unfold fn at h
  have h := congrFun h (fun a => a.elim0)
  exact Cert.Pre_finite.real_of_test a0 _ _ _ _ h

end Cert.Pre_finite_qk
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel.Frame
public import proofs.«01_k».proof.Proof.Attn.Finite
public import proofs.«01_k».proof.Proof.Proj.OdInQk
public import proofs.«01_k».proof.Proof.Gen.Reference2Ideal.Run
public import proofs.«01_k».proof.Proof.Gen.Kernel2.Frame
public import proofs.«01_k».proof.Proof.Proj.EvInRet
public import proofs.«01_k».proof.Proof.Gen.Reference3Ideal.Run
public import proofs.«01_k».proof.Proof.Gen.Kernel3.Frame
public import proofs.«01_k».proof.Proof.Proj.OdInVt
public import proofs.«01_k».proof.Proof.Gen.Reference4Ideal.Run
public import proofs.«01_k».proof.Proof.Gen.Kernel4.Frame
public import proofs.«01_k».proof.Proof.Proj.OdOut
public import proofs.«01_k».proof.Proof.Gen.Reference5Ideal.Run
public import proofs.«01_k».proof.Proof.Gen.Kernel5.Frame
public import proofs.«01_k».proof.Proof.Proj.EvOut
public import proofs.«01_k».proof.Proof.Gen.Reference6Ideal.Run
public import proofs.«01_k».proof.Proof.Gen.Kernel6.Frame
public import proofs.«01_k».proof.Proof.Proj.EvInS5
public import proofs.«01_k».proof.Proof.Gen.Reference7Ideal.Run
public import proofs.«01_k».proof.Proof.Gen.Kernel7.Frame
public import proofs.«01_k».proof.Proof.Proj.S5Glu
public import proofs.«01_k».proof.Proof.Gen.Reference8Ideal.Run
public import proofs.«01_k».proof.Proof.Gen.Kernel8.Frame
public import proofs.«01_k».proof.Proof.Peer.Equal
public import proofs.«01_k».proof.Proof.Gen.Reference9Ideal.Run
public import proofs.«01_k».proof.Proof.Gen.Kernel9.Frame
public import proofs.«01_k».proof.Proof.Gen.Kernel10Ideal.Value
public import proofs.«01_k».proof.Proof.Gen.Reference10Ideal.Read
public import proofs.«01_k».proof.Proof.Gen.Reference10Ideal.Run
public import proofs.«01_k».proof.Proof.Gen.Kernel10.Frame
public import proofs.«01_k».proof.Proof.Gen.Kernel11Ideal.Value
public import proofs.«01_k».proof.Proof.Gen.Reference11Ideal.Read
public import proofs.«01_k».proof.Proof.Gen.Reference11Ideal.Run
public import proofs.«01_k».proof.Proof.Gen.Kernel11.Frame
public import proofs.«01_k».proof.Proof.Gen.Kernel12Ideal.Value
public import proofs.«01_k».proof.Proof.Gen.Reference12Ideal.Read
public import proofs.«01_k».proof.Proof.Gen.Reference12Ideal.Run
public import proofs.«01_k».proof.Proof.Gen.Kernel12.Frame
public import proofs.«01_k».proof.Proof.Gen.Kernel13Ideal.Value
public import proofs.«01_k».proof.Proof.Gen.Reference13Ideal.Read
public import proofs.«01_k».proof.Proof.Gen.Reference13Ideal.Run
public import proofs.«01_k».proof.Proof.Gen.Kernel13.Frame
public import proofs.«01_k».proof.Proof.Gen.Kernel14Ideal.Value
public import proofs.«01_k».proof.Proof.Gen.Reference14Ideal.Read
public import proofs.«01_k».proof.Proof.Gen.Reference14Ideal.Run
public import proofs.«01_k».proof.Proof.Gen.Kernel14.Frame
public import proofs.«01_k».proof.Proof.Gen.Kernel15Ideal.Value
public import proofs.«01_k».proof.Proof.Gen.Reference15Ideal.Read
public import proofs.«01_k».proof.Proof.Gen.Reference15Ideal.Run
public import proofs.«01_k».proof.Proof.Gen.Kernel15.Frame
public import proofs.«01_k».proof.Proof.Peer.Plain
public import proofs.«01_k».proof.Proof.Norm.Rms
public import proofs.«01_k».proof.Proof.Norm.Add
public import proofs.«01_k».proof.Proof.Norm.Update
public import proofs.«01_k».proof.Proof.Norm.QNorm
public import proofs.«01_k».proof.Proof.Norm.KNorm
public import proofs.«01_k».proof.Proof.Norm.Finite

@[expose] public section

set_option maxRecDepth 16384

noncomputable section

namespace Cert.Proof

open Idealize.ShloMosaic Idealize.SL.Sem

/-- The kernel as printed runs, keeps its arguments and ends quiescent. -/
theorem kernel_frame : Cert.quiescent_Kernel (hKernel := Cert.Kernel.Gen.facts) :=
  fun m g _ => Cert.Kernel.Gen.frame m g

/-- The idealized kernel runs, keeps its arguments and ends quiescent. -/
theorem ideal_frame : Cert.quiescent_KernelIdeal (hKernelIdeal := Cert.KernelIdeal.Gen.facts) :=
  fun m g _ => Cert.KernelIdeal.Gen.frame m g

/-- The reference runs, keeps its arguments and ends quiescent. -/
theorem reference_frame : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run m g)

/-- The only rule used names one constant. -/
theorem preserves : Cert.preserves_Kernel_KernelIdeal :=
  IdealRules.named_const.statement Cert.KernelIdeal.κ "log2e" .f32 0x3FB8AA3B#32 (((Real.log 2)⁻¹ : ℝ) : EReal) rfl

open Cert.Attn
open Cert.KernelIdeal.Attn (lamE lamM gM headRow Reals kernel_entry)

/-- Every column of the result is an entry of a head. -/
theorem col_head (j : Fin 4096) : ∃ (h : Fin 16) (d : Fin 256), j = vcol h d :=
  ⟨⟨j.val / 256, by omega⟩, ⟨j.val % 256, by omega⟩, Fin.ext (by show j.val = 256 * (j.val / 256) + j.val % 256; omega)⟩

/-- The kernel and the reference end at one result over the reals. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.side) := by
  intro m g m' g' hp hargs
  refine ⟨fun c => Cert.KernelIdeal.Value.G7 m c, Cert.KernelIdeal.Value.run m g,
    (θ_run Cert.ReferenceIdeal.defs _ _).mono (fun r h c => ⟨(h c).1.trans ?_, (h c).2⟩) (Cert.ReferenceIdeal.Value.run m' g')⟩
  refine (Cert.ReferenceIdeal.Read.val_main_v88_eq (F := Ideal) (StableHlo.launchContents m' c)).trans ?_
  obtain ⟨a0, a1, a2, a3, a4, a5, a6, a7, a8⟩ := hargs c
  obtain ⟨h0, h1, h2, h3, h4, h5, h6, h7⟩ := @Cert.Pre_finite.reals Cert.Pre_finite.side _ _ _ _ _ _ _ _ _ (hp c)
  obtain ⟨lam, hl⟩ := lam_real _ _ _ _ h4 h5 h6 h7
  choose r0 e0 using h0
  choose r1 e1 using h1
  choose r2 e2 using h2
  choose r3 e3 using h3
  have R : Reals m c (fun a b => r0 (ix2 a b)) (fun a b => r1 (ix2 a b)) (fun a b => r2 (ix2 a b)) (fun a b => r3 (ix2 a b)) :=
    ⟨fun a b => e0 _, fun a b => e1 _, fun a b => e2 _, fun a b => e3 _⟩
  funext i
  obtain ⟨h, d, hj⟩ := col_head (i 1)
  have hi : i = ix2 (i 0) (vcol h d) := by
    funext a
    match a with
    | 0 => rfl
    | 1 => exact hj
  rw [hi]
  refine Eq.trans ?_ (kernel_entry R (i 0) h d).symm
  have key := Cert.ReferenceIdeal.Attn.ref_entry (x8 := m ((c.tc : Thread Cert.KernelIdeal.nD Cert.KernelIdeal.τ).loc Cert.KernelIdeal.main_arg8))
    R.q R.k R.v R.t lam hl h (i 0) d
  refine Eq.trans ?_ key
  show Cert.ReferenceIdeal.Read.val_main_v88 (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8)) (ix2 (i 0) (vcol h d)) = _
  rw [a0, a1, a2, a3, a4, a5, a6, a7, a8]

/-! ### The odd layer's queries and keys -/

theorem kernel2_frame : Cert.quiescent_Kernel2 (hKernel2 := Cert.Kernel2.Gen.facts) :=
  fun m g _ => Cert.Kernel2.Gen.frame m g

theorem ideal2_frame : Cert.quiescent_Kernel2Ideal (hKernel2Ideal := Cert.Kernel2Ideal.Gen.facts) :=
  fun m g _ => Cert.Kernel2Ideal.Gen.frame m g

theorem reference2_frame : Cert.quiescent_Reference2Ideal (hReference2Ideal := Cert.Reference2Ideal.Gen.facts) :=
  fun m g _ => (θ_run Cert.Reference2Ideal.defs _ _).mono
    (fun r h => ⟨fun c => (h c).2, sem_eq_zero_of_no_sems (by decide) r.2⟩) (Cert.Reference2Ideal.Value.run m g)

theorem algebraic2 : Cert.algebraic_Kernel2Ideal_Reference2Ideal (hKernel2Ideal := Cert.Kernel2Ideal.Gen.facts)
    (hReference2Ideal := Cert.Reference2Ideal.Gen.facts) := by
  intro m g m' g' hp hargs
  refine ⟨fun c => (Cert.Kernel2Ideal.Gen.dats m 0 c).arrAt 2 Cert.Kernel2Ideal.cfg0.N, Cert.Kernel2Ideal.Value.run_blocks m g,
    (θ_run Cert.Reference2Ideal.defs _ _).mono (fun r h c => ⟨(h c).1.trans ?_, (h c).2⟩) (Cert.Reference2Ideal.Value.run m' g')⟩
  refine (Cert.Reference2Ideal.Read.val_main_v5_eq (F := Ideal) _ _).trans ?_
  obtain ⟨a0, a1⟩ := hargs c
  funext i
  have hi : i = ix2 (i 0) (i 1) := by
    funext a
    match a with
    | 0 => rfl
    | 1 => rfl
  rw [hi]
  refine Eq.trans ?_ (Cert.Kernel2Ideal.Proj.entry m c (i 0) (i 1)).symm
  show Cert.Reference2Ideal.Read.val_main_v5 (F := Ideal) (m' ((c.tc : Thread Cert.Reference2Ideal.nD Cert.Reference2Ideal.τ).loc Cert.Reference2Ideal.main_arg0))
    (m' ((c.tc : Thread Cert.Reference2Ideal.nD Cert.Reference2Ideal.τ).loc Cert.Reference2Ideal.main_arg1)) (ix2 (i 0) (i 1)) = _
  rw [a0, a1]
  exact Cert.Reference2Ideal.Proj.entry _ _ (i 0) (i 1)

/-! ### The even layer's queries, keys, values and gates -/

theorem kernel3_frame : Cert.quiescent_Kernel3 (hKernel3 := Cert.Kernel3.Gen.facts) :=
  fun m g _ => Cert.Kernel3.Gen.frame m g

theorem ideal3_frame : Cert.quiescent_Kernel3Ideal (hKernel3Ideal := Cert.Kernel3Ideal.Gen.facts) :=
  fun m g _ => Cert.Kernel3Ideal.Gen.frame m g

theorem reference3_frame : Cert.quiescent_Reference3Ideal (hReference3Ideal := Cert.Reference3Ideal.Gen.facts) :=
  fun m g _ => (θ_run Cert.Reference3Ideal.defs _ _).mono
    (fun r h => ⟨fun c => (h c).2, sem_eq_zero_of_no_sems (by decide) r.2⟩) (Cert.Reference3Ideal.Value.run m g)

theorem algebraic3 : Cert.algebraic_Kernel3Ideal_Reference3Ideal (hKernel3Ideal := Cert.Kernel3Ideal.Gen.facts)
    (hReference3Ideal := Cert.Reference3Ideal.Gen.facts) := by
  intro m g m' g' hp hargs
  refine ⟨fun c => (Cert.Kernel3Ideal.Gen.dats m 0 c).arrAt 2 Cert.Kernel3Ideal.cfg0.N, Cert.Kernel3Ideal.Value.run_blocks m g,
    (θ_run Cert.Reference3Ideal.defs _ _).mono (fun r h c => ⟨(h c).1.trans ?_, (h c).2⟩) (Cert.Reference3Ideal.Value.run m' g')⟩
  refine (Cert.Reference3Ideal.Read.val_main_v7_eq (F := Ideal) _ _).trans ?_
  obtain ⟨a0, a1⟩ := hargs c
  funext i
  have hi : i = ix2 (i 0) (i 1) := by
    funext a
    match a with
    | 0 => rfl
    | 1 => rfl
  rw [hi]
  refine Eq.trans ?_ (Cert.Kernel3Ideal.Proj.entry m c (i 0) (i 1)).symm
  show Cert.Reference3Ideal.Read.val_main_v7 (F := Ideal) (m' ((c.tc : Thread Cert.Reference3Ideal.nD Cert.Reference3Ideal.τ).loc Cert.Reference3Ideal.main_arg0))
    (m' ((c.tc : Thread Cert.Reference3Ideal.nD Cert.Reference3Ideal.τ).loc Cert.Reference3Ideal.main_arg1)) (ix2 (i 0) (i 1)) = _
  rw [a0, a1]
  exact Cert.Reference3Ideal.Proj.entry _ _ (i 0) (i 1)

/-! ### The odd layer's transposed values -/

theorem kernel4_frame : Cert.quiescent_Kernel4 (hKernel4 := Cert.Kernel4.Gen.facts) :=
  fun m g _ => Cert.Kernel4.Gen.frame m g

theorem ideal4_frame : Cert.quiescent_Kernel4Ideal (hKernel4Ideal := Cert.Kernel4Ideal.Gen.facts) :=
  fun m g _ => Cert.Kernel4Ideal.Gen.frame m g

theorem reference4_frame : Cert.quiescent_Reference4Ideal (hReference4Ideal := Cert.Reference4Ideal.Gen.facts) :=
  fun m g _ => (θ_run Cert.Reference4Ideal.defs _ _).mono
    (fun r h => ⟨fun c => (h c).2, sem_eq_zero_of_no_sems (by decide) r.2⟩) (Cert.Reference4Ideal.Value.run m g)

theorem algebraic4 : Cert.algebraic_Kernel4Ideal_Reference4Ideal (hKernel4Ideal := Cert.Kernel4Ideal.Gen.facts)
    (hReference4Ideal := Cert.Reference4Ideal.Gen.facts) := by
  intro m g m' g' hp hargs
  refine ⟨fun c => (Cert.Kernel4Ideal.Gen.dats m 0 c).arrAt 2 Cert.Kernel4Ideal.cfg0.N, Cert.Kernel4Ideal.Value.run_blocks m g,
    (θ_run Cert.Reference4Ideal.defs _ _).mono (fun r h c => ⟨(h c).1.trans ?_, (h c).2⟩) (Cert.Reference4Ideal.Value.run m' g')⟩
  refine (Cert.Reference4Ideal.Read.val_main_v5_eq (F := Ideal) _ _).trans ?_
  obtain ⟨a0, a1⟩ := hargs c
  funext i
  have hi : i = ix2 (i 0) (i 1) := by
    funext a
    match a with
    | 0 => rfl
    | 1 => rfl
  rw [hi]
  refine Eq.trans ?_ (Cert.Kernel4Ideal.Proj.entry m c (i 0) (i 1)).symm
  show Cert.Reference4Ideal.Read.val_main_v5 (F := Ideal) (m' ((c.tc : Thread Cert.Reference4Ideal.nD Cert.Reference4Ideal.τ).loc Cert.Reference4Ideal.main_arg0))
    (m' ((c.tc : Thread Cert.Reference4Ideal.nD Cert.Reference4Ideal.τ).loc Cert.Reference4Ideal.main_arg1)) (ix2 (i 0) (i 1)) = _
  rw [a0, a1]
  exact Cert.Reference4Ideal.Proj.entry _ _ (i 0) (i 1)

/-! ### The odd layer's output projection -/

theorem kernel5_frame : Cert.quiescent_Kernel5 (hKernel5 := Cert.Kernel5.Gen.facts) :=
  fun m g _ => Cert.Kernel5.Gen.frame m g

theorem ideal5_frame : Cert.quiescent_Kernel5Ideal (hKernel5Ideal := Cert.Kernel5Ideal.Gen.facts) :=
  fun m g _ => Cert.Kernel5Ideal.Gen.frame m g

theorem reference5_frame : Cert.quiescent_Reference5Ideal (hReference5Ideal := Cert.Reference5Ideal.Gen.facts) :=
  fun m g _ => (θ_run Cert.Reference5Ideal.defs _ _).mono
    (fun r h => ⟨fun c => (h c).2, sem_eq_zero_of_no_sems (by decide) r.2⟩) (Cert.Reference5Ideal.Value.run m g)

theorem algebraic5 : Cert.algebraic_Kernel5Ideal_Reference5Ideal (hKernel5Ideal := Cert.Kernel5Ideal.Gen.facts)
    (hReference5Ideal := Cert.Reference5Ideal.Gen.facts) := by
  intro m g m' g' hp hargs
  refine ⟨fun c => (Cert.Kernel5Ideal.Gen.dats m 0 c).arrAt 3 Cert.Kernel5Ideal.cfg0.N, Cert.Kernel5Ideal.Value.run_blocks m g,
    (θ_run Cert.Reference5Ideal.defs _ _).mono (fun r h c => ⟨(h c).1.trans ?_, (h c).2⟩) (Cert.Reference5Ideal.Value.run m' g')⟩
  refine (Cert.Reference5Ideal.Read.val_main_v1_eq (F := Ideal) _ _ _).trans ?_
  obtain ⟨a0, a1, a2⟩ := hargs c
  funext i
  have hi : i = ix2 (i 0) (i 1) := by
    funext a
    match a with
    | 0 => rfl
    | 1 => rfl
  rw [hi]
  refine Eq.trans ?_ (Cert.Kernel5Ideal.Proj.entry m c (i 0) (i 1)).symm
  show Cert.Reference5Ideal.Read.val_main_v1 (F := Ideal) (m' ((c.tc : Thread Cert.Reference5Ideal.nD Cert.Reference5Ideal.τ).loc Cert.Reference5Ideal.main_arg0))
    (m' ((c.tc : Thread Cert.Reference5Ideal.nD Cert.Reference5Ideal.τ).loc Cert.Reference5Ideal.main_arg1))
    (m' ((c.tc : Thread Cert.Reference5Ideal.nD Cert.Reference5Ideal.τ).loc Cert.Reference5Ideal.main_arg2)) (ix2 (i 0) (i 1)) = _
  rw [a0, a1, a2]
  exact Cert.Reference5Ideal.Proj.entry _ _ _ (i 0) (i 1)

/-! ### The even layer's output projection -/

theorem kernel6_frame : Cert.quiescent_Kernel6 (hKernel6 := Cert.Kernel6.Gen.facts) :=
  fun m g _ => Cert.Kernel6.Gen.frame m g

theorem ideal6_frame : Cert.quiescent_Kernel6Ideal (hKernel6Ideal := Cert.Kernel6Ideal.Gen.facts) :=
  fun m g _ => Cert.Kernel6Ideal.Gen.frame m g

theorem reference6_frame : Cert.quiescent_Reference6Ideal (hReference6Ideal := Cert.Reference6Ideal.Gen.facts) :=
  fun m g _ => (θ_run Cert.Reference6Ideal.defs _ _).mono
    (fun r h => ⟨fun c => (h c).2, sem_eq_zero_of_no_sems (by decide) r.2⟩) (Cert.Reference6Ideal.Value.run m g)

theorem algebraic6 : Cert.algebraic_Kernel6Ideal_Reference6Ideal (hKernel6Ideal := Cert.Kernel6Ideal.Gen.facts)
    (hReference6Ideal := Cert.Reference6Ideal.Gen.facts) := by
  intro m g m' g' hp hargs
  refine ⟨fun c => (Cert.Kernel6Ideal.Gen.dats m 0 c).arrAt 5 Cert.Kernel6Ideal.cfg0.N, Cert.Kernel6Ideal.Value.run_blocks m g,
    (θ_run Cert.Reference6Ideal.defs _ _).mono (fun r h c => ⟨(h c).1.trans ?_, (h c).2⟩) (Cert.Reference6Ideal.Value.run m' g')⟩
  refine (Cert.Reference6Ideal.Read.val_main_v2_eq (F := Ideal) _ _ _ _).trans ?_
  obtain ⟨a0, a1, a2, a3⟩ := hargs c
  funext i
  have hi : i = ix2 (i 0) (i 1) := by
    funext a
    match a with
    | 0 => rfl
    | 1 => rfl
  rw [hi]
  refine Eq.trans ?_ (Cert.Kernel6Ideal.Proj.entry m c (i 0) (i 1)).symm
  show Cert.Reference6Ideal.Read.val_main_v2 (F := Ideal) (m' ((c.tc : Thread Cert.Reference6Ideal.nD Cert.Reference6Ideal.τ).loc Cert.Reference6Ideal.main_arg0))
    (m' ((c.tc : Thread Cert.Reference6Ideal.nD Cert.Reference6Ideal.τ).loc Cert.Reference6Ideal.main_arg1))
    (m' ((c.tc : Thread Cert.Reference6Ideal.nD Cert.Reference6Ideal.τ).loc Cert.Reference6Ideal.main_arg2))
    (m' ((c.tc : Thread Cert.Reference6Ideal.nD Cert.Reference6Ideal.τ).loc Cert.Reference6Ideal.main_arg3)) (ix2 (i 0) (i 1)) = _
  rw [a0, a1, a2, a3]
  exact Cert.Reference6Ideal.Proj.entry _ _ _ _ (i 0) (i 1)

/-! ### The even layer's state-space input -/

theorem kernel7_frame : Cert.quiescent_Kernel7 (hKernel7 := Cert.Kernel7.Gen.facts) :=
  fun m g _ => Cert.Kernel7.Gen.frame m g

theorem ideal7_frame : Cert.quiescent_Kernel7Ideal (hKernel7Ideal := Cert.Kernel7Ideal.Gen.facts) :=
  fun m g _ => Cert.Kernel7Ideal.Gen.frame m g

theorem reference7_frame : Cert.quiescent_Reference7Ideal (hReference7Ideal := Cert.Reference7Ideal.Gen.facts) :=
  fun m g _ => (θ_run Cert.Reference7Ideal.defs _ _).mono
    (fun r h => ⟨fun c => (h c).2, sem_eq_zero_of_no_sems (by decide) r.2⟩) (Cert.Reference7Ideal.Value.run m g)

theorem algebraic7 : Cert.algebraic_Kernel7Ideal_Reference7Ideal (hKernel7Ideal := Cert.Kernel7Ideal.Gen.facts)
    (hReference7Ideal := Cert.Reference7Ideal.Gen.facts) := by
  intro m g m' g' hp hargs
  refine ⟨fun c => (Cert.Kernel7Ideal.Gen.dats m 0 c).arrAt 2 Cert.Kernel7Ideal.cfg0.N, Cert.Kernel7Ideal.Value.run_blocks m g,
    (θ_run Cert.Reference7Ideal.defs _ _).mono (fun r h c => ⟨(h c).1.trans ?_, (h c).2⟩) (Cert.Reference7Ideal.Value.run m' g')⟩
  refine (Cert.Reference7Ideal.Read.val_main_v8_eq (F := Ideal) _ _).trans ?_
  obtain ⟨a0, a1⟩ := hargs c
  funext i
  have hi : i = ix3 (i 0) (i 1) (i 2) := by
    funext a
    match a with
    | 0 => rfl
    | 1 => rfl
    | 2 => rfl
  rw [hi]
  refine Eq.trans ?_ (Cert.Kernel7Ideal.Proj.entry m c (i 0) (i 1) (i 2)).symm
  show Cert.Reference7Ideal.Read.val_main_v8 (F := Ideal) (m' ((c.tc : Thread Cert.Reference7Ideal.nD Cert.Reference7Ideal.τ).loc Cert.Reference7Ideal.main_arg0))
    (m' ((c.tc : Thread Cert.Reference7Ideal.nD Cert.Reference7Ideal.τ).loc Cert.Reference7Ideal.main_arg1)) (ix3 (i 0) (i 1) (i 2)) = _
  rw [a0, a1]
  exact Cert.Reference7Ideal.Proj.entry _ _ (i 0) (i 1) (i 2)

/-! ### The gate of the state-space mixer -/

theorem kernel8_frame : Cert.quiescent_Kernel8 (hKernel8 := Cert.Kernel8.Gen.facts) :=
  fun m g _ => Cert.Kernel8.Gen.frame m g

theorem ideal8_frame : Cert.quiescent_Kernel8Ideal (hKernel8Ideal := Cert.Kernel8Ideal.Gen.facts) :=
  fun m g _ => Cert.Kernel8Ideal.Gen.frame m g

theorem reference8_frame : Cert.quiescent_Reference8Ideal (hReference8Ideal := Cert.Reference8Ideal.Gen.facts) :=
  fun m g _ => (θ_run Cert.Reference8Ideal.defs _ _).mono
    (fun r h => ⟨fun c => (h c).2, sem_eq_zero_of_no_sems (by decide) r.2⟩) (Cert.Reference8Ideal.Value.run m g)

theorem algebraic8 : Cert.algebraic_Kernel8Ideal_Reference8Ideal (hKernel8Ideal := Cert.Kernel8Ideal.Gen.facts)
    (hReference8Ideal := Cert.Reference8Ideal.Gen.facts) := by
  intro m g m' g' hp hargs
  refine ⟨fun c => (Cert.Kernel8Ideal.Gen.dats m 0 c).arrAt 3 Cert.Kernel8Ideal.cfg0.N, Cert.Kernel8Ideal.Value.run_blocks m g,
    (θ_run Cert.Reference8Ideal.defs _ _).mono (fun r h c => ⟨(h c).1.trans ?_, (h c).2⟩) (Cert.Reference8Ideal.Value.run m' g')⟩
  refine (Cert.Reference8Ideal.Read.val_main_v11_eq (F := Ideal) _ _ _).trans ?_
  obtain ⟨a0, a1, a2⟩ := hargs c
  funext i
  have hi : i = ix2 (i 0) (i 1) := by
    funext a
    match a with
    | 0 => rfl
    | 1 => rfl
  rw [hi]
  refine Eq.trans ?_ (Cert.Kernel8Ideal.Proj.entry m c (i 0) (i 1)).symm
  show Cert.Reference8Ideal.Read.val_main_v11 (F := Ideal) (m' ((c.tc : Thread Cert.Reference8Ideal.nD Cert.Reference8Ideal.τ).loc Cert.Reference8Ideal.main_arg0))
    (m' ((c.tc : Thread Cert.Reference8Ideal.nD Cert.Reference8Ideal.τ).loc Cert.Reference8Ideal.main_arg1))
    (m' ((c.tc : Thread Cert.Reference8Ideal.nD Cert.Reference8Ideal.τ).loc Cert.Reference8Ideal.main_arg2)) (ix2 (i 0) (i 1)) = _
  rw [a0, a1, a2]
  exact Cert.Reference8Ideal.Proj.entry _ _ _ (i 0) (i 1)

/-! ### The scores of the product keys -/

theorem kernel9_frame : Cert.quiescent_Kernel9 (hKernel9 := Cert.Kernel9.Gen.facts) :=
  fun m g _ => Cert.Kernel9.Gen.frame m g

theorem ideal9_frame : Cert.quiescent_Kernel9Ideal (hKernel9Ideal := Cert.Kernel9Ideal.Gen.facts) :=
  fun m g _ => Cert.Kernel9Ideal.Gen.frame m g

theorem reference9_frame : Cert.quiescent_Reference9Ideal (hReference9Ideal := Cert.Reference9Ideal.Gen.facts) :=
  fun m g _ => (θ_run Cert.Reference9Ideal.defs _ _).mono
    (fun r h => ⟨fun c => (h c).2, sem_eq_zero_of_no_sems (by decide) r.2⟩) (Cert.Reference9Ideal.Value.run m g)

theorem algebraic9 : Cert.algebraic_Kernel9Ideal_Reference9Ideal_pre_finite_scores (hKernel9Ideal := Cert.Kernel9Ideal.Gen.facts)
    (hReference9Ideal := Cert.Reference9Ideal.Gen.facts) (hPre_finite_scores := Cert.Pre_finite_scores.side) := by
  intro m g m' g' hp hargs
  refine ⟨fun c => (Cert.Kernel9Ideal.Gen.dat1 (Cert.Kernel9Ideal.Gen.V3 m g) c).arrAt 2 Cert.Kernel9Ideal.cfg1.N,
    Cert.Kernel9Ideal.Peer.run m g,
    (θ_run Cert.Reference9Ideal.defs _ _).mono (fun r h c => ⟨(h c).1.trans ?_, (h c).2⟩) (Cert.Reference9Ideal.Value.run m' g')⟩
  refine (Cert.Reference9Ideal.Read.val_main_v5_eq (F := Ideal) _ _ _).trans ?_
  obtain ⟨a0, a1, a2⟩ := hargs c
  obtain ⟨h0, h1, h2⟩ := @Cert.Pre_finite_scores.reals Cert.Pre_finite_scores.side _ _ _ (hp c)
  funext i
  have hi : i = ix2 (i 0) (i 1) := by
    funext a
    match a with
    | 0 => rfl
    | 1 => rfl
  rw [hi]
  refine Eq.trans ?_ (Cert.Kernel9Ideal.Peer.entry m g c (i 0) (i 1)).symm
  show Cert.Reference9Ideal.Read.val_main_v5 (F := Ideal) (m' ((c.tc : Thread Cert.Reference9Ideal.nD Cert.Reference9Ideal.τ).loc Cert.Reference9Ideal.main_arg0))
    (m' ((c.tc : Thread Cert.Reference9Ideal.nD Cert.Reference9Ideal.τ).loc Cert.Reference9Ideal.main_arg1))
    (m' ((c.tc : Thread Cert.Reference9Ideal.nD Cert.Reference9Ideal.τ).loc Cert.Reference9Ideal.main_arg2)) (ix2 (i 0) (i 1)) = _
  rw [a0, a1, a2]
  refine (Cert.Reference9Ideal.Peer.entry _ _ _ (i 0) (i 1)).trans ?_
  exact Cert.Peer.fold_eq _ (fun d k => _) (fun d => _) (fun k => h2 _) (fun d k => h1 _) (fun d => h0 _)

/-! ### The first norm -/

theorem kernel10_frame : Cert.quiescent_Kernel10 (hKernel10 := Cert.Kernel10.Gen.facts) :=
  fun m g _ => Cert.Kernel10.Gen.frame m g

theorem ideal10_frame : Cert.quiescent_Kernel10Ideal (hKernel10Ideal := Cert.Kernel10Ideal.Gen.facts) :=
  fun m g _ => Cert.Kernel10Ideal.Gen.frame m g

theorem reference10_frame : Cert.quiescent_Reference10Ideal (hReference10Ideal := Cert.Reference10Ideal.Gen.facts) :=
  fun m g _ => (θ_run Cert.Reference10Ideal.defs _ _).mono
    (fun r h => ⟨fun c => (h c).2, sem_eq_zero_of_no_sems (by decide) r.2⟩) (Cert.Reference10Ideal.Value.run m g)

theorem algebraic10 : Cert.algebraic_Kernel10Ideal_Reference10Ideal (hKernel10Ideal := Cert.Kernel10Ideal.Gen.facts)
    (hReference10Ideal := Cert.Reference10Ideal.Gen.facts) := by
  intro m g m' g' hp hargs
  refine ⟨fun c => (Cert.Kernel10Ideal.Gen.dats m 0 c).arrAt 2 Cert.Kernel10Ideal.cfg0.N, Cert.Kernel10Ideal.Value.run_blocks m g,
    (θ_run Cert.Reference10Ideal.defs _ _).mono (fun r h c => ⟨(h c).1.trans ?_, (h c).2⟩) (Cert.Reference10Ideal.Value.run m' g')⟩
  refine (Cert.Reference10Ideal.Read.val_main_v13_eq (F := Ideal) _ _).trans ?_
  obtain ⟨a0, a1⟩ := hargs c
  funext i
  have hi : i = ix2 (i 0) (i 1) := by
    funext a
    match a with
    | 0 => rfl
    | 1 => rfl
  rw [hi]
  refine Eq.trans ?_ (Cert.Kernel10Ideal.Norm.entry m c (i 0) (i 1)).symm
  show Cert.Reference10Ideal.Read.val_main_v13 (F := Ideal) (m' ((c.tc : Thread Cert.Reference10Ideal.nD Cert.Reference10Ideal.τ).loc Cert.Reference10Ideal.main_arg0))
    (m' ((c.tc : Thread Cert.Reference10Ideal.nD Cert.Reference10Ideal.τ).loc Cert.Reference10Ideal.main_arg1)) (ix2 (i 0) (i 1)) = _
  rw [a0, a1]
  exact Cert.Reference10Ideal.Norm.entry _ _ (i 0) (i 1)

/-! ### The residual after the experts and its norm -/

theorem kernel11_frame : Cert.quiescent_Kernel11 (hKernel11 := Cert.Kernel11.Gen.facts) :=
  fun m g _ => Cert.Kernel11.Gen.frame m g

theorem ideal11_frame : Cert.quiescent_Kernel11Ideal (hKernel11Ideal := Cert.Kernel11Ideal.Gen.facts) :=
  fun m g _ => Cert.Kernel11Ideal.Gen.frame m g

theorem reference11_frame : Cert.quiescent_Reference11Ideal (hReference11Ideal := Cert.Reference11Ideal.Gen.facts) :=
  fun m g _ => (θ_run Cert.Reference11Ideal.defs _ _).mono
    (fun r h => ⟨fun c => (h c).2.2, sem_eq_zero_of_no_sems (by decide) r.2⟩) (Cert.Reference11Ideal.Value.run m g)

theorem algebraic11 : Cert.algebraic_Kernel11Ideal_Reference11Ideal (hKernel11Ideal := Cert.Kernel11Ideal.Gen.facts)
    (hReference11Ideal := Cert.Reference11Ideal.Gen.facts) := by
  intro m g m' g' hp hargs
  refine ⟨fun c => (Cert.Kernel11Ideal.Gen.dats m 0 c).arrAt 3 Cert.Kernel11Ideal.cfg0.N,
    fun c => (Cert.Kernel11Ideal.Gen.dats m 0 c).arrAt 4 Cert.Kernel11Ideal.cfg0.N, Cert.Kernel11Ideal.Value.run_blocks m g,
    (θ_run Cert.Reference11Ideal.defs _ _).mono (fun r h c => ⟨(h c).1.trans ?_, (h c).2.1.trans ?_, (h c).2.2⟩)
      (Cert.Reference11Ideal.Value.run m' g')⟩
  · refine (Cert.Reference11Ideal.Read.val_main_v0_eq (F := Ideal) _ _).trans ?_
    obtain ⟨a0, a1, a2⟩ := hargs c
    funext i
    have hi : i = ix2 (i 0) (i 1) := by
      funext a
      match a with
      | 0 => rfl
      | 1 => rfl
    rw [hi]
    refine Eq.trans ?_ (Cert.Kernel11Ideal.Norm.sumEntry m c (i 0) (i 1)).symm
    show Cert.Reference11Ideal.Read.val_main_v0 (F := Ideal) (m' ((c.tc : Thread Cert.Reference11Ideal.nD Cert.Reference11Ideal.τ).loc Cert.Reference11Ideal.main_arg0))
      (m' ((c.tc : Thread Cert.Reference11Ideal.nD Cert.Reference11Ideal.τ).loc Cert.Reference11Ideal.main_arg1)) (ix2 (i 0) (i 1)) = _
    rw [a0, a1]
    exact Cert.Reference11Ideal.Norm.sumEntry _ _ (i 0) (i 1)
  · refine (Cert.Reference11Ideal.Read.val_main_v14_eq (F := Ideal) _ _ _).trans ?_
    obtain ⟨a0, a1, a2⟩ := hargs c
    funext i
    have hi : i = ix2 (i 0) (i 1) := by
      funext a
      match a with
      | 0 => rfl
      | 1 => rfl
    rw [hi]
    refine Eq.trans ?_ (Cert.Kernel11Ideal.Norm.normEntry m c (i 0) (i 1)).symm
    show Cert.Reference11Ideal.Read.val_main_v14 (F := Ideal) (m' ((c.tc : Thread Cert.Reference11Ideal.nD Cert.Reference11Ideal.τ).loc Cert.Reference11Ideal.main_arg0))
      (m' ((c.tc : Thread Cert.Reference11Ideal.nD Cert.Reference11Ideal.τ).loc Cert.Reference11Ideal.main_arg1))
      (m' ((c.tc : Thread Cert.Reference11Ideal.nD Cert.Reference11Ideal.τ).loc Cert.Reference11Ideal.main_arg2)) (ix2 (i 0) (i 1)) = _
    rw [a0, a1, a2]
    exact Cert.Reference11Ideal.Norm.normEntry _ _ _ (i 0) (i 1)

/-! ### The layer's last residual sum -/

theorem kernel12_frame : Cert.quiescent_Kernel12 (hKernel12 := Cert.Kernel12.Gen.facts) :=
  fun m g _ => Cert.Kernel12.Gen.frame m g

theorem ideal12_frame : Cert.quiescent_Kernel12Ideal (hKernel12Ideal := Cert.Kernel12Ideal.Gen.facts) :=
  fun m g _ => Cert.Kernel12Ideal.Gen.frame m g

theorem reference12_frame : Cert.quiescent_Reference12Ideal (hReference12Ideal := Cert.Reference12Ideal.Gen.facts) :=
  fun m g _ => (θ_run Cert.Reference12Ideal.defs _ _).mono
    (fun r h => ⟨fun c => (h c).2, sem_eq_zero_of_no_sems (by decide) r.2⟩) (Cert.Reference12Ideal.Value.run m g)

theorem algebraic12 : Cert.algebraic_Kernel12Ideal_Reference12Ideal (hKernel12Ideal := Cert.Kernel12Ideal.Gen.facts)
    (hReference12Ideal := Cert.Reference12Ideal.Gen.facts) := by
  intro m g m' g' hp hargs
  refine ⟨fun c => (Cert.Kernel12Ideal.Gen.dats m 0 c).arrAt 3 Cert.Kernel12Ideal.cfg0.N, Cert.Kernel12Ideal.Value.run_blocks m g,
    (θ_run Cert.Reference12Ideal.defs _ _).mono (fun r h c => ⟨(h c).1.trans ?_, (h c).2⟩) (Cert.Reference12Ideal.Value.run m' g')⟩
  refine (Cert.Reference12Ideal.Read.val_main_v0_eq (F := Ideal) _ _).trans ?_
  obtain ⟨a0, a1⟩ := hargs c
  funext i
  have hi : i = ix2 (i 0) (i 1) := by
    funext a
    match a with
    | 0 => rfl
    | 1 => rfl
  rw [hi]
  refine Eq.trans ?_ (Cert.Kernel12Ideal.Norm.sumEntry m c (i 0) (i 1)).symm
  show Cert.Reference12Ideal.Read.val_main_v0 (F := Ideal) (m' ((c.tc : Thread Cert.Reference12Ideal.nD Cert.Reference12Ideal.τ).loc Cert.Reference12Ideal.main_arg0))
    (m' ((c.tc : Thread Cert.Reference12Ideal.nD Cert.Reference12Ideal.τ).loc Cert.Reference12Ideal.main_arg1)) (ix2 (i 0) (i 1)) = _
  rw [a0, a1]
  exact Cert.Reference12Ideal.Norm.sumEntry _ _ (i 0) (i 1)

/-! ### The norm of the queries -/

theorem kernel13_frame : Cert.quiescent_Kernel13 (hKernel13 := Cert.Kernel13.Gen.facts) :=
  fun m g _ => Cert.Kernel13.Gen.frame m g

theorem ideal13_frame : Cert.quiescent_Kernel13Ideal (hKernel13Ideal := Cert.Kernel13Ideal.Gen.facts) :=
  fun m g _ => Cert.Kernel13Ideal.Gen.frame m g

theorem reference13_frame : Cert.quiescent_Reference13Ideal (hReference13Ideal := Cert.Reference13Ideal.Gen.facts) :=
  fun m g _ => (θ_run Cert.Reference13Ideal.defs _ _).mono
    (fun r h => ⟨fun c => (h c).2, sem_eq_zero_of_no_sems (by decide) r.2⟩) (Cert.Reference13Ideal.Value.run m g)

theorem algebraic13 : Cert.algebraic_Kernel13Ideal_Reference13Ideal_pre_finite_qk (hKernel13Ideal := Cert.Kernel13Ideal.Gen.facts)
    (hReference13Ideal := Cert.Reference13Ideal.Gen.facts) (hPre_finite_qk := Cert.Pre_finite_qk.side) := by
  intro m g m' g' hp hargs
  refine ⟨fun c => (Cert.Kernel13Ideal.Gen.dats m 0 c).arrAt 3 Cert.Kernel13Ideal.cfg0.N, Cert.Kernel13Ideal.Value.run_blocks m g,
    (θ_run Cert.Reference13Ideal.defs _ _).mono (fun r h c => ⟨(h c).1.trans ?_, (h c).2⟩) (Cert.Reference13Ideal.Value.run m' g')⟩
  refine (Cert.Reference13Ideal.Read.val_main_v19_eq (F := Ideal) _ _).trans ?_
  obtain ⟨a0, a1⟩ := hargs c
  have hz := @Cert.Pre_finite_qk.reals Cert.Pre_finite_qk.side _ _ (hp c)
  funext i
  have hi : i = ix2 (i 0) (i 1) := by
    funext a
    match a with
    | 0 => rfl
    | 1 => rfl
  rw [hi]
  refine Eq.trans ?_ (Cert.Kernel13Ideal.Norm.entry m c hz (i 1) (i 0)).symm
  show Cert.Reference13Ideal.Read.val_main_v19 (F := Ideal) (m' ((c.tc : Thread Cert.Reference13Ideal.nD Cert.Reference13Ideal.τ).loc Cert.Reference13Ideal.main_arg0))
    (m' ((c.tc : Thread Cert.Reference13Ideal.nD Cert.Reference13Ideal.τ).loc Cert.Reference13Ideal.main_arg1)) (ix2 (i 0) (i 1)) = _
  rw [a0, a1]
  exact Cert.Reference13Ideal.Norm.entry _ _ (i 1) (i 0)

/-! ### The norm of the keys -/

theorem kernel14_frame : Cert.quiescent_Kernel14 (hKernel14 := Cert.Kernel14.Gen.facts) :=
  fun m g _ => Cert.Kernel14.Gen.frame m g

theorem ideal14_frame : Cert.quiescent_Kernel14Ideal (hKernel14Ideal := Cert.Kernel14Ideal.Gen.facts) :=
  fun m g _ => Cert.Kernel14Ideal.Gen.frame m g

theorem reference14_frame : Cert.quiescent_Reference14Ideal (hReference14Ideal := Cert.Reference14Ideal.Gen.facts) :=
  fun m g _ => (θ_run Cert.Reference14Ideal.defs _ _).mono
    (fun r h => ⟨fun c => (h c).2, sem_eq_zero_of_no_sems (by decide) r.2⟩) (Cert.Reference14Ideal.Value.run m g)

theorem algebraic14 : Cert.algebraic_Kernel14Ideal_Reference14Ideal_pre_finite_qk (hKernel14Ideal := Cert.Kernel14Ideal.Gen.facts)
    (hReference14Ideal := Cert.Reference14Ideal.Gen.facts) (hPre_finite_qk := Cert.Pre_finite_qk.side) := by
  intro m g m' g' hp hargs
  refine ⟨fun c => (Cert.Kernel14Ideal.Gen.dats m 0 c).arrAt 3 Cert.Kernel14Ideal.cfg0.N, Cert.Kernel14Ideal.Value.run_blocks m g,
    (θ_run Cert.Reference14Ideal.defs _ _).mono (fun r h c => ⟨(h c).1.trans ?_, (h c).2⟩) (Cert.Reference14Ideal.Value.run m' g')⟩
  refine (Cert.Reference14Ideal.Read.val_main_v16_eq (F := Ideal) _ _).trans ?_
  obtain ⟨a0, a1⟩ := hargs c
  have hz := @Cert.Pre_finite_qk.reals Cert.Pre_finite_qk.side _ _ (hp c)
  funext i
  have hi : i = ix2 (i 0) (i 1) := by
    funext a
    match a with
    | 0 => rfl
    | 1 => rfl
  rw [hi]
  refine Eq.trans ?_ (Cert.Kernel14Ideal.Norm.entry m c hz (i 0) (i 1)).symm
  show Cert.Reference14Ideal.Read.val_main_v16 (F := Ideal) (m' ((c.tc : Thread Cert.Reference14Ideal.nD Cert.Reference14Ideal.τ).loc Cert.Reference14Ideal.main_arg0))
    (m' ((c.tc : Thread Cert.Reference14Ideal.nD Cert.Reference14Ideal.τ).loc Cert.Reference14Ideal.main_arg1)) (ix2 (i 0) (i 1)) = _
  rw [a0, a1]
  exact Cert.Reference14Ideal.Norm.entry _ _ (i 0) (i 1)

/-! ### The experts -/

theorem kernel15_frame : Cert.quiescent_Kernel15 (hKernel15 := Cert.Kernel15.Gen.facts) :=
  fun m g _ => Cert.Kernel15.Gen.frame m g

theorem ideal15_frame : Cert.quiescent_Kernel15Ideal (hKernel15Ideal := Cert.Kernel15Ideal.Gen.facts) :=
  fun m g _ => Cert.Kernel15Ideal.Gen.frame m g

theorem reference15_frame : Cert.quiescent_Reference15Ideal (hReference15Ideal := Cert.Reference15Ideal.Gen.facts) :=
  fun m g _ => (θ_run Cert.Reference15Ideal.defs _ _).mono
    (fun r h => ⟨fun c => (h c).2, sem_eq_zero_of_no_sems (by decide) r.2⟩) (Cert.Reference15Ideal.Value.run m g)

theorem preserves15 : Cert.preserves_Kernel15_Kernel15Ideal :=
  ⟨IdealRules.named_const.statement Cert.Kernel15Ideal.κ "gelu3" .bf16 0x3D37#16 _ rfl,
    IdealRules.named_const.statement Cert.Kernel15Ideal.κ "sqrt2pi" .bf16 0x3F4C#16 _ rfl⟩

theorem algebraic15 : Cert.algebraic_Kernel15Ideal_Reference15Ideal (hKernel15Ideal := Cert.Kernel15Ideal.Gen.facts)
    (hReference15Ideal := Cert.Reference15Ideal.Gen.facts) := by
  intro m g m' g' hp hargs
  refine ⟨fun c => (Cert.Kernel15Ideal.Gen.dats m 0 c).arrAt 6 Cert.Kernel15Ideal.cfg0.N, Cert.Kernel15Ideal.Value.run_blocks m g,
    (θ_run Cert.Reference15Ideal.defs _ _).mono (fun r h c => ⟨(h c).1.trans ?_, (h c).2⟩) (Cert.Reference15Ideal.Value.run m' g')⟩
  refine (Cert.Reference15Ideal.Read.val_main_v29_eq (F := Ideal) _ _ _ _ _ _).trans ?_
  obtain ⟨a0, a1, a2, a3, a4, a5⟩ := hargs c
  funext i
  have hi : i = ix2 (i 0) (i 1) := by
    funext a
    match a with
    | 0 => rfl
    | 1 => rfl
  rw [hi]
  refine Eq.trans ?_ (Cert.Kernel15Ideal.Peer.entry m c (i 0) (i 1)).symm
  show Cert.Reference15Ideal.Read.val_main_v29 (F := Ideal) (m' ((c.tc : Thread Cert.Reference15Ideal.nD Cert.Reference15Ideal.τ).loc Cert.Reference15Ideal.main_arg0))
    (m' ((c.tc : Thread Cert.Reference15Ideal.nD Cert.Reference15Ideal.τ).loc Cert.Reference15Ideal.main_arg1))
    (m' ((c.tc : Thread Cert.Reference15Ideal.nD Cert.Reference15Ideal.τ).loc Cert.Reference15Ideal.main_arg2))
    (m' ((c.tc : Thread Cert.Reference15Ideal.nD Cert.Reference15Ideal.τ).loc Cert.Reference15Ideal.main_arg3))
    (m' ((c.tc : Thread Cert.Reference15Ideal.nD Cert.Reference15Ideal.τ).loc Cert.Reference15Ideal.main_arg4))
    (m' ((c.tc : Thread Cert.Reference15Ideal.nD Cert.Reference15Ideal.τ).loc Cert.Reference15Ideal.main_arg5)) (ix2 (i 0) (i 1)) = _
  rw [a0, a1, a2, a3, a4, a5]
  exact Cert.Reference15Ideal.Peer.entry _ _ _ _ _ _ (i 0) (i 1)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Pre_finite.side, Cert.Pre_finite_scores.side, Cert.Pre_finite_qk.side,
    kernel_frame, ideal_frame, fun m g _ => ideal_frame m g trivial, reference_frame, fun m g _ => reference_frame m g trivial,
    kernel2_frame, ideal2_frame, reference2_frame,
    kernel3_frame, ideal3_frame, reference3_frame,
    kernel4_frame, ideal4_frame, reference4_frame,
    kernel5_frame, ideal5_frame, reference5_frame,
    kernel6_frame, ideal6_frame, reference6_frame,
    kernel7_frame, ideal7_frame, reference7_frame,
    kernel8_frame, ideal8_frame, reference8_frame,
    kernel9_frame, ideal9_frame, fun m g _ => ideal9_frame m g trivial,
    reference9_frame, fun m g _ => reference9_frame m g trivial,
    kernel10_frame, ideal10_frame, reference10_frame,
    kernel11_frame, ideal11_frame, reference11_frame,
    kernel12_frame, ideal12_frame, reference12_frame,
    kernel13_frame, ideal13_frame, fun m g _ => ideal13_frame m g trivial,
    reference13_frame, fun m g _ => reference13_frame m g trivial,
    kernel14_frame, ideal14_frame, fun m g _ => ideal14_frame m g trivial,
    reference14_frame, fun m g _ => reference14_frame m g trivial,
    kernel15_frame, ideal15_frame, reference15_frame,
    preserves, algebraic,
    trivial, algebraic2,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14,
    preserves15, algebraic15⟩

end Cert.Proof

end
